-- ==== Defs.lean ====
def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelQK (m : (ℓ : Loc Cert.KernelQK.nD Cert.KernelQK.τ Cert.KernelQK.sig) → Buf (Elt Bits) ℓ) : Prop :=
  True

def Pre_KernelQKIdeal (m : (ℓ : Loc Cert.KernelQKIdeal.nD Cert.KernelQKIdeal.τ Cert.KernelQKIdeal.sig) → Buf (Elt Ideal) ℓ) : Prop :=
  True

def Pre_ReferenceQKIdeal (m : (ℓ : Loc Cert.ReferenceQKIdeal.nD Cert.ReferenceQKIdeal.τ Cert.ReferenceQKIdeal.sig) → Buf (Elt Ideal) ℓ) : Prop :=
  True

def Pre_KernelOdelta (m : (ℓ : Loc Cert.KernelOdelta.nD Cert.KernelOdelta.τ Cert.KernelOdelta.sig) → Buf (Elt Bits) ℓ) : Prop :=
  True

def Pre_KernelOdeltaIdeal (m : (ℓ : Loc Cert.KernelOdeltaIdeal.nD Cert.KernelOdeltaIdeal.τ Cert.KernelOdeltaIdeal.sig) → Buf (Elt Ideal) ℓ) : Prop :=
  True

def Pre_ReferenceOdeltaIdeal (m : (ℓ : Loc Cert.ReferenceOdeltaIdeal.nD Cert.ReferenceOdeltaIdeal.τ Cert.ReferenceOdeltaIdeal.sig) → Buf (Elt Ideal) ℓ) : Prop :=
  True

def Pre_KernelPw2 (m : (ℓ : Loc Cert.KernelPw2.nD Cert.KernelPw2.τ Cert.KernelPw2.sig) → Buf (Elt Bits) ℓ) : Prop :=
  True

def Pre_KernelPw2Ideal (m : (ℓ : Loc Cert.KernelPw2Ideal.nD Cert.KernelPw2Ideal.τ Cert.KernelPw2Ideal.sig) → Buf (Elt Ideal) ℓ) : Prop :=
  True

def Pre_ReferencePw2Ideal (m : (ℓ : Loc Cert.ReferencePw2Ideal.nD Cert.ReferencePw2Ideal.τ Cert.ReferencePw2Ideal.sig) → Buf (Elt Ideal) ℓ) : Prop :=
  True

def Pre_KernelOutproj (m : (ℓ : Loc Cert.KernelOutproj.nD Cert.KernelOutproj.τ Cert.KernelOutproj.sig) → Buf (Elt Bits) ℓ) : Prop :=
  True

def Pre_KernelOutprojIdeal (m : (ℓ : Loc Cert.KernelOutprojIdeal.nD Cert.KernelOutprojIdeal.τ Cert.KernelOutprojIdeal.sig) → Buf (Elt Ideal) ℓ) : Prop :=
  True

def Pre_ReferenceOutprojIdeal (m : (ℓ : Loc Cert.ReferenceOutprojIdeal.nD Cert.ReferenceOutprojIdeal.τ Cert.ReferenceOutprojIdeal.sig) → Buf (Elt Ideal) ℓ) : Prop :=
  True

def Pre_KernelAb (m : (ℓ : Loc Cert.KernelAb.nD Cert.KernelAb.τ Cert.KernelAb.sig) → Buf (Elt Bits) ℓ) : Prop :=
  True

def Pre_KernelAbIdeal (m : (ℓ : Loc Cert.KernelAbIdeal.nD Cert.KernelAbIdeal.τ Cert.KernelAbIdeal.sig) → Buf (Elt Ideal) ℓ) : Prop :=
  True

def Pre_ReferenceAbIdeal (m : (ℓ : Loc Cert.ReferenceAbIdeal.nD Cert.ReferenceAbIdeal.τ Cert.ReferenceAbIdeal.sig) → Buf (Elt Ideal) ℓ) : Prop :=
  True

def Pre_KernelDwconv (m : (ℓ : Loc Cert.KernelDwconv.nD Cert.KernelDwconv.τ Cert.KernelDwconv.sig) → Buf (Elt Bits) ℓ) : Prop :=
  True

def Pre_KernelDwconvIdeal (m : (ℓ : Loc Cert.KernelDwconvIdeal.nD Cert.KernelDwconvIdeal.τ Cert.KernelDwconvIdeal.sig) → Buf (Elt Ideal) ℓ) : Prop :=
  True

def Pre_ReferenceDwconvIdeal (m : (ℓ : Loc Cert.ReferenceDwconvIdeal.nD Cert.ReferenceDwconvIdeal.τ Cert.ReferenceDwconvIdeal.sig) → Buf (Elt Ideal) ℓ) : Prop :=
  True

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_KernelRouteIdeal_biased_above [hPre_biased_above : Cert.Pre_biased_above.Facts] (m : (ℓ : Loc Cert.KernelRouteIdeal.nD Cert.KernelRouteIdeal.τ Cert.KernelRouteIdeal.sig) → Buf (Elt Ideal) ℓ) : Prop :=
  ∀ c : Dev Cert.KernelRouteIdeal.nD,
    (Cert.Pre_biased_above.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2))) = (fun _ => 1#1)

def Pre_ReferenceRouteIdeal (m : (ℓ : Loc Cert.ReferenceRouteIdeal.nD Cert.ReferenceRouteIdeal.τ Cert.ReferenceRouteIdeal.sig) → Buf (Elt Ideal) ℓ) : Prop :=
  True

def Pre_ReferenceRouteIdeal_biased_above [hPre_biased_above : Cert.Pre_biased_above.Facts] (m : (ℓ : Loc Cert.ReferenceRouteIdeal.nD Cert.ReferenceRouteIdeal.τ Cert.ReferenceRouteIdeal.sig) → Buf (Elt Ideal) ℓ) : Prop :=
  ∀ c : Dev Cert.ReferenceRouteIdeal.nD,
    (Cert.Pre_biased_above.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2))) = (fun _ => 1#1)

def Pre_KernelDest (m : (ℓ : Loc Cert.KernelDest.nD Cert.KernelDest.τ Cert.KernelDest.sig) → Buf (Elt Bits) ℓ) : Prop :=
  True

def Pre_KernelDestIdeal (m : (ℓ : Loc Cert.KernelDestIdeal.nD Cert.KernelDestIdeal.τ Cert.KernelDestIdeal.sig) → Buf (Elt Ideal) ℓ) : Prop :=
  True

def Pre_KernelDestIdeal_picks_experts [hPre_picks_experts : Cert.Pre_picks_experts.Facts] (m : (ℓ : Loc Cert.KernelDestIdeal.nD Cert.KernelDestIdeal.τ Cert.KernelDestIdeal.sig) → Buf (Elt Ideal) ℓ) : Prop :=
  ∀ c : Dev Cert.KernelDestIdeal.nD,
    (Cert.Pre_picks_experts.fn (F := Ideal) (m ((c.tc : Thread Cert.KernelDestIdeal.nD Cert.KernelDestIdeal.τ).loc Cert.KernelDestIdeal.main_arg0)) (m ((c.tc : Thread Cert.KernelDestIdeal.nD Cert.KernelDestIdeal.τ).loc Cert.KernelDestIdeal.main_arg1)) (m ((c.tc : Thread Cert.KernelDestIdeal.nD Cert.KernelDestIdeal.τ).loc Cert.KernelDestIdeal.main_arg2))) = (fun _ => 1#1)

def Pre_ReferenceDestIdeal (m : (ℓ : Loc Cert.ReferenceDestIdeal.nD Cert.ReferenceDestIdeal.τ Cert.ReferenceDestIdeal.sig) → Buf (Elt Ideal) ℓ) : Prop :=
  True

def Pre_ReferenceDestIdeal_picks_experts [hPre_picks_experts : Cert.Pre_picks_experts.Facts] (m : (ℓ : Loc Cert.ReferenceDestIdeal.nD Cert.ReferenceDestIdeal.τ Cert.ReferenceDestIdeal.sig) → Buf (Elt Ideal) ℓ) : Prop :=
  ∀ c : Dev Cert.ReferenceDestIdeal.nD,
    (Cert.Pre_picks_experts.fn (F := Ideal) (m ((c.tc : Thread Cert.ReferenceDestIdeal.nD Cert.ReferenceDestIdeal.τ).loc Cert.ReferenceDestIdeal.main_arg0)) (m ((c.tc : Thread Cert.ReferenceDestIdeal.nD Cert.ReferenceDestIdeal.τ).loc Cert.ReferenceDestIdeal.main_arg1)) (m ((c.tc : Thread Cert.ReferenceDestIdeal.nD Cert.ReferenceDestIdeal.τ).loc Cert.ReferenceDestIdeal.main_arg2))) = (fun _ => 1#1)

def Pre_KernelGdn (m : (ℓ : Loc Cert.KernelGdn.nD Cert.KernelGdn.τ Cert.KernelGdn.sig) → Buf (Elt Bits) ℓ) : Prop :=
  True

def Pre_KernelGdnIdeal (m : (ℓ : Loc Cert.KernelGdnIdeal.nD Cert.KernelGdnIdeal.τ Cert.KernelGdnIdeal.sig) → Buf (Elt Ideal) ℓ) : Prop :=
  True

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2))
      ∧ r.2.sem = fun _ => 0)

def quiescent_KernelQK [hKernelQK : Cert.KernelQK.Facts] : Prop :=
  ∀ (m : (ℓ : Loc Cert.KernelQK.nD Cert.KernelQK.τ Cert.KernelQK.sig) → Buf (Elt Bits) ℓ) (g : Dev Cert.KernelQK.nD → PrngReg), Pre_KernelQK m →
    θ_run (Cert.KernelQK.defs (F := Bits)) (onTc (τ := Cert.KernelQK.τ) (Cert.KernelQK.main (F := Bits))) ⟨m, fun _ => 0, g⟩ (fun r => (∀ c : Dev Cert.KernelQK.nD,
      r.2.mem ((c.tc : Thread Cert.KernelQK.nD Cert.KernelQK.τ).loc Cert.KernelQK.main_arg0) = m ((c.tc : Thread Cert.KernelQK.nD Cert.KernelQK.τ).loc Cert.KernelQK.main_arg0)
      ∧ r.2.mem ((c.tc : Thread Cert.KernelQK.nD Cert.KernelQK.τ).loc Cert.KernelQK.main_arg1) = m ((c.tc : Thread Cert.KernelQK.nD Cert.KernelQK.τ).loc Cert.KernelQK.main_arg1)
      ∧ r.2.mem ((c.tc : Thread Cert.KernelQK.nD Cert.KernelQK.τ).loc Cert.KernelQK.main_arg2) = m ((c.tc : Thread Cert.KernelQK.nD Cert.KernelQK.τ).loc Cert.KernelQK.main_arg2))
      ∧ r.2.sem = fun _ => 0)

def quiescent_KernelQKIdeal [hKernelQKIdeal : Cert.KernelQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg), Pre_KernelQKIdeal m →
    θ_run (Cert.KernelQKIdeal.defs (F := Ideal)) (onTc (τ := Cert.KernelQKIdeal.τ) (Cert.KernelQKIdeal.main (F := Ideal))) ⟨m, fun _ => 0, g⟩ (fun r => (∀ c : Dev Cert.KernelQKIdeal.nD,
      r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
      ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1)
      ∧ r.2.mem ((c.tc : Thread Cert.KernelQKIdeal.nD Cert.KernelQKIdeal.τ).loc Cert.KernelQKIdeal.main_arg2) = m ((c.tc : Thread Cert.KernelQKIdeal.nD Cert.KernelQKIdeal.τ).loc Cert.KernelQKIdeal.main_arg2))
      ∧ r.2.sem = fun _ => 0)

def quiescent_ReferenceQKIdeal [hReferenceQKIdeal : Cert.ReferenceQKIdeal.Facts] : Prop :=
  ∀ (m : (ℓ : Loc Cert.ReferenceQKIdeal.nD Cert.ReferenceQKIdeal.τ Cert.ReferenceQKIdeal.sig) → Buf (Elt Ideal) ℓ) (g : Dev Cert.ReferenceQKIdeal.nD → PrngReg), Pre_ReferenceQKIdeal m →
    θ_run (Cert.ReferenceQKIdeal.defs (F := Ideal)) (onTc (τ := Cert.ReferenceQKIdeal.τ) (Cert.ReferenceQKIdeal.main (F := Ideal))) ⟨m, fun _ => 0, g⟩ (fun r => (∀ c : Dev Cert.ReferenceQKIdeal.nD,
      r.2.mem ((c.tc : Thread Cert.ReferenceQKIdeal.nD Cert.ReferenceQKIdeal.τ).loc Cert.ReferenceQKIdeal.main_arg0) = m ((c.tc : Thread Cert.ReferenceQKIdeal.nD Cert.ReferenceQKIdeal.τ).loc Cert.ReferenceQKIdeal.main_arg0)
      ∧ r.2.mem ((c.tc : Thread Cert.ReferenceQKIdeal.nD Cert.ReferenceQKIdeal.τ).loc Cert.ReferenceQKIdeal.main_arg1) = m ((c.tc : Thread Cert.ReferenceQKIdeal.nD Cert.ReferenceQKIdeal.τ).loc Cert.ReferenceQKIdeal.main_arg1)
      ∧ r.2.mem ((c.tc : Thread Cert.ReferenceQKIdeal.nD Cert.ReferenceQKIdeal.τ).loc Cert.ReferenceQKIdeal.main_arg2) = m ((c.tc : Thread Cert.ReferenceQKIdeal.nD Cert.ReferenceQKIdeal.τ).loc Cert.ReferenceQKIdeal.main_arg2))
      ∧ r.2.sem = fun _ => 0)

def quiescent_KernelOdelta [hKernelOdelta : Cert.KernelOdelta.Facts] : Prop :=
  ∀ (m : (ℓ : Loc Cert.KernelOdelta.nD Cert.KernelOdelta.τ Cert.KernelOdelta.sig) → Buf (Elt Bits) ℓ) (g : Dev Cert.KernelOdelta.nD → PrngReg), Pre_KernelOdelta m →
    θ_run (Cert.KernelOdelta.defs (F := Bits)) (onTc (τ := Cert.KernelOdelta.τ) (Cert.KernelOdelta.main (F := Bits))) ⟨m, fun _ => 0, g⟩ (fun r => (∀ c : Dev Cert.KernelOdelta.nD,
      r.2.mem ((c.tc : Thread Cert.KernelOdelta.nD Cert.KernelOdelta.τ).loc Cert.KernelOdelta.main_arg0) = m ((c.tc : Thread Cert.KernelOdelta.nD Cert.KernelOdelta.τ).loc Cert.KernelOdelta.main_arg0)
      ∧ r.2.mem ((c.tc : Thread Cert.KernelOdelta.nD Cert.KernelOdelta.τ).loc Cert.KernelOdelta.main_arg1) = m ((c.tc : Thread Cert.KernelOdelta.nD Cert.KernelOdelta.τ).loc Cert.KernelOdelta.main_arg1)
      ∧ r.2.mem ((c.tc : Thread Cert.KernelOdelta.nD Cert.KernelOdelta.τ).loc Cert.KernelOdelta.main_arg2) = m ((c.tc : Thread Cert.KernelOdelta.nD Cert.KernelOdelta.τ).loc Cert.KernelOdelta.main_arg2))
      ∧ r.2.sem = fun _ => 0)

def quiescent_KernelOdeltaIdeal [hKernelOdeltaIdeal : Cert.KernelOdeltaIdeal.Facts] : Prop :=
  ∀ (m : (ℓ : Loc Cert.KernelOdeltaIdeal.nD Cert.KernelOdeltaIdeal.τ Cert.KernelOdeltaIdeal.sig) → Buf (Elt Ideal) ℓ) (g : Dev Cert.KernelOdeltaIdeal.nD → PrngReg), Pre_KernelOdeltaIdeal m →
    θ_run (Cert.KernelOdeltaIdeal.defs (F := Ideal)) (onTc (τ := Cert.KernelOdeltaIdeal.τ) (Cert.KernelOdeltaIdeal.main (F := Ideal))) ⟨m, fun _ => 0, g⟩ (fun r => (∀ c : Dev Cert.KernelOdeltaIdeal.nD,
      r.2.mem ((c.tc : Thread Cert.KernelOdeltaIdeal.nD Cert.KernelOdeltaIdeal.τ).loc Cert.KernelOdeltaIdeal.main_arg0) = m ((c.tc : Thread Cert.KernelOdeltaIdeal.nD Cert.KernelOdeltaIdeal.τ).loc Cert.KernelOdeltaIdeal.main_arg0)
      ∧ r.2.mem ((c.tc : Thread Cert.KernelOdeltaIdeal.nD Cert.KernelOdeltaIdeal.τ).loc Cert.KernelOdeltaIdeal.main_arg1) = m ((c.tc : Thread Cert.KernelOdeltaIdeal.nD Cert.KernelOdeltaIdeal.τ).loc Cert.KernelOdeltaIdeal.main_arg1)
      ∧ r.2.mem ((c.tc : Thread Cert.KernelOdeltaIdeal.nD Cert.KernelOdeltaIdeal.τ).loc Cert.KernelOdeltaIdeal.main_arg2) = m ((c.tc : Thread Cert.KernelOdeltaIdeal.nD Cert.KernelOdeltaIdeal.τ).loc Cert.KernelOdeltaIdeal.main_arg2))
      ∧ r.2.sem = fun _ => 0)

def quiescent_ReferenceOdeltaIdeal [hReferenceOdeltaIdeal : Cert.ReferenceOdeltaIdeal.Facts] : Prop :=
  ∀ (m : (ℓ : Loc Cert.ReferenceOdeltaIdeal.nD Cert.ReferenceOdeltaIdeal.τ Cert.ReferenceOdeltaIdeal.sig) → Buf (Elt Ideal) ℓ) (g : Dev Cert.ReferenceOdeltaIdeal.nD → PrngReg), Pre_ReferenceOdeltaIdeal m →
    θ_run (Cert.ReferenceOdeltaIdeal.defs (F := Ideal)) (onTc (τ := Cert.ReferenceOdeltaIdeal.τ) (Cert.ReferenceOdeltaIdeal.main (F := Ideal))) ⟨m, fun _ => 0, g⟩ (fun r => (∀ c : Dev Cert.ReferenceOdeltaIdeal.nD,
      r.2.mem ((c.tc : Thread Cert.ReferenceOdeltaIdeal.nD Cert.ReferenceOdeltaIdeal.τ).loc Cert.ReferenceOdeltaIdeal.main_arg0) = m ((c.tc : Thread Cert.ReferenceOdeltaIdeal.nD Cert.ReferenceOdeltaIdeal.τ).loc Cert.ReferenceOdeltaIdeal.main_arg0)
      ∧ r.2.mem ((c.tc : Thread Cert.ReferenceOdeltaIdeal.nD Cert.ReferenceOdeltaIdeal.τ).loc Cert.ReferenceOdeltaIdeal.main_arg1) = m ((c.tc : Thread Cert.ReferenceOdeltaIdeal.nD Cert.ReferenceOdeltaIdeal.τ).loc Cert.ReferenceOdeltaIdeal.main_arg1)
      ∧ r.2.mem ((c.tc : Thread Cert.ReferenceOdeltaIdeal.nD Cert.ReferenceOdeltaIdeal.τ).loc Cert.ReferenceOdeltaIdeal.main_arg2) = m ((c.tc : Thread Cert.ReferenceOdeltaIdeal.nD Cert.ReferenceOdeltaIdeal.τ).loc Cert.ReferenceOdeltaIdeal.main_arg2))
      ∧ r.2.sem = fun _ => 0)

def quiescent_KernelPw2 [hKernelPw2 : Cert.KernelPw2.Facts] : Prop :=
  ∀ (m : (ℓ : Loc Cert.KernelPw2.nD Cert.KernelPw2.τ Cert.KernelPw2.sig) → Buf (Elt Bits) ℓ) (g : Dev Cert.KernelPw2.nD → PrngReg), Pre_KernelPw2 m →
    θ_run (Cert.KernelPw2.defs (F := Bits)) (onTc (τ := Cert.KernelPw2.τ) (Cert.KernelPw2.main (F := Bits))) ⟨m, fun _ => 0, g⟩ (fun r => (∀ c : Dev Cert.KernelPw2.nD,
      r.2.mem ((c.tc : Thread Cert.KernelPw2.nD Cert.KernelPw2.τ).loc Cert.KernelPw2.main_arg0) = m ((c.tc : Thread Cert.KernelPw2.nD Cert.KernelPw2.τ).loc Cert.KernelPw2.main_arg0)
      ∧ r.2.mem ((c.tc : Thread Cert.KernelPw2.nD Cert.KernelPw2.τ).loc Cert.KernelPw2.main_arg1) = m ((c.tc : Thread Cert.KernelPw2.nD Cert.KernelPw2.τ).loc Cert.KernelPw2.main_arg1)
      ∧ r.2.mem ((c.tc : Thread Cert.KernelPw2.nD Cert.KernelPw2.τ).loc Cert.KernelPw2.main_arg2) = m ((c.tc : Thread Cert.KernelPw2.nD Cert.KernelPw2.τ).loc Cert.KernelPw2.main_arg2)
      ∧ r.2.mem ((c.tc : Thread Cert.KernelPw2.nD Cert.KernelPw2.τ).loc Cert.KernelPw2.main_arg3) = m ((c.tc : Thread Cert.KernelPw2.nD Cert.KernelPw2.τ).loc Cert.KernelPw2.main_arg3)
      ∧ r.2.mem ((c.tc : Thread Cert.KernelPw2.nD Cert.KernelPw2.τ).loc Cert.KernelPw2.main_arg4) = m ((c.tc : Thread Cert.KernelPw2.nD Cert.KernelPw2.τ).loc Cert.KernelPw2.main_arg4))
      ∧ r.2.sem = fun _ => 0)

def quiescent_KernelPw2Ideal [hKernelPw2Ideal : Cert.KernelPw2Ideal.Facts] : Prop :=
  ∀ (m : (ℓ : Loc Cert.KernelPw2Ideal.nD Cert.KernelPw2Ideal.τ Cert.KernelPw2Ideal.sig) → Buf (Elt Ideal) ℓ) (g : Dev Cert.KernelPw2Ideal.nD → PrngReg), Pre_KernelPw2Ideal m →
    θ_run (Cert.KernelPw2Ideal.defs (F := Ideal)) (onTc (τ := Cert.KernelPw2Ideal.τ) (Cert.KernelPw2Ideal.main (F := Ideal))) ⟨m, fun _ => 0, g⟩ (fun r => (∀ c : Dev Cert.KernelPw2Ideal.nD,
      r.2.mem ((c.tc : Thread Cert.KernelPw2Ideal.nD Cert.KernelPw2Ideal.τ).loc Cert.KernelPw2Ideal.main_arg0) = m ((c.tc : Thread Cert.KernelPw2Ideal.nD Cert.KernelPw2Ideal.τ).loc Cert.KernelPw2Ideal.main_arg0)
      ∧ r.2.mem ((c.tc : Thread Cert.KernelPw2Ideal.nD Cert.KernelPw2Ideal.τ).loc Cert.KernelPw2Ideal.main_arg1) = m ((c.tc : Thread Cert.KernelPw2Ideal.nD Cert.KernelPw2Ideal.τ).loc Cert.KernelPw2Ideal.main_arg1)
      ∧ r.2.mem ((c.tc : Thread Cert.KernelPw2Ideal.nD Cert.KernelPw2Ideal.τ).loc Cert.KernelPw2Ideal.main_arg2) = m ((c.tc : Thread Cert.KernelPw2Ideal.nD Cert.KernelPw2Ideal.τ).loc Cert.KernelPw2Ideal.main_arg2)
      ∧ r.2.mem ((c.tc : Thread Cert.KernelPw2Ideal.nD Cert.KernelPw2Ideal.τ).loc Cert.KernelPw2Ideal.main_arg3) = m ((c.tc : Thread Cert.KernelPw2Ideal.nD Cert.KernelPw2Ideal.τ).loc Cert.KernelPw2Ideal.main_arg3)
      ∧ r.2.mem ((c.tc : Thread Cert.KernelPw2Ideal.nD Cert.KernelPw2Ideal.τ).loc Cert.KernelPw2Ideal.main_arg4) = m ((c.tc : Thread Cert.KernelPw2Ideal.nD Cert.KernelPw2Ideal.τ).loc Cert.KernelPw2Ideal.main_arg4))
      ∧ r.2.sem = fun _ => 0)

def quiescent_ReferencePw2Ideal [hReferencePw2Ideal : Cert.ReferencePw2Ideal.Facts] : Prop :=
  ∀ (m : (ℓ : Loc Cert.ReferencePw2Ideal.nD Cert.ReferencePw2Ideal.τ Cert.ReferencePw2Ideal.sig) → Buf (Elt Ideal) ℓ) (g : Dev Cert.ReferencePw2Ideal.nD → PrngReg), Pre_ReferencePw2Ideal m →
    θ_run (Cert.ReferencePw2Ideal.defs (F := Ideal)) (onTc (τ := Cert.ReferencePw2Ideal.τ) (Cert.ReferencePw2Ideal.main (F := Ideal))) ⟨m, fun _ => 0, g⟩ (fun r => (∀ c : Dev Cert.ReferencePw2Ideal.nD,
      r.2.mem ((c.tc : Thread Cert.ReferencePw2Ideal.nD Cert.ReferencePw2Ideal.τ).loc Cert.ReferencePw2Ideal.main_arg0) = m ((c.tc : Thread Cert.ReferencePw2Ideal.nD Cert.ReferencePw2Ideal.τ).loc Cert.ReferencePw2Ideal.main_arg0)
      ∧ r.2.mem ((c.tc : Thread Cert.ReferencePw2Ideal.nD Cert.ReferencePw2Ideal.τ).loc Cert.ReferencePw2Ideal.main_arg1) = m ((c.tc : Thread Cert.ReferencePw2Ideal.nD Cert.ReferencePw2Ideal.τ).loc Cert.ReferencePw2Ideal.main_arg1)
      ∧ r.2.mem ((c.tc : Thread Cert.ReferencePw2Ideal.nD Cert.ReferencePw2Ideal.τ).loc Cert.ReferencePw2Ideal.main_arg2) = m ((c.tc : Thread Cert.ReferencePw2Ideal.nD Cert.ReferencePw2Ideal.τ).loc Cert.ReferencePw2Ideal.main_arg2)
      ∧ r.2.mem ((c.tc : Thread Cert.ReferencePw2Ideal.nD Cert.ReferencePw2Ideal.τ).loc Cert.ReferencePw2Ideal.main_arg3) = m ((c.tc : Thread Cert.ReferencePw2Ideal.nD Cert.ReferencePw2Ideal.τ).loc Cert.ReferencePw2Ideal.main_arg3)
      ∧ r.2.mem ((c.tc : Thread Cert.ReferencePw2Ideal.nD Cert.ReferencePw2Ideal.τ).loc Cert.ReferencePw2Ideal.main_arg4) = m ((c.tc : Thread Cert.ReferencePw2Ideal.nD Cert.ReferencePw2Ideal.τ).loc Cert.ReferencePw2Ideal.main_arg4))
      ∧ r.2.sem = fun _ => 0)

def quiescent_KernelOutproj [hKernelOutproj : Cert.KernelOutproj.Facts] : Prop :=
  ∀ (m : (ℓ : Loc Cert.KernelOutproj.nD Cert.KernelOutproj.τ Cert.KernelOutproj.sig) → Buf (Elt Bits) ℓ) (g : Dev Cert.KernelOutproj.nD → PrngReg), Pre_KernelOutproj m →
    θ_run (Cert.KernelOutproj.defs (F := Bits)) (onTc (τ := Cert.KernelOutproj.τ) (Cert.KernelOutproj.main (F := Bits))) ⟨m, fun _ => 0, g⟩ (fun r => (∀ c : Dev Cert.KernelOutproj.nD,
      r.2.mem ((c.tc : Thread Cert.KernelOutproj.nD Cert.KernelOutproj.τ).loc Cert.KernelOutproj.main_arg0) = m ((c.tc : Thread Cert.KernelOutproj.nD Cert.KernelOutproj.τ).loc Cert.KernelOutproj.main_arg0)
      ∧ r.2.mem ((c.tc : Thread Cert.KernelOutproj.nD Cert.KernelOutproj.τ).loc Cert.KernelOutproj.main_arg1) = m ((c.tc : Thread Cert.KernelOutproj.nD Cert.KernelOutproj.τ).loc Cert.KernelOutproj.main_arg1)
      ∧ r.2.mem ((c.tc : Thread Cert.KernelOutproj.nD Cert.KernelOutproj.τ).loc Cert.KernelOutproj.main_arg2) = m ((c.tc : Thread Cert.KernelOutproj.nD Cert.KernelOutproj.τ).loc Cert.KernelOutproj.main_arg2)
      ∧ r.2.mem ((c.tc : Thread Cert.KernelOutproj.nD Cert.KernelOutproj.τ).loc Cert.KernelOutproj.main_arg3) = m ((c.tc : Thread Cert.KernelOutproj.nD Cert.KernelOutproj.τ).loc Cert.KernelOutproj.main_arg3)
      ∧ r.2.mem ((c.tc : Thread Cert.KernelOutproj.nD Cert.KernelOutproj.τ).loc Cert.KernelOutproj.main_arg4) = m ((c.tc : Thread Cert.KernelOutproj.nD Cert.KernelOutproj.τ).loc Cert.KernelOutproj.main_arg4))
      ∧ r.2.sem = fun _ => 0)

def quiescent_KernelOutprojIdeal [hKernelOutprojIdeal : Cert.KernelOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
      ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4))
      ∧ r.2.sem = fun _ => 0)

def quiescent_KernelAb [hKernelAb : Cert.KernelAb.Facts] : Prop :=
  ∀ (m : (ℓ : Loc Cert.KernelAb.nD Cert.KernelAb.τ Cert.KernelAb.sig) → Buf (Elt Bits) ℓ) (g : Dev Cert.KernelAb.nD → PrngReg), Pre_KernelAb m →
    θ_run (Cert.KernelAb.defs (F := Bits)) (onTc (τ := Cert.KernelAb.τ) (Cert.KernelAb.main (F := Bits))) ⟨m, fun _ => 0, g⟩ (fun r => (∀ c : Dev Cert.KernelAb.nD,
      r.2.mem ((c.tc : Thread Cert.KernelAb.nD Cert.KernelAb.τ).loc Cert.KernelAb.main_arg0) = m ((c.tc : Thread Cert.KernelAb.nD Cert.KernelAb.τ).loc Cert.KernelAb.main_arg0)
      ∧ r.2.mem ((c.tc : Thread Cert.KernelAb.nD Cert.KernelAb.τ).loc Cert.KernelAb.main_arg1) = m ((c.tc : Thread Cert.KernelAb.nD Cert.KernelAb.τ).loc Cert.KernelAb.main_arg1)
      ∧ r.2.mem ((c.tc : Thread Cert.KernelAb.nD Cert.KernelAb.τ).loc Cert.KernelAb.main_arg2) = m ((c.tc : Thread Cert.KernelAb.nD Cert.KernelAb.τ).loc Cert.KernelAb.main_arg2)
      ∧ r.2.mem ((c.tc : Thread Cert.KernelAb.nD Cert.KernelAb.τ).loc Cert.KernelAb.main_arg3) = m ((c.tc : Thread Cert.KernelAb.nD Cert.KernelAb.τ).loc Cert.KernelAb.main_arg3))
      ∧ r.2.sem = fun _ => 0)

def quiescent_KernelAbIdeal [hKernelAbIdeal : Cert.KernelAbIdeal.Facts] : Prop :=
  ∀ (m : (ℓ : Loc Cert.KernelAbIdeal.nD Cert.KernelAbIdeal.τ Cert.KernelAbIdeal.sig) → Buf (Elt Ideal) ℓ) (g : Dev Cert.KernelAbIdeal.nD → PrngReg), Pre_KernelAbIdeal m →
    θ_run (Cert.KernelAbIdeal.defs (F := Ideal)) (onTc (τ := Cert.KernelAbIdeal.τ) (Cert.KernelAbIdeal.main (F := Ideal))) ⟨m, fun _ => 0, g⟩ (fun r => (∀ c : Dev Cert.KernelAbIdeal.nD,
      r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
      ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
      ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)
      ∧ r.2.mem ((c.tc : Thread Cert.KernelAbIdeal.nD Cert.KernelAbIdeal.τ).loc Cert.KernelAbIdeal.main_arg3) = m ((c.tc : Thread Cert.KernelAbIdeal.nD Cert.KernelAbIdeal.τ).loc Cert.KernelAbIdeal.main_arg3))
      ∧ r.2.sem = fun _ => 0)

def quiescent_ReferenceAbIdeal [hReferenceAbIdeal : Cert.ReferenceAbIdeal.Facts] : Prop :=
  ∀ (m : (ℓ : Loc Cert.ReferenceAbIdeal.nD Cert.ReferenceAbIdeal.τ Cert.ReferenceAbIdeal.sig) → Buf (Elt Ideal) ℓ) (g : Dev Cert.ReferenceAbIdeal.nD → PrngReg), Pre_ReferenceAbIdeal m →
    θ_run (Cert.ReferenceAbIdeal.defs (F := Ideal)) (onTc (τ := Cert.ReferenceAbIdeal.τ) (Cert.ReferenceAbIdeal.main (F := Ideal))) ⟨m, fun _ => 0, g⟩ (fun r => (∀ c : Dev Cert.ReferenceAbIdeal.nD,
      r.2.mem ((c.tc : Thread Cert.ReferenceAbIdeal.nD Cert.ReferenceAbIdeal.τ).loc Cert.ReferenceAbIdeal.main_arg0) = m ((c.tc : Thread Cert.ReferenceAbIdeal.nD Cert.ReferenceAbIdeal.τ).loc Cert.ReferenceAbIdeal.main_arg0)
      ∧ r.2.mem ((c.tc : Thread Cert.ReferenceAbIdeal.nD Cert.ReferenceAbIdeal.τ).loc Cert.ReferenceAbIdeal.main_arg1) = m ((c.tc : Thread Cert.ReferenceAbIdeal.nD Cert.ReferenceAbIdeal.τ).loc Cert.ReferenceAbIdeal.main_arg1)
      ∧ r.2.mem ((c.tc : Thread Cert.ReferenceAbIdeal.nD Cert.ReferenceAbIdeal.τ).loc Cert.ReferenceAbIdeal.main_arg2) = m ((c.tc : Thread Cert.ReferenceAbIdeal.nD Cert.ReferenceAbIdeal.τ).loc Cert.ReferenceAbIdeal.main_arg2)
      ∧ r.2.mem ((c.tc : Thread Cert.ReferenceAbIdeal.nD Cert.ReferenceAbIdeal.τ).loc Cert.ReferenceAbIdeal.main_arg3) = m ((c.tc : Thread Cert.ReferenceAbIdeal.nD Cert.ReferenceAbIdeal.τ).loc Cert.ReferenceAbIdeal.main_arg3))
      ∧ r.2.sem = fun _ => 0)

def quiescent_KernelDwconv [hKernelDwconv : Cert.KernelDwconv.Facts] : Prop :=
  ∀ (m : (ℓ : Loc Cert.KernelDwconv.nD Cert.KernelDwconv.τ Cert.KernelDwconv.sig) → Buf (Elt Bits) ℓ) (g : Dev Cert.KernelDwconv.nD → PrngReg), Pre_KernelDwconv m →
    θ_run (Cert.KernelDwconv.defs (F := Bits)) (onTc (τ := Cert.KernelDwconv.τ) (Cert.KernelDwconv.main (F := Bits))) ⟨m, fun _ => 0, g⟩ (fun r => (∀ c : Dev Cert.KernelDwconv.nD,
      r.2.mem ((c.tc : Thread Cert.KernelDwconv.nD Cert.KernelDwconv.τ).loc Cert.KernelDwconv.main_arg0) = m ((c.tc : Thread Cert.KernelDwconv.nD Cert.KernelDwconv.τ).loc Cert.KernelDwconv.main_arg0)
      ∧ r.2.mem ((c.tc : Thread Cert.KernelDwconv.nD Cert.KernelDwconv.τ).loc Cert.KernelDwconv.main_arg1) = m ((c.tc : Thread Cert.KernelDwconv.nD Cert.KernelDwconv.τ).loc Cert.KernelDwconv.main_arg1)
      ∧ r.2.mem ((c.tc : Thread Cert.KernelDwconv.nD Cert.KernelDwconv.τ).loc Cert.KernelDwconv.main_arg2) = m ((c.tc : Thread Cert.KernelDwconv.nD Cert.KernelDwconv.τ).loc Cert.KernelDwconv.main_arg2)
      ∧ r.2.mem ((c.tc : Thread Cert.KernelDwconv.nD Cert.KernelDwconv.τ).loc Cert.KernelDwconv.main_arg3) = m ((c.tc : Thread Cert.KernelDwconv.nD Cert.KernelDwconv.τ).loc Cert.KernelDwconv.main_arg3)
      ∧ r.2.mem ((c.tc : Thread Cert.KernelDwconv.nD Cert.KernelDwconv.τ).loc Cert.KernelDwconv.main_arg4) = m ((c.tc : Thread Cert.KernelDwconv.nD Cert.KernelDwconv.τ).loc Cert.KernelDwconv.main_arg4))
      ∧ r.2.sem = fun _ => 0)

def quiescent_KernelDwconvIdeal [hKernelDwconvIdeal : Cert.KernelDwconvIdeal.Facts] : Prop :=
  ∀ (m : (ℓ : Loc Cert.KernelDwconvIdeal.nD Cert.KernelDwconvIdeal.τ Cert.KernelDwconvIdeal.sig) → Buf (Elt Ideal) ℓ) (g : Dev Cert.KernelDwconvIdeal.nD → PrngReg), Pre_KernelDwconvIdeal m →
    θ_run (Cert.KernelDwconvIdeal.defs (F := Ideal)) (onTc (τ := Cert.KernelDwconvIdeal.τ) (Cert.KernelDwconvIdeal.main (F := Ideal))) ⟨m, fun _ => 0, g⟩ (fun r => (∀ c : Dev Cert.KernelDwconvIdeal.nD,
      r.2.mem ((c.tc : Thread Cert.KernelDwconvIdeal.nD Cert.KernelDwconvIdeal.τ).loc Cert.KernelDwconvIdeal.main_arg0) = m ((c.tc : Thread Cert.KernelDwconvIdeal.nD Cert.KernelDwconvIdeal.τ).loc Cert.KernelDwconvIdeal.main_arg0)
      ∧ r.2.mem ((c.tc : Thread Cert.KernelDwconvIdeal.nD Cert.KernelDwconvIdeal.τ).loc Cert.KernelDwconvIdeal.main_arg1) = m ((c.tc : Thread Cert.KernelDwconvIdeal.nD Cert.KernelDwconvIdeal.τ).loc Cert.KernelDwconvIdeal.main_arg1)
      ∧ r.2.mem ((c.tc : Thread Cert.KernelDwconvIdeal.nD Cert.KernelDwconvIdeal.τ).loc Cert.KernelDwconvIdeal.main_arg2) = m ((c.tc : Thread Cert.KernelDwconvIdeal.nD Cert.KernelDwconvIdeal.τ).loc Cert.KernelDwconvIdeal.main_arg2)
      ∧ r.2.mem ((c.tc : Thread Cert.KernelDwconvIdeal.nD Cert.KernelDwconvIdeal.τ).loc Cert.KernelDwconvIdeal.main_arg3) = m ((c.tc : Thread Cert.KernelDwconvIdeal.nD Cert.KernelDwconvIdeal.τ).loc Cert.KernelDwconvIdeal.main_arg3)
      ∧ r.2.mem ((c.tc : Thread Cert.KernelDwconvIdeal.nD Cert.KernelDwconvIdeal.τ).loc Cert.KernelDwconvIdeal.main_arg4) = m ((c.tc : Thread Cert.KernelDwconvIdeal.nD Cert.KernelDwconvIdeal.τ).loc Cert.KernelDwconvIdeal.main_arg4))
      ∧ r.2.sem = fun _ => 0)

def quiescent_ReferenceDwconvIdeal [hReferenceDwconvIdeal : Cert.ReferenceDwconvIdeal.Facts] : Prop :=
  ∀ (m : (ℓ : Loc Cert.ReferenceDwconvIdeal.nD Cert.ReferenceDwconvIdeal.τ Cert.ReferenceDwconvIdeal.sig) → Buf (Elt Ideal) ℓ) (g : Dev Cert.ReferenceDwconvIdeal.nD → PrngReg), Pre_ReferenceDwconvIdeal m →
    θ_run (Cert.ReferenceDwconvIdeal.defs (F := Ideal)) (onTc (τ := Cert.ReferenceDwconvIdeal.τ) (Cert.ReferenceDwconvIdeal.main (F := Ideal))) ⟨m, fun _ => 0, g⟩ (fun r => (∀ c : Dev Cert.ReferenceDwconvIdeal.nD,
      r.2.mem ((c.tc : Thread Cert.ReferenceDwconvIdeal.nD Cert.ReferenceDwconvIdeal.τ).loc Cert.ReferenceDwconvIdeal.main_arg0) = m ((c.tc : Thread Cert.ReferenceDwconvIdeal.nD Cert.ReferenceDwconvIdeal.τ).loc Cert.ReferenceDwconvIdeal.main_arg0)
      ∧ r.2.mem ((c.tc : Thread Cert.ReferenceDwconvIdeal.nD Cert.ReferenceDwconvIdeal.τ).loc Cert.ReferenceDwconvIdeal.main_arg1) = m ((c.tc : Thread Cert.ReferenceDwconvIdeal.nD Cert.ReferenceDwconvIdeal.τ).loc Cert.ReferenceDwconvIdeal.main_arg1)
      ∧ r.2.mem ((c.tc : Thread Cert.ReferenceDwconvIdeal.nD Cert.ReferenceDwconvIdeal.τ).loc Cert.ReferenceDwconvIdeal.main_arg2) = m ((c.tc : Thread Cert.ReferenceDwconvIdeal.nD Cert.ReferenceDwconvIdeal.τ).loc Cert.ReferenceDwconvIdeal.main_arg2)
      ∧ r.2.mem ((c.tc : Thread Cert.ReferenceDwconvIdeal.nD Cert.ReferenceDwconvIdeal.τ).loc Cert.ReferenceDwconvIdeal.main_arg3) = m ((c.tc : Thread Cert.ReferenceDwconvIdeal.nD Cert.ReferenceDwconvIdeal.τ).loc Cert.ReferenceDwconvIdeal.main_arg3)
      ∧ r.2.mem ((c.tc : Thread Cert.ReferenceDwconvIdeal.nD Cert.ReferenceDwconvIdeal.τ).loc Cert.ReferenceDwconvIdeal.main_arg4) = m ((c.tc : Thread Cert.ReferenceDwconvIdeal.nD Cert.ReferenceDwconvIdeal.τ).loc Cert.ReferenceDwconvIdeal.main_arg4))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1)
      ∧ r.2.mem ((c.tc : Thread Cert.KernelRoute.nD Cert.KernelRoute.τ).loc Cert.KernelRoute.main_arg2) = m ((c.tc : Thread Cert.KernelRoute.nD Cert.KernelRoute.τ).loc Cert.KernelRoute.main_arg2))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2))
      ∧ r.2.sem = fun _ => 0)

def quiescent_KernelRouteIdeal_pre_biased_above [hKernelRouteIdeal : Cert.KernelRouteIdeal.Facts] [hPre_biased_above : Cert.Pre_biased_above.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal_biased_above m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2))
      ∧ r.2.sem = fun _ => 0)

def quiescent_ReferenceRouteIdeal_pre_biased_above [hReferenceRouteIdeal : Cert.ReferenceRouteIdeal.Facts] [hPre_biased_above : Cert.Pre_biased_above.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal_biased_above m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2))
      ∧ r.2.sem = fun _ => 0)

def quiescent_KernelDest [hKernelDest : Cert.KernelDest.Facts] : Prop :=
  ∀ (m : (ℓ : Loc Cert.KernelDest.nD Cert.KernelDest.τ Cert.KernelDest.sig) → Buf (Elt Bits) ℓ) (g : Dev Cert.KernelDest.nD → PrngReg), Pre_KernelDest m →
    θ_run (Cert.KernelDest.defs (F := Bits)) (onTc (τ := Cert.KernelDest.τ) (Cert.KernelDest.main (F := Bits))) ⟨m, fun _ => 0, g⟩ (fun r => (∀ c : Dev Cert.KernelDest.nD,
      r.2.mem ((c.tc : Thread Cert.KernelDest.nD Cert.KernelDest.τ).loc Cert.KernelDest.main_arg0) = m ((c.tc : Thread Cert.KernelDest.nD Cert.KernelDest.τ).loc Cert.KernelDest.main_arg0)
      ∧ r.2.mem ((c.tc : Thread Cert.KernelDest.nD Cert.KernelDest.τ).loc Cert.KernelDest.main_arg1) = m ((c.tc : Thread Cert.KernelDest.nD Cert.KernelDest.τ).loc Cert.KernelDest.main_arg1)
      ∧ r.2.mem ((c.tc : Thread Cert.KernelDest.nD Cert.KernelDest.τ).loc Cert.KernelDest.main_arg2) = m ((c.tc : Thread Cert.KernelDest.nD Cert.KernelDest.τ).loc Cert.KernelDest.main_arg2))
      ∧ r.2.sem = fun _ => 0)

def quiescent_KernelDestIdeal [hKernelDestIdeal : Cert.KernelDestIdeal.Facts] : Prop :=
  ∀ (m : (ℓ : Loc Cert.KernelDestIdeal.nD Cert.KernelDestIdeal.τ Cert.KernelDestIdeal.sig) → Buf (Elt Ideal) ℓ) (g : Dev Cert.KernelDestIdeal.nD → PrngReg), Pre_KernelDestIdeal m →
    θ_run (Cert.KernelDestIdeal.defs (F := Ideal)) (onTc (τ := Cert.KernelDestIdeal.τ) (Cert.KernelDestIdeal.main (F := Ideal))) ⟨m, fun _ => 0, g⟩ (fun r => (∀ c : Dev Cert.KernelDestIdeal.nD,
      r.2.mem ((c.tc : Thread Cert.KernelDestIdeal.nD Cert.KernelDestIdeal.τ).loc Cert.KernelDestIdeal.main_arg0) = m ((c.tc : Thread Cert.KernelDestIdeal.nD Cert.KernelDestIdeal.τ).loc Cert.KernelDestIdeal.main_arg0)
      ∧ r.2.mem ((c.tc : Thread Cert.KernelDestIdeal.nD Cert.KernelDestIdeal.τ).loc Cert.KernelDestIdeal.main_arg1) = m ((c.tc : Thread Cert.KernelDestIdeal.nD Cert.KernelDestIdeal.τ).loc Cert.KernelDestIdeal.main_arg1)
      ∧ r.2.mem ((c.tc : Thread Cert.KernelDestIdeal.nD Cert.KernelDestIdeal.τ).loc Cert.KernelDestIdeal.main_arg2) = m ((c.tc : Thread Cert.KernelDestIdeal.nD Cert.KernelDestIdeal.τ).loc Cert.KernelDestIdeal.main_arg2))
      ∧ r.2.sem = fun _ => 0)

def quiescent_KernelDestIdeal_pre_picks_experts [hKernelDestIdeal : Cert.KernelDestIdeal.Facts] [hPre_picks_experts : Cert.Pre_picks_experts.Facts] : Prop :=
  ∀ (m : (ℓ : Loc Cert.KernelDestIdeal.nD Cert.KernelDestIdeal.τ Cert.KernelDestIdeal.sig) → Buf (Elt Ideal) ℓ) (g : Dev Cert.KernelDestIdeal.nD → PrngReg), Pre_KernelDestIdeal_picks_experts m →
    θ_run (Cert.KernelDestIdeal.defs (F := Ideal)) (onTc (τ := Cert.KernelDestIdeal.τ) (Cert.KernelDestIdeal.main (F := Ideal))) ⟨m, fun _ => 0, g⟩ (fun r => (∀ c : Dev Cert.KernelDestIdeal.nD,
      r.2.mem ((c.tc : Thread Cert.KernelDestIdeal.nD Cert.KernelDestIdeal.τ).loc Cert.KernelDestIdeal.main_arg0) = m ((c.tc : Thread Cert.KernelDestIdeal.nD Cert.KernelDestIdeal.τ).loc Cert.KernelDestIdeal.main_arg0)
      ∧ r.2.mem ((c.tc : Thread Cert.KernelDestIdeal.nD Cert.KernelDestIdeal.τ).loc Cert.KernelDestIdeal.main_arg1) = m ((c.tc : Thread Cert.KernelDestIdeal.nD Cert.KernelDestIdeal.τ).loc Cert.KernelDestIdeal.main_arg1)
      ∧ r.2.mem ((c.tc : Thread Cert.KernelDestIdeal.nD Cert.KernelDestIdeal.τ).loc Cert.KernelDestIdeal.main_arg2) = m ((c.tc : Thread Cert.KernelDestIdeal.nD Cert.KernelDestIdeal.τ).loc Cert.KernelDestIdeal.main_arg2))
      ∧ r.2.sem = fun _ => 0)

def quiescent_ReferenceDestIdeal [hReferenceDestIdeal : Cert.ReferenceDestIdeal.Facts] : Prop :=
  ∀ (m : (ℓ : Loc Cert.ReferenceDestIdeal.nD Cert.ReferenceDestIdeal.τ Cert.ReferenceDestIdeal.sig) → Buf (Elt Ideal) ℓ) (g : Dev Cert.ReferenceDestIdeal.nD → PrngReg), Pre_ReferenceDestIdeal m →
    θ_run (Cert.ReferenceDestIdeal.defs (F := Ideal)) (onTc (τ := Cert.ReferenceDestIdeal.τ) (Cert.ReferenceDestIdeal.main (F := Ideal))) ⟨m, fun _ => 0, g⟩ (fun r => (∀ c : Dev Cert.ReferenceDestIdeal.nD,
      r.2.mem ((c.tc : Thread Cert.ReferenceDestIdeal.nD Cert.ReferenceDestIdeal.τ).loc Cert.ReferenceDestIdeal.main_arg0) = m ((c.tc : Thread Cert.ReferenceDestIdeal.nD Cert.ReferenceDestIdeal.τ).loc Cert.ReferenceDestIdeal.main_arg0)
      ∧ r.2.mem ((c.tc : Thread Cert.ReferenceDestIdeal.nD Cert.ReferenceDestIdeal.τ).loc Cert.ReferenceDestIdeal.main_arg1) = m ((c.tc : Thread Cert.ReferenceDestIdeal.nD Cert.ReferenceDestIdeal.τ).loc Cert.ReferenceDestIdeal.main_arg1)
      ∧ r.2.mem ((c.tc : Thread Cert.ReferenceDestIdeal.nD Cert.ReferenceDestIdeal.τ).loc Cert.ReferenceDestIdeal.main_arg2) = m ((c.tc : Thread Cert.ReferenceDestIdeal.nD Cert.ReferenceDestIdeal.τ).loc Cert.ReferenceDestIdeal.main_arg2))
      ∧ r.2.sem = fun _ => 0)

def quiescent_ReferenceDestIdeal_pre_picks_experts [hReferenceDestIdeal : Cert.ReferenceDestIdeal.Facts] [hPre_picks_experts : Cert.Pre_picks_experts.Facts] : Prop :=
  ∀ (m : (ℓ : Loc Cert.ReferenceDestIdeal.nD Cert.ReferenceDestIdeal.τ Cert.ReferenceDestIdeal.sig) → Buf (Elt Ideal) ℓ) (g : Dev Cert.ReferenceDestIdeal.nD → PrngReg), Pre_ReferenceDestIdeal_picks_experts m →
    θ_run (Cert.ReferenceDestIdeal.defs (F := Ideal)) (onTc (τ := Cert.ReferenceDestIdeal.τ) (Cert.ReferenceDestIdeal.main (F := Ideal))) ⟨m, fun _ => 0, g⟩ (fun r => (∀ c : Dev Cert.ReferenceDestIdeal.nD,
      r.2.mem ((c.tc : Thread Cert.ReferenceDestIdeal.nD Cert.ReferenceDestIdeal.τ).loc Cert.ReferenceDestIdeal.main_arg0) = m ((c.tc : Thread Cert.ReferenceDestIdeal.nD Cert.ReferenceDestIdeal.τ).loc Cert.ReferenceDestIdeal.main_arg0)
      ∧ r.2.mem ((c.tc : Thread Cert.ReferenceDestIdeal.nD Cert.ReferenceDestIdeal.τ).loc Cert.ReferenceDestIdeal.main_arg1) = m ((c.tc : Thread Cert.ReferenceDestIdeal.nD Cert.ReferenceDestIdeal.τ).loc Cert.ReferenceDestIdeal.main_arg1)
      ∧ r.2.mem ((c.tc : Thread Cert.ReferenceDestIdeal.nD Cert.ReferenceDestIdeal.τ).loc Cert.ReferenceDestIdeal.main_arg2) = m ((c.tc : Thread Cert.ReferenceDestIdeal.nD Cert.ReferenceDestIdeal.τ).loc Cert.ReferenceDestIdeal.main_arg2))
      ∧ r.2.sem = fun _ => 0)

def quiescent_KernelGdn [hKernelGdn : Cert.KernelGdn.Facts] : Prop :=
  ∀ (m : (ℓ : Loc Cert.KernelGdn.nD Cert.KernelGdn.τ Cert.KernelGdn.sig) → Buf (Elt Bits) ℓ) (g : Dev Cert.KernelGdn.nD → PrngReg), Pre_KernelGdn m →
    θ_run (Cert.KernelGdn.defs (F := Bits)) (onTc (τ := Cert.KernelGdn.τ) (Cert.KernelGdn.main (F := Bits))) ⟨m, fun _ => 0, g⟩ (fun r => (∀ c : Dev Cert.KernelGdn.nD,
      r.2.mem ((c.tc : Thread Cert.KernelGdn.nD Cert.KernelGdn.τ).loc Cert.KernelGdn.main_arg0) = m ((c.tc : Thread Cert.KernelGdn.nD Cert.KernelGdn.τ).loc Cert.KernelGdn.main_arg0)
      ∧ r.2.mem ((c.tc : Thread Cert.KernelGdn.nD Cert.KernelGdn.τ).loc Cert.KernelGdn.main_arg1) = m ((c.tc : Thread Cert.KernelGdn.nD Cert.KernelGdn.τ).loc Cert.KernelGdn.main_arg1)
      ∧ r.2.mem ((c.tc : Thread Cert.KernelGdn.nD Cert.KernelGdn.τ).loc Cert.KernelGdn.main_arg2) = m ((c.tc : Thread Cert.KernelGdn.nD Cert.KernelGdn.τ).loc Cert.KernelGdn.main_arg2)
      ∧ r.2.mem ((c.tc : Thread Cert.KernelGdn.nD Cert.KernelGdn.τ).loc Cert.KernelGdn.main_arg3) = m ((c.tc : Thread Cert.KernelGdn.nD Cert.KernelGdn.τ).loc Cert.KernelGdn.main_arg3)
      ∧ r.2.mem ((c.tc : Thread Cert.KernelGdn.nD Cert.KernelGdn.τ).loc Cert.KernelGdn.main_arg4) = m ((c.tc : Thread Cert.KernelGdn.nD Cert.KernelGdn.τ).loc Cert.KernelGdn.main_arg4)
      ∧ r.2.mem ((c.tc : Thread Cert.KernelGdn.nD Cert.KernelGdn.τ).loc Cert.KernelGdn.main_arg5) = m ((c.tc : Thread Cert.KernelGdn.nD Cert.KernelGdn.τ).loc Cert.KernelGdn.main_arg5)
      ∧ r.2.mem ((c.tc : Thread Cert.KernelGdn.nD Cert.KernelGdn.τ).loc Cert.KernelGdn.main_arg6) = m ((c.tc : Thread Cert.KernelGdn.nD Cert.KernelGdn.τ).loc Cert.KernelGdn.main_arg6))
      ∧ r.2.sem = fun _ => 0)

def quiescent_KernelGdnIdeal [hKernelGdnIdeal : Cert.KernelGdnIdeal.Facts] : Prop :=
  ∀ (m : (ℓ : Loc Cert.KernelGdnIdeal.nD Cert.KernelGdnIdeal.τ Cert.KernelGdnIdeal.sig) → Buf (Elt Ideal) ℓ) (g : Dev Cert.KernelGdnIdeal.nD → PrngReg), Pre_KernelGdnIdeal m →
    θ_run (Cert.KernelGdnIdeal.defs (F := Ideal)) (onTc (τ := Cert.KernelGdnIdeal.τ) (Cert.KernelGdnIdeal.main (F := Ideal))) ⟨m, fun _ => 0, g⟩ (fun r => (∀ c : Dev Cert.KernelGdnIdeal.nD,
      r.2.mem ((c.tc : Thread Cert.KernelGdnIdeal.nD Cert.KernelGdnIdeal.τ).loc Cert.KernelGdnIdeal.main_arg0) = m ((c.tc : Thread Cert.KernelGdnIdeal.nD Cert.KernelGdnIdeal.τ).loc Cert.KernelGdnIdeal.main_arg0)
      ∧ r.2.mem ((c.tc : Thread Cert.KernelGdnIdeal.nD Cert.KernelGdnIdeal.τ).loc Cert.KernelGdnIdeal.main_arg1) = m ((c.tc : Thread Cert.KernelGdnIdeal.nD Cert.KernelGdnIdeal.τ).loc Cert.KernelGdnIdeal.main_arg1)
      ∧ r.2.mem ((c.tc : Thread Cert.KernelGdnIdeal.nD Cert.KernelGdnIdeal.τ).loc Cert.KernelGdnIdeal.main_arg2) = m ((c.tc : Thread Cert.KernelGdnIdeal.nD Cert.KernelGdnIdeal.τ).loc Cert.KernelGdnIdeal.main_arg2)
      ∧ r.2.mem ((c.tc : Thread Cert.KernelGdnIdeal.nD Cert.KernelGdnIdeal.τ).loc Cert.KernelGdnIdeal.main_arg3) = m ((c.tc : Thread Cert.KernelGdnIdeal.nD Cert.KernelGdnIdeal.τ).loc Cert.KernelGdnIdeal.main_arg3)
      ∧ r.2.mem ((c.tc : Thread Cert.KernelGdnIdeal.nD Cert.KernelGdnIdeal.τ).loc Cert.KernelGdnIdeal.main_arg4) = m ((c.tc : Thread Cert.KernelGdnIdeal.nD Cert.KernelGdnIdeal.τ).loc Cert.KernelGdnIdeal.main_arg4)
      ∧ r.2.mem ((c.tc : Thread Cert.KernelGdnIdeal.nD Cert.KernelGdnIdeal.τ).loc Cert.KernelGdnIdeal.main_arg5) = m ((c.tc : Thread Cert.KernelGdnIdeal.nD Cert.KernelGdnIdeal.τ).loc Cert.KernelGdnIdeal.main_arg5)
      ∧ r.2.mem ((c.tc : Thread Cert.KernelGdnIdeal.nD Cert.KernelGdnIdeal.τ).loc Cert.KernelGdnIdeal.main_arg6) = m ((c.tc : Thread Cert.KernelGdnIdeal.nD Cert.KernelGdnIdeal.τ).loc Cert.KernelGdnIdeal.main_arg6))
      ∧ r.2.sem = fun _ => 0)

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v2)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v2) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v1) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v2) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v7) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v2)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v2) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v10) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)) →
    ∃ (v0 : (c : Dev Cert.KernelVIdeal.nD) → Buf (Elt Ideal) ((c.tc : Thread Cert.KernelVIdeal.nD Cert.KernelVIdeal.τ).loc Cert.KernelVIdeal.main_v2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v2) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v33) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2))

def preserves_KernelQK_KernelQKIdeal : Prop :=
  True

def algebraic_KernelQKIdeal_ReferenceQKIdeal [hKernelQKIdeal : Cert.KernelQKIdeal.Facts] [hReferenceQKIdeal : Cert.ReferenceQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg)
    (m' : (ℓ : Loc Cert.ReferenceQKIdeal.nD Cert.ReferenceQKIdeal.τ Cert.ReferenceQKIdeal.sig) → Buf (Elt Ideal) ℓ) (g' : Dev Cert.ReferenceQKIdeal.nD → PrngReg), Pre_KernelQKIdeal m →
    (∀ c : Dev Cert.KernelQKIdeal.nD,
      m' ((c.tc : Thread Cert.ReferenceQKIdeal.nD Cert.ReferenceQKIdeal.τ).loc Cert.ReferenceQKIdeal.main_arg0) = m ((c.tc : Thread Cert.KernelQKIdeal.nD Cert.KernelQKIdeal.τ).loc Cert.KernelQKIdeal.main_arg0)
      ∧ m' ((c.tc : Thread Cert.ReferenceQKIdeal.nD Cert.ReferenceQKIdeal.τ).loc Cert.ReferenceQKIdeal.main_arg1) = m ((c.tc : Thread Cert.KernelQKIdeal.nD Cert.KernelQKIdeal.τ).loc Cert.KernelQKIdeal.main_arg1)
      ∧ m' ((c.tc : Thread Cert.ReferenceQKIdeal.nD Cert.ReferenceQKIdeal.τ).loc Cert.ReferenceQKIdeal.main_arg2) = m ((c.tc : Thread Cert.KernelQKIdeal.nD Cert.KernelQKIdeal.τ).loc Cert.KernelQKIdeal.main_arg2)) →
    ∃ (v0 : (c : Dev Cert.KernelQKIdeal.nD) → Buf (Elt Ideal) ((c.tc : Thread Cert.KernelQKIdeal.nD Cert.KernelQKIdeal.τ).loc Cert.KernelQKIdeal.main_v5)),
      θ_run (Cert.KernelQKIdeal.defs (F := Ideal)) (onTc (τ := Cert.KernelQKIdeal.τ) (Cert.KernelQKIdeal.main (F := Ideal))) ⟨m, fun _ => 0, g⟩ (fun r => ∀ c : Dev Cert.KernelQKIdeal.nD,
          r.2.mem ((c.tc : Thread Cert.KernelQKIdeal.nD Cert.KernelQKIdeal.τ).loc Cert.KernelQKIdeal.main_v5) = v0 c
          ∧ r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
          ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1)
          ∧ r.2.mem ((c.tc : Thread Cert.KernelQKIdeal.nD Cert.KernelQKIdeal.τ).loc Cert.KernelQKIdeal.main_arg2) = m ((c.tc : Thread Cert.KernelQKIdeal.nD Cert.KernelQKIdeal.τ).loc Cert.KernelQKIdeal.main_arg2))
      ∧ θ_run (Cert.ReferenceQKIdeal.defs (F := Ideal)) (onTc (τ := Cert.ReferenceQKIdeal.τ) (Cert.ReferenceQKIdeal.main (F := Ideal))) ⟨m', fun _ => 0, g'⟩ (fun r => ∀ c : Dev Cert.ReferenceQKIdeal.nD,
          r.2.mem ((c.tc : Thread Cert.ReferenceQKIdeal.nD Cert.ReferenceQKIdeal.τ).loc Cert.ReferenceQKIdeal.main_v58) = v0 c
          ∧ r.2.mem ((c.tc : Thread Cert.ReferenceQKIdeal.nD Cert.ReferenceQKIdeal.τ).loc Cert.ReferenceQKIdeal.main_arg0) = m' ((c.tc : Thread Cert.ReferenceQKIdeal.nD Cert.ReferenceQKIdeal.τ).loc Cert.ReferenceQKIdeal.main_arg0)
          ∧ r.2.mem ((c.tc : Thread Cert.ReferenceQKIdeal.nD Cert.ReferenceQKIdeal.τ).loc Cert.ReferenceQKIdeal.main_arg1) = m' ((c.tc : Thread Cert.ReferenceQKIdeal.nD Cert.ReferenceQKIdeal.τ).loc Cert.ReferenceQKIdeal.main_arg1)
          ∧ r.2.mem ((c.tc : Thread Cert.ReferenceQKIdeal.nD Cert.ReferenceQKIdeal.τ).loc Cert.ReferenceQKIdeal.main_arg2) = m' ((c.tc : Thread Cert.ReferenceQKIdeal.nD Cert.ReferenceQKIdeal.τ).loc Cert.ReferenceQKIdeal.main_arg2))

def preserves_KernelOdelta_KernelOdeltaIdeal : Prop :=
  True

def algebraic_KernelOdeltaIdeal_ReferenceOdeltaIdeal [hKernelOdeltaIdeal : Cert.KernelOdeltaIdeal.Facts] [hReferenceOdeltaIdeal : Cert.ReferenceOdeltaIdeal.Facts] : Prop :=
  ∀ (m : (ℓ : Loc Cert.KernelOdeltaIdeal.nD Cert.KernelOdeltaIdeal.τ Cert.KernelOdeltaIdeal.sig) → Buf (Elt Ideal) ℓ) (g : Dev Cert.KernelOdeltaIdeal.nD → PrngReg)
    (m' : (ℓ : Loc Cert.ReferenceOdeltaIdeal.nD Cert.ReferenceOdeltaIdeal.τ Cert.ReferenceOdeltaIdeal.sig) → Buf (Elt Ideal) ℓ) (g' : Dev Cert.ReferenceOdeltaIdeal.nD → PrngReg), Pre_KernelOdeltaIdeal m →
    (∀ c : Dev Cert.KernelOdeltaIdeal.nD,
      m' ((c.tc : Thread Cert.ReferenceOdeltaIdeal.nD Cert.ReferenceOdeltaIdeal.τ).loc Cert.ReferenceOdeltaIdeal.main_arg0) = m ((c.tc : Thread Cert.KernelOdeltaIdeal.nD Cert.KernelOdeltaIdeal.τ).loc Cert.KernelOdeltaIdeal.main_arg0)
      ∧ m' ((c.tc : Thread Cert.ReferenceOdeltaIdeal.nD Cert.ReferenceOdeltaIdeal.τ).loc Cert.ReferenceOdeltaIdeal.main_arg1) = m ((c.tc : Thread Cert.KernelOdeltaIdeal.nD Cert.KernelOdeltaIdeal.τ).loc Cert.KernelOdeltaIdeal.main_arg1)
      ∧ m' ((c.tc : Thread Cert.ReferenceOdeltaIdeal.nD Cert.ReferenceOdeltaIdeal.τ).loc Cert.ReferenceOdeltaIdeal.main_arg2) = m ((c.tc : Thread Cert.KernelOdeltaIdeal.nD Cert.KernelOdeltaIdeal.τ).loc Cert.KernelOdeltaIdeal.main_arg2)) →
    ∃ (v0 : (c : Dev Cert.KernelOdeltaIdeal.nD) → Buf (Elt Ideal) ((c.tc : Thread Cert.KernelOdeltaIdeal.nD Cert.KernelOdeltaIdeal.τ).loc Cert.KernelOdeltaIdeal.main_v0)),
      θ_run (Cert.KernelOdeltaIdeal.defs (F := Ideal)) (onTc (τ := Cert.KernelOdeltaIdeal.τ) (Cert.KernelOdeltaIdeal.main (F := Ideal))) ⟨m, fun _ => 0, g⟩ (fun r => ∀ c : Dev Cert.KernelOdeltaIdeal.nD,
          r.2.mem ((c.tc : Thread Cert.KernelOdeltaIdeal.nD Cert.KernelOdeltaIdeal.τ).loc Cert.KernelOdeltaIdeal.main_v0) = v0 c
          ∧ r.2.mem ((c.tc : Thread Cert.KernelOdeltaIdeal.nD Cert.KernelOdeltaIdeal.τ).loc Cert.KernelOdeltaIdeal.main_arg0) = m ((c.tc : Thread Cert.KernelOdeltaIdeal.nD Cert.KernelOdeltaIdeal.τ).loc Cert.KernelOdeltaIdeal.main_arg0)
          ∧ r.2.mem ((c.tc : Thread Cert.KernelOdeltaIdeal.nD Cert.KernelOdeltaIdeal.τ).loc Cert.KernelOdeltaIdeal.main_arg1) = m ((c.tc : Thread Cert.KernelOdeltaIdeal.nD Cert.KernelOdeltaIdeal.τ).loc Cert.KernelOdeltaIdeal.main_arg1)
          ∧ r.2.mem ((c.tc : Thread Cert.KernelOdeltaIdeal.nD Cert.KernelOdeltaIdeal.τ).loc Cert.KernelOdeltaIdeal.main_arg2) = m ((c.tc : Thread Cert.KernelOdeltaIdeal.nD Cert.KernelOdeltaIdeal.τ).loc Cert.KernelOdeltaIdeal.main_arg2))
      ∧ θ_run (Cert.ReferenceOdeltaIdeal.defs (F := Ideal)) (onTc (τ := Cert.ReferenceOdeltaIdeal.τ) (Cert.ReferenceOdeltaIdeal.main (F := Ideal))) ⟨m', fun _ => 0, g'⟩ (fun r => ∀ c : Dev Cert.ReferenceOdeltaIdeal.nD,
          r.2.mem ((c.tc : Thread Cert.ReferenceOdeltaIdeal.nD Cert.ReferenceOdeltaIdeal.τ).loc Cert.ReferenceOdeltaIdeal.main_v4) = v0 c
          ∧ r.2.mem ((c.tc : Thread Cert.ReferenceOdeltaIdeal.nD Cert.ReferenceOdeltaIdeal.τ).loc Cert.ReferenceOdeltaIdeal.main_arg0) = m' ((c.tc : Thread Cert.ReferenceOdeltaIdeal.nD Cert.ReferenceOdeltaIdeal.τ).loc Cert.ReferenceOdeltaIdeal.main_arg0)
          ∧ r.2.mem ((c.tc : Thread Cert.ReferenceOdeltaIdeal.nD Cert.ReferenceOdeltaIdeal.τ).loc Cert.ReferenceOdeltaIdeal.main_arg1) = m' ((c.tc : Thread Cert.ReferenceOdeltaIdeal.nD Cert.ReferenceOdeltaIdeal.τ).loc Cert.ReferenceOdeltaIdeal.main_arg1)
          ∧ r.2.mem ((c.tc : Thread Cert.ReferenceOdeltaIdeal.nD Cert.ReferenceOdeltaIdeal.τ).loc Cert.ReferenceOdeltaIdeal.main_arg2) = m' ((c.tc : Thread Cert.ReferenceOdeltaIdeal.nD Cert.ReferenceOdeltaIdeal.τ).loc Cert.ReferenceOdeltaIdeal.main_arg2))

def preserves_KernelPw2_KernelPw2Ideal : Prop :=
  True

def algebraic_KernelPw2Ideal_ReferencePw2Ideal [hKernelPw2Ideal : Cert.KernelPw2Ideal.Facts] [hReferencePw2Ideal : Cert.ReferencePw2Ideal.Facts] : Prop :=
  ∀ (m : (ℓ : Loc Cert.KernelPw2Ideal.nD Cert.KernelPw2Ideal.τ Cert.KernelPw2Ideal.sig) → Buf (Elt Ideal) ℓ) (g : Dev Cert.KernelPw2Ideal.nD → PrngReg)
    (m' : (ℓ : Loc Cert.ReferencePw2Ideal.nD Cert.ReferencePw2Ideal.τ Cert.ReferencePw2Ideal.sig) → Buf (Elt Ideal) ℓ) (g' : Dev Cert.ReferencePw2Ideal.nD → PrngReg), Pre_KernelPw2Ideal m →
    (∀ c : Dev Cert.KernelPw2Ideal.nD,
      m' ((c.tc : Thread Cert.ReferencePw2Ideal.nD Cert.ReferencePw2Ideal.τ).loc Cert.ReferencePw2Ideal.main_arg0) = m ((c.tc : Thread Cert.KernelPw2Ideal.nD Cert.KernelPw2Ideal.τ).loc Cert.KernelPw2Ideal.main_arg0)
      ∧ m' ((c.tc : Thread Cert.ReferencePw2Ideal.nD Cert.ReferencePw2Ideal.τ).loc Cert.ReferencePw2Ideal.main_arg1) = m ((c.tc : Thread Cert.KernelPw2Ideal.nD Cert.KernelPw2Ideal.τ).loc Cert.KernelPw2Ideal.main_arg1)
      ∧ m' ((c.tc : Thread Cert.ReferencePw2Ideal.nD Cert.ReferencePw2Ideal.τ).loc Cert.ReferencePw2Ideal.main_arg2) = m ((c.tc : Thread Cert.KernelPw2Ideal.nD Cert.KernelPw2Ideal.τ).loc Cert.KernelPw2Ideal.main_arg2)
      ∧ m' ((c.tc : Thread Cert.ReferencePw2Ideal.nD Cert.ReferencePw2Ideal.τ).loc Cert.ReferencePw2Ideal.main_arg3) = m ((c.tc : Thread Cert.KernelPw2Ideal.nD Cert.KernelPw2Ideal.τ).loc Cert.KernelPw2Ideal.main_arg3)
      ∧ m' ((c.tc : Thread Cert.ReferencePw2Ideal.nD Cert.ReferencePw2Ideal.τ).loc Cert.ReferencePw2Ideal.main_arg4) = m ((c.tc : Thread Cert.KernelPw2Ideal.nD Cert.KernelPw2Ideal.τ).loc Cert.KernelPw2Ideal.main_arg4)) →
    ∃ (v0 : (c : Dev Cert.KernelPw2Ideal.nD) → Buf (Elt Ideal) ((c.tc : Thread Cert.KernelPw2Ideal.nD Cert.KernelPw2Ideal.τ).loc Cert.KernelPw2Ideal.main_v1)),
      θ_run (Cert.KernelPw2Ideal.defs (F := Ideal)) (onTc (τ := Cert.KernelPw2Ideal.τ) (Cert.KernelPw2Ideal.main (F := Ideal))) ⟨m, fun _ => 0, g⟩ (fun r => ∀ c : Dev Cert.KernelPw2Ideal.nD,
          r.2.mem ((c.tc : Thread Cert.KernelPw2Ideal.nD Cert.KernelPw2Ideal.τ).loc Cert.KernelPw2Ideal.main_v1) = v0 c
          ∧ r.2.mem ((c.tc : Thread Cert.KernelPw2Ideal.nD Cert.KernelPw2Ideal.τ).loc Cert.KernelPw2Ideal.main_arg0) = m ((c.tc : Thread Cert.KernelPw2Ideal.nD Cert.KernelPw2Ideal.τ).loc Cert.KernelPw2Ideal.main_arg0)
          ∧ r.2.mem ((c.tc : Thread Cert.KernelPw2Ideal.nD Cert.KernelPw2Ideal.τ).loc Cert.KernelPw2Ideal.main_arg1) = m ((c.tc : Thread Cert.KernelPw2Ideal.nD Cert.KernelPw2Ideal.τ).loc Cert.KernelPw2Ideal.main_arg1)
          ∧ r.2.mem ((c.tc : Thread Cert.KernelPw2Ideal.nD Cert.KernelPw2Ideal.τ).loc Cert.KernelPw2Ideal.main_arg2) = m ((c.tc : Thread Cert.KernelPw2Ideal.nD Cert.KernelPw2Ideal.τ).loc Cert.KernelPw2Ideal.main_arg2)
          ∧ r.2.mem ((c.tc : Thread Cert.KernelPw2Ideal.nD Cert.KernelPw2Ideal.τ).loc Cert.KernelPw2Ideal.main_arg3) = m ((c.tc : Thread Cert.KernelPw2Ideal.nD Cert.KernelPw2Ideal.τ).loc Cert.KernelPw2Ideal.main_arg3)
          ∧ r.2.mem ((c.tc : Thread Cert.KernelPw2Ideal.nD Cert.KernelPw2Ideal.τ).loc Cert.KernelPw2Ideal.main_arg4) = m ((c.tc : Thread Cert.KernelPw2Ideal.nD Cert.KernelPw2Ideal.τ).loc Cert.KernelPw2Ideal.main_arg4))
      ∧ θ_run (Cert.ReferencePw2Ideal.defs (F := Ideal)) (onTc (τ := Cert.ReferencePw2Ideal.τ) (Cert.ReferencePw2Ideal.main (F := Ideal))) ⟨m', fun _ => 0, g'⟩ (fun r => ∀ c : Dev Cert.ReferencePw2Ideal.nD,
          r.2.mem ((c.tc : Thread Cert.ReferencePw2Ideal.nD Cert.ReferencePw2Ideal.τ).loc Cert.ReferencePw2Ideal.main_v9) = v0 c
          ∧ r.2.mem ((c.tc : Thread Cert.ReferencePw2Ideal.nD Cert.ReferencePw2Ideal.τ).loc Cert.ReferencePw2Ideal.main_arg0) = m' ((c.tc : Thread Cert.ReferencePw2Ideal.nD Cert.ReferencePw2Ideal.τ).loc Cert.ReferencePw2Ideal.main_arg0)
          ∧ r.2.mem ((c.tc : Thread Cert.ReferencePw2Ideal.nD Cert.ReferencePw2Ideal.τ).loc Cert.ReferencePw2Ideal.main_arg1) = m' ((c.tc : Thread Cert.ReferencePw2Ideal.nD Cert.ReferencePw2Ideal.τ).loc Cert.ReferencePw2Ideal.main_arg1)
          ∧ r.2.mem ((c.tc : Thread Cert.ReferencePw2Ideal.nD Cert.ReferencePw2Ideal.τ).loc Cert.ReferencePw2Ideal.main_arg2) = m' ((c.tc : Thread Cert.ReferencePw2Ideal.nD Cert.ReferencePw2Ideal.τ).loc Cert.ReferencePw2Ideal.main_arg2)
          ∧ r.2.mem ((c.tc : Thread Cert.ReferencePw2Ideal.nD Cert.ReferencePw2Ideal.τ).loc Cert.ReferencePw2Ideal.main_arg3) = m' ((c.tc : Thread Cert.ReferencePw2Ideal.nD Cert.ReferencePw2Ideal.τ).loc Cert.ReferencePw2Ideal.main_arg3)
          ∧ r.2.mem ((c.tc : Thread Cert.ReferencePw2Ideal.nD Cert.ReferencePw2Ideal.τ).loc Cert.ReferencePw2Ideal.main_arg4) = m' ((c.tc : Thread Cert.ReferencePw2Ideal.nD Cert.ReferencePw2Ideal.τ).loc Cert.ReferencePw2Ideal.main_arg4))

def preserves_KernelOutproj_KernelOutprojIdeal : Prop :=
  True

def algebraic_KernelOutprojIdeal_ReferenceOutprojIdeal [hKernelOutprojIdeal : Cert.KernelOutprojIdeal.Facts] [hReferenceOutprojIdeal : Cert.ReferenceOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_KernelOutprojIdeal m →
    (∀ c : Dev Cert.KernelOutprojIdeal.nD,
      m' ((c.tc : Thread Cert.ReferenceOutprojIdeal.nD Cert.ReferenceOutprojIdeal.τ).loc Cert.ReferenceOutprojIdeal.main_arg0) = m ((c.tc : Thread Cert.KernelOutprojIdeal.nD Cert.KernelOutprojIdeal.τ).loc Cert.KernelOutprojIdeal.main_arg0)
      ∧ m' ((c.tc : Thread Cert.ReferenceOutprojIdeal.nD Cert.ReferenceOutprojIdeal.τ).loc Cert.ReferenceOutprojIdeal.main_arg1) = m ((c.tc : Thread Cert.KernelOutprojIdeal.nD Cert.KernelOutprojIdeal.τ).loc Cert.KernelOutprojIdeal.main_arg1)
      ∧ m' ((c.tc : Thread Cert.ReferenceOutprojIdeal.nD Cert.ReferenceOutprojIdeal.τ).loc Cert.ReferenceOutprojIdeal.main_arg2) = m ((c.tc : Thread Cert.KernelOutprojIdeal.nD Cert.KernelOutprojIdeal.τ).loc Cert.KernelOutprojIdeal.main_arg2)
      ∧ m' ((c.tc : Thread Cert.ReferenceOutprojIdeal.nD Cert.ReferenceOutprojIdeal.τ).loc Cert.ReferenceOutprojIdeal.main_arg3) = m ((c.tc : Thread Cert.KernelOutprojIdeal.nD Cert.KernelOutprojIdeal.τ).loc Cert.KernelOutprojIdeal.main_arg3)
      ∧ m' ((c.tc : Thread Cert.ReferenceOutprojIdeal.nD Cert.ReferenceOutprojIdeal.τ).loc Cert.ReferenceOutprojIdeal.main_arg4) = m ((c.tc : Thread Cert.KernelOutprojIdeal.nD Cert.KernelOutprojIdeal.τ).loc Cert.KernelOutprojIdeal.main_arg4)) →
    ∃ (v0 : (c : Dev Cert.KernelOutprojIdeal.nD) → Buf (Elt Ideal) ((c.tc : Thread Cert.KernelOutprojIdeal.nD Cert.KernelOutprojIdeal.τ).loc Cert.KernelOutprojIdeal.main_v3)),
      θ_run (Cert.KernelOutprojIdeal.defs (F := Ideal)) (onTc (τ := Cert.KernelOutprojIdeal.τ) (Cert.KernelOutprojIdeal.main (F := Ideal))) ⟨m, fun _ => 0, g⟩ (fun r => ∀ c : Dev Cert.KernelOutprojIdeal.nD,
          r.2.mem ((c.tc : Thread Cert.KernelOutprojIdeal.nD Cert.KernelOutprojIdeal.τ).loc Cert.KernelOutprojIdeal.main_v3) = v0 c
          ∧ r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
          ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
          ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
          ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
          ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v28) = v0 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3)
          ∧ r.2.mem ((c.tc : Thread Cert.ReferenceOutprojIdeal.nD Cert.ReferenceOutprojIdeal.τ).loc Cert.ReferenceOutprojIdeal.main_arg4) = m' ((c.tc : Thread Cert.ReferenceOutprojIdeal.nD Cert.ReferenceOutprojIdeal.τ).loc Cert.ReferenceOutprojIdeal.main_arg4))

def preserves_KernelAb_KernelAbIdeal : Prop :=
  True

def algebraic_KernelAbIdeal_ReferenceAbIdeal [hKernelAbIdeal : Cert.KernelAbIdeal.Facts] [hReferenceAbIdeal : Cert.ReferenceAbIdeal.Facts] : Prop :=
  ∀ (m : (ℓ : Loc Cert.KernelAbIdeal.nD Cert.KernelAbIdeal.τ Cert.KernelAbIdeal.sig) → Buf (Elt Ideal) ℓ) (g : Dev Cert.KernelAbIdeal.nD → PrngReg)
    (m' : (ℓ : Loc Cert.ReferenceAbIdeal.nD Cert.ReferenceAbIdeal.τ Cert.ReferenceAbIdeal.sig) → Buf (Elt Ideal) ℓ) (g' : Dev Cert.ReferenceAbIdeal.nD → PrngReg), Pre_KernelAbIdeal m →
    (∀ c : Dev Cert.KernelAbIdeal.nD,
      m' ((c.tc : Thread Cert.ReferenceAbIdeal.nD Cert.ReferenceAbIdeal.τ).loc Cert.ReferenceAbIdeal.main_arg0) = m ((c.tc : Thread Cert.KernelAbIdeal.nD Cert.KernelAbIdeal.τ).loc Cert.KernelAbIdeal.main_arg0)
      ∧ m' ((c.tc : Thread Cert.ReferenceAbIdeal.nD Cert.ReferenceAbIdeal.τ).loc Cert.ReferenceAbIdeal.main_arg1) = m ((c.tc : Thread Cert.KernelAbIdeal.nD Cert.KernelAbIdeal.τ).loc Cert.KernelAbIdeal.main_arg1)
      ∧ m' ((c.tc : Thread Cert.ReferenceAbIdeal.nD Cert.ReferenceAbIdeal.τ).loc Cert.ReferenceAbIdeal.main_arg2) = m ((c.tc : Thread Cert.KernelAbIdeal.nD Cert.KernelAbIdeal.τ).loc Cert.KernelAbIdeal.main_arg2)
      ∧ m' ((c.tc : Thread Cert.ReferenceAbIdeal.nD Cert.ReferenceAbIdeal.τ).loc Cert.ReferenceAbIdeal.main_arg3) = m ((c.tc : Thread Cert.KernelAbIdeal.nD Cert.KernelAbIdeal.τ).loc Cert.KernelAbIdeal.main_arg3)) →
    ∃ (v0 : (c : Dev Cert.KernelAbIdeal.nD) → Buf (Elt Ideal) ((c.tc : Thread Cert.KernelAbIdeal.nD Cert.KernelAbIdeal.τ).loc Cert.KernelAbIdeal.main_v7)) (v1 : (c : Dev Cert.KernelAbIdeal.nD) → Buf (Elt Ideal) ((c.tc : Thread Cert.KernelAbIdeal.nD Cert.KernelAbIdeal.τ).loc Cert.KernelAbIdeal.main_v8)) (v2 : (c : Dev Cert.KernelAbIdeal.nD) → Buf (Elt Ideal) ((c.tc : Thread Cert.KernelAbIdeal.nD Cert.KernelAbIdeal.τ).loc Cert.KernelAbIdeal.main_v9)),
      θ_run (Cert.KernelAbIdeal.defs (F := Ideal)) (onTc (τ := Cert.KernelAbIdeal.τ) (Cert.KernelAbIdeal.main (F := Ideal))) ⟨m, fun _ => 0, g⟩ (fun r => ∀ c : Dev Cert.KernelAbIdeal.nD,
          r.2.mem ((c.tc : Thread Cert.KernelAbIdeal.nD Cert.KernelAbIdeal.τ).loc Cert.KernelAbIdeal.main_v7) = v0 c
          ∧ r.2.mem ((c.tc : Thread Cert.KernelAbIdeal.nD Cert.KernelAbIdeal.τ).loc Cert.KernelAbIdeal.main_v8) = v1 c
          ∧ r.2.mem ((c.tc : Thread Cert.KernelAbIdeal.nD Cert.KernelAbIdeal.τ).loc Cert.KernelAbIdeal.main_v9) = v2 c
          ∧ r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
          ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
          ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)
          ∧ r.2.mem ((c.tc : Thread Cert.KernelAbIdeal.nD Cert.KernelAbIdeal.τ).loc Cert.KernelAbIdeal.main_arg3) = m ((c.tc : Thread Cert.KernelAbIdeal.nD Cert.KernelAbIdeal.τ).loc Cert.KernelAbIdeal.main_arg3))
      ∧ θ_run (Cert.ReferenceAbIdeal.defs (F := Ideal)) (onTc (τ := Cert.ReferenceAbIdeal.τ) (Cert.ReferenceAbIdeal.main (F := Ideal))) ⟨m', fun _ => 0, g'⟩ (fun r => ∀ c : Dev Cert.ReferenceAbIdeal.nD,
          r.2.mem ((c.tc : Thread Cert.ReferenceAbIdeal.nD Cert.ReferenceAbIdeal.τ).loc Cert.ReferenceAbIdeal.main_v23) = v0 c
          ∧ r.2.mem ((c.tc : Thread Cert.ReferenceAbIdeal.nD Cert.ReferenceAbIdeal.τ).loc Cert.ReferenceAbIdeal.main_v9) = v1 c
          ∧ r.2.mem ((c.tc : Thread Cert.ReferenceAbIdeal.nD Cert.ReferenceAbIdeal.τ).loc Cert.ReferenceAbIdeal.main_v24) = v2 c
          ∧ r.2.mem ((c.tc : Thread Cert.ReferenceAbIdeal.nD Cert.ReferenceAbIdeal.τ).loc Cert.ReferenceAbIdeal.main_arg0) = m' ((c.tc : Thread Cert.ReferenceAbIdeal.nD Cert.ReferenceAbIdeal.τ).loc Cert.ReferenceAbIdeal.main_arg0)
          ∧ r.2.mem ((c.tc : Thread Cert.ReferenceAbIdeal.nD Cert.ReferenceAbIdeal.τ).loc Cert.ReferenceAbIdeal.main_arg1) = m' ((c.tc : Thread Cert.ReferenceAbIdeal.nD Cert.ReferenceAbIdeal.τ).loc Cert.ReferenceAbIdeal.main_arg1)
          ∧ r.2.mem ((c.tc : Thread Cert.ReferenceAbIdeal.nD Cert.ReferenceAbIdeal.τ).loc Cert.ReferenceAbIdeal.main_arg2) = m' ((c.tc : Thread Cert.ReferenceAbIdeal.nD Cert.ReferenceAbIdeal.τ).loc Cert.ReferenceAbIdeal.main_arg2)
          ∧ r.2.mem ((c.tc : Thread Cert.ReferenceAbIdeal.nD Cert.ReferenceAbIdeal.τ).loc Cert.ReferenceAbIdeal.main_arg3) = m' ((c.tc : Thread Cert.ReferenceAbIdeal.nD Cert.ReferenceAbIdeal.τ).loc Cert.ReferenceAbIdeal.main_arg3))

def preserves_KernelDwconv_KernelDwconvIdeal : Prop :=
  True

def algebraic_KernelDwconvIdeal_ReferenceDwconvIdeal [hKernelDwconvIdeal : Cert.KernelDwconvIdeal.Facts] [hReferenceDwconvIdeal : Cert.ReferenceDwconvIdeal.Facts] : Prop :=
  ∀ (m : (ℓ : Loc Cert.KernelDwconvIdeal.nD Cert.KernelDwconvIdeal.τ Cert.KernelDwconvIdeal.sig) → Buf (Elt Ideal) ℓ) (g : Dev Cert.KernelDwconvIdeal.nD → PrngReg)
    (m' : (ℓ : Loc Cert.ReferenceDwconvIdeal.nD Cert.ReferenceDwconvIdeal.τ Cert.ReferenceDwconvIdeal.sig) → Buf (Elt Ideal) ℓ) (g' : Dev Cert.ReferenceDwconvIdeal.nD → PrngReg), Pre_KernelDwconvIdeal m →
    (∀ c : Dev Cert.KernelDwconvIdeal.nD,
      m' ((c.tc : Thread Cert.ReferenceDwconvIdeal.nD Cert.ReferenceDwconvIdeal.τ).loc Cert.ReferenceDwconvIdeal.main_arg0) = m ((c.tc : Thread Cert.KernelDwconvIdeal.nD Cert.KernelDwconvIdeal.τ).loc Cert.KernelDwconvIdeal.main_arg0)
      ∧ m' ((c.tc : Thread Cert.ReferenceDwconvIdeal.nD Cert.ReferenceDwconvIdeal.τ).loc Cert.ReferenceDwconvIdeal.main_arg1) = m ((c.tc : Thread Cert.KernelDwconvIdeal.nD Cert.KernelDwconvIdeal.τ).loc Cert.KernelDwconvIdeal.main_arg1)
      ∧ m' ((c.tc : Thread Cert.ReferenceDwconvIdeal.nD Cert.ReferenceDwconvIdeal.τ).loc Cert.ReferenceDwconvIdeal.main_arg2) = m ((c.tc : Thread Cert.KernelDwconvIdeal.nD Cert.KernelDwconvIdeal.τ).loc Cert.KernelDwconvIdeal.main_arg2)
      ∧ m' ((c.tc : Thread Cert.ReferenceDwconvIdeal.nD Cert.ReferenceDwconvIdeal.τ).loc Cert.ReferenceDwconvIdeal.main_arg3) = m ((c.tc : Thread Cert.KernelDwconvIdeal.nD Cert.KernelDwconvIdeal.τ).loc Cert.KernelDwconvIdeal.main_arg3)
      ∧ m' ((c.tc : Thread Cert.ReferenceDwconvIdeal.nD Cert.ReferenceDwconvIdeal.τ).loc Cert.ReferenceDwconvIdeal.main_arg4) = m ((c.tc : Thread Cert.KernelDwconvIdeal.nD Cert.KernelDwconvIdeal.τ).loc Cert.KernelDwconvIdeal.main_arg4)) →
    ∃ (v0 : (c : Dev Cert.KernelDwconvIdeal.nD) → Buf (Elt Ideal) ((c.tc : Thread Cert.KernelDwconvIdeal.nD Cert.KernelDwconvIdeal.τ).loc Cert.KernelDwconvIdeal.main_v3)),
      θ_run (Cert.KernelDwconvIdeal.defs (F := Ideal)) (onTc (τ := Cert.KernelDwconvIdeal.τ) (Cert.KernelDwconvIdeal.main (F := Ideal))) ⟨m, fun _ => 0, g⟩ (fun r => ∀ c : Dev Cert.KernelDwconvIdeal.nD,
          r.2.mem ((c.tc : Thread Cert.KernelDwconvIdeal.nD Cert.KernelDwconvIdeal.τ).loc Cert.KernelDwconvIdeal.main_v3) = v0 c
          ∧ r.2.mem ((c.tc : Thread Cert.KernelDwconvIdeal.nD Cert.KernelDwconvIdeal.τ).loc Cert.KernelDwconvIdeal.main_arg0) = m ((c.tc : Thread Cert.KernelDwconvIdeal.nD Cert.KernelDwconvIdeal.τ).loc Cert.KernelDwconvIdeal.main_arg0)
          ∧ r.2.mem ((c.tc : Thread Cert.KernelDwconvIdeal.nD Cert.KernelDwconvIdeal.τ).loc Cert.KernelDwconvIdeal.main_arg1) = m ((c.tc : Thread Cert.KernelDwconvIdeal.nD Cert.KernelDwconvIdeal.τ).loc Cert.KernelDwconvIdeal.main_arg1)
          ∧ r.2.mem ((c.tc : Thread Cert.KernelDwconvIdeal.nD Cert.KernelDwconvIdeal.τ).loc Cert.KernelDwconvIdeal.main_arg2) = m ((c.tc : Thread Cert.KernelDwconvIdeal.nD Cert.KernelDwconvIdeal.τ).loc Cert.KernelDwconvIdeal.main_arg2)
          ∧ r.2.mem ((c.tc : Thread Cert.KernelDwconvIdeal.nD Cert.KernelDwconvIdeal.τ).loc Cert.KernelDwconvIdeal.main_arg3) = m ((c.tc : Thread Cert.KernelDwconvIdeal.nD Cert.KernelDwconvIdeal.τ).loc Cert.KernelDwconvIdeal.main_arg3)
          ∧ r.2.mem ((c.tc : Thread Cert.KernelDwconvIdeal.nD Cert.KernelDwconvIdeal.τ).loc Cert.KernelDwconvIdeal.main_arg4) = m ((c.tc : Thread Cert.KernelDwconvIdeal.nD Cert.KernelDwconvIdeal.τ).loc Cert.KernelDwconvIdeal.main_arg4))
      ∧ θ_run (Cert.ReferenceDwconvIdeal.defs (F := Ideal)) (onTc (τ := Cert.ReferenceDwconvIdeal.τ) (Cert.ReferenceDwconvIdeal.main (F := Ideal))) ⟨m', fun _ => 0, g'⟩ (fun r => ∀ c : Dev Cert.ReferenceDwconvIdeal.nD,
          r.2.mem ((c.tc : Thread Cert.ReferenceDwconvIdeal.nD Cert.ReferenceDwconvIdeal.τ).loc Cert.ReferenceDwconvIdeal.main_v247) = v0 c
          ∧ r.2.mem ((c.tc : Thread Cert.ReferenceDwconvIdeal.nD Cert.ReferenceDwconvIdeal.τ).loc Cert.ReferenceDwconvIdeal.main_arg0) = m' ((c.tc : Thread Cert.ReferenceDwconvIdeal.nD Cert.ReferenceDwconvIdeal.τ).loc Cert.ReferenceDwconvIdeal.main_arg0)
          ∧ r.2.mem ((c.tc : Thread Cert.ReferenceDwconvIdeal.nD Cert.ReferenceDwconvIdeal.τ).loc Cert.ReferenceDwconvIdeal.main_arg1) = m' ((c.tc : Thread Cert.ReferenceDwconvIdeal.nD Cert.ReferenceDwconvIdeal.τ).loc Cert.ReferenceDwconvIdeal.main_arg1)
          ∧ r.2.mem ((c.tc : Thread Cert.ReferenceDwconvIdeal.nD Cert.ReferenceDwconvIdeal.τ).loc Cert.ReferenceDwconvIdeal.main_arg2) = m' ((c.tc : Thread Cert.ReferenceDwconvIdeal.nD Cert.ReferenceDwconvIdeal.τ).loc Cert.ReferenceDwconvIdeal.main_arg2)
          ∧ r.2.mem ((c.tc : Thread Cert.ReferenceDwconvIdeal.nD Cert.ReferenceDwconvIdeal.τ).loc Cert.ReferenceDwconvIdeal.main_arg3) = m' ((c.tc : Thread Cert.ReferenceDwconvIdeal.nD Cert.ReferenceDwconvIdeal.τ).loc Cert.ReferenceDwconvIdeal.main_arg3)
          ∧ r.2.mem ((c.tc : Thread Cert.ReferenceDwconvIdeal.nD Cert.ReferenceDwconvIdeal.τ).loc Cert.ReferenceDwconvIdeal.main_arg4) = m' ((c.tc : Thread Cert.ReferenceDwconvIdeal.nD Cert.ReferenceDwconvIdeal.τ).loc Cert.ReferenceDwconvIdeal.main_arg4))

def preserves_KernelRoute_KernelRouteIdeal : Prop :=
  True

def algebraic_KernelRouteIdeal_ReferenceRouteIdeal_pre_biased_above [hKernelRouteIdeal : Cert.KernelRouteIdeal.Facts] [hReferenceRouteIdeal : Cert.ReferenceRouteIdeal.Facts] [hPre_biased_above : Cert.Pre_biased_above.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal_biased_above m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)
      ∧ m' ((c.tc : Thread Cert.ReferenceRouteIdeal.nD Cert.ReferenceRouteIdeal.τ).loc Cert.ReferenceRouteIdeal.main_arg2) = m ((c.tc : Thread Cert.KernelRouteIdeal.nD Cert.KernelRouteIdeal.τ).loc Cert.KernelRouteIdeal.main_arg2)) →
    ∃ (v0 : (c : Dev Cert.KernelRouteIdeal.nD) → Buf (Elt Ideal) ((c.tc : Thread Cert.KernelRouteIdeal.nD Cert.KernelRouteIdeal.τ).loc Cert.KernelRouteIdeal.main_v1_0)) (v1 : (c : Dev Cert.KernelRouteIdeal.nD) → Buf (Elt Ideal) ((c.tc : Thread Cert.KernelRouteIdeal.nD Cert.KernelRouteIdeal.τ).loc Cert.KernelRouteIdeal.main_v1_1)) (v2 : (c : Dev Cert.KernelRouteIdeal.nD) → Buf (Elt Ideal) ((c.tc : Thread Cert.KernelRouteIdeal.nD Cert.KernelRouteIdeal.τ).loc Cert.KernelRouteIdeal.main_v1_2)) (v3 : (c : Dev Cert.KernelRouteIdeal.nD) → Buf (Elt Ideal) ((c.tc : Thread Cert.KernelRouteIdeal.nD Cert.KernelRouteIdeal.τ).loc Cert.KernelRouteIdeal.main_v1_3)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v1_0) = v0 c
          ∧ r.2.mem ((c.tc : Thread Cert.KernelRouteIdeal.nD Cert.KernelRouteIdeal.τ).loc Cert.KernelRouteIdeal.main_v1_1) = v1 c
          ∧ r.2.mem ((c.tc : Thread Cert.KernelRouteIdeal.nD Cert.KernelRouteIdeal.τ).loc Cert.KernelRouteIdeal.main_v1_2) = v2 c
          ∧ r.2.mem ((c.tc : Thread Cert.KernelRouteIdeal.nD Cert.KernelRouteIdeal.τ).loc Cert.KernelRouteIdeal.main_v1_3) = v3 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
          ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_indices_8) = v0 c
          ∧ r.2.mem ((c.tc : Thread Cert.ReferenceRouteIdeal.nD Cert.ReferenceRouteIdeal.τ).loc Cert.ReferenceRouteIdeal.main_v25) = v1 c
          ∧ r.2.mem ((c.tc : Thread Cert.ReferenceRouteIdeal.nD Cert.ReferenceRouteIdeal.τ).loc Cert.ReferenceRouteIdeal.main_v31) = v2 c
          ∧ r.2.mem ((c.tc : Thread Cert.ReferenceRouteIdeal.nD Cert.ReferenceRouteIdeal.τ).loc Cert.ReferenceRouteIdeal.main_v33) = v3 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1)
          ∧ r.2.mem ((c.tc : Thread Cert.ReferenceRouteIdeal.nD Cert.ReferenceRouteIdeal.τ).loc Cert.ReferenceRouteIdeal.main_arg2) = m' ((c.tc : Thread Cert.ReferenceRouteIdeal.nD Cert.ReferenceRouteIdeal.τ).loc Cert.ReferenceRouteIdeal.main_arg2))

def preserves_KernelDest_KernelDestIdeal : Prop :=
  True

def algebraic_KernelDestIdeal_ReferenceDestIdeal_pre_picks_experts [hKernelDestIdeal : Cert.KernelDestIdeal.Facts] [hReferenceDestIdeal : Cert.ReferenceDestIdeal.Facts] [hPre_picks_experts : Cert.Pre_picks_experts.Facts] : Prop :=
  ∀ (m : (ℓ : Loc Cert.KernelDestIdeal.nD Cert.KernelDestIdeal.τ Cert.KernelDestIdeal.sig) → Buf (Elt Ideal) ℓ) (g : Dev Cert.KernelDestIdeal.nD → PrngReg)
    (m' : (ℓ : Loc Cert.ReferenceDestIdeal.nD Cert.ReferenceDestIdeal.τ Cert.ReferenceDestIdeal.sig) → Buf (Elt Ideal) ℓ) (g' : Dev Cert.ReferenceDestIdeal.nD → PrngReg), Pre_KernelDestIdeal_picks_experts m →
    (∀ c : Dev Cert.KernelDestIdeal.nD,
      m' ((c.tc : Thread Cert.ReferenceDestIdeal.nD Cert.ReferenceDestIdeal.τ).loc Cert.ReferenceDestIdeal.main_arg0) = m ((c.tc : Thread Cert.KernelDestIdeal.nD Cert.KernelDestIdeal.τ).loc Cert.KernelDestIdeal.main_arg0)
      ∧ m' ((c.tc : Thread Cert.ReferenceDestIdeal.nD Cert.ReferenceDestIdeal.τ).loc Cert.ReferenceDestIdeal.main_arg1) = m ((c.tc : Thread Cert.KernelDestIdeal.nD Cert.KernelDestIdeal.τ).loc Cert.KernelDestIdeal.main_arg1)
      ∧ m' ((c.tc : Thread Cert.ReferenceDestIdeal.nD Cert.ReferenceDestIdeal.τ).loc Cert.ReferenceDestIdeal.main_arg2) = m ((c.tc : Thread Cert.KernelDestIdeal.nD Cert.KernelDestIdeal.τ).loc Cert.KernelDestIdeal.main_arg2)) →
    ∃ (v0 : (c : Dev Cert.KernelDestIdeal.nD) → Buf (Elt Ideal) ((c.tc : Thread Cert.KernelDestIdeal.nD Cert.KernelDestIdeal.τ).loc Cert.KernelDestIdeal.main_v6)),
      θ_run (Cert.KernelDestIdeal.defs (F := Ideal)) (onTc (τ := Cert.KernelDestIdeal.τ) (Cert.KernelDestIdeal.main (F := Ideal))) ⟨m, fun _ => 0, g⟩ (fun r => ∀ c : Dev Cert.KernelDestIdeal.nD,
          r.2.mem ((c.tc : Thread Cert.KernelDestIdeal.nD Cert.KernelDestIdeal.τ).loc Cert.KernelDestIdeal.main_v6) = v0 c
          ∧ r.2.mem ((c.tc : Thread Cert.KernelDestIdeal.nD Cert.KernelDestIdeal.τ).loc Cert.KernelDestIdeal.main_arg0) = m ((c.tc : Thread Cert.KernelDestIdeal.nD Cert.KernelDestIdeal.τ).loc Cert.KernelDestIdeal.main_arg0)
          ∧ r.2.mem ((c.tc : Thread Cert.KernelDestIdeal.nD Cert.KernelDestIdeal.τ).loc Cert.KernelDestIdeal.main_arg1) = m ((c.tc : Thread Cert.KernelDestIdeal.nD Cert.KernelDestIdeal.τ).loc Cert.KernelDestIdeal.main_arg1)
          ∧ r.2.mem ((c.tc : Thread Cert.KernelDestIdeal.nD Cert.KernelDestIdeal.τ).loc Cert.KernelDestIdeal.main_arg2) = m ((c.tc : Thread Cert.KernelDestIdeal.nD Cert.KernelDestIdeal.τ).loc Cert.KernelDestIdeal.main_arg2))
      ∧ θ_run (Cert.ReferenceDestIdeal.defs (F := Ideal)) (onTc (τ := Cert.ReferenceDestIdeal.τ) (Cert.ReferenceDestIdeal.main (F := Ideal))) ⟨m', fun _ => 0, g'⟩ (fun r => ∀ c : Dev Cert.ReferenceDestIdeal.nD,
          r.2.mem ((c.tc : Thread Cert.ReferenceDestIdeal.nD Cert.ReferenceDestIdeal.τ).loc Cert.ReferenceDestIdeal.main_v11) = v0 c
          ∧ r.2.mem ((c.tc : Thread Cert.ReferenceDestIdeal.nD Cert.ReferenceDestIdeal.τ).loc Cert.ReferenceDestIdeal.main_arg0) = m' ((c.tc : Thread Cert.ReferenceDestIdeal.nD Cert.ReferenceDestIdeal.τ).loc Cert.ReferenceDestIdeal.main_arg0)
          ∧ r.2.mem ((c.tc : Thread Cert.ReferenceDestIdeal.nD Cert.ReferenceDestIdeal.τ).loc Cert.ReferenceDestIdeal.main_arg1) = m' ((c.tc : Thread Cert.ReferenceDestIdeal.nD Cert.ReferenceDestIdeal.τ).loc Cert.ReferenceDestIdeal.main_arg1)
          ∧ r.2.mem ((c.tc : Thread Cert.ReferenceDestIdeal.nD Cert.ReferenceDestIdeal.τ).loc Cert.ReferenceDestIdeal.main_arg2) = m' ((c.tc : Thread Cert.ReferenceDestIdeal.nD Cert.ReferenceDestIdeal.τ).loc Cert.ReferenceDestIdeal.main_arg2))

def preserves_KernelGdn_KernelGdnIdeal : Prop :=
  True

def Claim : Prop :=
  ∃ (hKernelZ : Cert.KernelZ.Facts) (hKernelZIdeal : Cert.KernelZIdeal.Facts) (hReferenceZIdeal : Cert.ReferenceZIdeal.Facts) (hKernelGates : Cert.KernelGates.Facts) (hKernelGatesIdeal : Cert.KernelGatesIdeal.Facts) (hReferenceGatesIdeal : Cert.ReferenceGatesIdeal.Facts) (hKernelGlu : Cert.KernelGlu.Facts) (hKernelGluIdeal : Cert.KernelGluIdeal.Facts) (hReferenceGluIdeal : Cert.ReferenceGluIdeal.Facts) (hKernelV : Cert.KernelV.Facts) (hKernelVIdeal : Cert.KernelVIdeal.Facts) (hReferenceVIdeal : Cert.ReferenceVIdeal.Facts) (hKernelQK : Cert.KernelQK.Facts) (hKernelQKIdeal : Cert.KernelQKIdeal.Facts) (hReferenceQKIdeal : Cert.ReferenceQKIdeal.Facts) (hKernelOdelta : Cert.KernelOdelta.Facts) (hKernelOdeltaIdeal : Cert.KernelOdeltaIdeal.Facts) (hReferenceOdeltaIdeal : Cert.ReferenceOdeltaIdeal.Facts) (hKernelPw2 : Cert.KernelPw2.Facts) (hKernelPw2Ideal : Cert.KernelPw2Ideal.Facts) (hReferencePw2Ideal : Cert.ReferencePw2Ideal.Facts) (hKernelOutproj : Cert.KernelOutproj.Facts) (hKernelOutprojIdeal : Cert.KernelOutprojIdeal.Facts) (hReferenceOutprojIdeal : Cert.ReferenceOutprojIdeal.Facts) (hKernelAb : Cert.KernelAb.Facts) (hKernelAbIdeal : Cert.KernelAbIdeal.Facts) (hReferenceAbIdeal : Cert.ReferenceAbIdeal.Facts) (hKernelDwconv : Cert.KernelDwconv.Facts) (hKernelDwconvIdeal : Cert.KernelDwconvIdeal.Facts) (hReferenceDwconvIdeal : Cert.ReferenceDwconvIdeal.Facts) (hKernelRoute : Cert.KernelRoute.Facts) (hKernelRouteIdeal : Cert.KernelRouteIdeal.Facts) (hReferenceRouteIdeal : Cert.ReferenceRouteIdeal.Facts) (hKernelDest : Cert.KernelDest.Facts) (hKernelDestIdeal : Cert.KernelDestIdeal.Facts) (hReferenceDestIdeal : Cert.ReferenceDestIdeal.Facts) (hKernelGdn : Cert.KernelGdn.Facts) (hKernelGdnIdeal : Cert.KernelGdnIdeal.Facts) (hPre_biased_above : Cert.Pre_biased_above.Facts) (hPre_picks_experts : Cert.Pre_picks_experts.Facts),
    quiescent_KernelZ (hKernelZ := hKernelZ)
    ∧ quiescent_KernelZIdeal (hKernelZIdeal := hKernelZIdeal)
    ∧ quiescent_ReferenceZIdeal (hReferenceZIdeal := hReferenceZIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelQK (hKernelQK := hKernelQK)
    ∧ quiescent_KernelQKIdeal (hKernelQKIdeal := hKernelQKIdeal)
    ∧ quiescent_ReferenceQKIdeal (hReferenceQKIdeal := hReferenceQKIdeal)
    ∧ quiescent_KernelOdelta (hKernelOdelta := hKernelOdelta)
    ∧ quiescent_KernelOdeltaIdeal (hKernelOdeltaIdeal := hKernelOdeltaIdeal)
    ∧ quiescent_ReferenceOdeltaIdeal (hReferenceOdeltaIdeal := hReferenceOdeltaIdeal)
    ∧ quiescent_KernelPw2 (hKernelPw2 := hKernelPw2)
    ∧ quiescent_KernelPw2Ideal (hKernelPw2Ideal := hKernelPw2Ideal)
    ∧ quiescent_ReferencePw2Ideal (hReferencePw2Ideal := hReferencePw2Ideal)
    ∧ quiescent_KernelOutproj (hKernelOutproj := hKernelOutproj)
    ∧ quiescent_KernelOutprojIdeal (hKernelOutprojIdeal := hKernelOutprojIdeal)
    ∧ quiescent_ReferenceOutprojIdeal (hReferenceOutprojIdeal := hReferenceOutprojIdeal)
    ∧ quiescent_KernelAb (hKernelAb := hKernelAb)
    ∧ quiescent_KernelAbIdeal (hKernelAbIdeal := hKernelAbIdeal)
    ∧ quiescent_ReferenceAbIdeal (hReferenceAbIdeal := hReferenceAbIdeal)
    ∧ quiescent_KernelDwconv (hKernelDwconv := hKernelDwconv)
    ∧ quiescent_KernelDwconvIdeal (hKernelDwconvIdeal := hKernelDwconvIdeal)
    ∧ quiescent_ReferenceDwconvIdeal (hReferenceDwconvIdeal := hReferenceDwconvIdeal)
    ∧ quiescent_KernelRoute (hKernelRoute := hKernelRoute)
    ∧ quiescent_KernelRouteIdeal (hKernelRouteIdeal := hKernelRouteIdeal)
    ∧ quiescent_KernelRouteIdeal_pre_biased_above (hKernelRouteIdeal := hKernelRouteIdeal) (hPre_biased_above := hPre_biased_above)
    ∧ quiescent_ReferenceRouteIdeal (hReferenceRouteIdeal := hReferenceRouteIdeal)
    ∧ quiescent_ReferenceRouteIdeal_pre_biased_above (hReferenceRouteIdeal := hReferenceRouteIdeal) (hPre_biased_above := hPre_biased_above)
    ∧ quiescent_KernelDest (hKernelDest := hKernelDest)
    ∧ quiescent_KernelDestIdeal (hKernelDestIdeal := hKernelDestIdeal)
    ∧ quiescent_KernelDestIdeal_pre_picks_experts (hKernelDestIdeal := hKernelDestIdeal) (hPre_picks_experts := hPre_picks_experts)
    ∧ quiescent_ReferenceDestIdeal (hReferenceDestIdeal := hReferenceDestIdeal)
    ∧ quiescent_ReferenceDestIdeal_pre_picks_experts (hReferenceDestIdeal := hReferenceDestIdeal) (hPre_picks_experts := hPre_picks_experts)
    ∧ quiescent_KernelGdn (hKernelGdn := hKernelGdn)
    ∧ quiescent_KernelGdnIdeal (hKernelGdnIdeal := hKernelGdnIdeal)
    ∧ preserves_KernelZ_KernelZIdeal
    ∧ algebraic_KernelZIdeal_ReferenceZIdeal (hKernelZIdeal := hKernelZIdeal) (hReferenceZIdeal := hReferenceZIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelGlu_KernelGluIdeal
    ∧ algebraic_KernelGluIdeal_ReferenceGluIdeal (hKernelGluIdeal := hKernelGluIdeal) (hReferenceGluIdeal := hReferenceGluIdeal)
    ∧ preserves_KernelV_KernelVIdeal
    ∧ algebraic_KernelVIdeal_ReferenceVIdeal (hKernelVIdeal := hKernelVIdeal) (hReferenceVIdeal := hReferenceVIdeal)
    ∧ preserves_KernelQK_KernelQKIdeal
    ∧ algebraic_KernelQKIdeal_ReferenceQKIdeal (hKernelQKIdeal := hKernelQKIdeal) (hReferenceQKIdeal := hReferenceQKIdeal)
    ∧ preserves_KernelOdelta_KernelOdeltaIdeal
    ∧ algebraic_KernelOdeltaIdeal_ReferenceOdeltaIdeal (hKernelOdeltaIdeal := hKernelOdeltaIdeal) (hReferenceOdeltaIdeal := hReferenceOdeltaIdeal)
    ∧ preserves_KernelPw2_KernelPw2Ideal
    ∧ algebraic_KernelPw2Ideal_ReferencePw2Ideal (hKernelPw2Ideal := hKernelPw2Ideal) (hReferencePw2Ideal := hReferencePw2Ideal)
    ∧ preserves_KernelOutproj_KernelOutprojIdeal
    ∧ algebraic_KernelOutprojIdeal_ReferenceOutprojIdeal (hKernelOutprojIdeal := hKernelOutprojIdeal) (hReferenceOutprojIdeal := hReferenceOutprojIdeal)
    ∧ preserves_KernelAb_KernelAbIdeal
    ∧ algebraic_KernelAbIdeal_ReferenceAbIdeal (hKernelAbIdeal := hKernelAbIdeal) (hReferenceAbIdeal := hReferenceAbIdeal)
    ∧ preserves_KernelDwconv_KernelDwconvIdeal
    ∧ algebraic_KernelDwconvIdeal_ReferenceDwconvIdeal (hKernelDwconvIdeal := hKernelDwconvIdeal) (hReferenceDwconvIdeal := hReferenceDwconvIdeal)
    ∧ preserves_KernelRoute_KernelRouteIdeal
    ∧ algebraic_KernelRouteIdeal_ReferenceRouteIdeal_pre_biased_above (hKernelRouteIdeal := hKernelRouteIdeal) (hReferenceRouteIdeal := hReferenceRouteIdeal) (hPre_biased_above := hPre_biased_above)
    ∧ preserves_KernelDest_KernelDestIdeal
    ∧ algebraic_KernelDestIdeal_ReferenceDestIdeal_pre_picks_experts (hKernelDestIdeal := hKernelDestIdeal) (hReferenceDestIdeal := hReferenceDestIdeal) (hPre_picks_experts := hPre_picks_experts)
    ∧ preserves_KernelGdn_KernelGdnIdeal
-- ==== Pre_biased_above.lean ====
abbrev S8192x2048 : Shape := ⟨2, ![8192, 2048]⟩
abbrev S2048x256 : Shape := ⟨2, ![2048, 256]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S8192x2048 .f32) (main_arg1 : FVec F S2048x256 .f32) (main_arg2 : FVec F S256 .f32) : IVec S256 1 :=
  let main_cst : FVec F S_ .f32 := constant S_ .f32 0xFF800000#32
  let main_v0 : FVec F S256 .f32 := broadcastInDim S256 ![] bcast_S_S256 main_cst
  let main_v1 : IVec S256 1 := cmpf .ogt main_arg2 main_v0
  main_v1
-- ==== Pre_picks_experts.lean ====
abbrev S8192x8 : Shape := ⟨2, ![8192, 8]⟩
abbrev S1x256 : Shape := ⟨2, ![1, 256]⟩
abbrev S_ : Shape := ⟨0, ![]⟩

class Facts : Prop where
  bcast_S_S8192x8 : S_.BroadcastsInDim S8192x8 (![] : Fin 0 → Fin S8192x8.rank)

variable [Facts]

def fn {F : FTy → Type} [FloatOps F] (main_arg0 : IVec S8192x8 32) (main_arg1 : IVec S8192x8 32) (main_arg2 : FVec F S1x256 .f32) : IVec S8192x8 1 :=
  let main_c : IVec S_ 32 := constantI S_ 32 0#32
  let main_v0 : IVec S8192x8 32 := broadcastInDim S8192x8 ![] bcast_S_S8192x8 main_c
  let main_v1 : IVec S8192x8 1 := cmpi .sge main_arg0 main_v0
  let main_c_0 : IVec S_ 32 := constantI S_ 32 256#32
  let main_v2 : IVec S8192x8 32 := broadcastInDim S8192x8 ![] bcast_S_S8192x8 main_c_0
  let main_v3 : IVec S8192x8 1 := cmpi .slt main_arg0 main_v2
  let main_v4 : IVec S8192x8 1 := andi main_v1 main_v3
  main_v4
-- ==== KernelZ.lean ====
abbrev S8192x2048 : Shape := ⟨2, ![8192, 2048]⟩
abbrev S2048x20544 : Shape := ⟨2, ![2048, 20544]⟩
abbrev S20544x2048 : Shape := ⟨2, ![20544, 2048]⟩
abbrev S8192x4096 : Shape := ⟨2, ![8192, 4096]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x2048, .bf16⟩
  | .hbm, ⟨3, _⟩ => ⟨S20544x2048, .f32⟩
  | .hbm, ⟨4, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c8192_i32 : BitVec 32 := 8192#32
  let c1024_i32 : BitVec 32 := 1024#32
  let arg0 : BitVec 32 := BitVec.ofNat 32 (i 0).val
  let v0 : BitVec 32 := Scalar.muli c1024_i32 arg0
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c8192_i32 : BitVec 32 := 8192#32
  let v1 : BitVec 32 := Scalar.addi c8192_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S8192x2048 : Shape := ⟨2, ![8192, 2048]⟩
abbrev S2048x20544 : Shape := ⟨2, ![2048, 20544]⟩
abbrev S8192x20544 : Shape := ⟨2, ![8192, 20544]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x20544, .f32⟩
  | .hbm, ⟨3, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGates.lean ====
abbrev S8192x2048 : Shape := ⟨2, ![8192, 2048]⟩
abbrev S2048x20544 : Shape := ⟨2, ![2048, 20544]⟩
abbrev S20544x2048 : Shape := ⟨2, ![20544, 2048]⟩
abbrev S8192x4096 : Shape := ⟨2, ![8192, 4096]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x2048, .bf16⟩
  | .hbm, ⟨3, _⟩ => ⟨S20544x2048, .f32⟩
  | .hbm, ⟨4, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c16448_i32 : BitVec 32 := 16448#32
  let c1024_i32 : BitVec 32 := 1024#32
  let arg0 : BitVec 32 := BitVec.ofNat 32 (i 0).val
  let v0 : BitVec 32 := Scalar.muli c1024_i32 arg0
  let v1 : BitVec 32 := Scalar.addi c16448_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c16448_i32 : BitVec 32 := 16448#32
  let v1 : BitVec 32 := Scalar.addi c16448_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S8192x2048 : Shape := ⟨2, ![8192, 2048]⟩
abbrev S2048x20544 : Shape := ⟨2, ![2048, 20544]⟩
abbrev S8192x20544 : Shape := ⟨2, ![8192, 20544]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x20544, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGlu.lean ====
abbrev S8192x2048 : Shape := ⟨2, ![8192, 2048]⟩
abbrev S2048x20544 : Shape := ⟨2, ![2048, 20544]⟩
abbrev S20544x2048 : Shape := ⟨2, ![20544, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x2048, .bf16⟩
  | .hbm, ⟨3, _⟩ => ⟨S20544x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x512, .f32⟩
  | .local _ .vmem, ⟨7, _⟩ => ⟨S1024x512, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c12352_i32 : BitVec 32 := 12352#32
  let c512_i32 : BitVec 32 := 512#32
  let arg0 : BitVec 32 := BitVec.ofNat 32 (i 0).val
  let v0 : BitVec 32 := Scalar.muli c512_i32 arg0
  let v1 : BitVec 32 := Scalar.addi c12352_i32 v0
  v1
def k0_mult2 (i : grid0.Coords) : BitVec 32 :=
  let c14400_i32 : BitVec 32 := 14400#32
  let c512_i32 : BitVec 32 := 512#32
  let arg0 : BitVec 32 := BitVec.ofNat 32 (i 0).val
  let v0 : BitVec 32 := Scalar.muli c512_i32 arg0
  let v1 : BitVec 32 := Scalar.addi c14400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg0
  let c12352_i32 : BitVec 32 := 12352#32
  let v1 : BitVec 32 := Scalar.addi c12352_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg0
  let c14400_i32 : BitVec 32 := 14400#32
  let v1 : BitVec 32 := Scalar.addi c14400_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGluIdeal.lean ====
abbrev S8192x2048 : Shape := ⟨2, ![8192, 2048]⟩
abbrev S2048x20544 : Shape := ⟨2, ![2048, 20544]⟩
abbrev S8192x20544 : Shape := ⟨2, ![8192, 20544]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S8192x20544, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelV.lean ====
abbrev S8192x2048 : Shape := ⟨2, ![8192, 2048]⟩
abbrev S2048x20544 : Shape := ⟨2, ![2048, 20544]⟩
abbrev S4x8192 : Shape := ⟨2, ![4, 8192]⟩
abbrev S20544x2048 : Shape := ⟨2, ![20544, 2048]⟩
abbrev S8192x4096 : Shape := ⟨2, ![8192, 4096]⟩
abbrev S512x2048 : Shape := ⟨2, ![512, 2048]⟩
abbrev S1024x2048 : Shape := ⟨2, ![1024, 2048]⟩
abbrev S4x1024 : Shape := ⟨2, ![4, 1024]⟩
abbrev S512x1024 : Shape := ⟨2, ![512, 1024]⟩
abbrev S520x1024 : Shape := ⟨2, ![520, 1024]⟩
abbrev S8x1024 : Shape := ⟨2, ![8, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S4x8192, .f32⟩
  | .hbm, ⟨3, _⟩ => ⟨S8192x2048, .bf16⟩
  | .hbm, ⟨4, _⟩ => ⟨S20544x2048, .f32⟩
  | .hbm, ⟨5, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S1024x2048, .f32⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S520x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4096_i32 : BitVec 32 := 4096#32
  let c1024_i32 : BitVec 32 := 1024#32
  let arg0 : BitVec 32 := BitVec.ofNat 32 (i 0).val
  let v0 : BitVec 32 := Scalar.muli c1024_i32 arg0
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S8192x2048 : Shape := ⟨2, ![8192, 2048]⟩
abbrev S2048x20544 : Shape := ⟨2, ![2048, 20544]⟩
abbrev S4x8192 : Shape := ⟨2, ![4, 8192]⟩
abbrev S8192x20544 : Shape := ⟨2, ![8192, 20544]⟩
abbrev S8192x8192 : Shape := ⟨2, ![8192, 8192]⟩
abbrev S_ : Shape := ⟨0, ![]⟩
abbrev S8195x8192 : Shape := ⟨2, ![8195, 8192]⟩
abbrev S1x8192 : Shape := ⟨2, ![1, 8192]⟩
abbrev S8192 : Shape := ⟨1, ![8192]⟩
abbrev S8192x4096 : Shape := ⟨2, ![8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S4x8192, .f32⟩
  | .hbm, ⟨3, _⟩ => ⟨S8192x20544, .f32⟩
  | .hbm, ⟨4, _⟩ => ⟨S8192x8192, .f32⟩
  | .hbm, ⟨5, _⟩ => ⟨S_, .i32⟩
  | .hbm, ⟨6, _⟩ => ⟨S_, .f32⟩
  | .hbm, ⟨7, _⟩ => ⟨S8195x8192, .f32⟩
  | .hbm, ⟨8, _⟩ => ⟨S8192x8192, .f32⟩
  | .hbm, ⟨9, _⟩ => ⟨S1x8192, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== KernelQK.lean ====
abbrev S8192x2048 : Shape := ⟨2, ![8192, 2048]⟩
abbrev S2048x20544 : Shape := ⟨2, ![2048, 20544]⟩
abbrev S4x8192 : Shape := ⟨2, ![4, 8192]⟩
abbrev S20544x2048 : Shape := ⟨2, ![20544, 2048]⟩
abbrev S_ : Shape := ⟨0, ![]⟩
abbrev S1x2048 : Shape := ⟨2, ![1, 2048]⟩
abbrev S1x4096 : Shape := ⟨2, ![1, 4096]⟩
abbrev S8192x4096 : Shape := ⟨2, ![8192, 4096]⟩
abbrev S512x2048 : Shape := ⟨2, ![512, 2048]⟩
abbrev S1024x2048 : Shape := ⟨2, ![1024, 2048]⟩
abbrev S4x1024 : Shape := ⟨2, ![4, 1024]⟩
abbrev S1x1024 : Shape := ⟨2, ![1, 1024]⟩
abbrev S512x1024 : Shape := ⟨2, ![512, 1024]⟩
abbrev S520x1024 : Shape := ⟨2, ![520, 1024]⟩
abbrev S8x1024 : Shape := ⟨2, ![8, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S4x8192, .f32⟩
  | .hbm, ⟨3, _⟩ => ⟨S8192x2048, .bf16⟩
  | .hbm, ⟨4, _⟩ => ⟨S20544x2048, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x4096, .f32⟩
  | .hbm, ⟨10, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S1024x2048, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S520x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c0_i32 : BitVec 32 := 0#32
  let c1024_i32 : BitVec 32 := 1024#32
  let arg0 : BitVec 32 := BitVec.ofNat 32 (i 0).val
  let v0 : BitVec 32 := Scalar.muli c1024_i32 arg0
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQKIdeal.lean ====
abbrev S8192x2048 : Shape := ⟨2, ![8192, 2048]⟩
abbrev S2048x20544 : Shape := ⟨2, ![2048, 20544]⟩
abbrev S4x8192 : Shape := ⟨2, ![4, 8192]⟩
abbrev S8192x20544 : Shape := ⟨2, ![8192, 20544]⟩
abbrev S8192x8192 : Shape := ⟨2, ![8192, 8192]⟩
abbrev S_ : Shape := ⟨0, ![]⟩
abbrev S8195x8192 : Shape := ⟨2, ![8195, 8192]⟩
abbrev S1x8192 : Shape := ⟨2, ![1, 8192]⟩
abbrev S8192 : Shape := ⟨1, ![8192]⟩
abbrev S8192x4096 : Shape := ⟨2, ![8192, 4096]⟩
abbrev S8192x16x128 : Shape := ⟨3, ![8192, 16, 128]⟩
abbrev S8192x16 : Shape := ⟨2, ![8192, 16]⟩
abbrev S8192x16x1 : Shape := ⟨3, ![8192, 16, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S4x8192, .f32⟩
  | .hbm, ⟨3, _⟩ => ⟨S8192x20544, .f32⟩
  | .hbm, ⟨4, _⟩ => ⟨S8192x8192, .f32⟩
  | .hbm, ⟨5, _⟩ => ⟨S_, .i32⟩
  | .hbm, ⟨6, _⟩ => ⟨S_, .f32⟩
  | .hbm, ⟨7, _⟩ => ⟨S8195x8192, .f32⟩
  | .hbm, ⟨8, _⟩ => ⟨S8192x8192, .f32⟩
  | .hbm, ⟨9, _⟩ => ⟨S1x8192, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x2048, .f32⟩
  | .hbm, ⟨48, _⟩ => ⟨S8192x2048, .f32⟩
  | .hbm, ⟨49, _⟩ => ⟨S8192x4096, .f32⟩
  | .hbm, ⟨50, _⟩ => ⟨S8192x16x128, .f32⟩
  | .hbm, ⟨51, _⟩ => ⟨S8192x16x128, .f32⟩
  | .hbm, ⟨52, _⟩ => ⟨S_, .f32⟩
  | .hbm, ⟨53, _⟩ => ⟨S8192x16, .f32⟩
  | .hbm, ⟨54, _⟩ => ⟨S8192x16x1, .f32⟩
  | .hbm, ⟨55, _⟩ => ⟨S_, .f32⟩
  | .hbm, ⟨56, _⟩ => ⟨S8192x16x1, .f32⟩
  | .hbm, ⟨57, _⟩ => ⟨S8192x16x1, .f32⟩
  | .hbm, ⟨58, _⟩ => ⟨S8192x16x1, .f32⟩
  | .hbm, ⟨59, _⟩ => ⟨S8192x16x128, .f32⟩
  | .hbm, ⟨60, _⟩ => ⟨S8192x16x128, .f32⟩
  | .hbm, ⟨61, _⟩ => ⟨S_, .f32⟩
  | .hbm, ⟨62, _⟩ => ⟨S8192x16x128, .f32⟩
  | .hbm, ⟨63, _⟩ => ⟨S8192x16x128, .f32⟩
  | .hbm, ⟨64, _⟩ => ⟨S8192x16x128, .f32⟩
  | .hbm, ⟨65, _⟩ => ⟨S8192x16x128, .f32⟩
  | .hbm, ⟨66, _⟩ => ⟨S_, .f32⟩
  | .hbm, ⟨67, _⟩ => ⟨S8192x16, .f32⟩
  | .hbm, ⟨68, _⟩ => ⟨S8192x16x1, .f32⟩
  | .hbm, ⟨69, _⟩ => ⟨S_, .f32⟩
  | .hbm, ⟨70, _⟩ => ⟨S8192x16x1, .f32⟩
  | .hbm, ⟨71, _⟩ => ⟨S8192x16x1, .f32⟩
  | .hbm, ⟨72, _⟩ => ⟨S8192x16x1, .f32⟩
  | .hbm, ⟨73, _⟩ => ⟨S8192x16x128, .f32⟩
  | .hbm, ⟨74, _⟩ => ⟨S8192x16x128, .f32⟩
  | .hbm, ⟨75, _⟩ => ⟨S8192x2048, .f32⟩
  | .hbm, ⟨76, _⟩ => ⟨S8192x2048, .f32⟩
  | .hbm, ⟨77, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_3 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== KernelOdelta.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOdeltaIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | .hbm, ⟨4, _⟩ => ⟨S8192x2048, .f32⟩
  | .hbm, ⟨5, _⟩ => ⟨S8192x4096, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPw2.lean ====
abbrev S8192x2048 : Shape := ⟨2, ![8192, 2048]⟩
abbrev S2048x2048 : Shape := ⟨2, ![2048, 2048]⟩
abbrev S2048 : Shape := ⟨1, ![2048]⟩
abbrev S8192x4096 : Shape := ⟨2, ![8192, 4096]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x4096, .f32⟩
  | .hbm, ⟨4, _⟩ => ⟨S8192x2048, .f32⟩
  | .hbm, ⟨5, _⟩ => ⟨S1x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferencePw2Ideal.lean ====
abbrev S8192x2048 : Shape := ⟨2, ![8192, 2048]⟩
abbrev S2048x2048 : Shape := ⟨2, ![2048, 2048]⟩
abbrev S2048 : Shape := ⟨1, ![2048]⟩
abbrev S8192x4096 : Shape := ⟨2, ![8192, 4096]⟩
abbrev S1x2048 : Shape := ⟨2, ![1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelOutproj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutprojIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelAb.lean ====
abbrev S8192x2048 : Shape := ⟨2, ![8192, 2048]⟩
abbrev S2048x20544 : Shape := ⟨2, ![2048, 20544]⟩
abbrev S32 : Shape := ⟨1, ![32]⟩
abbrev S20544x2048 : Shape := ⟨2, ![20544, 2048]⟩
abbrev S1x32 : Shape := ⟨2, ![1, 32]⟩
abbrev S_ : Shape := ⟨0, ![]⟩
abbrev S1x128 : Shape := ⟨2, ![1, 128]⟩
abbrev S8192x128 : Shape := ⟨2, ![8192, 128]⟩
abbrev S512x2048 : Shape := ⟨2, ![512, 2048]⟩
abbrev S128x2048 : Shape := ⟨2, ![128, 2048]⟩
abbrev S512x128 : Shape := ⟨2, ![512, 128]⟩
abbrev S8x64x128 : Shape := ⟨3, ![8, 64, 128]⟩
abbrev S8x1x128 : Shape := ⟨3, ![8, 1, 128]⟩
abbrev S8192x32 : Shape := ⟨2, ![8192, 32]⟩

abbrev nBuf : Space → Nat
  | .hbm => 20
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S32, .f32⟩
  | .hbm, ⟨3, _⟩ => ⟨S32, .f32⟩
  | .hbm, ⟨4, _⟩ => ⟨S8192x2048, .bf16⟩
  | .hbm, ⟨5, _⟩ => ⟨S20544x2048, .f32⟩
  | .hbm, ⟨6, _⟩ => ⟨S1x32, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x32, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x32, .f32⟩
  | .hbm, ⟨18, _⟩ => ⟨S8192x32, .f32⟩
  | .hbm, ⟨19, _⟩ => ⟨S8192x32, .f32⟩
  | .local _ .vmem, ⟨0, _⟩ => ⟨S512x2048, .bf16⟩
  | .local _ .vmem, ⟨1, _⟩ => ⟨S512x2048, .bf16⟩
  | .local _ .vmem, ⟨2, _⟩ => ⟨S128x2048, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c12288_i32 : BitVec 32 := 12288#32
  let c128_i32 : BitVec 32 := 128#32
  let arg0 : BitVec 32 := BitVec.ofNat 32 (i 0).val
  let v0 : BitVec 32 := Scalar.muli c128_i32 arg0
  let v1 : BitVec 32 := Scalar.addi c12288_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli c128_i32 arg0
  let c12288_i32 : BitVec 32 := 12288#32
  let v1 : BitVec 32 := Scalar.addi c12288_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== ReferenceAbIdeal.lean ====
abbrev S8192x2048 : Shape := ⟨2, ![8192, 2048]⟩
abbrev S2048x20544 : Shape := ⟨2, ![2048, 20544]⟩
abbrev S32 : Shape := ⟨1, ![32]⟩
abbrev S8192x20544 : Shape := ⟨2, ![8192, 20544]⟩
abbrev S8192x64 : Shape := ⟨2, ![8192, 64]⟩
abbrev S8192x32 : Shape := ⟨2, ![8192, 32]⟩
abbrev S_ : Shape := ⟨0, ![]⟩
abbrev S1x32 : Shape := ⟨2, ![1, 32]⟩
abbrev S128x64x32 : Shape := ⟨3, ![128, 64, 32]⟩
abbrev S128x1x32 : Shape := ⟨3, ![128, 1, 32]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x20544, .f32⟩
  | .hbm, ⟨2, _⟩ => ⟨S32, .f32⟩
  | .hbm, ⟨3, _⟩ => ⟨S32, .f32⟩
  | .hbm, ⟨4, _⟩ => ⟨S8192x20544, .f32⟩
  | .hbm, ⟨5, _⟩ => ⟨S8192x64, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .i1⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S128x64x32, .f32⟩
  | .hbm, ⟨39, _⟩ => ⟨S_, .f32⟩
  | .hbm, ⟨40, _⟩ => ⟨S_, .f32⟩
  | .hbm, ⟨41, _⟩ => ⟨S128x64x32, .f32⟩
  | .hbm, ⟨42, _⟩ => ⟨S128x1x32, .f32⟩
  | .hbm, ⟨43, _⟩ => ⟨S128x64x32, .f32⟩
  | .hbm, ⟨44, _⟩ => ⟨S8192x32, .f32⟩
  | .hbm, ⟨45, _⟩ => ⟨S8192x32, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== KernelDwconv.lean ====
abbrev S8192x2048 : Shape := ⟨2, ![8192, 2048]⟩
abbrev S31x2048 : Shape := ⟨2, ![31, 2048]⟩
abbrev S2048 : Shape := ⟨1, ![2048]⟩
abbrev S1x2048 : Shape := ⟨2, ![1, 2048]⟩
abbrev S256x2048 : Shape := ⟨2, ![256, 2048]⟩
abbrev S288x2048 : Shape := ⟨2, ![288, 2048]⟩
abbrev S7x280x2048 : Shape := ⟨3, ![7, 280, 2048]⟩
abbrev S32x2048 : Shape := ⟨2, ![32, 2048]⟩
abbrev S280x2048 : Shape := ⟨2, ![280, 2048]⟩
abbrev S1x280x2048 : Shape := ⟨3, ![1, 280, 2048]⟩
abbrev S64x256 : Shape := ⟨2, ![64, 256]⟩
abbrev S1x256 : Shape := ⟨2, ![1, 256]⟩
abbrev S1x64x256 : Shape := ⟨3, ![1, 64, 256]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S31x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S288x2048, .f32⟩
  | .local _ .vmem, ⟨9, _⟩ => ⟨S7x280x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_31 : BitVec 32 := 0#32
  let c4_i32 : BitVec 32 := 4#32
  let v35 : BitVec 32 := Scalar.addi c0_i32_31 c4_i32
  let c1_i32 : BitVec 32 := 1#32
  ⟨c0_i32_31, v35, c1_i32⟩
def k0_mult1 (k0_t1 : Fin k0_t1_loop.trips) : BitVec 32 :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  v69
def k0_off1 (k0_t1 : Fin k0_t1_loop.trips) (c32_i32 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v71 : BitVec 32 := Scalar.addi c32_i32 v70
  let v72 : Index := Scalar.indexCast v71
  let c0_48 : Index := 0#32
  ![v72.toNat, 0]
def k0_off2 (k0_t1 : Fin k0_t1_loop.trips) (c0_i32_52 : BitVec 32) : Fin 3 → Nat :=
  let c1_53 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v81 : BitVec 32 := Scalar.addi c0_i32_52 v70
  let v82 : Index := Scalar.indexCast v81
  let c0_54 : Index := 0#32
  ![1, v82.toNat, 0]
def k0_off3 (k0_t1 : Fin k0_t1_loop.trips) (c0_i32_57 : BitVec 32) : Fin 3 → Nat :=
  let c2_58 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v89 : BitVec 32 := Scalar.addi c0_i32_57 v70
  let v90 : Index := Scalar.indexCast v89
  let c0_59 : Index := 0#32
  ![2, v90.toNat, 0]
def k0_off4 (k0_t1 : Fin k0_t1_loop.trips) (c0_i32_62 : BitVec 32) : Fin 3 → Nat :=
  let c3_63 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v97 : BitVec 32 := Scalar.addi c0_i32_62 v70
  let v98 : Index := Scalar.indexCast v97
  let c0_64 : Index := 0#32
  ![3, v98.toNat, 0]
def k0_off5 (k0_t1 : Fin k0_t1_loop.trips) (c0_i32_67 : BitVec 32) : Fin 3 → Nat :=
  let c4_68 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v105 : BitVec 32 := Scalar.addi c0_i32_67 v70
  let v106 : Index := Scalar.indexCast v105
  let c0_69 : Index := 0#32
  ![4, v106.toNat, 0]
def k0_off6 (k0_t1 : Fin k0_t1_loop.trips) (c0_i32_72 : BitVec 32) : Fin 3 → Nat :=
  let c5_73 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v113 : BitVec 32 := Scalar.addi c0_i32_72 v70
  let v114 : Index := Scalar.indexCast v113
  let c0_74 : Index := 0#32
  ![5, v114.toNat, 0]
def k0_off7 (k0_t1 : Fin k0_t1_loop.trips) (c0_i32_77 : BitVec 32) : Fin 3 → Nat :=
  let c6_78 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v121 : BitVec 32 := Scalar.addi c0_i32_77 v70
  let v122 : Index := Scalar.indexCast v121
  let c0_79 : Index := 0#32
  ![6, v122.toNat, 0]
def k0_off8 (k0_t1 : Fin k0_t1_loop.trips) (c8_i32_85 : BitVec 32) : Fin 3 → Nat :=
  let c0_86 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v136 : BitVec 32 := Scalar.addi c8_i32_85 v70
  let v137 : Index := Scalar.indexCast v136
  let c0_87 : Index := 0#32
  ![0, v137.toNat, 0]
def k0_off9 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v318 : Index := Scalar.indexCast v70
  let c0_174 : Index := 0#32
  ![v318.toNat, 0]
def k0_off10 (k0_t1 : Fin k0_t1_loop.trips) (c32_i32_175 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v322 : BitVec 32 := Scalar.addi c32_i32_175 v70
  let v323 : Index := Scalar.indexCast v322
  let c256_176 : Index := 256#32
  ![v323.toNat, 256]
def k0_off11 (k0_t1 : Fin k0_t1_loop.trips) (c0_i32_181 : BitVec 32) : Fin 3 → Nat :=
  let c1_182 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v332 : BitVec 32 := Scalar.addi c0_i32_181 v70
  let v333 : Index := Scalar.indexCast v332
  let c256_183 : Index := 256#32
  ![1, v333.toNat, 256]
def k0_off12 (k0_t1 : Fin k0_t1_loop.trips) (c0_i32_186 : BitVec 32) : Fin 3 → Nat :=
  let c2_187 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v340 : BitVec 32 := Scalar.addi c0_i32_186 v70
  let v341 : Index := Scalar.indexCast v340
  let c256_188 : Index := 256#32
  ![2, v341.toNat, 256]
def k0_off13 (k0_t1 : Fin k0_t1_loop.trips) (c0_i32_191 : BitVec 32) : Fin 3 → Nat :=
  let c3_192 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v348 : BitVec 32 := Scalar.addi c0_i32_191 v70
  let v349 : Index := Scalar.indexCast v348
  let c256_193 : Index := 256#32
  ![3, v349.toNat, 256]
def k0_off14 (k0_t1 : Fin k0_t1_loop.trips) (c0_i32_196 : BitVec 32) : Fin 3 → Nat :=
  let c4_197 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v356 : BitVec 32 := Scalar.addi c0_i32_196 v70
  let v357 : Index := Scalar.indexCast v356
  let c256_198 : Index := 256#32
  ![4, v357.toNat, 256]
def k0_off15 (k0_t1 : Fin k0_t1_loop.trips) (c0_i32_201 : BitVec 32) : Fin 3 → Nat :=
  let c5_202 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v364 : BitVec 32 := Scalar.addi c0_i32_201 v70
  let v365 : Index := Scalar.indexCast v364
  let c256_203 : Index := 256#32
  ![5, v365.toNat, 256]
def k0_off16 (k0_t1 : Fin k0_t1_loop.trips) (c0_i32_206 : BitVec 32) : Fin 3 → Nat :=
  let c6_207 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v372 : BitVec 32 := Scalar.addi c0_i32_206 v70
  let v373 : Index := Scalar.indexCast v372
  let c256_208 : Index := 256#32
  ![6, v373.toNat, 256]
def k0_off17 (k0_t1 : Fin k0_t1_loop.trips) (c8_i32_215 : BitVec 32) : Fin 3 → Nat :=
  let c0_216 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v387 : BitVec 32 := Scalar.addi c8_i32_215 v70
  let v388 : Index := Scalar.indexCast v387
  let c256_217 : Index := 256#32
  ![0, v388.toNat, 256]
def k0_off18 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v569 : Index := Scalar.indexCast v70
  let c256_328 : Index := 256#32
  ![v569.toNat, 256]
def k0_off19 (k0_t1 : Fin k0_t1_loop.trips) (c32_i32_329 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v573 : BitVec 32 := Scalar.addi c32_i32_329 v70
  let v574 : Index := Scalar.indexCast v573
  let c512 : Index := 512#32
  ![v574.toNat, 512]
def k0_off20 (k0_t1 : Fin k0_t1_loop.trips) (c0_i32_334 : BitVec 32) : Fin 3 → Nat :=
  let c1_335 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v583 : BitVec 32 := Scalar.addi c0_i32_334 v70
  let v584 : Index := Scalar.indexCast v583
  let c512_336 : Index := 512#32
  ![1, v584.toNat, 512]
def k0_off21 (k0_t1 : Fin k0_t1_loop.trips) (c0_i32_339 : BitVec 32) : Fin 3 → Nat :=
  let c2_340 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v591 : BitVec 32 := Scalar.addi c0_i32_339 v70
  let v592 : Index := Scalar.indexCast v591
  let c512_341 : Index := 512#32
  ![2, v592.toNat, 512]
def k0_off22 (k0_t1 : Fin k0_t1_loop.trips) (c0_i32_344 : BitVec 32) : Fin 3 → Nat :=
  let c3_345 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v599 : BitVec 32 := Scalar.addi c0_i32_344 v70
  let v600 : Index := Scalar.indexCast v599
  let c512_346 : Index := 512#32
  ![3, v600.toNat, 512]
def k0_off23 (k0_t1 : Fin k0_t1_loop.trips) (c0_i32_349 : BitVec 32) : Fin 3 → Nat :=
  let c4_350 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v607 : BitVec 32 := Scalar.addi c0_i32_349 v70
  let v608 : Index := Scalar.indexCast v607
  let c512_351 : Index := 512#32
  ![4, v608.toNat, 512]
def k0_off24 (k0_t1 : Fin k0_t1_loop.trips) (c0_i32_354 : BitVec 32) : Fin 3 → Nat :=
  let c5_355 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v615 : BitVec 32 := Scalar.addi c0_i32_354 v70
  let v616 : Index := Scalar.indexCast v615
  let c512_356 : Index := 512#32
  ![5, v616.toNat, 512]
def k0_off25 (k0_t1 : Fin k0_t1_loop.trips) (c0_i32_359 : BitVec 32) : Fin 3 → Nat :=
  let c6_360 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v623 : BitVec 32 := Scalar.addi c0_i32_359 v70
  let v624 : Index := Scalar.indexCast v623
  let c512_361 : Index := 512#32
  ![6, v624.toNat, 512]
def k0_off26 (k0_t1 : Fin k0_t1_loop.trips) (c8_i32_368 : BitVec 32) : Fin 3 → Nat :=
  let c0_369 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v638 : BitVec 32 := Scalar.addi c8_i32_368 v70
  let v639 : Index := Scalar.indexCast v638
  let c512_370 : Index := 512#32
  ![0, v639.toNat, 512]
def k0_off27 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v820 : Index := Scalar.indexCast v70
  let c512_481 : Index := 512#32
  ![v820.toNat, 512]
def k0_off28 (k0_t1 : Fin k0_t1_loop.trips) (c32_i32_482 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v824 : BitVec 32 := Scalar.addi c32_i32_482 v70
  let v825 : Index := Scalar.indexCast v824
  let c768 : Index := 768#32
  ![v825.toNat, 768]
def k0_off29 (k0_t1 : Fin k0_t1_loop.trips) (c0_i32_487 : BitVec 32) : Fin 3 → Nat :=
  let c1_488 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v834 : BitVec 32 := Scalar.addi c0_i32_487 v70
  let v835 : Index := Scalar.indexCast v834
  let c768_489 : Index := 768#32
  ![1, v835.toNat, 768]
def k0_off30 (k0_t1 : Fin k0_t1_loop.trips) (c0_i32_492 : BitVec 32) : Fin 3 → Nat :=
  let c2_493 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v842 : BitVec 32 := Scalar.addi c0_i32_492 v70
  let v843 : Index := Scalar.indexCast v842
  let c768_494 : Index := 768#32
  ![2, v843.toNat, 768]
def k0_off31 (k0_t1 : Fin k0_t1_loop.trips) (c0_i32_497 : BitVec 32) : Fin 3 → Nat :=
  let c3_498 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v850 : BitVec 32 := Scalar.addi c0_i32_497 v70
  let v851 : Index := Scalar.indexCast v850
  let c768_499 : Index := 768#32
  ![3, v851.toNat, 768]
def k0_off32 (k0_t1 : Fin k0_t1_loop.trips) (c0_i32_502 : BitVec 32) : Fin 3 → Nat :=
  let c4_503 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v858 : BitVec 32 := Scalar.addi c0_i32_502 v70
  let v859 : Index := Scalar.indexCast v858
  let c768_504 : Index := 768#32
  ![4, v859.toNat, 768]
def k0_off33 (k0_t1 : Fin k0_t1_loop.trips) (c0_i32_507 : BitVec 32) : Fin 3 → Nat :=
  let c5_508 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v866 : BitVec 32 := Scalar.addi c0_i32_507 v70
  let v867 : Index := Scalar.indexCast v866
  let c768_509 : Index := 768#32
  ![5, v867.toNat, 768]
def k0_off34 (k0_t1 : Fin k0_t1_loop.trips) (c0_i32_512 : BitVec 32) : Fin 3 → Nat :=
  let c6_513 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v874 : BitVec 32 := Scalar.addi c0_i32_512 v70
  let v875 : Index := Scalar.indexCast v874
  let c768_514 : Index := 768#32
  ![6, v875.toNat, 768]
def k0_off35 (k0_t1 : Fin k0_t1_loop.trips) (c8_i32_521 : BitVec 32) : Fin 3 → Nat :=
  let c0_522 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v889 : BitVec 32 := Scalar.addi c8_i32_521 v70
  let v890 : Index := Scalar.indexCast v889
  let c768_523 : Index := 768#32
  ![0, v890.toNat, 768]
def k0_off36 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1071 : Index := Scalar.indexCast v70
  let c768_634 : Index := 768#32
  ![v1071.toNat, 768]
def k0_off37 (k0_t1 : Fin k0_t1_loop.trips) (c32_i32_635 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1075 : BitVec 32 := Scalar.addi c32_i32_635 v70
  let v1076 : Index := Scalar.indexCast v1075
  let c1024 : Index := 1024#32
  ![v1076.toNat, 1024]
def k0_off38 (k0_t1 : Fin k0_t1_loop.trips) (c0_i32_640 : BitVec 32) : Fin 3 → Nat :=
  let c1_641 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1085 : BitVec 32 := Scalar.addi c0_i32_640 v70
  let v1086 : Index := Scalar.indexCast v1085
  let c1024_642 : Index := 1024#32
  ![1, v1086.toNat, 1024]
def k0_off39 (k0_t1 : Fin k0_t1_loop.trips) (c0_i32_645 : BitVec 32) : Fin 3 → Nat :=
  let c2_646 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1093 : BitVec 32 := Scalar.addi c0_i32_645 v70
  let v1094 : Index := Scalar.indexCast v1093
  let c1024_647 : Index := 1024#32
  ![2, v1094.toNat, 1024]
def k0_off40 (k0_t1 : Fin k0_t1_loop.trips) (c0_i32_650 : BitVec 32) : Fin 3 → Nat :=
  let c3_651 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1101 : BitVec 32 := Scalar.addi c0_i32_650 v70
  let v1102 : Index := Scalar.indexCast v1101
  let c1024_652 : Index := 1024#32
  ![3, v1102.toNat, 1024]
def k0_off41 (k0_t1 : Fin k0_t1_loop.trips) (c0_i32_655 : BitVec 32) : Fin 3 → Nat :=
  let c4_656 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1109 : BitVec 32 := Scalar.addi c0_i32_655 v70
  let v1110 : Index := Scalar.indexCast v1109
  let c1024_657 : Index := 1024#32
  ![4, v1110.toNat, 1024]
def k0_off42 (k0_t1 : Fin k0_t1_loop.trips) (c0_i32_660 : BitVec 32) : Fin 3 → Nat :=
  let c5_661 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1117 : BitVec 32 := Scalar.addi c0_i32_660 v70
  let v1118 : Index := Scalar.indexCast v1117
  let c1024_662 : Index := 1024#32
  ![5, v1118.toNat, 1024]
def k0_off43 (k0_t1 : Fin k0_t1_loop.trips) (c0_i32_665 : BitVec 32) : Fin 3 → Nat :=
  let c6_666 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1125 : BitVec 32 := Scalar.addi c0_i32_665 v70
  let v1126 : Index := Scalar.indexCast v1125
  let c1024_667 : Index := 1024#32
  ![6, v1126.toNat, 1024]
def k0_off44 (k0_t1 : Fin k0_t1_loop.trips) (c8_i32_674 : BitVec 32) : Fin 3 → Nat :=
  let c0_675 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1140 : BitVec 32 := Scalar.addi c8_i32_674 v70
  let v1141 : Index := Scalar.indexCast v1140
  let c1024_676 : Index := 1024#32
  ![0, v1141.toNat, 1024]
def k0_off45 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1322 : Index := Scalar.indexCast v70
  let c1024_787 : Index := 1024#32
  ![v1322.toNat, 1024]
def k0_off46 (k0_t1 : Fin k0_t1_loop.trips) (c32_i32_788 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1326 : BitVec 32 := Scalar.addi c32_i32_788 v70
  let v1327 : Index := Scalar.indexCast v1326
  let c1280 : Index := 1280#32
  ![v1327.toNat, 1280]
def k0_off47 (k0_t1 : Fin k0_t1_loop.trips) (c0_i32_793 : BitVec 32) : Fin 3 → Nat :=
  let c1_794 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1336 : BitVec 32 := Scalar.addi c0_i32_793 v70
  let v1337 : Index := Scalar.indexCast v1336
  let c1280_795 : Index := 1280#32
  ![1, v1337.toNat, 1280]
def k0_off48 (k0_t1 : Fin k0_t1_loop.trips) (c0_i32_798 : BitVec 32) : Fin 3 → Nat :=
  let c2_799 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1344 : BitVec 32 := Scalar.addi c0_i32_798 v70
  let v1345 : Index := Scalar.indexCast v1344
  let c1280_800 : Index := 1280#32
  ![2, v1345.toNat, 1280]
def k0_off49 (k0_t1 : Fin k0_t1_loop.trips) (c0_i32_803 : BitVec 32) : Fin 3 → Nat :=
  let c3_804 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1352 : BitVec 32 := Scalar.addi c0_i32_803 v70
  let v1353 : Index := Scalar.indexCast v1352
  let c1280_805 : Index := 1280#32
  ![3, v1353.toNat, 1280]
def k0_off50 (k0_t1 : Fin k0_t1_loop.trips) (c0_i32_808 : BitVec 32) : Fin 3 → Nat :=
  let c4_809 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1360 : BitVec 32 := Scalar.addi c0_i32_808 v70
  let v1361 : Index := Scalar.indexCast v1360
  let c1280_810 : Index := 1280#32
  ![4, v1361.toNat, 1280]
def k0_off51 (k0_t1 : Fin k0_t1_loop.trips) (c0_i32_813 : BitVec 32) : Fin 3 → Nat :=
  let c5_814 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1368 : BitVec 32 := Scalar.addi c0_i32_813 v70
  let v1369 : Index := Scalar.indexCast v1368
  let c1280_815 : Index := 1280#32
  ![5, v1369.toNat, 1280]
def k0_off52 (k0_t1 : Fin k0_t1_loop.trips) (c0_i32_818 : BitVec 32) : Fin 3 → Nat :=
  let c6_819 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1376 : BitVec 32 := Scalar.addi c0_i32_818 v70
  let v1377 : Index := Scalar.indexCast v1376
  let c1280_820 : Index := 1280#32
  ![6, v1377.toNat, 1280]
def k0_off53 (k0_t1 : Fin k0_t1_loop.trips) (c8_i32_827 : BitVec 32) : Fin 3 → Nat :=
  let c0_828 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1391 : BitVec 32 := Scalar.addi c8_i32_827 v70
  let v1392 : Index := Scalar.indexCast v1391
  let c1280_829 : Index := 1280#32
  ![0, v1392.toNat, 1280]
def k0_off54 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1573 : Index := Scalar.indexCast v70
  let c1280_940 : Index := 1280#32
  ![v1573.toNat, 1280]
def k0_off55 (k0_t1 : Fin k0_t1_loop.trips) (c32_i32_941 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1577 : BitVec 32 := Scalar.addi c32_i32_941 v70
  let v1578 : Index := Scalar.indexCast v1577
  let c1536 : Index := 1536#32
  ![v1578.toNat, 1536]
def k0_off56 (k0_t1 : Fin k0_t1_loop.trips) (c0_i32_946 : BitVec 32) : Fin 3 → Nat :=
  let c1_947 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1587 : BitVec 32 := Scalar.addi c0_i32_946 v70
  let v1588 : Index := Scalar.indexCast v1587
  let c1536_948 : Index := 1536#32
  ![1, v1588.toNat, 1536]
def k0_off57 (k0_t1 : Fin k0_t1_loop.trips) (c0_i32_951 : BitVec 32) : Fin 3 → Nat :=
  let c2_952 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1595 : BitVec 32 := Scalar.addi c0_i32_951 v70
  let v1596 : Index := Scalar.indexCast v1595
  let c1536_953 : Index := 1536#32
  ![2, v1596.toNat, 1536]
def k0_off58 (k0_t1 : Fin k0_t1_loop.trips) (c0_i32_956 : BitVec 32) : Fin 3 → Nat :=
  let c3_957 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1603 : BitVec 32 := Scalar.addi c0_i32_956 v70
  let v1604 : Index := Scalar.indexCast v1603
  let c1536_958 : Index := 1536#32
  ![3, v1604.toNat, 1536]
def k0_off59 (k0_t1 : Fin k0_t1_loop.trips) (c0_i32_961 : BitVec 32) : Fin 3 → Nat :=
  let c4_962 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1611 : BitVec 32 := Scalar.addi c0_i32_961 v70
  let v1612 : Index := Scalar.indexCast v1611
  let c1536_963 : Index := 1536#32
  ![4, v1612.toNat, 1536]
def k0_off60 (k0_t1 : Fin k0_t1_loop.trips) (c0_i32_966 : BitVec 32) : Fin 3 → Nat :=
  let c5_967 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1619 : BitVec 32 := Scalar.addi c0_i32_966 v70
  let v1620 : Index := Scalar.indexCast v1619
  let c1536_968 : Index := 1536#32
  ![5, v1620.toNat, 1536]
def k0_off61 (k0_t1 : Fin k0_t1_loop.trips) (c0_i32_971 : BitVec 32) : Fin 3 → Nat :=
  let c6_972 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1627 : BitVec 32 := Scalar.addi c0_i32_971 v70
  let v1628 : Index := Scalar.indexCast v1627
  let c1536_973 : Index := 1536#32
  ![6, v1628.toNat, 1536]
def k0_off62 (k0_t1 : Fin k0_t1_loop.trips) (c8_i32_980 : BitVec 32) : Fin 3 → Nat :=
  let c0_981 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1642 : BitVec 32 := Scalar.addi c8_i32_980 v70
  let v1643 : Index := Scalar.indexCast v1642
  let c1536_982 : Index := 1536#32
  ![0, v1643.toNat, 1536]
def k0_off63 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1824 : Index := Scalar.indexCast v70
  let c1536_1093 : Index := 1536#32
  ![v1824.toNat, 1536]
def k0_off64 (k0_t1 : Fin k0_t1_loop.trips) (c32_i32_1094 : BitVec 32) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1828 : BitVec 32 := Scalar.addi c32_i32_1094 v70
  let v1829 : Index := Scalar.indexCast v1828
  let c1792 : Index := 1792#32
  ![v1829.toNat, 1792]
def k0_off65 (k0_t1 : Fin k0_t1_loop.trips) (c0_i32_1099 : BitVec 32) : Fin 3 → Nat :=
  let c1_1100 : Index := 1#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1838 : BitVec 32 := Scalar.addi c0_i32_1099 v70
  let v1839 : Index := Scalar.indexCast v1838
  let c1792_1101 : Index := 1792#32
  ![1, v1839.toNat, 1792]
def k0_off66 (k0_t1 : Fin k0_t1_loop.trips) (c0_i32_1104 : BitVec 32) : Fin 3 → Nat :=
  let c2_1105 : Index := 2#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1846 : BitVec 32 := Scalar.addi c0_i32_1104 v70
  let v1847 : Index := Scalar.indexCast v1846
  let c1792_1106 : Index := 1792#32
  ![2, v1847.toNat, 1792]
def k0_off67 (k0_t1 : Fin k0_t1_loop.trips) (c0_i32_1109 : BitVec 32) : Fin 3 → Nat :=
  let c3_1110 : Index := 3#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1854 : BitVec 32 := Scalar.addi c0_i32_1109 v70
  let v1855 : Index := Scalar.indexCast v1854
  let c1792_1111 : Index := 1792#32
  ![3, v1855.toNat, 1792]
def k0_off68 (k0_t1 : Fin k0_t1_loop.trips) (c0_i32_1114 : BitVec 32) : Fin 3 → Nat :=
  let c4_1115 : Index := 4#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1862 : BitVec 32 := Scalar.addi c0_i32_1114 v70
  let v1863 : Index := Scalar.indexCast v1862
  let c1792_1116 : Index := 1792#32
  ![4, v1863.toNat, 1792]
def k0_off69 (k0_t1 : Fin k0_t1_loop.trips) (c0_i32_1119 : BitVec 32) : Fin 3 → Nat :=
  let c5_1120 : Index := 5#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1870 : BitVec 32 := Scalar.addi c0_i32_1119 v70
  let v1871 : Index := Scalar.indexCast v1870
  let c1792_1121 : Index := 1792#32
  ![5, v1871.toNat, 1792]
def k0_off70 (k0_t1 : Fin k0_t1_loop.trips) (c0_i32_1124 : BitVec 32) : Fin 3 → Nat :=
  let c6_1125 : Index := 6#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1878 : BitVec 32 := Scalar.addi c0_i32_1124 v70
  let v1879 : Index := Scalar.indexCast v1878
  let c1792_1126 : Index := 1792#32
  ![6, v1879.toNat, 1792]
def k0_off71 (k0_t1 : Fin k0_t1_loop.trips) (c8_i32_1133 : BitVec 32) : Fin 3 → Nat :=
  let c0_1134 : Index := 0#32
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v1893 : BitVec 32 := Scalar.addi c8_i32_1133 v70
  let v1894 : Index := Scalar.indexCast v1893
  let c1792_1135 : Index := 1792#32
  ![0, v1894.toNat, 1792]
def k0_off72 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c64_i32 : BitVec 32 := 64#32
  let v69 : BitVec 32 := Scalar.muli arg10 c64_i32
  let v70 : BitVec 32 := v69
  let v2075 : Index := Scalar.indexCast v70
  let c1792_1246 : Index := 1792#32
  ![v2075.toNat, 1792]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDwconvIdeal.lean ====
abbrev S8192x2048 : Shape := ⟨2, ![8192, 2048]⟩
abbrev S31x2048 : Shape := ⟨2, ![31, 2048]⟩
abbrev S2048 : Shape := ⟨1, ![2048]⟩
abbrev S_ : Shape := ⟨0, ![]⟩
abbrev S8222x2048 : Shape := ⟨2, ![8222, 2048]⟩
abbrev S1x2048 : Shape := ⟨2, ![1, 2048]⟩
abbrev S8192 : Shape := ⟨1, ![8192]⟩
abbrev S8192x1 : Shape := ⟨2, ![8192, 1]⟩

abbrev nBuf : Space → Nat
  | .hbm => 269
  | .vmem => 0
  | .smem => 0
  | _ => 0

abbrev hbmTy0_0 (i : Nat) : BufTy := match i % 128 with
  | 0 => ⟨S8192x2048, .f32⟩
  | 1 => ⟨S31x2048, .f32⟩
  | 2 => ⟨S2048, .f32⟩
  | 3 => ⟨S2048, .f32⟩
  | 4 => ⟨S2048, .f32⟩
  | 5 => ⟨S_, .i32⟩
  | 6 => ⟨S_, .f32⟩
  | 7 => ⟨S8222x2048, .f32⟩
  | 8 => ⟨S8192x2048, .f32⟩
  | 9 => ⟨S1x2048, .f32⟩
  | 10 => ⟨S2048, .f32⟩
  | 11 => ⟨S1x2048, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S8192x2048, .f32⟩
  | 18 => ⟨S1x2048, .f32⟩
  | 19 => ⟨S2048, .f32⟩
  | 20 => ⟨S1x2048, .f32⟩
  | 21 => ⟨S8192x2048, .f32⟩
  | 22 => ⟨S8192x2048, .f32⟩
  | 23 => ⟨S8192x2048, .f32⟩
  | 24 => ⟨S8192x2048, .f32⟩
  | 25 => ⟨S1x2048, .f32⟩
  | 26 => ⟨S2048, .f32⟩
  | 27 => ⟨S1x2048, .f32⟩
  | 28 => ⟨S8192x2048, .f32⟩
  | 29 => ⟨S8192x2048, .f32⟩
  | 30 => ⟨S8192x2048, .f32⟩
  | 31 => ⟨S8192x2048, .f32⟩
  | 32 => ⟨S1x2048, .f32⟩
  | 33 => ⟨S2048, .f32⟩
  | 34 => ⟨S1x2048, .f32⟩
  | 35 => ⟨S8192x2048, .f32⟩
  | 36 => ⟨S8192x2048, .f32⟩
  | 37 => ⟨S8192x2048, .f32⟩
  | 38 => ⟨S8192x2048, .f32⟩
  | 39 => ⟨S1x2048, .f32⟩
  | 40 => ⟨S2048, .f32⟩
  | 41 => ⟨S1x2048, .f32⟩
  | 42 => ⟨S8192x2048, .f32⟩
  | 43 => ⟨S8192x2048, .f32⟩
  | 44 => ⟨S8192x2048, .f32⟩
  | 45 => ⟨S8192x2048, .f32⟩
  | 46 => ⟨S1x2048, .f32⟩
  | 47 => ⟨S2048, .f32⟩
  | 48 => ⟨S1x2048, .f32⟩
  | 49 => ⟨S8192x2048, .f32⟩
  | 50 => ⟨S8192x2048, .f32⟩
  | 51 => ⟨S8192x2048, .f32⟩
  | 52 => ⟨S8192x2048, .f32⟩
  | 53 => ⟨S1x2048, .f32⟩
  | 54 => ⟨S2048, .f32⟩
  | 55 => ⟨S1x2048, .f32⟩
  | 56 => ⟨S8192x2048, .f32⟩
  | 57 => ⟨S8192x2048, .f32⟩
  | 58 => ⟨S8192x2048, .f32⟩
  | 59 => ⟨S8192x2048, .f32⟩
  | 60 => ⟨S1x2048, .f32⟩
  | 61 => ⟨S2048, .f32⟩
  | 62 => ⟨S1x2048, .f32⟩
  | 63 => ⟨S8192x2048, .f32⟩
  | 64 => ⟨S8192x2048, .f32⟩
  | 65 => ⟨S8192x2048, .f32⟩
  | 66 => ⟨S8192x2048, .f32⟩
  | 67 => ⟨S1x2048, .f32⟩
  | 68 => ⟨S2048, .f32⟩
  | 69 => ⟨S1x2048, .f32⟩
  | 70 => ⟨S8192x2048, .f32⟩
  | 71 => ⟨S8192x2048, .f32⟩
  | 72 => ⟨S8192x2048, .f32⟩
  | 73 => ⟨S8192x2048, .f32⟩
  | 74 => ⟨S1x2048, .f32⟩
  | 75 => ⟨S2048, .f32⟩
  | 76 => ⟨S1x2048, .f32⟩
  | 77 => ⟨S8192x2048, .f32⟩
  | 78 => ⟨S8192x2048, .f32⟩
  | 79 => ⟨S8192x2048, .f32⟩
  | 80 => ⟨S8192x2048, .f32⟩
  | 81 => ⟨S1x2048, .f32⟩
  | 82 => ⟨S2048, .f32⟩
  | 83 => ⟨S1x2048, .f32⟩
  | 84 => ⟨S8192x2048, .f32⟩
  | 85 => ⟨S8192x2048, .f32⟩
  | 86 => ⟨S8192x2048, .f32⟩
  | 87 => ⟨S8192x2048, .f32⟩
  | 88 => ⟨S1x2048, .f32⟩
  | 89 => ⟨S2048, .f32⟩
  | 90 => ⟨S1x2048, .f32⟩
  | 91 => ⟨S8192x2048, .f32⟩
  | 92 => ⟨S8192x2048, .f32⟩
  | 93 => ⟨S8192x2048, .f32⟩
  | 94 => ⟨S8192x2048, .f32⟩
  | 95 => ⟨S1x2048, .f32⟩
  | 96 => ⟨S2048, .f32⟩
  | 97 => ⟨S1x2048, .f32⟩
  | 98 => ⟨S8192x2048, .f32⟩
  | 99 => ⟨S8192x2048, .f32⟩
  | 100 => ⟨S8192x2048, .f32⟩
  | 101 => ⟨S8192x2048, .f32⟩
  | 102 => ⟨S1x2048, .f32⟩
  | 103 => ⟨S2048, .f32⟩
  | 104 => ⟨S1x2048, .f32⟩
  | 105 => ⟨S8192x2048, .f32⟩
  | 106 => ⟨S8192x2048, .f32⟩
  | 107 => ⟨S8192x2048, .f32⟩
  | 108 => ⟨S8192x2048, .f32⟩
  | 109 => ⟨S1x2048, .f32⟩
  | 110 => ⟨S2048, .f32⟩
  | 111 => ⟨S1x2048, .f32⟩
  | 112 => ⟨S8192x2048, .f32⟩
  | 113 => ⟨S8192x2048, .f32⟩
  | 114 => ⟨S8192x2048, .f32⟩
  | 115 => ⟨S8192x2048, .f32⟩
  | 116 => ⟨S1x2048, .f32⟩
  | 117 => ⟨S2048, .f32⟩
  | 118 => ⟨S1x2048, .f32⟩
  | 119 => ⟨S8192x2048, .f32⟩
  | 120 => ⟨S8192x2048, .f32⟩
  | 121 => ⟨S8192x2048, .f32⟩
  | 122 => ⟨S8192x2048, .f32⟩
  | 123 => ⟨S1x2048, .f32⟩
  | 124 => ⟨S2048, .f32⟩
  | 125 => ⟨S1x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S1x2048, .f32⟩
  | 3 => ⟨S2048, .f32⟩
  | 4 => ⟨S1x2048, .f32⟩
  | 5 => ⟨S8192x2048, .f32⟩
  | 6 => ⟨S8192x2048, .f32⟩
  | 7 => ⟨S8192x2048, .f32⟩
  | 8 => ⟨S8192x2048, .f32⟩
  | 9 => ⟨S1x2048, .f32⟩
  | 10 => ⟨S2048, .f32⟩
  | 11 => ⟨S1x2048, .f32⟩
  | 12 => ⟨S8192x2048, .f32⟩
  | 13 => ⟨S8192x2048, .f32⟩
  | 14 => ⟨S8192x2048, .f32⟩
  | 15 => ⟨S8192x2048, .f32⟩
  | 16 => ⟨S1x2048, .f32⟩
  | 17 => ⟨S2048, .f32⟩
  | 18 => ⟨S1x2048, .f32⟩
  | 19 => ⟨S8192x2048, .f32⟩
  | 20 => ⟨S8192x2048, .f32⟩
  | 21 => ⟨S8192x2048, .f32⟩
  | 22 => ⟨S8192x2048, .f32⟩
  | 23 => ⟨S1x2048, .f32⟩
  | 24 => ⟨S2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S1x2048, .f32⟩
  | 31 => ⟨S2048, .f32⟩
  | 32 => ⟨S1x2048, .f32⟩
  | 33 => ⟨S8192x2048, .f32⟩
  | 34 => ⟨S8192x2048, .f32⟩
  | 35 => ⟨S8192x2048, .f32⟩
  | 36 => ⟨S8192x2048, .f32⟩
  | 37 => ⟨S1x2048, .f32⟩
  | 38 => ⟨S2048, .f32⟩
  | 39 => ⟨S1x2048, .f32⟩
  | 40 => ⟨S8192x2048, .f32⟩
  | 41 => ⟨S8192x2048, .f32⟩
  | 42 => ⟨S8192x2048, .f32⟩
  | 43 => ⟨S8192x2048, .f32⟩
  | 44 => ⟨S1x2048, .f32⟩
  | 45 => ⟨S2048, .f32⟩
  | 46 => ⟨S1x2048, .f32⟩
  | 47 => ⟨S8192x2048, .f32⟩
  | 48 => ⟨S8192x2048, .f32⟩
  | 49 => ⟨S8192x2048, .f32⟩
  | 50 => ⟨S8192x2048, .f32⟩
  | 51 => ⟨S1x2048, .f32⟩
  | 52 => ⟨S2048, .f32⟩
  | 53 => ⟨S1x2048, .f32⟩
  | 54 => ⟨S8192x2048, .f32⟩
  | 55 => ⟨S8192x2048, .f32⟩
  | 56 => ⟨S8192x2048, .f32⟩
  | 57 => ⟨S8192x2048, .f32⟩
  | 58 => ⟨S1x2048, .f32⟩
  | 59 => ⟨S2048, .f32⟩
  | 60 => ⟨S1x2048, .f32⟩
  | 61 => ⟨S8192x2048, .f32⟩
  | 62 => ⟨S8192x2048, .f32⟩
  | 63 => ⟨S8192x2048, .f32⟩
  | 64 => ⟨S8192x2048, .f32⟩
  | 65 => ⟨S1x2048, .f32⟩
  | 66 => ⟨S2048, .f32⟩
  | 67 => ⟨S1x2048, .f32⟩
  | 68 => ⟨S8192x2048, .f32⟩
  | 69 => ⟨S8192x2048, .f32⟩
  | 70 => ⟨S8192x2048, .f32⟩
  | 71 => ⟨S8192x2048, .f32⟩
  | 72 => ⟨S1x2048, .f32⟩
  | 73 => ⟨S2048, .f32⟩
  | 74 => ⟨S1x2048, .f32⟩
  | 75 => ⟨S8192x2048, .f32⟩
  | 76 => ⟨S8192x2048, .f32⟩
  | 77 => ⟨S8192x2048, .f32⟩
  | 78 => ⟨S8192x2048, .f32⟩
  | 79 => ⟨S1x2048, .f32⟩
  | 80 => ⟨S2048, .f32⟩
  | 81 => ⟨S1x2048, .f32⟩
  | 82 => ⟨S8192x2048, .f32⟩
  | 83 => ⟨S8192x2048, .f32⟩
  | 84 => ⟨S8192x2048, .f32⟩
  | 85 => ⟨S8192x2048, .f32⟩
  | 86 => ⟨S1x2048, .f32⟩
  | 87 => ⟨S2048, .f32⟩
  | 88 => ⟨S1x2048, .f32⟩
  | 89 => ⟨S8192x2048, .f32⟩
  | 90 => ⟨S8192x2048, .f32⟩
  | 91 => ⟨S8192x2048, .f32⟩
  | 92 => ⟨S8192x2048, .f32⟩
  | 93 => ⟨S1x2048, .f32⟩
  | 94 => ⟨S2048, .f32⟩
  | 95 => ⟨S1x2048, .f32⟩
  | 96 => ⟨S8192x2048, .f32⟩
  | 97 => ⟨S8192x2048, .f32⟩
  | 98 => ⟨S8192x2048, .f32⟩
  | 99 => ⟨S1x2048, .f32⟩
  | 100 => ⟨S8192x2048, .f32⟩
  | 101 => ⟨S8192x2048, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x2048, .f32⟩
  | 109 => ⟨S8192x2048, .f32⟩
  | 110 => ⟨S8192x2048, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S8192x2048, .f32⟩
  | 118 => ⟨S8192x2048, .f32⟩
  | 119 => ⟨S_, .f32⟩
  | 120 => ⟨S8192x1, .f32⟩
  | 121 => ⟨S8192x1, .f32⟩
  | 122 => ⟨S8192x1, .f32⟩
  | 123 => ⟨S8192x2048, .f32⟩
  | 124 => ⟨S8192x2048, .f32⟩
  | 125 => ⟨S1x2048, .f32⟩
  | 126 => ⟨S8192x2048, .f32⟩
  | 127 => ⟨S8192x2048, .f32⟩
  | _ => ⟨S8192x2048, .f32⟩

abbrev hbmTy0_2 (i : Nat) : BufTy := match i % 128 with
  | 0 => ⟨S1x2048, .f32⟩
  | 1 => ⟨S8192x2048, .f32⟩
  | 2 => ⟨S8192x2048, .f32⟩
  | 3 => ⟨S8192x2048, .f32⟩
  | 4 => ⟨S8192x2048, .f32⟩
  | 5 => ⟨S_, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S8192x2048, .f32⟩
  | 12 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_cst_0 : Ref sig .tc := ⟨.hbm, 230, rfl⟩
abbrev main_v222 : Ref sig .tc := ⟨.hbm, 231, rfl⟩
abbrev main_v223 : Ref sig .tc := ⟨.hbm, 232, rfl⟩
abbrev main_cst_1 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_cst_2 : Ref sig .tc := ⟨.hbm, 239, rfl⟩
abbrev main_v229 : Ref sig .tc := ⟨.hbm, 240, rfl⟩
abbrev main_v230 : Ref sig .tc := ⟨.hbm, 241, rfl⟩
abbrev main_cst_3 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call1_v0 : Ref sig .tc := ⟨.hbm, 259, rfl⟩
abbrev main_call1_v1 : Ref sig .tc := ⟨.hbm, 260, rfl⟩
abbrev main_call1_cst : Ref sig .tc := ⟨.hbm, 261, rfl⟩
abbrev main_call1_v2 : Ref sig .tc := ⟨.hbm, 262, rfl⟩
abbrev main_call1_v3 : Ref sig .tc := ⟨.hbm, 263, rfl⟩
abbrev main_call1_cst_0 : Ref sig .tc := ⟨.hbm, 264, rfl⟩
abbrev main_call1_v4 : Ref sig .tc := ⟨.hbm, 265, rfl⟩
abbrev main_call1_v5 : Ref sig .tc := ⟨.hbm, 266, rfl⟩
abbrev main_v246 : Ref sig .tc := ⟨.hbm, 267, rfl⟩
abbrev main_v247 : Ref sig .tc := ⟨.hbm, 268, rfl⟩

abbrev nD : Nat := 1
abbrev τ : Topo := Topo.v7x

variable {F : FTy → Type} [FloatOps F]
-- ==== KernelRoute.lean ====
abbrev S8192x2048 : Shape := ⟨2, ![8192, 2048]⟩
abbrev S2048x256 : Shape := ⟨2, ![2048, 256]⟩
abbrev S256 : Shape := ⟨1, ![256]⟩
abbrev S1x256 : Shape := ⟨2, ![1, 256]⟩
abbrev S8192x8 : Shape := ⟨2, ![8192, 8]⟩
abbrev S256x2048 : Shape := ⟨2, ![256, 2048]⟩
abbrev S256x8 : Shape := ⟨2, ![256, 8]⟩
abbrev S256x256 : Shape := ⟨2, ![256, 256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S1x256, .f32⟩
  | .hbm, ⟨4, _⟩ => ⟨S8192x8, .i32⟩
  | .hbm, ⟨5, _⟩ => ⟨S8192x8, .f32⟩
  | .hbm, ⟨6, _⟩ => ⟨S8192x8, .i32⟩
  | .hbm, ⟨7, _⟩ => ⟨S1x256, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S1x256, .f32⟩
  | .local _ .vmem, ⟨4, _⟩ => ⟨S256x8, .i32⟩
  | .local _ .vmem, ⟨5, _⟩ => ⟨S256x8, .i32⟩
  | .local _ .vmem, ⟨6, _⟩ => ⟨S256x8, .f32⟩
  | .local _ .vmem, ⟨7, _⟩ => ⟨S256x8, .f32⟩
  | .local _ .vmem, ⟨8, _⟩ => ⟨S256x8, .i32⟩
  | .local _ .vmem, ⟨9, _⟩ => ⟨S256x8, .i32⟩
  | .local _ .vmem, ⟨10, _⟩ => ⟨S1x256, .f32⟩
  | .local _ .vmem, ⟨11, _⟩ => ⟨S1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceRouteIdeal.lean ====
abbrev S8192x2048 : Shape := ⟨2, ![8192, 2048]⟩
abbrev S2048x256 : Shape := ⟨2, ![2048, 256]⟩
abbrev S256 : Shape := ⟨1, ![256]⟩
abbrev S8192x256 : Shape := ⟨2, ![8192, 256]⟩
abbrev S_ : Shape := ⟨0, ![]⟩
abbrev S1x256 : Shape := ⟨2, ![1, 256]⟩
abbrev S8192x8x32 : Shape := ⟨3, ![8192, 8, 32]⟩
abbrev S8192x8x2 : Shape := ⟨3, ![8192, 8, 2]⟩
abbrev S8192x8 : Shape := ⟨2, ![8192, 8]⟩
abbrev S8192x4 : Shape := ⟨2, ![8192, 4]⟩
abbrev S8192x4x1 : Shape := ⟨3, ![8192, 4, 1]⟩
abbrev S1x1x8 : Shape := ⟨3, ![1, 1, 8]⟩
abbrev S8192x4x8 : Shape := ⟨3, ![8192, 4, 8]⟩
abbrev S8192x8x1 : Shape := ⟨3, ![8192, 8, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S1x1x256 : Shape := ⟨3, ![1, 1, 256]⟩
abbrev S8192x8x256 : Shape := ⟨3, ![8192, 8, 256]⟩

abbrev nBuf : Space → Nat
  | .hbm => 109
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S8192x8x32, .f32⟩
  | .hbm, ⟨16, _⟩ => ⟨S8192x8x2, .f32⟩
  | .hbm, ⟨17, _⟩ => ⟨S8192x8x2, .i32⟩
  | .hbm, ⟨18, _⟩ => ⟨S_, .f32⟩
  | .hbm, ⟨19, _⟩ => ⟨S8192x8, .f32⟩
  | .hbm, ⟨20, _⟩ => ⟨S8192x4, .f32⟩
  | .hbm, ⟨21, _⟩ => ⟨S8192x4, .i32⟩
  | .hbm, ⟨22, _⟩ => ⟨S8192x4x1, .i32⟩
  | .hbm, ⟨23, _⟩ => ⟨S1x1x8, .i32⟩
  | .hbm, ⟨24, _⟩ => ⟨S8192x4x8, .i32⟩
  | .hbm, ⟨25, _⟩ => ⟨S8192x4x8, .i32⟩
  | .hbm, ⟨26, _⟩ => ⟨S8192x4x8, .i1⟩
  | .hbm, ⟨27, _⟩ => ⟨S8192x4x8, .f32⟩
  | .hbm, ⟨28, _⟩ => ⟨S_, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S8192x8, .i1⟩
  | .hbm, ⟨33, _⟩ => ⟨S8192x8x32, .i1⟩
  | .hbm, ⟨34, _⟩ => ⟨S8192x256, .i1⟩
  | .hbm, ⟨35, _⟩ => ⟨S_, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x8, .f32⟩
  | .hbm, ⟨40, _⟩ => ⟨S8192x8, .i32⟩
  | .hbm, ⟨41, _⟩ => ⟨S_, .i32⟩
  | .hbm, ⟨42, _⟩ => ⟨S8192x8, .i32⟩
  | .hbm, ⟨43, _⟩ => ⟨S8192x8, .i1⟩
  | .hbm, ⟨44, _⟩ => ⟨S_, .i32⟩
  | .hbm, ⟨45, _⟩ => ⟨S8192x8, .i32⟩
  | .hbm, ⟨46, _⟩ => ⟨S8192x8, .i32⟩
  | .hbm, ⟨47, _⟩ => ⟨S8192x8, .i32⟩
  | .hbm, ⟨48, _⟩ => ⟨S8192x8x1, .i32⟩
  | .hbm, ⟨49, _⟩ => ⟨S1, .i32⟩
  | .hbm, ⟨50, _⟩ => ⟨S_, .i32⟩
  | .hbm, ⟨51, _⟩ => ⟨S8192x8x1, .i32⟩
  | .hbm, ⟨52, _⟩ => ⟨S8192x8x1, .i1⟩
  | .hbm, ⟨53, _⟩ => ⟨S1x1x1, .i32⟩
  | .hbm, ⟨54, _⟩ => ⟨S8192x8x1, .i32⟩
  | .hbm, ⟨55, _⟩ => ⟨S8192x8x1, .i1⟩
  | .hbm, ⟨56, _⟩ => ⟨S8192x8x1, .i1⟩
  | .hbm, ⟨57, _⟩ => ⟨S_, .i1⟩
  | .hbm, ⟨58, _⟩ => ⟨S8192x8, .i1⟩
  | .hbm, ⟨59, _⟩ => ⟨S8192x8, .f32⟩
  | .hbm, ⟨60, _⟩ => ⟨S_, .f32⟩
  | .hbm, ⟨61, _⟩ => ⟨S8192x8, .f32⟩
  | .hbm, ⟨62, _⟩ => ⟨S8192x8, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x8, .f32⟩
  | .hbm, ⟨67, _⟩ => ⟨S8192x8, .f32⟩
  | .hbm, ⟨68, _⟩ => ⟨S_, .f32⟩
  | .hbm, ⟨69, _⟩ => ⟨S8192x8, .f32⟩
  | .hbm, ⟨70, _⟩ => ⟨S8192x8, .f32⟩
  | .hbm, ⟨71, _⟩ => ⟨S8192x8x1, .i32⟩
  | .hbm, ⟨72, _⟩ => ⟨S1x1x256, .i32⟩
  | .hbm, ⟨73, _⟩ => ⟨S8192x8x256, .i32⟩
  | .hbm, ⟨74, _⟩ => ⟨S8192x8x256, .i32⟩
  | .hbm, ⟨75, _⟩ => ⟨S8192x8x256, .i1⟩
  | .hbm, ⟨76, _⟩ => ⟨S8192x8x256, .f32⟩
  | .hbm, ⟨77, _⟩ => ⟨S_, .f32⟩
  | .hbm, ⟨78, _⟩ => ⟨S8192x256, .f32⟩
  | .hbm, ⟨79, _⟩ => ⟨S_, .f32⟩
  | .hbm, ⟨80, _⟩ => ⟨S_, .f32⟩
  | .hbm, ⟨81, _⟩ => ⟨S8192x256, .f32⟩
  | .hbm, ⟨82, _⟩ => ⟨S8192x256, .f32⟩
  | .hbm, ⟨83, _⟩ => ⟨S_, .i32⟩
  | .hbm, ⟨84, _⟩ => ⟨S8192x8, .i32⟩
  | .hbm, ⟨85, _⟩ => ⟨S8192x8, .i1⟩
  | .hbm, ⟨86, _⟩ => ⟨S_, .i32⟩
  | .hbm, ⟨87, _⟩ => ⟨S8192x8, .i32⟩
  | .hbm, ⟨88, _⟩ => ⟨S8192x8, .i32⟩
  | .hbm, ⟨89, _⟩ => ⟨S8192x8, .i32⟩
  | .hbm, ⟨90, _⟩ => ⟨S8192x8x1, .i32⟩
  | .hbm, ⟨91, _⟩ => ⟨S1, .i32⟩
  | .hbm, ⟨92, _⟩ => ⟨S_, .i32⟩
  | .hbm, ⟨93, _⟩ => ⟨S8192x8x1, .i32⟩
  | .hbm, ⟨94, _⟩ => ⟨S8192x8x1, .i1⟩
  | .hbm, ⟨95, _⟩ => ⟨S1x1x1, .i32⟩
  | .hbm, ⟨96, _⟩ => ⟨S8192x8x1, .i32⟩
  | .hbm, ⟨97, _⟩ => ⟨S8192x8x1, .i1⟩
  | .hbm, ⟨98, _⟩ => ⟨S8192x8x1, .i1⟩
  | .hbm, ⟨99, _⟩ => ⟨S_, .i1⟩
  | .hbm, ⟨100, _⟩ => ⟨S8192x8, .i1⟩
  | .hbm, ⟨101, _⟩ => ⟨S8192x8, .f32⟩
  | .hbm, ⟨102, _⟩ => ⟨S_, .f32⟩
  | .hbm, ⟨103, _⟩ => ⟨S8192x8, .f32⟩
  | .hbm, ⟨104, _⟩ => ⟨S8192x8, .f32⟩
  | .hbm, ⟨105, _⟩ => ⟨S8192x8, .i32⟩
  | .hbm, ⟨106, _⟩ => ⟨S_, .f32⟩
  | .hbm, ⟨107, _⟩ => ⟨S256, .f32⟩
  | .hbm, ⟨108, _⟩ => ⟨S1x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_cst_1 : Ref sig .tc := ⟨.hbm, 18, rfl⟩
abbrev main_v11 : Ref sig .tc := ⟨.hbm, 19, rfl⟩
abbrev main_values_2 : Ref sig .tc := ⟨.hbm, 20, rfl⟩
abbrev main_indices_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_values_7 : Ref sig .tc := ⟨.hbm, 39, rfl⟩
abbrev main_indices_8 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v19 : Ref sig .tc := ⟨.hbm, 62, rfl⟩
abbrev main_cst_9 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_10 : Ref sig .tc := ⟨.hbm, 68, rfl⟩
abbrev main_v24 : Ref sig .tc := ⟨.hbm, 69, rfl⟩
abbrev main_v25 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v26 : Ref sig .tc := ⟨.hbm, 76, rfl⟩
abbrev main_cst_11 : Ref sig .tc := ⟨.hbm, 77, rfl⟩
abbrev main_v27 : Ref sig .tc := ⟨.hbm, 78, rfl⟩
abbrev main_call4_call0_cst : Ref sig .tc := ⟨.hbm, 79, rfl⟩
abbrev main_call4_call0_v0 : Ref sig .tc := ⟨.hbm, 80, rfl⟩
abbrev main_v28 : Ref sig .tc := ⟨.hbm, 81, rfl⟩
abbrev main_v29 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_c_1 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_3 : Ref sig .tc := ⟨.hbm, 99, rfl⟩
abbrev main_call5_v12 : Ref sig .tc := ⟨.hbm, 100, rfl⟩
abbrev main_call5_v13 : Ref sig .tc := ⟨.hbm, 101, rfl⟩
abbrev main_call5_cst : Ref sig .tc := ⟨.hbm, 102, rfl⟩
abbrev main_call5_v14 : Ref sig .tc := ⟨.hbm, 103, rfl⟩
abbrev main_v30 : Ref sig .tc := ⟨.hbm, 104, rfl⟩
abbrev main_v31 : Ref sig .tc := ⟨.hbm, 105, rfl⟩
abbrev main_cst_12 : Ref sig .tc := ⟨.hbm, 106, rfl⟩
abbrev main_v32 : Ref sig .tc := ⟨.hbm, 107, rfl⟩
abbrev main_v33 : Ref sig .tc := ⟨.hbm, 108, rfl⟩

abbrev nD : Nat := 1
abbrev τ : Topo := Topo.v7x

variable {F : FTy → Type} [FloatOps F]
-- ==== KernelDest.lean ====
abbrev S8192x8 : Shape := ⟨2, ![8192, 8]⟩
abbrev S1x256 : Shape := ⟨2, ![1, 256]⟩
abbrev S256 : Shape := ⟨1, ![256]⟩
abbrev S_ : Shape := ⟨0, ![]⟩
abbrev S512x8 : Shape := ⟨2, ![512, 8]⟩
abbrev S512x256 : Shape := ⟨2, ![512, 256]⟩
abbrev S512x1 : Shape := ⟨2, ![512, 1]⟩
abbrev S512 : Shape := ⟨1, ![512]⟩

abbrev nBuf : Space → Nat
  | .hbm => 12
  | .vmem => 7
  | .smem => 0
  | _ => 0

abbrev bufTy : (tb : Table) → Fin (tcTables nBuf tb) → BufTy
  | .hbm, ⟨0, _⟩ => ⟨S8192x8, .i32⟩
  | .hbm, ⟨1, _⟩ => ⟨S8192x8, .i32⟩
  | .hbm, ⟨2, _⟩ => ⟨S1x256, .f32⟩
  | .hbm, ⟨3, _⟩ => ⟨S256, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .f32⟩
  | .hbm, ⟨10, _⟩ => ⟨S1x256, .f32⟩
  | .hbm, ⟨11, _⟩ => ⟨S8192x8, .i32⟩
  | .local _ .vmem, ⟨0, _⟩ => ⟨S512x8, .i32⟩
  | .local _ .vmem, ⟨1, _⟩ => ⟨S512x8, .i32⟩
  | .local _ .vmem, ⟨2, _⟩ => ⟨S512x8, .i32⟩
  | .local _ .vmem, ⟨3, _⟩ => ⟨S512x8, .i32⟩
  | .local _ .vmem, ⟨4, _⟩ => ⟨S1x256, .f32⟩
  | .local _ .vmem, ⟨5, _⟩ => ⟨S512x8, .i32⟩
  | .local _ .vmem, ⟨6, _⟩ => ⟨S512x8, .i32⟩
  | _, _ => ⟨S8192x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_c : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDestIdeal.lean ====
abbrev S8192x8 : Shape := ⟨2, ![8192, 8]⟩
abbrev S1x256 : Shape := ⟨2, ![1, 256]⟩
abbrev S256 : Shape := ⟨1, ![256]⟩
abbrev S_ : Shape := ⟨0, ![]⟩
abbrev S8192x8x1 : Shape := ⟨3, ![8192, 8, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x8, .i32⟩
  | .hbm, ⟨1, _⟩ => ⟨S8192x8, .i32⟩
  | .hbm, ⟨2, _⟩ => ⟨S1x256, .f32⟩
  | .hbm, ⟨3, _⟩ => ⟨S256, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S8192x8, .i32⟩
  | .hbm, ⟨11, _⟩ => ⟨S8192x8, .i1⟩
  | .hbm, ⟨12, _⟩ => ⟨S_, .i32⟩
  | .hbm, ⟨13, _⟩ => ⟨S8192x8, .i32⟩
  | .hbm, ⟨14, _⟩ => ⟨S8192x8, .i32⟩
  | .hbm, ⟨15, _⟩ => ⟨S8192x8, .i32⟩
  | .hbm, ⟨16, _⟩ => ⟨S8192x8x1, .i32⟩
  | .hbm, ⟨17, _⟩ => ⟨S8192x8, .i32⟩
  | .hbm, ⟨18, _⟩ => ⟨S8192x8, .i32⟩
  | _, _ => ⟨S8192x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_c : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== KernelGdn.lean ====
abbrev S8192x4096 : Shape := ⟨2, ![8192, 4096]⟩
abbrev S8192x128 : Shape := ⟨2, ![8192, 128]⟩
abbrev S128 : Shape := ⟨1, ![128]⟩
abbrev S8192x32 : Shape := ⟨2, ![8192, 32]⟩
abbrev S32x8192 : Shape := ⟨2, ![32, 8192]⟩
abbrev S32x32x1x256 : Shape := ⟨4, ![32, 32, 1, 256]⟩
abbrev S128x32 : Shape := ⟨2, ![128, 32]⟩
abbrev S32x128 : Shape := ⟨2, ![32, 128]⟩
abbrev S32x128x1 : Shape := ⟨3, ![32, 128, 1]⟩
abbrev S32x128x128 : Shape := ⟨3, ![32, 128, 128]⟩
abbrev S32x32x4x128 : Shape := ⟨4, ![32, 32, 4, 128]⟩
abbrev S1x128 : Shape := ⟨2, ![1, 128]⟩
abbrev S256x512 : Shape := ⟨2, ![256, 512]⟩
abbrev S256x1024 : Shape := ⟨2, ![256, 1024]⟩
abbrev S256x128 : Shape := ⟨2, ![256, 128]⟩
abbrev S8x1x1x256 : Shape := ⟨4, ![8, 1, 1, 256]⟩
abbrev S8x1x4x128 : Shape := ⟨4, ![8, 1, 4, 128]⟩
abbrev S8x128x128 : Shape := ⟨3, ![8, 128, 128]⟩
abbrev S128x256 : Shape := ⟨2, ![128, 256]⟩
abbrev S128x128 : Shape := ⟨2, ![128, 128]⟩
abbrev S256 : Shape := ⟨1, ![256]⟩
abbrev S256x1 : Shape := ⟨2, ![256, 1]⟩
abbrev S128x1 : Shape := ⟨2, ![128, 1]⟩
abbrev S1x1x1x256 : Shape := ⟨4, ![1, 1, 1, 256]⟩
abbrev S1x256 : Shape := ⟨2, ![1, 256]⟩
abbrev S256x256 : Shape := ⟨2, ![256, 256]⟩
abbrev S128x512 : Shape := ⟨2, ![128, 512]⟩
abbrev S1x128x128 : Shape := ⟨3, ![1, 128, 128]⟩
abbrev S64x128 : Shape := ⟨2, ![64, 128]⟩
abbrev S64x256 : Shape := ⟨2, ![64, 256]⟩
abbrev S192x128 : Shape := ⟨2, ![192, 128]⟩
abbrev S1x1x1x128 : Shape := ⟨4, ![1, 1, 1, 128]⟩

abbrev nBuf : Space → Nat
  | .hbm => 20
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S128, .f32⟩
  | .hbm, ⟨7, _⟩ => ⟨S8192x32, .f32⟩
  | .hbm, ⟨8, _⟩ => ⟨S32x8192, .f32⟩
  | .hbm, ⟨9, _⟩ => ⟨S32x32x1x256, .f32⟩
  | .hbm, ⟨10, _⟩ => ⟨S8192x32, .f32⟩
  | .hbm, ⟨11, _⟩ => ⟨S32x8192, .f32⟩
  | .hbm, ⟨12, _⟩ => ⟨S32x32x1x256, .f32⟩
  | .hbm, ⟨13, _⟩ => ⟨S128x32, .f32⟩
  | .hbm, ⟨14, _⟩ => ⟨S32x128, .f32⟩
  | .hbm, ⟨15, _⟩ => ⟨S32x128x1, .f32⟩
  | .hbm, ⟨16, _⟩ => ⟨S32x128x128, .f32⟩
  | .hbm, ⟨17, _⟩ => ⟨S32x32x4x128, .f32⟩
  | .hbm, ⟨18, _⟩ => ⟨S1x128, .f32⟩
  | .hbm, ⟨19, _⟩ => ⟨S8192x4096, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S8x1x1x256, .f32⟩
  | .local _ .vmem, ⟨15, _⟩ => ⟨S8x1x1x256, .f32⟩
  | .local _ .vmem, ⟨16, _⟩ => ⟨S8x1x1x256, .f32⟩
  | .local _ .vmem, ⟨17, _⟩ => ⟨S8x1x1x256, .f32⟩
  | .local _ .vmem, ⟨18, _⟩ => ⟨S8x1x4x128, .f32⟩
  | .local _ .vmem, ⟨19, _⟩ => ⟨S8x1x4x128, .f32⟩
  | .local _ .vmem, ⟨20, _⟩ => ⟨S1x128, .f32⟩
  | .local _ .vmem, ⟨21, _⟩ => ⟨S256x1024, .bf16⟩
  | .local _ .vmem, ⟨22, _⟩ => ⟨S256x1024, .bf16⟩
  | .local _ .vmem, ⟨23, _⟩ => ⟨S8x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.TileZ.lean ====
/- What the projection `z` leaves in its output, element by element.  The grid runs over 4 column tiles, and for each
   over 16 row tiles.  The first row tile of a column tile rounds the tile's weights into scratch; the others read them
   back.  So at every point the scratch holds the weights of the point's own column tile, and the output tile is the
   product of the point's rows with them. -/
module

public import proofs.«01_k».proof.Proof.Gen.KernelZIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelZIdeal.Tile

open Cert.KernelZIdeal Cert.KernelZIdeal.Gen Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The rows' window is at row tile `t % 16`. -/
theorem rows_at : ∀ t : Fin cfg0.N, win0_0.index t = ![t.val % 16, 0] :=
  (by decide +kernel : ∀ t : Fin grid0.N, _)

/-- The weights' window begins at the element offset of column tile `t / 16`. -/
theorem weights_at : ∀ t : Fin cfg0.N, win0_1.index t = ![8192 + 1024 * (t.val / 16), 0] :=
  (by decide +kernel : ∀ t : Fin grid0.N, _)

theorem point_lt (t : Fin cfg0.N) : t.val < 64 := lt_of_lt_of_eq t.isLt (show cfg0.N = 64 from N_0)

/-- The rows' block, read at an index. -/
theorem rows_apply (c : Dev nD) (t : Fin cfg0.N) (r : Fin 512) (k : Fin 2048) :
    iblk m c 0 t (ix2 r k)
      = rows m c (ix2 ⟨512 * (t.val % 16) + r.val, by omega⟩ k) := by
  blk_simp [iblk]
  entry_read
  pointwise
  blk_ext [rows_at t]

/-- The weights' block, read at an index. -/
theorem weights_apply (c : Dev nD) (t : Fin cfg0.N) (r : Fin 1024) (k : Fin 2048) :
    iblk m c 1 t (ix2 r k)
      = weights m c
          (ix2 k ⟨8192 + 1024 * (t.val / 16) + r.val, by have := point_lt t; omega⟩) := by
  blk_simp [iblk]
  entry_read
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The scratch holds, after every point, the weights of the point's column tile. -/
theorem scratch_apply (c : Dev nD) (t : Fin cfg0.N) (r : Fin 1024) (k : Fin 2048) :
    (outsAt0 m c t.val t.isLt).2 (ix2 r k)
      = weights m c
          (ix2 k ⟨8192 + 1024 * (t.val / 16) + r.val, by have := point_lt t; omega⟩) := by
  rw [Pipeline.eq_of_write_hold_apply (fun n h => (outsAt0 m c n h).2) 16 (fun t => iblk m c 1 t)
    (fun t h i => by
      rw [outsAt0_A m c t h]; frame_out
      pointwise [k0_pay1])
    (fun t h i => by
      rw [outsAt0_B m c t h]; rfl) t (ix2 r k)]
  rw [weights_apply]
  blk_ext []

/-- The output tile after a point: the products of the point's rows with the column tile's weights. -/
theorem tile_apply (c : Dev nD) (t : Fin cfg0.N) (r : Fin 512) (j : Fin 1024) :
    (outsAt0 m c t.val t.isLt).1 (ix2 r j)
      = ∑ k : Fin 2048, rows m c (ix2 ⟨512 * (t.val % 16) + r.val, by omega⟩ k)
          * weights m c
              (ix2 k ⟨8192 + 1024 * (t.val / 16) + j.val, by have := point_lt t; omega⟩) := by
  have hs := fun k => scratch_apply m c t j k
  by_cases h : t.val % 16 = 0
  · rw [outsAt0_A m c t h]
    frame_out
    pointwise [k0_pay2, k0_pay1]
    exact Finset.sum_congr rfl fun k _ => congrArg₂ (· * ·) (rows_apply m c t r k) (weights_apply m c t j k)
  · rw [outsAt0_B m c t h] at hs ⊢
    frame_out
    simp only [read_unread_whole]
    pointwise [k0_pay2]
    exact Finset.sum_congr rfl fun k _ => congrArg₂ (· * ·) (rows_apply m c t r k) (hs k)

/-- The array the projection leaves: the columns 8192 … 12287 of the product. -/
theorem result (c : Dev nD) :
    Value.G2 m c = fun i : S8192x4096.Idx => ∑ k : Fin 2048, rows m c (ix2 (i 0) k)
      * weights m c (ix2 k ⟨8192 + (i 1).val, by have : (i 1).val < 4096 := (i 1).isLt; omega⟩) := by
  funext i
  idx_vars i
  have h : Value.pt2Of (ix2 i0 i1) < cfg0.N := by
    show 1 * (i0.val / 512 - 0) + 16 * (i1.val / 1024 - 0) < grid0.N
    rw [N_0]; omega
  unfold Value.G2
  rw [dif_pos h, ← Value.outsAt0_sweep m c _ h, eq_ix2 (Value.loc2Of _)]
  refine (tile_apply m c ⟨_, h⟩ _ _).trans (Finset.sum_congr rfl fun k _ => ?_)
  have hp : Value.pt2Of (ix2 i0 i1) = i0.val / 512 + 16 * (i1.val / 1024) := by
    show 1 * (i0.val / 512 - 0) + 16 * (i1.val / 1024 - 0) = _; omega
  refine congrArg₂ (fun a b => rows m c (ix2 a k) * weights m c (ix2 k b)) (Fin.ext ?_) (Fin.ext ?_)
  · show 512 * (Value.pt2Of (ix2 i0 i1) % 16) + i0.val % 512 = i0.val
    rw [hp]; omega
  · show 8192 + 1024 * (Value.pt2Of (ix2 i0 i1) / 16) + i1.val % 1024 = 8192 + i1.val
    rw [hp]; omega

end Cert.KernelZIdeal.Tile
end
-- ==== Proof.TileGates.lean ====
/- What the projection `gates` leaves in its output, element by element.  The grid runs over 4 column tiles, and for each
   over 16 row tiles.  The first row tile of a column tile rounds the tile's weights into scratch; the others read them
   back.  So at every point the scratch holds the weights of the point's own column tile, and the output tile is the
   logistic function of the product of the point's rows with them. -/
module

public import proofs.«01_k».proof.Proof.Gen.KernelGatesIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelGatesIdeal.Tile

open Cert.KernelGatesIdeal Cert.KernelGatesIdeal.Gen Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The rows' window is at row tile `t % 16`. -/
theorem rows_at : ∀ t : Fin cfg0.N, win0_0.index t = ![t.val % 16, 0] :=
  (by decide +kernel : ∀ t : Fin grid0.N, _)

/-- The weights' window begins at the element offset of column tile `t / 16`. -/
theorem weights_at : ∀ t : Fin cfg0.N, win0_1.index t = ![16448 + 1024 * (t.val / 16), 0] :=
  (by decide +kernel : ∀ t : Fin grid0.N, _)

theorem point_lt (t : Fin cfg0.N) : t.val < 64 := lt_of_lt_of_eq t.isLt (show cfg0.N = 64 from N_0)

/-- The rows' block, read at an index. -/
theorem rows_apply (c : Dev nD) (t : Fin cfg0.N) (r : Fin 512) (k : Fin 2048) :
    iblk m c 0 t (ix2 r k)
      = rows m c (ix2 ⟨512 * (t.val % 16) + r.val, by omega⟩ k) := by
  blk_simp [iblk]
  entry_read
  pointwise
  blk_ext [rows_at t]

/-- The weights' block, read at an index. -/
theorem weights_apply (c : Dev nD) (t : Fin cfg0.N) (r : Fin 1024) (k : Fin 2048) :
    iblk m c 1 t (ix2 r k)
      = weights m c
          (ix2 k ⟨16448 + 1024 * (t.val / 16) + r.val, by have := point_lt t; omega⟩) := by
  blk_simp [iblk]
  entry_read
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The scratch holds, after every point, the weights of the point's column tile. -/
theorem scratch_apply (c : Dev nD) (t : Fin cfg0.N) (r : Fin 1024) (k : Fin 2048) :
    (outsAt0 m c t.val t.isLt).2 (ix2 r k)
      = weights m c
          (ix2 k ⟨16448 + 1024 * (t.val / 16) + r.val, by have := point_lt t; omega⟩) := by
  rw [Pipeline.eq_of_write_hold_apply (fun n h => (outsAt0 m c n h).2) 16 (fun t => iblk m c 1 t)
    (fun t h i => by
      rw [outsAt0_A m c t h]; frame_out
      pointwise [k0_pay1])
    (fun t h i => by
      rw [outsAt0_B m c t h]; rfl) t (ix2 r k)]
  rw [weights_apply]
  blk_ext []

/-- The output tile after a point: the logistic function of the products of the point's rows with the column tile's weights. -/
theorem tile_apply (c : Dev nD) (t : Fin cfg0.N) (r : Fin 512) (j : Fin 1024) :
    (outsAt0 m c t.val t.isLt).1 (ix2 r j)
      = Ideal.logistic (∑ k : Fin 2048, rows m c (ix2 ⟨512 * (t.val % 16) + r.val, by omega⟩ k)
          * weights m c
              (ix2 k ⟨16448 + 1024 * (t.val / 16) + j.val, by have := point_lt t; omega⟩)) := by
  have hs := fun k => scratch_apply m c t j k
  by_cases h : t.val % 16 = 0
  · rw [outsAt0_A m c t h]
    frame_out
    pointwise [k0_pay2, k0_pay1]
    exact congrArg Ideal.logistic <| Finset.sum_congr rfl fun k _ => congrArg₂ (· * ·) (rows_apply m c t r k) (weights_apply m c t j k)
  · rw [outsAt0_B m c t h] at hs ⊢
    frame_out
    simp only [read_unread_whole]
    pointwise [k0_pay2]
    exact congrArg Ideal.logistic <| Finset.sum_congr rfl fun k _ => congrArg₂ (· * ·) (rows_apply m c t r k) (hs k)

/-- The array the projection leaves: the logistic function of the columns from 16448 on of the product. -/
theorem result (c : Dev nD) :
    Value.G2 m c = fun i : S8192x4096.Idx => Ideal.logistic (∑ k : Fin 2048, rows m c (ix2 (i 0) k)
      * weights m c (ix2 k ⟨16448 + (i 1).val, by have : (i 1).val < 4096 := (i 1).isLt; omega⟩)) := by
  funext i
  idx_vars i
  have h : Value.pt2Of (ix2 i0 i1) < cfg0.N := by
    show 1 * (i0.val / 512 - 0) + 16 * (i1.val / 1024 - 0) < grid0.N
    rw [N_0]; omega
  unfold Value.G2
  rw [dif_pos h, ← Value.outsAt0_sweep m c _ h, eq_ix2 (Value.loc2Of _)]
  refine (tile_apply m c ⟨_, h⟩ _ _).trans (congrArg Ideal.logistic <| Finset.sum_congr rfl fun k _ => ?_)
  have hp : Value.pt2Of (ix2 i0 i1) = i0.val / 512 + 16 * (i1.val / 1024) := by
    show 1 * (i0.val / 512 - 0) + 16 * (i1.val / 1024 - 0) = _; omega
  refine congrArg₂ (fun a b => rows m c (ix2 a k) * weights m c (ix2 k b)) (Fin.ext ?_) (Fin.ext ?_)
  · show 512 * (Value.pt2Of (ix2 i0 i1) % 16) + i0.val % 512 = i0.val
    rw [hp]; omega
  · show 16448 + 1024 * (Value.pt2Of (ix2 i0 i1) / 16) + i1.val % 1024 = 16448 + i1.val
    rw [hp]; omega

end Cert.KernelGatesIdeal.Tile
end
-- ==== Proof.TileGlu.lean ====
/- What the gated linear unit's projection leaves in its output, element by element.  The grid runs over 4 column tiles,
   and for each over 8 row tiles.  A column tile has two tiles of weights, of the values and of the gates 2048 columns
   further.  The first row tile rounds both into scratch, the others read them back, and every point stores the value
   products times the logistic function of the gate products. -/
module

public import proofs.«01_k».proof.Proof.Gen.KernelGluIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelGluIdeal.Tile

open Cert.KernelGluIdeal Cert.KernelGluIdeal.Gen Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The rows' window is at row tile `t % 8`. -/
theorem rows_at : ∀ t : Fin cfg0.N, win0_0.index t = ![t.val % 8, 0] :=
  (by decide +kernel : ∀ t : Fin grid0.N, _)

/-- The values' weights begin at the element offset of column tile `t / 8`. -/
theorem weights_at : ∀ t : Fin cfg0.N, win0_1.index t = ![12352 + 512 * (t.val / 8), 0] :=
  (by decide +kernel : ∀ t : Fin grid0.N, _)

/-- The gates' weights begin 2048 elements further. -/
theorem gates_at : ∀ t : Fin cfg0.N, win0_2.index t = ![14400 + 512 * (t.val / 8), 0] :=
  (by decide +kernel : ∀ t : Fin grid0.N, _)

theorem point_lt (t : Fin cfg0.N) : t.val < 32 := lt_of_lt_of_eq t.isLt (show cfg0.N = 32 from N_0)

/-- The rows' block, read at an index. -/
theorem rows_apply (c : Dev nD) (t : Fin cfg0.N) (r : Fin 1024) (k : Fin 2048) :
    iblk m c 0 t (ix2 r k)
      = rows m c (ix2 ⟨1024 * (t.val % 8) + r.val, by omega⟩ k) := by
  blk_simp [iblk]
  entry_read
  pointwise
  blk_ext [rows_at t]

/-- The values' weights, read at an index. -/
theorem weights_apply (c : Dev nD) (t : Fin cfg0.N) (r : Fin 512) (k : Fin 2048) :
    iblk m c 1 t (ix2 r k)
      = weights m c
          (ix2 k ⟨12352 + 512 * (t.val / 8) + r.val, by have := point_lt t; omega⟩) := by
  blk_simp [iblk]
  entry_read
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The gates' weights, read at an index. -/
theorem gates_apply (c : Dev nD) (t : Fin cfg0.N) (r : Fin 512) (k : Fin 2048) :
    iblk m c 2 t (ix2 r k)
      = weights m c
          (ix2 k ⟨14400 + 512 * (t.val / 8) + r.val, by have := point_lt t; omega⟩) := by
  blk_simp [iblk]
  entry_read
  pointwise
  have e : ∀ a, (((View.whole main_v1).slice (win0_2.rect t)).emb (ix2 r k) a).val
      = win0_2.index t a + (ix2 r k a).val := fun a => win0_2.rect_emb_val_off t (ix2 r k) a
  have e0 := e 0
  have e1 := e 1
  rw [gates_at t] at e0 e1
  refine congrArg _ (congrArg₂ ix2 (Fin.ext ?_) (Fin.ext ?_))
  · exact e1.trans (Nat.zero_add _)
  · exact e0

/-- The first scratch holds, after every point, the values' weights of the point's column tile. -/
theorem scratch_apply (c : Dev nD) (t : Fin cfg0.N) (r : Fin 512) (k : Fin 2048) :
    (outsAt0 m c t.val t.isLt).2.1 (ix2 r k)
      = weights m c
          (ix2 k ⟨12352 + 512 * (t.val / 8) + r.val, by have := point_lt t; omega⟩) := by
  rw [Pipeline.eq_of_write_hold_apply (fun n h => (outsAt0 m c n h).2.1) 8 (fun t => iblk m c 1 t)
    (fun t h i => by
      rw [outsAt0_A m c t h]; frame_out
      pointwise [k0_pay1])
    (fun t h i => by
      rw [outsAt0_B m c t h]; rfl) t (ix2 r k)]
  rw [weights_apply]
  blk_ext []

/-- The second scratch holds, after every point, the gates' weights of the point's column tile. -/
theorem scratch2_apply (c : Dev nD) (t : Fin cfg0.N) (r : Fin 512) (k : Fin 2048) :
    (outsAt0 m c t.val t.isLt).2.2 (ix2 r k)
      = weights m c
          (ix2 k ⟨14400 + 512 * (t.val / 8) + r.val, by have := point_lt t; omega⟩) := by
  rw [Pipeline.eq_of_write_hold_apply (fun n h => (outsAt0 m c n h).2.2) 8 (fun t => iblk m c 2 t)
    (fun t h i => by
      rw [outsAt0_A m c t h]; frame_out
      pointwise [k0_pay2])
    (fun t h i => by
      rw [outsAt0_B m c t h]; rfl) t (ix2 r k)]
  rw [gates_apply]
  blk_ext []

/-- The output tile after a point: the value products times the logistic function of the gate products. -/
theorem tile_apply (c : Dev nD) (t : Fin cfg0.N) (r : Fin 1024) (j : Fin 512) :
    (outsAt0 m c t.val t.isLt).1 (ix2 r j)
      = (∑ k : Fin 2048, rows m c (ix2 ⟨1024 * (t.val % 8) + r.val, by omega⟩ k)
          * weights m c (ix2 k ⟨12352 + 512 * (t.val / 8) + j.val, by have := point_lt t; omega⟩))
        * Ideal.logistic (∑ k : Fin 2048, rows m c (ix2 ⟨1024 * (t.val % 8) + r.val, by omega⟩ k)
          * weights m c (ix2 k ⟨14400 + 512 * (t.val / 8) + j.val, by have := point_lt t; omega⟩)) := by
  have hs := fun k => scratch_apply m c t j k
  have hs2 := fun k => scratch2_apply m c t j k
  by_cases h : t.val % 8 = 0
  · rw [outsAt0_A m c t h]
    frame_out
    pointwise [k0_pay3, k0_pay2, k0_pay1]
    exact congrArg₂ (fun a b => a * Ideal.logistic b)
      (Finset.sum_congr rfl fun k _ => congrArg₂ (· * ·) (rows_apply m c t r k) (weights_apply m c t j k))
      (Finset.sum_congr rfl fun k _ => congrArg₂ (· * ·) (rows_apply m c t r k) (gates_apply m c t j k))
  · rw [outsAt0_B m c t h] at hs hs2 ⊢
    frame_out
    simp only [read_unread_whole]
    pointwise [k0_pay3]
    exact congrArg₂ (fun a b => a * Ideal.logistic b)
      (Finset.sum_congr rfl fun k _ => congrArg₂ (· * ·) (rows_apply m c t r k) (hs k))
      (Finset.sum_congr rfl fun k _ => congrArg₂ (· * ·) (rows_apply m c t r k) (hs2 k))

/-- The array the projection leaves: the columns 12352 … 14399 of the product times the logistic function of the 2048
    columns after them. -/
theorem result (c : Dev nD) :
    Value.G3 m c = fun i : S8192x2048.Idx =>
      (∑ k : Fin 2048, rows m c (ix2 (i 0) k)
        * weights m c (ix2 k ⟨12352 + (i 1).val, by have : (i 1).val < 2048 := (i 1).isLt; omega⟩))
      * Ideal.logistic (∑ k : Fin 2048, rows m c (ix2 (i 0) k)
        * weights m c (ix2 k ⟨12352 + (2048 + (i 1).val), by have : (i 1).val < 2048 := (i 1).isLt; omega⟩)) := by
  funext i
  idx_vars i
  have h : Value.pt3Of (ix2 i0 i1) < cfg0.N := by
    show 1 * (i0.val / 1024 - 0) + 8 * (i1.val / 512 - 0) < grid0.N
    rw [N_0]; omega
  unfold Value.G3
  rw [dif_pos h, ← Value.outsAt0_sweep m c _ h, eq_ix2 (Value.loc3Of _)]
  refine (tile_apply m c ⟨_, h⟩ _ _).trans ?_
  have hp : Value.pt3Of (ix2 i0 i1) = i0.val / 1024 + 8 * (i1.val / 512) := by
    show 1 * (i0.val / 1024 - 0) + 8 * (i1.val / 512 - 0) = _; omega
  refine congrArg₂ (fun a b => a * Ideal.logistic b) (Finset.sum_congr rfl fun k _ => ?_) (Finset.sum_congr rfl fun k _ => ?_)
  all_goals refine congrArg₂ (fun a b => rows m c (ix2 a k) * weights m c (ix2 k b)) (Fin.ext ?_) (Fin.ext ?_)
  · show 1024 * (Value.pt3Of (ix2 i0 i1) % 8) + i0.val % 1024 = i0.val
    rw [hp]; omega
  · show 12352 + 512 * (Value.pt3Of (ix2 i0 i1) / 8) + i1.val % 512 = 12352 + i1.val
    rw [hp]; omega
  · show 1024 * (Value.pt3Of (ix2 i0 i1) % 8) + i0.val % 1024 = i0.val
    rw [hp]; omega
  · show 14400 + 512 * (Value.pt3Of (ix2 i0 i1) / 8) + i1.val % 512 = 12352 + (2048 + i1.val)
    rw [hp]; omega

end Cert.KernelGluIdeal.Tile
end
-- ==== Proof.TileV.lean ====
/- What the projection `v` with its short causal convolution leaves in its output, element by element.  The grid runs
   over 4 column tiles, and for each over 16 row tiles.  The first row tile of a column tile rounds the tile's weights
   into scratch and clears the 8 rows above the convolution buffer; the others read the weights back, and find in those
   rows the last 8 rows of the product of the tile before.  So at every point the buffer reads as 520 consecutive rows of
   one array: the product of the rows with the weights, with 8 rows of zeros on top of it. -/
module

public import proofs.«01_k».proof.Proof.Gen.KernelVIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Writes
public import Idealize.ShloMosaic.Lib.Claim

@[expose] public section

set_option maxRecDepth 16384

noncomputable section

namespace Cert.KernelVIdeal.Tile

open Cert.KernelVIdeal Cert.KernelVIdeal.Gen Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The short convolution's weights as launched, over the extended reals. -/
abbrev taps (c : Dev nD) : S4x8192.Idx → EReal := m ((c : Thread nD τ).loc main_arg2)

/-- The product of the rows with the weights of `v`. -/
def product (c : Dev nD) (n : Fin 8192) (j : Fin 4096) : EReal :=
  ∑ k : Fin 2048, rows m c (ix2 n k) * weights m c (ix2 k ⟨4096 + j.val, by omega⟩)

/-- The product of the rows with the weights of `v`, under 8 rows of zeros: at row `n` the product's row `n - 8`. -/
def padded (c : Dev nD) (n : ℕ) (j : Fin 4096) : EReal :=
  if h : 8 ≤ n ∧ n < 8200 then
    product m c ⟨n - 8, by omega⟩ j
  else 0

/-- A choice between the product's row and a zero is the padded product. -/
theorem padded_of (c : Dev nD) (n : ℕ) (j : Fin 4096) (P : Prop) [Decidable P] (hP : P ↔ 8 ≤ n ∧ n < 8200)
    (f : P → EReal) (z : EReal) (hz : z = 0)
    (hf : ∀ h : P, f h = product m c ⟨n - 8, by have := hP.mp h; omega⟩ j) :
    (if h : P then f h else z) = padded m c n j := by
  unfold padded
  by_cases h : P
  · rw [dif_pos h, dif_pos (hP.mp h)]
    exact hf h
  · rw [dif_neg h, dif_neg (fun h' => h (hP.mpr h'))]
    exact hz

/-- The convolution of the product with the four taps at row `n`, the last tap first. -/
def conv (c : Dev nD) (n : ℕ) (j : Fin 4096) : EReal :=
  padded m c (n + 8) j * taps m c (ix2 3 ⟨4096 + j.val, by omega⟩)
    + padded m c (n + 5) j * taps m c (ix2 0 ⟨4096 + j.val, by omega⟩)
    + padded m c (n + 6) j * taps m c (ix2 1 ⟨4096 + j.val, by omega⟩)
    + padded m c (n + 7) j * taps m c (ix2 2 ⟨4096 + j.val, by omega⟩)

/-- The rows' window is at row tile `t % 16`. -/
theorem rows_at : ∀ t : Fin cfg0.N, win0_0.index t = ![t.val % 16, 0] :=
  (by decide +kernel : ∀ t : Fin grid0.N, _)

/-- The weights' window begins at the element offset of column tile `t / 16`. -/
theorem weights_at : ∀ t : Fin cfg0.N, win0_1.index t = ![4096 + 1024 * (t.val / 16), 0] :=
  (by decide +kernel : ∀ t : Fin grid0.N, _)

/-- The taps' window is at the column tile of the weights. -/
theorem taps_at : ∀ t : Fin cfg0.N, win0_2.index t = ![0, t.val / 16 + 4] :=
  (by decide +kernel : ∀ t : Fin grid0.N, _)

theorem point_lt (t : Fin cfg0.N) : t.val < 64 := lt_of_lt_of_eq t.isLt (show cfg0.N = 64 from N_0)

/-- The rows' block, read at an index. -/
theorem rows_apply (c : Dev nD) (t : Fin cfg0.N) (r : Fin 512) (k : Fin 2048) :
    iblk m c 0 t (ix2 r k)
      = rows m c (ix2 ⟨512 * (t.val % 16) + r.val, by omega⟩ k) := by
  blk_simp [iblk]
  entry_read
  pointwise
  blk_ext [rows_at t]

/-- The weights' block, read at an index. -/
theorem weights_apply (c : Dev nD) (t : Fin cfg0.N) (r : Fin 1024) (k : Fin 2048) :
    iblk m c 1 t (ix2 r k)
      = weights m c
          (ix2 k ⟨4096 + 1024 * (t.val / 16) + r.val, by have := point_lt t; omega⟩) := by
  blk_simp [iblk]
  entry_read
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The scratch holds, after every point, the weights of the point's column tile. -/
theorem scratch_apply (c : Dev nD) (t : Fin cfg0.N) (r : Fin 1024) (k : Fin 2048) :
    (outsAt0 m c t.val t.isLt).2.1 (ix2 r k)
      = weights m c
          (ix2 k ⟨4096 + 1024 * (t.val / 16) + r.val, by have := point_lt t; omega⟩) := by
  rw [Pipeline.eq_of_write_hold_apply (fun n h => (outsAt0 m c n h).2.1) 16 (fun t => iblk m c 1 t)
    (fun t h i => by
      rw [outsAt0_A m c t h h]; frame_out
      pointwise [k0_pay3])
    (fun t h i => by
      rw [outsAt0_B m c t h h]; rfl) t (ix2 r k)]
  rw [weights_apply]
  blk_ext []

/-- The taps' block, read at an index. -/
theorem taps_apply (c : Dev nD) (t : Fin cfg0.N) (s : Fin 4) (j : Fin 1024) :
    iblk m c 2 t (ix2 s j)
      = taps m c (ix2 s ⟨4096 + (1024 * (t.val / 16) + j.val), by have := point_lt t; omega⟩) := by
  blk_simp [iblk]
  entry_read
  pointwise
  blk_ext [taps_at t]

/-- The column of the output an index of point `t`'s tile stands for. -/
abbrev col (t : Fin cfg0.N) (j : Fin 1024) : Fin 4096 :=
  ⟨1024 * (t.val / 16) + j.val, by have := point_lt t; omega⟩

/-- What the convolution buffer reads as at point `t`, once the point's product is stored. -/
def held (c : Dev nD) (t : Fin cfg0.N) : Vec Ideal S520x1024 .f32 :=
  fun y => padded m c (512 * (t.val % 16) + (y 0).val) (col t (y 1))

/-- The 512 rows of the buffer the product is stored to. -/
abbrev below : Rect S520x1024 := Rect.unit ![8, 0] ![512, 1024] inb_S520x1024_S512x1024_8_0

/-- The 8 rows of the buffer above them. -/
abbrev above : Rect S520x1024 := Rect.unit ![0, 0] ![8, 1024] inb_S520x1024_S8x1024_0_0

/-- The product of the point's rows with its weights, as the buffer reads it. -/
theorem product_apply (c : Dev nD) (t : Fin cfg0.N) (r : Fin 512) (j : Fin 1024)
    (x w : Fin 2048 → EReal)
    (hx : ∀ k, x k = rows m c (ix2 ⟨512 * (t.val % 16) + r.val, by omega⟩ k))
    (hw : ∀ k, w k = weights m c (ix2 k ⟨4096 + 1024 * (t.val / 16) + j.val, by have := point_lt t; omega⟩)) :
    ∑ k : Fin 2048, x k * w k = padded m c (512 * (t.val % 16) + r.val + 8) (col t j) := by
  unfold padded
  rw [dif_pos ⟨by omega, by omega⟩]
  unfold product
  refine Finset.sum_congr rfl fun k _ => ?_
  rw [hw k, hx k]
  refine congrArg₂ (fun a b => rows m c (ix2 a k) * weights m c (ix2 k b)) (Fin.ext ?_) (Fin.ext ?_)
  · show 512 * (t.val % 16) + r.val = 512 * (t.val % 16) + r.val + 8 - 8
    omega
  · show 4096 + 1024 * (t.val / 16) + j.val = 4096 + (1024 * (t.val / 16) + j.val)
    omega

/-- The product stored from row 8 of the buffer on agrees with what the buffer is to read as. -/
theorem piece_product (c : Dev nD) (t : Fin cfg0.N) (w : S1024x2048.Idx → EReal)
    (hw : ∀ (j : Fin 1024) (k : Fin 2048), w (ix2 j k)
      = weights m c (ix2 k ⟨4096 + 1024 * (t.val / 16) + j.val, by have := point_lt t; omega⟩))
    (x : S512x1024.Idx) :
    k0_pay6 (F := Ideal) (iblk m c 0 t) w x
      = held m c t (below.emb x) := by
  idx_vars x
  refine Eq.trans ?_ ((product_apply m c t x0 x1 (fun k => iblk m c 0 t (ix2 x0 k)) (fun k => w (ix2 x1 k))
    (rows_apply m c t x0) (hw x1)).trans ?_)
  · pointwise [k0_pay6, k0_pay4]
  unfold held
  refine congrArg₂ (padded m c) ?_ (Fin.ext ?_)
  · show _ = 512 * (t.val % 16) + (8 + 1 * x0.val)
    omega
  · show 1024 * (t.val / 16) + x1.val = 1024 * (t.val / 16) + (0 + 1 * x1.val)
    omega

/-- The zeros a column tile's first point stores agree too. -/
theorem piece_zeros (c : Dev nD) (t : Fin cfg0.N) (h : t.val % 16 = 0) (x : S8x1024.Idx) :
    k0_pay5 (F := Ideal) x
      = held m c t (above.emb x) := by
  idx_vars x
  refine Eq.trans (b := (0 : EReal)) (by pointwise [k0_pay5]) ?_
  unfold held padded
  rw [dif_neg]
  show ¬ (8 ≤ 512 * (t.val % 16) + (0 + 1 * x0.val) ∧ _)
  omega

/-- Every row of the buffer is one of the first 8 or one of the 512 after them. -/
theorem rows_cover (y : S520x1024.Idx) :
    y ∈ below.set
      ∨ y ∈ above.set := by
  rw [Rect.mem_set_unit, Rect.mem_set_unit]
  idx_vars y
  by_cases h : 8 ≤ y0.val
  · exact Or.inl (Fin.forall_fin_two.mpr ⟨⟨h, show y0.val < 8 + 512 by omega⟩, ⟨Nat.zero_le _, show y1.val < 0 + 1024 by omega⟩⟩)
  · exact Or.inr (Fin.forall_fin_two.mpr ⟨⟨Nat.zero_le _, show y0.val < 0 + 8 by omega⟩, ⟨Nat.zero_le _, show y1.val < 0 + 1024 by omega⟩⟩)

/-- At a column tile's first point the two stores leave the buffer reading as said. -/
theorem first_reads (c : Dev nD) (t : Fin cfg0.N) (h : t.val % 16 = 0) (w : S1024x2048.Idx → EReal)
    (hw : ∀ (j : Fin 1024) (k : Fin 2048), w (ix2 j k)
      = weights m c (ix2 k ⟨4096 + 1024 * (t.val / 16) + j.val, by have := point_lt t; omega⟩)) :
    View.canon (Val := Elt Ideal) (s := S520x1024) (e := .f32)
      [⟨below, k0_pay6 (F := Ideal) (iblk m c 0 t) w⟩,
        ⟨above, k0_pay5 (F := Ideal)⟩] = held m c t := by
  funext y
  refine View.canon_apply_of_pieces (held m c t) _ ?_ y ?_
  · intro p hp x
    rcases List.mem_cons.mp hp with rfl | hp
    · exact piece_product m c t w hw x
    · obtain rfl := List.mem_singleton.mp hp
      exact piece_zeros m c t h x
  · rcases rows_cover y with hy | hy
    · exact ⟨_, List.mem_cons_self, hy⟩
    · exact ⟨_, List.mem_cons_of_mem _ List.mem_cons_self, hy⟩

/-- At the other points the store over the rows carried leaves it so, when the first 8 rows carried are as said. -/
theorem later_reads (c : Dev nD) (t : Fin cfg0.N) (w : S1024x2048.Idx → EReal)
    (hw : ∀ (j : Fin 1024) (k : Fin 2048), w (ix2 j k)
      = weights m c (ix2 k ⟨4096 + 1024 * (t.val / 16) + j.val, by have := point_lt t; omega⟩))
    (f : (View.whole cc0_scratch1).ty.Contents (Elt Ideal))
    (hf : ∀ y : S520x1024.Idx, (y 0).val < 8 → View.read (Elt Ideal) (View.whole cc0_scratch1) f y = held m c t y) :
    View.read (Elt Ideal) (View.whole cc0_scratch1)
        ((View.whole cc0_scratch1).writes (Elt Ideal) f
          [⟨below, k0_pay6 (F := Ideal) (iblk m c 0 t) w⟩])
      = held m c t := by
  refine funext fun (y : S520x1024.Idx) => ?_
  by_cases hy : 8 ≤ (y 0).val
  · refine View.read_writes_apply_of_pieces (s := S520x1024) (e := .f32) (View.whole cc0_scratch1) _ (held m c t) _ ?_ y ?_
    · intro p hp x
      obtain rfl := List.mem_singleton.mp hp
      exact piece_product m c t w hw x
    · rcases rows_cover y with h | h
      · exact ⟨_, List.mem_cons_self, h⟩
      · have := (Rect.mem_set_unit.mp h 0).2
        have : (y 0).val < 0 + 8 := this
        omega
  · rw [← hf y (by omega)]
    refine View.read_writes_cons_miss (s := S520x1024) (e := .f32) _ _ _ _ y (fun h => hy ?_)
    have h' : y ∈ below.set := h
    rw [Rect.mem_set_unit] at h'
    exact (h' 0).1

/-- A row of the buffer, as a row of the product under its zeros. -/
theorem held_at (c : Dev nD) (t : Fin cfg0.N) (p : Fin 520) (j : Fin 1024) (n : ℕ)
    (h : 512 * (t.val % 16) + p.val = n) : held m c t (ix2 p j) = padded m c n (col t j) := by
  subst h
  rfl

/-- After every point the first 8 rows of the buffer are the last 8 of the point's product. -/
theorem halo_apply (c : Dev nD) (t : Fin cfg0.N) (q : Fin 8) (j : Fin 1024) :
    (outsAt0 m c t.val t.isLt).2.2 (above.emb (ix2 q j))
      = padded m c (512 * (t.val % 16) + (512 + q.val)) (col t j) := by
  have hs := fun j k => scratch_apply m c t j k
  by_cases h : t.val % 16 = 0
  · rw [outsAt0_A m c t h h]
    frame_out
    refine (View.canon_cons_emb above _ _ (ix2 q j)).trans ?_
    simp only [View.readCov_eq_canon', first_reads m c t h (k0_pay3 (F := Ideal) (iblk m c 1 t))
      (fun j k => by pointwise [k0_pay3]; exact weights_apply m c t j k)]
    pointwise [k0_pay1]
    exact held_at m c t _ j _ rfl
  · rw [outsAt0_B m c t h h] at hs ⊢
    frame_out
    simp only [read_unread_whole]
    refine (View.canon_cons_emb above _ _ (ix2 q j)).trans ?_
    simp only [View.readCov_eq_canon']
    pointwise [k0_pay1]
    refine (View.canon_apply_of_pieces (S := S520x1024) (e := .f32) (held m c t) _ ?_ _ ?_).trans (held_at m c t _ j _ rfl)
    · intro p hp x
      obtain rfl := List.mem_singleton.mp hp
      exact piece_product m c t _ hs x
    · refine ⟨_, List.mem_cons_self, ?_⟩
      show _ ∈ below.set
      rw [Rect.mem_set_unit]
      exact Fin.forall_fin_two.mpr ⟨⟨show 8 ≤ 512 + q.val by omega, show 512 + q.val < 8 + 512 by omega⟩,
        ⟨Nat.zero_le _, show j.val < 0 + 1024 by omega⟩⟩

/-- The convolution of the point's rows, from the product and the buffer. -/
theorem conv_apply (c : Dev nD) (t : Fin cfg0.N) (r : Fin 512) (j : Fin 1024) (a b0 b1 b2 w0 w1 w2 w3 : EReal)
    (ha : a = padded m c (512 * (t.val % 16) + r.val + 8) (col t j))
    (h0 : b0 = held m c t (ix2 ⟨5 + r.val, by omega⟩ j)) (h1 : b1 = held m c t (ix2 ⟨6 + r.val, by omega⟩ j))
    (h2 : b2 = held m c t (ix2 ⟨7 + r.val, by omega⟩ j))
    (k0 : w0 = iblk m c 2 t (ix2 0 j)) (k1 : w1 = iblk m c 2 t (ix2 1 j))
    (k2 : w2 = iblk m c 2 t (ix2 2 j)) (k3 : w3 = iblk m c 2 t (ix2 3 j)) :
    a * w3 + b0 * w0 + b1 * w1 + b2 * w2 = conv m c (512 * (t.val % 16) + r.val) (col t j) := by
  rw [ha, h0, h1, h2, k0, k1, k2, k3, taps_apply, taps_apply, taps_apply, taps_apply,
    held_at m c t _ j (512 * (t.val % 16) + r.val + 5) (by show _ + (5 + r.val) = _; omega),
    held_at m c t _ j (512 * (t.val % 16) + r.val + 6) (by show _ + (6 + r.val) = _; omega),
    held_at m c t _ j (512 * (t.val % 16) + r.val + 7) (by show _ + (7 + r.val) = _; omega)]
  rfl

/-- The output tile at point `t`. -/
theorem tile_apply (c : Dev nD) (t : Fin cfg0.N) (r : Fin 512) (j : Fin 1024) :
    (outsAt0 m c t.val t.isLt).1 (ix2 r j)
      = conv m c (512 * (t.val % 16) + r.val) (col t j) * Ideal.logistic (conv m c (512 * (t.val % 16) + r.val) (col t j)) := by
  have hs := fun j k => scratch_apply m c t j k
  by_cases h : t.val % 16 = 0
  · rw [outsAt0_A m c t h h]
    frame_out
    simp only [View.readCov_eq_canon', first_reads m c t h (k0_pay3 (F := Ideal) (iblk m c 1 t))
      (fun j k => by pointwise [k0_pay3]; exact weights_apply m c t j k)]
    pointwise [k0_pay2, k0_pay7, k0_pay4, k0_pay3]
    exact congrArg (fun y => y * Ideal.logistic y) (conv_apply m c t r j _ _ _ _ _ _ _ _
      (product_apply m c t r j _ _ (rows_apply m c t r) (weights_apply m c t j)) rfl rfl rfl rfl rfl rfl rfl)
  · have hh := fun q j => halo_apply m c ⟨t.val - 1, by omega⟩ q j
    rw [outsAt0_B m c t h h] at hs ⊢
    frame_out
    simp only [read_unread_whole]
    have hw : ∀ (j : Fin 1024) (k : Fin 2048), (outsAt0 m c (t.val - 1) (by omega)).2.1 (ix2 j k)
      = weights m c (ix2 k ⟨4096 + 1024 * (t.val / 16) + j.val, by have := point_lt t; omega⟩) := hs
    have hf : ∀ y : S520x1024.Idx, (y 0).val < 8 →
        View.read (Elt Ideal) (View.whole cc0_scratch1)
          ((Memref.isWhole_whole cc0_scratch1).unread (outsAt0 m c (t.val - 1) (by omega)).2.2) y = held m c t y := by
      intro y hy
      rw [read_unread_whole]
      idx_vars y
      have hy' : y0.val < 8 := hy
      have e : (ix2 y0 y1 : S520x1024.Idx) = above.emb (ix2 ⟨y0.val, hy'⟩ y1) := by
        rw [eq_ix2 (above.emb (ix2 ⟨y0.val, hy'⟩ y1))]
        exact congrArg₂ ix2 (Fin.ext (show y0.val = 0 + 1 * y0.val by omega))
          (Fin.ext (show y1.val = 0 + 1 * y1.val by omega))
      rw [e]
      refine (hh ⟨y0.val, hy'⟩ y1).trans ?_
      unfold held
      refine congrArg₂ (padded m c) ?_ (Fin.ext ?_)
      · show 512 * ((t.val - 1) % 16) + (512 + y0.val) = 512 * (t.val % 16) + (0 + 1 * y0.val)
        omega
      · show 1024 * ((t.val - 1) / 16) + y1.val = 1024 * (t.val / 16) + (0 + 1 * y1.val)
        omega
    rw [later_reads m c t (outsAt0 m c (t.val - 1) (by omega)).2.1 hw _ hf]
    pointwise [k0_pay2, k0_pay7, k0_pay4]
    exact congrArg (fun y => y * Ideal.logistic y) (conv_apply m c t r j _ _ _ _ _ _ _ _
      (product_apply m c t r j _ _ (rows_apply m c t r) (hw j)) rfl rfl rfl rfl rfl rfl rfl)

/-- The array the call leaves: the convolution of the product with the taps, times its logistic function. -/
theorem result (c : Dev nD) :
    Value.G3 m c = fun i : S8192x4096.Idx => conv m c (i 0).val (i 1) * Ideal.logistic (conv m c (i 0).val (i 1)) := by
  funext i
  idx_vars i
  have h : Value.pt3Of (ix2 i0 i1) < cfg0.N := by
    show 1 * (i0.val / 512 - 0) + 16 * (i1.val / 1024 - 0) < grid0.N
    rw [N_0]; omega
  unfold Value.G3
  rw [dif_pos h, ← Value.outsAt0_sweep m c _ h, eq_ix2 (Value.loc3Of _)]
  refine (tile_apply m c ⟨_, h⟩ _ _).trans ?_
  have hp : Value.pt3Of (ix2 i0 i1) = i0.val / 512 + 16 * (i1.val / 1024) := by
    show 1 * (i0.val / 512 - 0) + 16 * (i1.val / 1024 - 0) = _; omega
  refine congrArg (fun y => y * Ideal.logistic y) (congrArg₂ (conv m c) ?_ (Fin.ext ?_))
  · show 512 * (Value.pt3Of (ix2 i0 i1) % 16) + i0.val % 512 = i0.val
    rw [hp]; omega
  · show 1024 * (Value.pt3Of (ix2 i0 i1) / 16) + i1.val % 1024 = i1.val
    rw [hp]; omega

end Cert.KernelVIdeal.Tile
end
-- ==== Proof.TileQK.lean ====
/- What the projection `v` with its short causal convolution leaves in its output, element by element.  The grid runs
   over 4 column tiles, and for each over 16 row tiles.  The first row tile of a column tile rounds the tile's weights
   into scratch and clears the 8 rows above the convolution buffer; the others read the weights back, and find in those
   rows the last 8 rows of the product of the tile before.  So at every point the buffer reads as 520 consecutive rows of
   one array: the product of the rows with the weights, with 8 rows of zeros on top of it. -/
module

public import proofs.«01_k».proof.Proof.Gen.KernelQKIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Writes
public import Idealize.ShloMosaic.Lib.Claim

@[expose] public section

set_option maxRecDepth 16384

noncomputable section

namespace Cert.KernelQKIdeal.Tile

open Cert.KernelQKIdeal Cert.KernelQKIdeal.Gen Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The short convolution's weights as launched, over the extended reals. -/
abbrev taps (c : Dev nD) : S4x8192.Idx → EReal := m ((c : Thread nD τ).loc main_arg2)

/-- The product of the rows with the weights of `q` and `k`. -/
def product (c : Dev nD) (n : Fin 8192) (j : Fin 4096) : EReal :=
  ∑ k : Fin 2048, rows m c (ix2 n k) * weights m c (ix2 k ⟨j.val, by omega⟩)

/-- The product of the rows with the weights of `q` and `k`, under 8 rows of zeros: at row `n` the product's row `n - 8`. -/
def padded (c : Dev nD) (n : ℕ) (j : Fin 4096) : EReal :=
  if h : 8 ≤ n ∧ n < 8200 then
    product m c ⟨n - 8, by omega⟩ j
  else 0

/-- A choice between the product's row and a zero is the padded product. -/
theorem padded_of (c : Dev nD) (n : ℕ) (j : Fin 4096) (P : Prop) [Decidable P] (hP : P ↔ 8 ≤ n ∧ n < 8200)
    (f : P → EReal) (z : EReal) (hz : z = 0)
    (hf : ∀ h : P, f h = product m c ⟨n - 8, by have := hP.mp h; omega⟩ j) :
    (if h : P then f h else z) = padded m c n j := by
  unfold padded
  by_cases h : P
  · rw [dif_pos h, dif_pos (hP.mp h)]
    exact hf h
  · rw [dif_neg h, dif_neg (fun h' => h (hP.mpr h'))]
    exact hz

/-- The convolution of the product with the four taps at row `n`, the last tap first. -/
def conv (c : Dev nD) (n : ℕ) (j : Fin 4096) : EReal :=
  padded m c (n + 8) j * taps m c (ix2 3 ⟨j.val, by omega⟩)
    + padded m c (n + 5) j * taps m c (ix2 0 ⟨j.val, by omega⟩)
    + padded m c (n + 6) j * taps m c (ix2 1 ⟨j.val, by omega⟩)
    + padded m c (n + 7) j * taps m c (ix2 2 ⟨j.val, by omega⟩)

/-- The rows' window is at row tile `t % 16`. -/
theorem rows_at : ∀ t : Fin cfg0.N, win0_0.index t = ![t.val % 16, 0] :=
  (by decide +kernel : ∀ t : Fin grid0.N, _)

/-- The weights' window begins at the element offset of column tile `t / 16`. -/
theorem weights_at : ∀ t : Fin cfg0.N, win0_1.index t = ![1024 * (t.val / 16), 0] :=
  (by decide +kernel : ∀ t : Fin grid0.N, _)

/-- The taps' window is at the column tile of the weights. -/
theorem taps_at : ∀ t : Fin cfg0.N, win0_2.index t = ![0, t.val / 16] :=
  (by decide +kernel : ∀ t : Fin grid0.N, _)

theorem point_lt (t : Fin cfg0.N) : t.val < 64 := lt_of_lt_of_eq t.isLt (show cfg0.N = 64 from N_0)

/-- The rows' block, read at an index. -/
theorem rows_apply (c : Dev nD) (t : Fin cfg0.N) (r : Fin 512) (k : Fin 2048) :
    iblk m c 0 t (ix2 r k)
      = rows m c (ix2 ⟨512 * (t.val % 16) + r.val, by omega⟩ k) := by
  blk_simp [iblk]
  entry_read
  pointwise
  blk_ext [rows_at t]

/-- The weights' block, read at an index. -/
theorem weights_apply (c : Dev nD) (t : Fin cfg0.N) (r : Fin 1024) (k : Fin 2048) :
    iblk m c 1 t (ix2 r k)
      = weights m c
          (ix2 k ⟨1024 * (t.val / 16) + r.val, by have := point_lt t; omega⟩) := by
  blk_simp [iblk]
  entry_read
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The scratch holds, after every point, the weights of the point's column tile. -/
theorem scratch_apply (c : Dev nD) (t : Fin cfg0.N) (r : Fin 1024) (k : Fin 2048) :
    (outsAt0 m c t.val t.isLt).2.1 (ix2 r k)
      = weights m c
          (ix2 k ⟨1024 * (t.val / 16) + r.val, by have := point_lt t; omega⟩) := by
  rw [Pipeline.eq_of_write_hold_apply (fun n h => (outsAt0 m c n h).2.1) 16 (fun t => iblk m c 1 t)
    (fun t h i => by
      rw [outsAt0_A m c t h h]; frame_out
      pointwise [k0_pay2])
    (fun t h i => by
      rw [outsAt0_B m c t h h]; rfl) t (ix2 r k)]
  rw [weights_apply]
  blk_ext []

/-- The taps' block, read at an index. -/
theorem taps_apply (c : Dev nD) (t : Fin cfg0.N) (s : Fin 4) (j : Fin 1024) :
    iblk m c 2 t (ix2 s j)
      = taps m c (ix2 s ⟨1024 * (t.val / 16) + j.val, by have := point_lt t; omega⟩) := by
  blk_simp [iblk]
  entry_read
  pointwise
  blk_ext [taps_at t]

/-- The column of the output an index of point `t`'s tile stands for. -/
abbrev col (t : Fin cfg0.N) (j : Fin 1024) : Fin 4096 :=
  ⟨1024 * (t.val / 16) + j.val, by have := point_lt t; omega⟩

/-- What the convolution buffer reads as at point `t`, once the point's product is stored. -/
def held (c : Dev nD) (t : Fin cfg0.N) : Vec Ideal S520x1024 .f32 :=
  fun y => padded m c (512 * (t.val % 16) + (y 0).val) (col t (y 1))

/-- The 512 rows of the buffer the product is stored to. -/
abbrev below : Rect S520x1024 := Rect.unit ![8, 0] ![512, 1024] inb_S520x1024_S512x1024_8_0

/-- The 8 rows of the buffer above them. -/
abbrev above : Rect S520x1024 := Rect.unit ![0, 0] ![8, 1024] inb_S520x1024_S8x1024_0_0

/-- The product of the point's rows with its weights, as the buffer reads it. -/
theorem product_apply (c : Dev nD) (t : Fin cfg0.N) (r : Fin 512) (j : Fin 1024)
    (x w : Fin 2048 → EReal)
    (hx : ∀ k, x k = rows m c (ix2 ⟨512 * (t.val % 16) + r.val, by omega⟩ k))
    (hw : ∀ k, w k = weights m c (ix2 k ⟨1024 * (t.val / 16) + j.val, by have := point_lt t; omega⟩)) :
    ∑ k : Fin 2048, x k * w k = padded m c (512 * (t.val % 16) + r.val + 8) (col t j) := by
  unfold padded
  rw [dif_pos ⟨by omega, by omega⟩]
  unfold product
  refine Finset.sum_congr rfl fun k _ => ?_
  rw [hw k, hx k]
  refine congrArg₂ (fun a b => rows m c (ix2 a k) * weights m c (ix2 k b)) (Fin.ext ?_) (Fin.ext ?_)
  · show 512 * (t.val % 16) + r.val = 512 * (t.val % 16) + r.val + 8 - 8
    omega
  · rfl

/-- The product stored from row 8 of the buffer on agrees with what the buffer is to read as. -/
theorem piece_product (c : Dev nD) (t : Fin cfg0.N) (w : S1024x2048.Idx → EReal)
    (hw : ∀ (j : Fin 1024) (k : Fin 2048), w (ix2 j k)
      = weights m c (ix2 k ⟨1024 * (t.val / 16) + j.val, by have := point_lt t; omega⟩))
    (x : S512x1024.Idx) :
    k0_pay5 (F := Ideal) (iblk m c 0 t) w x
      = held m c t (below.emb x) := by
  idx_vars x
  refine Eq.trans ?_ ((product_apply m c t x0 x1 (fun k => iblk m c 0 t (ix2 x0 k)) (fun k => w (ix2 x1 k))
    (rows_apply m c t x0) (hw x1)).trans ?_)
  · pointwise [k0_pay5, k0_pay3]
  unfold held
  refine congrArg₂ (padded m c) ?_ (Fin.ext ?_)
  · show _ = 512 * (t.val % 16) + (8 + 1 * x0.val)
    omega
  · show 1024 * (t.val / 16) + x1.val = 1024 * (t.val / 16) + (0 + 1 * x1.val)
    omega

/-- The zeros a column tile's first point stores agree too. -/
theorem piece_zeros (c : Dev nD) (t : Fin cfg0.N) (h : t.val % 16 = 0) (x : S8x1024.Idx) :
    k0_pay4 (F := Ideal) x
      = held m c t (above.emb x) := by
  idx_vars x
  refine Eq.trans (b := (0 : EReal)) (by pointwise [k0_pay4]) ?_
  unfold held padded
  rw [dif_neg]
  show ¬ (8 ≤ 512 * (t.val % 16) + (0 + 1 * x0.val) ∧ _)
  omega

/-- Every row of the buffer is one of the first 8 or one of the 512 after them. -/
theorem rows_cover (y : S520x1024.Idx) :
    y ∈ below.set
      ∨ y ∈ above.set := by
  rw [Rect.mem_set_unit, Rect.mem_set_unit]
  idx_vars y
  by_cases h : 8 ≤ y0.val
  · exact Or.inl (Fin.forall_fin_two.mpr ⟨⟨h, show y0.val < 8 + 512 by omega⟩, ⟨Nat.zero_le _, show y1.val < 0 + 1024 by omega⟩⟩)
  · exact Or.inr (Fin.forall_fin_two.mpr ⟨⟨Nat.zero_le _, show y0.val < 0 + 8 by omega⟩, ⟨Nat.zero_le _, show y1.val < 0 + 1024 by omega⟩⟩)

/-- At a column tile's first point the two stores leave the buffer reading as said. -/
theorem first_reads (c : Dev nD) (t : Fin cfg0.N) (h : t.val % 16 = 0) (w : S1024x2048.Idx → EReal)
    (hw : ∀ (j : Fin 1024) (k : Fin 2048), w (ix2 j k)
      = weights m c (ix2 k ⟨1024 * (t.val / 16) + j.val, by have := point_lt t; omega⟩)) :
    View.canon (Val := Elt Ideal) (s := S520x1024) (e := .f32)
      [⟨below, k0_pay5 (F := Ideal) (iblk m c 0 t) w⟩,
        ⟨above, k0_pay4 (F := Ideal)⟩] = held m c t := by
  funext y
  refine View.canon_apply_of_pieces (held m c t) _ ?_ y ?_
  · intro p hp x
    rcases List.mem_cons.mp hp with rfl | hp
    · exact piece_product m c t w hw x
    · obtain rfl := List.mem_singleton.mp hp
      exact piece_zeros m c t h x
  · rcases rows_cover y with hy | hy
    · exact ⟨_, List.mem_cons_self, hy⟩
    · exact ⟨_, List.mem_cons_of_mem _ List.mem_cons_self, hy⟩

/-- At the other points the store over the rows carried leaves it so, when the first 8 rows carried are as said. -/
theorem later_reads (c : Dev nD) (t : Fin cfg0.N) (w : S1024x2048.Idx → EReal)
    (hw : ∀ (j : Fin 1024) (k : Fin 2048), w (ix2 j k)
      = weights m c (ix2 k ⟨1024 * (t.val / 16) + j.val, by have := point_lt t; omega⟩))
    (f : (View.whole cc0_scratch1).ty.Contents (Elt Ideal))
    (hf : ∀ y : S520x1024.Idx, (y 0).val < 8 → View.read (Elt Ideal) (View.whole cc0_scratch1) f y = held m c t y) :
    View.read (Elt Ideal) (View.whole cc0_scratch1)
        ((View.whole cc0_scratch1).writes (Elt Ideal) f
          [⟨below, k0_pay5 (F := Ideal) (iblk m c 0 t) w⟩])
      = held m c t := by
  refine funext fun (y : S520x1024.Idx) => ?_
  by_cases hy : 8 ≤ (y 0).val
  · refine View.read_writes_apply_of_pieces (s := S520x1024) (e := .f32) (View.whole cc0_scratch1) _ (held m c t) _ ?_ y ?_
    · intro p hp x
      obtain rfl := List.mem_singleton.mp hp
      exact piece_product m c t w hw x
    · rcases rows_cover y with h | h
      · exact ⟨_, List.mem_cons_self, h⟩
      · have := (Rect.mem_set_unit.mp h 0).2
        have : (y 0).val < 0 + 8 := this
        omega
  · rw [← hf y (by omega)]
    refine View.read_writes_cons_miss (s := S520x1024) (e := .f32) _ _ _ _ y (fun h => hy ?_)
    have h' : y ∈ below.set := h
    rw [Rect.mem_set_unit] at h'
    exact (h' 0).1

/-- A row of the buffer, as a row of the product under its zeros. -/
theorem held_at (c : Dev nD) (t : Fin cfg0.N) (p : Fin 520) (j : Fin 1024) (n : ℕ)
    (h : 512 * (t.val % 16) + p.val = n) : held m c t (ix2 p j) = padded m c n (col t j) := by
  subst h
  rfl

/-- After every point the first 8 rows of the buffer are the last 8 of the point's product. -/
theorem halo_apply (c : Dev nD) (t : Fin cfg0.N) (q : Fin 8) (j : Fin 1024) :
    (outsAt0 m c t.val t.isLt).2.2 (above.emb (ix2 q j))
      = padded m c (512 * (t.val % 16) + (512 + q.val)) (col t j) := by
  have hs := fun j k => scratch_apply m c t j k
  by_cases h : t.val % 16 = 0
  · rw [outsAt0_A m c t h h]
    frame_out
    refine (View.canon_cons_emb above _ _ (ix2 q j)).trans ?_
    simp only [View.readCov_eq_canon', first_reads m c t h (k0_pay2 (F := Ideal) (iblk m c 1 t))
      (fun j k => by pointwise [k0_pay2]; exact weights_apply m c t j k)]
    pointwise [k0_pay7]
    exact held_at m c t _ j _ rfl
  · rw [outsAt0_B m c t h h] at hs ⊢
    frame_out
    simp only [read_unread_whole]
    refine (View.canon_cons_emb above _ _ (ix2 q j)).trans ?_
    simp only [View.readCov_eq_canon']
    pointwise [k0_pay7]
    refine (View.canon_apply_of_pieces (S := S520x1024) (e := .f32) (held m c t) _ ?_ _ ?_).trans (held_at m c t _ j _ rfl)
    · intro p hp x
      obtain rfl := List.mem_singleton.mp hp
      exact piece_product m c t _ hs x
    · refine ⟨_, List.mem_cons_self, ?_⟩
      show _ ∈ below.set
      rw [Rect.mem_set_unit]
      exact Fin.forall_fin_two.mpr ⟨⟨show 8 ≤ 512 + q.val by omega, show 512 + q.val < 8 + 512 by omega⟩,
        ⟨Nat.zero_le _, show j.val < 0 + 1024 by omega⟩⟩

/-- The convolution of the point's rows, from the product and the buffer. -/
theorem conv_apply (c : Dev nD) (t : Fin cfg0.N) (r : Fin 512) (j : Fin 1024) (a b0 b1 b2 w0 w1 w2 w3 : EReal)
    (ha : a = padded m c (512 * (t.val % 16) + r.val + 8) (col t j))
    (h0 : b0 = held m c t (ix2 ⟨5 + r.val, by omega⟩ j)) (h1 : b1 = held m c t (ix2 ⟨6 + r.val, by omega⟩ j))
    (h2 : b2 = held m c t (ix2 ⟨7 + r.val, by omega⟩ j))
    (k0 : w0 = iblk m c 2 t (ix2 0 j)) (k1 : w1 = iblk m c 2 t (ix2 1 j))
    (k2 : w2 = iblk m c 2 t (ix2 2 j)) (k3 : w3 = iblk m c 2 t (ix2 3 j)) :
    a * w3 + b0 * w0 + b1 * w1 + b2 * w2 = conv m c (512 * (t.val % 16) + r.val) (col t j) := by
  rw [ha, h0, h1, h2, k0, k1, k2, k3, taps_apply, taps_apply, taps_apply, taps_apply,
    held_at m c t _ j (512 * (t.val % 16) + r.val + 5) (by show _ + (5 + r.val) = _; omega),
    held_at m c t _ j (512 * (t.val % 16) + r.val + 6) (by show _ + (6 + r.val) = _; omega),
    held_at m c t _ j (512 * (t.val % 16) + r.val + 7) (by show _ + (7 + r.val) = _; omega)]
  rfl

/-- The scale's window is at the column tile of the weights. -/
theorem scale_at : ∀ t : Fin cfg0.N, win0_3.index t = ![0, t.val / 16] :=
  (by decide +kernel : ∀ t : Fin grid0.N, _)

/-- The scale of a column: `q` times the root of 128's inverse, `k` as it is. -/
def scale (j : Fin 4096) : EReal := if j.val < 2048 then Ideal.ofBits .f32 1035273459#32 else 1

/-- The convolution at row `n`, times its logistic function. -/
def act (c : Dev nD) (n : ℕ) (j : Fin 4096) : EReal := conv m c n j * Ideal.logistic (conv m c n j)

/-- An entry over the length of its head's 128 entries, the length's square raised by a constant. -/
def unitHead {w : ℕ} (z : Fin w → EReal) (j : Fin w) (b : Fin 128 → Fin w) : EReal :=
  z j * Ideal.rsqrt (∑ x : Fin 128, z (b x) * z (b x) + Ideal.ofBits .f32 897988541#32)

/-- The head of a tile's column: the 128 columns from a multiple of 128 on. -/
abbrev headOf (j : Fin 1024) (x : Fin 128) : Fin 1024 :=
  ⟨128 * (j.val / 128) + x.val, by omega⟩

/-- The head of a column of the output. -/
abbrev head (j : Fin 4096) (x : Fin 128) : Fin 4096 :=
  ⟨128 * (j.val / 128) + x.val, by omega⟩

/-- The output at row `n`. -/
def heads (c : Dev nD) (n : ℕ) (j : Fin 4096) : EReal := unitHead (act m c n) j (head j) * scale j

/-- The eight heads of a tile, each over its length, side by side and times the scale. -/
theorem heads_apply (y : FVec Ideal S512x1024 .f32) (sc : FVec Ideal S1x1024 .f32) (r : Fin 512) (j : Fin 1024) :
    k0_pay1 (F := Ideal) (k0_pay8 y) (k0_pay9 y) (k0_pay10 y) (k0_pay11 y) (k0_pay12 y) (k0_pay13 y) (k0_pay14 y) sc
        (ix2 r j)
      = unitHead (fun q => k0_pay8 (F := Ideal) y (ix2 r q)) j (headOf j) * sc (ix2 0 j) := by
  have key : ∀ (a : Fin 1024) (b : Fin 128 → Fin 1024), a.val = j.val → (∀ x, (b x).val = 128 * (j.val / 128) + x.val) →
      unitHead (fun q => k0_pay8 (F := Ideal) y (ix2 r q)) a b
        = unitHead (fun q => k0_pay8 (F := Ideal) y (ix2 r q)) j (headOf j) := fun a b ha hb =>
    congrArg₂ (unitHead _) (Fin.ext ha) (funext fun x => Fin.ext (hb x))
  pointwise [k0_pay1, k0_pay9, k0_pay10, k0_pay11, k0_pay12, k0_pay13, k0_pay14]
  refine congrArg (· * sc (ix2 0 j)) ?_
  split_ifs
  all_goals
    refine key _ _ ?_ (fun x => ?_)
    · show _ = j.val
      dsimp only
      try omega
    · dsimp only
      omega

/-- The scale's block, read at an index. -/
theorem scale_apply (c : Dev nD) (t : Fin cfg0.N) (j : Fin 1024) :
    iblk m c 3 t (ix2 0 j) = scale (col t j) := by
  have e : (((View.whole main_v4).slice (win0_3.rect t)).emb (ix2 0 j) 1).val = 1024 * (t.val / 16) + j.val := by
    refine (win0_3.rect_emb_val t (ix2 0 j) 1).trans ?_
    rw [scale_at t]
    show t.val / 16 * 1024 + j.val = _
    omega
  blk_simp [iblk]
  entry_read
  pointwise
  unfold scale
  rw [e]
  rfl

/-- The tile's output, once its convolution is the array's. -/
theorem heads_of (c : Dev nD) (t : Fin cfg0.N) (r : Fin 512) (j : Fin 1024)
    (y : FVec Ideal S512x1024 .f32) (sc : FVec Ideal S1x1024 .f32)
    (hy : ∀ q : Fin 1024, y (ix2 r q) = conv m c (512 * (t.val % 16) + r.val) (col t q))
    (hs : sc = iblk m c 3 t) :
    k0_pay1 (F := Ideal) (k0_pay8 y) (k0_pay9 y) (k0_pay10 y) (k0_pay11 y) (k0_pay12 y) (k0_pay13 y) (k0_pay14 y) sc
        (ix2 r j)
      = heads m c (512 * (t.val % 16) + r.val) (col t j) := by
  have hz : ∀ q : Fin 1024, k0_pay8 (F := Ideal) y (ix2 r q) = act m c (512 * (t.val % 16) + r.val) (col t q) := fun q => by
    pointwise [k0_pay8]
    exact congrArg (fun v => v * Ideal.logistic v) (hy q)
  rw [heads_apply, hs, scale_apply]
  refine congrArg (· * scale (col t j)) ?_
  unfold unitHead
  simp only [hz]
  have hh : ∀ x, col t (headOf j x) = head (col t j) x := fun x => Fin.ext (by
    show 1024 * (t.val / 16) + (128 * (j.val / 128) + x.val) = 128 * ((1024 * (t.val / 16) + j.val) / 128) + x.val
    omega)
  simp only [hh]

/-- The output tile at point `t`. -/
theorem tile_apply (c : Dev nD) (t : Fin cfg0.N) (r : Fin 512) (j : Fin 1024) :
    (outsAt0 m c t.val t.isLt).1 (ix2 r j) = heads m c (512 * (t.val % 16) + r.val) (col t j) := by
  have hs := fun j k => scratch_apply m c t j k
  by_cases h : t.val % 16 = 0
  · rw [outsAt0_A m c t h h]
    frame_out
    simp only [View.readCov_eq_canon', first_reads m c t h (k0_pay2 (F := Ideal) (iblk m c 1 t))
      (fun j k => by pointwise [k0_pay2]; exact weights_apply m c t j k)]
    refine heads_of m c t r j _ _ (fun q => ?_) rfl
    pointwise [k0_pay6, k0_pay3, k0_pay2]
    exact (conv_apply m c t r q _ _ _ _ _ _ _ _
      (product_apply m c t r q _ _ (rows_apply m c t r) (weights_apply m c t q)) rfl rfl rfl rfl rfl rfl rfl)
  · have hh := fun q j => halo_apply m c ⟨t.val - 1, by omega⟩ q j
    rw [outsAt0_B m c t h h] at hs ⊢
    frame_out
    simp only [read_unread_whole]
    have hw : ∀ (j : Fin 1024) (k : Fin 2048), (outsAt0 m c (t.val - 1) (by omega)).2.1 (ix2 j k)
      = weights m c (ix2 k ⟨1024 * (t.val / 16) + j.val, by have := point_lt t; omega⟩) := hs
    have hf : ∀ y : S520x1024.Idx, (y 0).val < 8 →
        View.read (Elt Ideal) (View.whole cc0_scratch1)
          ((Memref.isWhole_whole cc0_scratch1).unread (outsAt0 m c (t.val - 1) (by omega)).2.2) y = held m c t y := by
      intro y hy
      rw [read_unread_whole]
      idx_vars y
      have hy' : y0.val < 8 := hy
      have e : (ix2 y0 y1 : S520x1024.Idx) = above.emb (ix2 ⟨y0.val, hy'⟩ y1) := by
        rw [eq_ix2 (above.emb (ix2 ⟨y0.val, hy'⟩ y1))]
        exact congrArg₂ ix2 (Fin.ext (show y0.val = 0 + 1 * y0.val by omega))
          (Fin.ext (show y1.val = 0 + 1 * y1.val by omega))
      rw [e]
      refine (hh ⟨y0.val, hy'⟩ y1).trans ?_
      unfold held
      refine congrArg₂ (padded m c) ?_ (Fin.ext ?_)
      · show 512 * ((t.val - 1) % 16) + (512 + y0.val) = 512 * (t.val % 16) + (0 + 1 * y0.val)
        omega
      · show 1024 * ((t.val - 1) / 16) + y1.val = 1024 * (t.val / 16) + (0 + 1 * y1.val)
        omega
    rw [later_reads m c t (outsAt0 m c (t.val - 1) (by omega)).2.1 hw _ hf]
    refine heads_of m c t r j _ _ (fun q => ?_) rfl
    pointwise [k0_pay6, k0_pay3]
    exact (conv_apply m c t r q _ _ _ _ _ _ _ _
      (product_apply m c t r q _ _ (rows_apply m c t r) (hw q)) rfl rfl rfl rfl rfl rfl rfl)

/-- The array the call leaves: the heads of the convolution's activation, each over its length and times its scale. -/
theorem result (c : Dev nD) :
    Value.G4 m c = fun i : S8192x4096.Idx => heads m c (i 0).val (i 1) := by
  funext i
  idx_vars i
  have h : Value.pt4Of (ix2 i0 i1) < cfg0.N := by
    show 1 * (i0.val / 512 - 0) + 16 * (i1.val / 1024 - 0) < grid0.N
    rw [N_0]; omega
  unfold Value.G4
  rw [dif_pos h, ← Value.outsAt0_sweep m c _ h, eq_ix2 (Value.loc4Of _)]
  refine (tile_apply m c ⟨_, h⟩ _ _).trans ?_
  have hp : Value.pt4Of (ix2 i0 i1) = i0.val / 512 + 16 * (i1.val / 1024) := by
    show 1 * (i0.val / 512 - 0) + 16 * (i1.val / 1024 - 0) = _; omega
  refine congrArg₂ (heads m c) ?_ (Fin.ext ?_)
  · show 512 * (Value.pt4Of (ix2 i0 i1) % 16) + i0.val % 512 = i0.val
    rw [hp]; omega
  · show 1024 * (Value.pt4Of (ix2 i0 i1) / 16) + i1.val % 1024 = i1.val
    rw [hp]; omega

end Cert.KernelQKIdeal.Tile
end
-- ==== Proof.TailQK.lean ====
/- The reference of call QK, element by element: what it does with the activated convolution — split it into `q` and `k`,
   bring each head of 128 entries to length one, scale `q` — is what the kernel's tiles do with theirs. -/
module

public import proofs.«01_k».proof.Defs
public import proofs.«01_k».proof.Proof.TileQK
public import proofs.«01_k».proof.Proof.Gen.ReferenceQKIdeal.Run
public import Idealize.ShloMosaic.Lib.Pointwise
public import Idealize.ShloMosaic.Lib.Tactic.ValueTie

@[expose] public section

noncomputable section

namespace Cert.ReferenceQKIdeal.Tail

open Cert.ReferenceQKIdeal Cert.ReferenceQKIdeal.Gen Idealize.ShloMosaic Idealize.ShloMosaic.TcCoe Idealize.SL.Sem Idealize.ShloMosaic.StableHlo
open Cert.KernelQKIdeal.Tile (unitHead head scale)

/-- The reference's heads from its activated convolution `A`, of which `z` is a row. -/
theorem heads_apply (A : FVec Ideal S8192x8192 .f32) (z : Fin 4096 → EReal) (n : Fin 8192)
    (hz : ∀ j : Fin 4096, A (ix2 n ⟨j.val, by omega⟩) = z j) (j : Fin 4096) :
    (concatenate S8192x4096 1 [⟨S8192x2048, (shapeCast _ (mulf (mulf (shapeCast _ (extractStridedSlice S8192x2048 ![0, 0] A slices_S8192x8192_S8192x2048_0_0) shapeCasts_S8192x2048_S8192x16x128) (broadcastInDim S8192x16x128 ![0, 1, 2] bcast_S8192x16x1_S8192x16x128_0_1_2 (Host.rsqrt (addf (broadcastInDim S8192x16x1 ![0, 1] bcast_S8192x16_S8192x16x1_0_1 (Host.reduceAdd (mulf (shapeCast _ (extractStridedSlice S8192x2048 ![0, 0] A slices_S8192x8192_S8192x2048_0_0) shapeCasts_S8192x2048_S8192x16x128) (shapeCast _ (extractStridedSlice S8192x2048 ![0, 0] A slices_S8192x8192_S8192x2048_0_0) shapeCasts_S8192x2048_S8192x16x128)) (constant S_ .f32 0x00000000#32) reducesTo_S8192x16x128_S8192x16_d2 h_S_)) (broadcastInDim S8192x16x1 ![] bcast_S_S8192x16x1 (constant S_ .f32 0x358637BD#32)))))) (broadcastInDim S8192x16x128 ![] bcast_S_S8192x16x128 (constant S_ .f32 0x3DB504F3#32))) shapeCasts_S8192x16x128_S8192x2048)⟩, ⟨S8192x2048, (shapeCast _ (mulf (shapeCast _ (extractStridedSlice S8192x2048 ![0, 2048] A slices_S8192x8192_S8192x2048_0_2048) shapeCasts_S8192x2048_S8192x16x128) (broadcastInDim S8192x16x128 ![0, 1, 2] bcast_S8192x16x1_S8192x16x128_0_1_2 (Host.rsqrt (addf (broadcastInDim S8192x16x1 ![0, 1] bcast_S8192x16_S8192x16x1_0_1 (Host.reduceAdd (mulf (shapeCast _ (extractStridedSlice S8192x2048 ![0, 2048] A slices_S8192x8192_S8192x2048_0_2048) shapeCasts_S8192x2048_S8192x16x128) (shapeCast _ (extractStridedSlice S8192x2048 ![0, 2048] A slices_S8192x8192_S8192x2048_0_2048) shapeCasts_S8192x2048_S8192x16x128)) (constant S_ .f32 0x00000000#32) reducesTo_S8192x16x128_S8192x16_d2 h_S_)) (broadcastInDim S8192x16x1 ![] bcast_S_S8192x16x1 (constant S_ .f32 0x358637BD#32)))))) shapeCasts_S8192x16x128_S8192x2048)⟩] concatenates_S8192x2048_S8192x2048_S8192x4096_d1 : FVec Ideal S8192x4096 .f32) (ix2 n j)
      = unitHead z j (head j) * scale j := by
  have hq : ∀ (a : Fin 8192) (q : Fin 4096), a.val = q.val → A (ix2 n a) = z q := fun a q h =>
    (congrArg (fun a => A (ix2 n a)) (Fin.ext h)).trans (hz q)
  have hu : ∀ (a : Fin 8192) (b : Fin 128 → Fin 8192), a.val = j.val → (∀ x, (b x).val = 128 * (j.val / 128) + x.val) →
      A (ix2 n a) * Ideal.rsqrt (∑ x, A (ix2 n (b x)) * A (ix2 n (b x)) + Ideal.ofBits FTy.f32 897988541#32)
        = unitHead z j (head j) := fun a b ha hb => by
    unfold unitHead
    rw [hq a j ha, Finset.sum_congr rfl fun x _ => congrArg₂ (· * ·) (hq (b x) (head j x) (hb x)) (hq (b x) (head j x) (hb x))]
  pointwise
  unfold scale
  split_ifs with h
  · refine congrArg (· * Ideal.ofBits FTy.f32 1035273459#32) (hu _ _ ?_ fun x => ?_)
    · show j.val / 128 * 128 + j.val % 128 = j.val
      omega
    · show j.val / 128 * 128 + x.val = _
      omega
  · rw [mul_one]
    refine hu _ _ ?_ fun x => ?_
    · show 2048 + ((j.val - 2048) / 128 * 128 + (j.val - 2048) % 128) = j.val
      omega
    · show 2048 + ((j.val - 2048) / 128 * 128 + x.val) = _
      omega
  · exact absurd rfl ‹_›

end Cert.ReferenceQKIdeal.Tail

end
-- ==== Proof.TileOdelta.lean ====
/- What the projection of the delta branch leaves in its output, element by element.  The grid runs over 4 column tiles,
   and for each over 16 row tiles.  The first row tile of a column tile rounds the tile's weights into scratch; the others
   read them back.  So at every point the scratch holds the weights of the point's own column tile, and the output tile is
   the product of the point's rows with them, times the tile of gates. -/
module

public import proofs.«01_k».proof.Proof.Gen.KernelOdeltaIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelOdeltaIdeal.Tile

open Cert.KernelOdeltaIdeal Cert.KernelOdeltaIdeal.Gen Idealize.ShloMosaic Idealize.ShloMosaic.TcCoe Idealize.SL.Sem

variable (m : (ℓ : Loc nD τ sig) → Buf (Elt Ideal) ℓ)

/-- The delta branch's rows as launched, over the extended reals. -/
abbrev rows (c : Dev nD) : S8192x4096.Idx → EReal := m ((c : Thread nD τ).loc main_arg0)

/-- The weights `w_o_delta` as launched, over the extended reals. -/
abbrev weights (c : Dev nD) : S4096x2048.Idx → EReal := m ((c : Thread nD τ).loc main_arg1)

/-- The gates as launched, over the extended reals. -/
abbrev gates (c : Dev nD) : S8192x4096.Idx → EReal := m ((c : Thread nD τ).loc main_arg2)

/-- The product of the rows with the weights, times the gates. -/
def gated (c : Dev nD) (n : Fin 8192) (j : Fin 2048) : EReal :=
  (∑ k : Fin 4096, rows m c (ix2 n k) * weights m c (ix2 k j)) * gates m c (ix2 n ⟨j.val, by omega⟩)

/-- The rows' window is at row tile `t % 16`. -/
theorem rows_at : ∀ t : Fin cfg0.N, win0_0.index t = ![t.val % 16, 0] :=
  (by decide +kernel : ∀ t : Fin grid0.N, _)

/-- The weights' window is at column tile `t / 16`. -/
theorem weights_at : ∀ t : Fin cfg0.N, win0_1.index t = ![0, t.val / 16] :=
  (by decide +kernel : ∀ t : Fin grid0.N, _)

/-- The gates' window is at the output's tile. -/
theorem gates_at : ∀ t : Fin cfg0.N, win0_2.index t = ![t.val % 16, t.val / 16] :=
  (by decide +kernel : ∀ t : Fin grid0.N, _)

theorem point_lt (t : Fin cfg0.N) : t.val < 64 := lt_of_lt_of_eq t.isLt (show cfg0.N = 64 from N_0)

/-- The row of the output an index of point `t`'s tile stands for. -/
abbrev row (t : Fin cfg0.N) (r : Fin 512) : Fin 8192 := ⟨512 * (t.val % 16) + r.val, by omega⟩

/-- The column of the output an index of point `t`'s tile stands for. -/
abbrev col (t : Fin cfg0.N) (j : Fin 512) : Fin 2048 := ⟨512 * (t.val / 16) + j.val, by have := point_lt t; omega⟩

/-- The rows' block, read at an index. -/
theorem rows_apply (c : Dev nD) (t : Fin cfg0.N) (r : Fin 512) (k : Fin 4096) :
    iblk m c 0 t (ix2 r k) = rows m c (ix2 (row t r) k) := by
  blk_simp [iblk]
  entry_read
  pointwise
  blk_ext [rows_at t]

/-- The weights' block, read at an index. -/
theorem weights_apply (c : Dev nD) (t : Fin cfg0.N) (r : Fin 4096) (k : Fin 512) :
    iblk m c 1 t (ix2 r k) = weights m c (ix2 r (col t k)) := by
  blk_simp [iblk]
  entry_read
  pointwise
  blk_ext [weights_at t]

/-- The gates' block, read at an index. -/
theorem gates_apply (c : Dev nD) (t : Fin cfg0.N) (r : Fin 512) (k : Fin 512) :
    iblk m c 2 t (ix2 r k) = gates m c (ix2 (row t r) ⟨(col t k).val, by omega⟩) := by
  blk_simp [iblk]
  entry_read
  pointwise
  blk_ext [gates_at t]

/-- The scratch holds, after every point, the weights of the point's column tile. -/
theorem scratch_apply (c : Dev nD) (t : Fin cfg0.N) (k : Fin 4096) (j : Fin 512) :
    (outsAt0 m c t.val t.isLt).2 (ix2 k j) = weights m c (ix2 k (col t j)) := by
  rw [Pipeline.eq_of_write_hold_apply (fun n h => (outsAt0 m c n h).2) 16 (fun t => iblk m c 1 t)
    (fun t h i => by
      rw [outsAt0_A m c t h]; frame_out
      pointwise [k0_pay1])
    (fun t h i => by
      rw [outsAt0_B m c t h]; rfl) t (ix2 k j)]
  rw [weights_apply]
  blk_ext []

/-- The output tile after a point. -/
theorem tile_apply (c : Dev nD) (t : Fin cfg0.N) (r : Fin 512) (j : Fin 512) :
    (outsAt0 m c t.val t.isLt).1 (ix2 r j) = gated m c (row t r) (col t j) := by
  have hs := fun k => scratch_apply m c t k j
  by_cases h : t.val % 16 = 0
  · rw [outsAt0_A m c t h]
    frame_out
    pointwise [k0_pay2, k0_pay1]
    exact congrArg₂ (· * ·) (Finset.sum_congr rfl fun k _ => congrArg₂ (· * ·) (rows_apply m c t r k) (weights_apply m c t k j))
      (gates_apply m c t r j)
  · rw [outsAt0_B m c t h] at hs ⊢
    frame_out
    simp only [read_unread_whole]
    pointwise [k0_pay2]
    exact congrArg₂ (· * ·) (Finset.sum_congr rfl fun k _ => congrArg₂ (· * ·) (rows_apply m c t r k) (hs k))
      (gates_apply m c t r j)

/-- The array the call leaves. -/
theorem result (c : Dev nD) : Value.G3 m c = fun i : S8192x2048.Idx => gated m c (i 0) (i 1) := by
  funext i
  idx_vars i
  have h : Value.pt3Of (ix2 i0 i1) < cfg0.N := by
    show 1 * (i0.val / 512 - 0) + 16 * (i1.val / 512 - 0) < grid0.N
    rw [N_0]; omega
  unfold Value.G3
  rw [dif_pos h, ← Value.outsAt0_sweep m c _ h, eq_ix2 (Value.loc3Of _)]
  have hp : Value.pt3Of (ix2 i0 i1) = i0.val / 512 + 16 * (i1.val / 512) := by
    show 1 * (i0.val / 512 - 0) + 16 * (i1.val / 512 - 0) = _; omega
  refine (tile_apply m c ⟨_, h⟩ _ _).trans (congrArg₂ (gated m c) (Fin.ext ?_) (Fin.ext ?_))
  · show 512 * (Value.pt3Of (ix2 i0 i1) % 16) + i0.val % 512 = i0.val
    rw [hp]; omega
  · show 512 * (Value.pt3Of (ix2 i0 i1) / 16) + i1.val % 512 = i1.val
    rw [hp]; omega

end Cert.KernelOdeltaIdeal.Tile
end
-- ==== Proof.TilePw2.lean ====
/- What the pointwise projection of the convolution branch leaves in its output, element by element: the merge of the two
   branches.  The grid runs over 2 column tiles, and for each over 16 row tiles.  The first row tile of a column tile rounds
   the tile's weights into scratch; the others read them back.  The output tile is the product of the point's rows with the
   weights of its column tile, the bias added, times the gates of the convolution branch, added to the gated delta branch. -/
module

public import proofs.«01_k».proof.Proof.Gen.KernelPw2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelPw2Ideal.Tile

open Cert.KernelPw2Ideal Cert.KernelPw2Ideal.Gen Idealize.ShloMosaic Idealize.ShloMosaic.TcCoe Idealize.SL.Sem

variable (m : (ℓ : Loc nD τ sig) → Buf (Elt Ideal) ℓ)

/-- The convolution branch's rows as launched, over the extended reals. -/
abbrev rows (c : Dev nD) : S8192x2048.Idx → EReal := m ((c : Thread nD τ).loc main_arg0)

/-- The weights `w_pw2` as launched, over the extended reals. -/
abbrev weights (c : Dev nD) : S2048x2048.Idx → EReal := m ((c : Thread nD τ).loc main_arg1)

/-- The bias `b_pw2` as launched, over the extended reals. -/
abbrev bias (c : Dev nD) : S2048.Idx → EReal := m ((c : Thread nD τ).loc main_arg2)

/-- The gates as launched, over the extended reals. -/
abbrev gates (c : Dev nD) : S8192x4096.Idx → EReal := m ((c : Thread nD τ).loc main_arg3)

/-- The gated delta branch as launched, over the extended reals. -/
abbrev delta (c : Dev nD) : S8192x2048.Idx → EReal := m ((c : Thread nD τ).loc main_arg4)

/-- The merge of the branches. -/
def merged (c : Dev nD) (n : Fin 8192) (j : Fin 2048) : EReal :=
  delta m c (ix2 n j) + gates m c (ix2 n ⟨2048 + j.val, by omega⟩)
    * ((∑ k : Fin 2048, rows m c (ix2 n k) * weights m c (ix2 k j)) + bias m c (ix1 j))

/-- The rows' window is at row tile `t % 16`. -/
theorem rows_at : ∀ t : Fin cfg0.N, win0_0.index t = ![t.val % 16, 0] :=
  (by decide +kernel : ∀ t : Fin grid0.N, _)

/-- The weights' window is at column tile `t / 16`. -/
theorem weights_at : ∀ t : Fin cfg0.N, win0_1.index t = ![0, t.val / 16] :=
  (by decide +kernel : ∀ t : Fin grid0.N, _)

/-- The bias's window is at column tile `t / 16`. -/
theorem bias_at : ∀ t : Fin cfg0.N, win0_2.index t = ![0, t.val / 16] :=
  (by decide +kernel : ∀ t : Fin grid0.N, _)

/-- The gates' window is two tiles right of the output's. -/
theorem gates_at : ∀ t : Fin cfg0.N, win0_3.index t = ![t.val % 16, 2 + t.val / 16] :=
  (by decide +kernel : ∀ t : Fin grid0.N, _)

/-- The delta branch's window is at the output's tile. -/
theorem delta_at : ∀ t : Fin cfg0.N, win0_4.index t = ![t.val % 16, t.val / 16] :=
  (by decide +kernel : ∀ t : Fin grid0.N, _)

theorem point_lt (t : Fin cfg0.N) : t.val < 32 := lt_of_lt_of_eq t.isLt (show cfg0.N = 32 from N_0)

/-- The row of the output an index of point `t`'s tile stands for. -/
abbrev row (t : Fin cfg0.N) (r : Fin 512) : Fin 8192 := ⟨512 * (t.val % 16) + r.val, by omega⟩

/-- The column of the output an index of point `t`'s tile stands for. -/
abbrev col (t : Fin cfg0.N) (j : Fin 1024) : Fin 2048 := ⟨1024 * (t.val / 16) + j.val, by have := point_lt t; omega⟩

/-- The rows' block, read at an index. -/
theorem rows_apply (c : Dev nD) (t : Fin cfg0.N) (r : Fin 512) (k : Fin 2048) :
    iblk m c 0 t (ix2 r k) = rows m c (ix2 (row t r) k) := by
  blk_simp [iblk]
  entry_read
  pointwise
  blk_ext [rows_at t]

/-- The weights' block, read at an index. -/
theorem weights_apply (c : Dev nD) (t : Fin cfg0.N) (r : Fin 2048) (k : Fin 1024) :
    iblk m c 1 t (ix2 r k) = weights m c (ix2 r (col t k)) := by
  blk_simp [iblk]
  entry_read
  pointwise
  blk_ext [weights_at t]

/-- The bias's block, read at an index. -/
theorem bias_apply (c : Dev nD) (t : Fin cfg0.N) (r : Fin 1) (k : Fin 1024) :
    iblk m c 2 t (ix2 r k) = bias m c (ix1 (col t k)) := by
  blk_simp [iblk]
  entry_read
  pointwise
  blk_ext [bias_at t]

/-- The gates' block, read at an index. -/
theorem gates_apply (c : Dev nD) (t : Fin cfg0.N) (r : Fin 512) (k : Fin 1024) :
    iblk m c 3 t (ix2 r k) = gates m c (ix2 (row t r) ⟨2048 + (col t k).val, by omega⟩) := by
  blk_simp [iblk]
  entry_read
  pointwise
  blk_ext [gates_at t]

/-- The delta branch's block, read at an index. -/
theorem delta_apply (c : Dev nD) (t : Fin cfg0.N) (r : Fin 512) (k : Fin 1024) :
    iblk m c 4 t (ix2 r k) = delta m c (ix2 (row t r) (col t k)) := by
  blk_simp [iblk]
  entry_read
  pointwise
  blk_ext [delta_at t]

/-- The scratch holds, after every point, the weights of the point's column tile. -/
theorem scratch_apply (c : Dev nD) (t : Fin cfg0.N) (k : Fin 2048) (j : Fin 1024) :
    (outsAt0 m c t.val t.isLt).2 (ix2 k j) = weights m c (ix2 k (col t j)) := by
  rw [Pipeline.eq_of_write_hold_apply (fun n h => (outsAt0 m c n h).2) 16 (fun t => iblk m c 1 t)
    (fun t h i => by
      rw [outsAt0_A m c t h]; frame_out
      pointwise [k0_pay1])
    (fun t h i => by
      rw [outsAt0_B m c t h]; rfl) t (ix2 k j)]
  rw [weights_apply]
  blk_ext []

/-- The output tile after a point. -/
theorem tile_apply (c : Dev nD) (t : Fin cfg0.N) (r : Fin 512) (j : Fin 1024) :
    (outsAt0 m c t.val t.isLt).1 (ix2 r j) = merged m c (row t r) (col t j) := by
  have hs := fun k => scratch_apply m c t k j
  by_cases h : t.val % 16 = 0
  · rw [outsAt0_A m c t h]
    frame_out
    pointwise [k0_pay2, k0_pay1]
    exact congrArg₂ (· + ·) (delta_apply m c t r j) (congrArg₂ (· * ·) (gates_apply m c t r j) (congrArg₂ (· + ·)
      (Finset.sum_congr rfl fun k _ => congrArg₂ (· * ·) (rows_apply m c t r k) (weights_apply m c t k j)) (bias_apply m c t 0 j)))
  · rw [outsAt0_B m c t h] at hs ⊢
    frame_out
    simp only [read_unread_whole]
    pointwise [k0_pay2]
    exact congrArg₂ (· + ·) (delta_apply m c t r j) (congrArg₂ (· * ·) (gates_apply m c t r j) (congrArg₂ (· + ·)
      (Finset.sum_congr rfl fun k _ => congrArg₂ (· * ·) (rows_apply m c t r k) (hs k)) (bias_apply m c t 0 j)))

/-- The array the call leaves. -/
theorem result (c : Dev nD) : Value.G5 m c = fun i : S8192x2048.Idx => merged m c (i 0) (i 1) := by
  funext i
  idx_vars i
  have h : Value.pt5Of (ix2 i0 i1) < cfg0.N := by
    show 1 * (i0.val / 512 - 0) + 16 * (i1.val / 1024 - 0) < grid0.N
    rw [N_0]; omega
  unfold Value.G5
  rw [dif_pos h, ← Value.outsAt0_sweep m c _ h, eq_ix2 (Value.loc5Of _)]
  have hp : Value.pt5Of (ix2 i0 i1) = i0.val / 512 + 16 * (i1.val / 1024) := by
    show 1 * (i0.val / 512 - 0) + 16 * (i1.val / 1024 - 0) = _; omega
  refine (tile_apply m c ⟨_, h⟩ _ _).trans (congrArg₂ (merged m c) (Fin.ext ?_) (Fin.ext ?_))
  · show 512 * (Value.pt5Of (ix2 i0 i1) % 16) + i0.val % 512 = i0.val
    rw [hp]; omega
  · show 1024 * (Value.pt5Of (ix2 i0 i1) / 16) + i1.val % 1024 = i1.val
    rw [hp]; omega

end Cert.KernelPw2Ideal.Tile
end
-- ==== Proof.TileOutproj.lean ====
/- What the last projection leaves in its output, element by element: the product of the mixed rows with the weights, the
   scaled input added, normalised over the row.  The grid is one run over 32 row tiles, and each point does its own tile. -/
module

public import proofs.«01_k».proof.Proof.Gen.KernelOutprojIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.KernelOutprojIdeal.Tile

open Cert.KernelOutprojIdeal Cert.KernelOutprojIdeal.Gen Idealize.ShloMosaic Idealize.ShloMosaic.TcCoe Idealize.SL.Sem

variable (m : (ℓ : Loc nD τ sig) → Buf (Elt Ideal) ℓ)

/-- The mixed rows as launched, over the extended reals. -/
abbrev rows (c : Dev nD) : S8192x2048.Idx → EReal := m ((c : Thread nD τ).loc main_arg0)

/-- The weights `w_out` as launched, over the extended reals. -/
abbrev weights (c : Dev nD) : S2048x2048.Idx → EReal := m ((c : Thread nD τ).loc main_arg1)

/-- The layer's input as launched, over the extended reals. -/
abbrev input (c : Dev nD) : S8192x2048.Idx → EReal := m ((c : Thread nD τ).loc main_arg2)

/-- The normalisation's gain as launched, over the extended reals. -/
abbrev gain (c : Dev nD) : S2048.Idx → EReal := m ((c : Thread nD τ).loc main_arg3)

/-- The normalisation's bias as launched, over the extended reals. -/
abbrev shift (c : Dev nD) : S2048.Idx → EReal := m ((c : Thread nD τ).loc main_arg4)

/-- The residual sum: the scaled input and the product. -/
def summed (c : Dev nD) (n : Fin 8192) (j : Fin 2048) : EReal :=
  Ideal.ofBits FTy.f32 0x3F9837F0#32 * input m c (ix2 n j) + ∑ k : Fin 2048, rows m c (ix2 n k) * weights m c (ix2 k j)

/-- The mean of 2048 numbers. -/
def mean (f : Fin 2048 → EReal) : EReal := Ideal.div (∑ j, f j) (Ideal.ofBits FTy.f32 0x45000000#32)

/-- A row, less its mean. -/
def centred (f : Fin 2048 → EReal) (j : Fin 2048) : EReal := f j - mean f

/-- The layer normalisation of a row. -/
def normed (f : Fin 2048 → EReal) (g b : S2048.Idx → EReal) (j : Fin 2048) : EReal :=
  centred f j * Ideal.rsqrt (mean (fun k => centred f k * centred f k) + Ideal.ofBits FTy.f32 0x3727C5AC#32) * g (ix1 j) + b (ix1 j)

/-- The call's output. -/
def output (c : Dev nD) (n : Fin 8192) (j : Fin 2048) : EReal := normed (summed m c n) (gain m c) (shift m c) j

/-- The rows' window is at row tile `t`. -/
theorem rows_at : ∀ t : Fin cfg0.N, win0_0.index t = ![t.val, 0] :=
  (by decide +kernel : ∀ t : Fin grid0.N, _)

/-- The weights' window is the whole array. -/
theorem weights_at : ∀ t : Fin cfg0.N, win0_1.index t = ![0, 0] :=
  (by decide +kernel : ∀ t : Fin grid0.N, _)

/-- The input's window is at row tile `t`. -/
theorem input_at : ∀ t : Fin cfg0.N, win0_2.index t = ![t.val, 0] :=
  (by decide +kernel : ∀ t : Fin grid0.N, _)

/-- The gain's window is the whole row. -/
theorem gain_at : ∀ t : Fin cfg0.N, win0_3.index t = ![0, 0] :=
  (by decide +kernel : ∀ t : Fin grid0.N, _)

/-- The bias's window is the whole row. -/
theorem shift_at : ∀ t : Fin cfg0.N, win0_4.index t = ![0, 0] :=
  (by decide +kernel : ∀ t : Fin grid0.N, _)

/-- The output's window is at row tile `t`. -/
theorem out_at : ∀ t : Fin cfg0.N, win0_5.index t = ![t.val, 0] :=
  (by decide +kernel : ∀ t : Fin grid0.N, _)

theorem point_lt (t : Fin cfg0.N) : t.val < 32 := lt_of_lt_of_eq t.isLt (show cfg0.N = 32 from N_0)

/-- The row of the output an index of point `t`'s tile stands for. -/
abbrev row (t : Fin cfg0.N) (r : Fin 256) : Fin 8192 := ⟨256 * t.val + r.val, by have := point_lt t; omega⟩

/-- The rows' block, read at an index. -/
theorem rows_apply (c : Dev nD) (t : Fin cfg0.N) (r : Fin 256) (k : Fin 2048) :
    iblk m c 0 t (ix2 r k) = rows m c (ix2 (row t r) k) := by
  blk_simp [iblk]
  entry_read
  pointwise
  blk_ext [rows_at t]

/-- The weights' block, read at an index. -/
theorem weights_apply (c : Dev nD) (t : Fin cfg0.N) (r : Fin 2048) (k : Fin 2048) :
    iblk m c 1 t (ix2 r k) = weights m c (ix2 r k) := by
  blk_simp [iblk]
  entry_read
  pointwise
  blk_ext [weights_at t]

/-- The input's block, read at an index. -/
theorem input_apply (c : Dev nD) (t : Fin cfg0.N) (r : Fin 256) (k : Fin 2048) :
    iblk m c 2 t (ix2 r k) = input m c (ix2 (row t r) k) := by
  blk_simp [iblk]
  entry_read
  pointwise
  blk_ext [input_at t]

/-- The gain's block, read at an index. -/
theorem gain_apply (c : Dev nD) (t : Fin cfg0.N) (r : Fin 1) (k : Fin 2048) :
    iblk m c 3 t (ix2 r k) = gain m c (ix1 k) := by
  blk_simp [iblk]
  entry_read
  pointwise
  blk_ext [gain_at t]

/-- The bias's block, read at an index. -/
theorem shift_apply (c : Dev nD) (t : Fin cfg0.N) (r : Fin 1) (k : Fin 2048) :
    iblk m c 4 t (ix2 r k) = shift m c (ix1 k) := by
  blk_simp [iblk]
  entry_read
  pointwise
  blk_ext [shift_at t]

/-- The body's operations on one row of a tile, over whatever blocks: the normalised residual sum. -/
theorem payload_apply (x0 : Vec Ideal S256x2048 .bf16) (x1 : Vec Ideal S2048x2048 .bf16) (x2 : Vec Ideal S256x2048 .f32)
    (x3 x4 : Vec Ideal S1x2048 .f32) (f : Fin 2048 → EReal) (g b : S2048.Idx → EReal) (r : Fin 256)
    (hf : ∀ j, Ideal.ofBits FTy.f32 0x3F9837F0#32 * x2 (ix2 r j) + ∑ k : Fin 2048, x0 (ix2 r k) * x1 (ix2 k j) = f j)
    (hg : ∀ j, x3 (ix2 0 j) = g (ix1 j)) (hb : ∀ j, x4 (ix2 0 j) = b (ix1 j)) (j : Fin 2048) :
    k0_pay1 x0 x1 x2 x3 x4 (ix2 r j) = normed f g b j := by
  pointwise [k0_pay1]
  simp only [hf, hg, hb]
  rfl

/-- The output tile after a point. -/
theorem tile_apply (c : Dev nD) (t : Fin cfg0.N) (r : Fin 256) (j : Fin 2048) :
    out0_5 (iblk m c 0 t) (iblk m c 1 t) (iblk m c 2 t) (iblk m c 3 t) (iblk m c 4 t) (ix2 r j) = output m c (row t r) j := by
  frame_out
  refine payload_apply _ _ _ _ _ _ _ _ r (fun j => ?_) (fun j => gain_apply m c t 0 j) (fun j => shift_apply m c t 0 j) j
  exact congrArg₂ (· + ·) (congrArg (_ * ·) (input_apply m c t r j))
    (Finset.sum_congr rfl fun k _ => congrArg₂ (· * ·) (rows_apply m c t r k) (weights_apply m c t k j))

/-- The array the call leaves. -/
theorem result (c : Dev nD) : (dats m 0 c).arrAt 5 cfg0.N = fun i : S8192x2048.Idx => output m c (i 0) (i 1) := by
  refine (dats m 0 c).arrAt_eq_of_cover 5 _ (fun t _ => ?_) (fun i => ?_)
  · rw [Value.flushed5]
    funext y
    have hy : y = ix2 (⟨(y 0).val, (y 0).isLt⟩ : Fin 256) (⟨(y 1).val, (y 1).isLt⟩ : Fin 2048) := eq_ix2 y
    have h0 : (((cfg0.win 5).blk t).view.emb y 0).val = win0_5.index t (0 : Fin 2) * 256 + 1 * (y 0).val := rfl
    have h1 : (((cfg0.win 5).blk t).view.emb y 1).val = win0_5.index t (1 : Fin 2) * 2048 + 1 * (y 1).val := rfl
    rw [out_at t] at h0 h1
    have e0 : row t ⟨(y 0).val, (y 0).isLt⟩ = ((cfg0.win 5).blk t).view.emb y 0 := Fin.ext (by
      rw [h0]; show 256 * t.val + (y 0).val = t.val * 256 + 1 * (y 0).val; omega)
    have e1 : (⟨(y 1).val, (y 1).isLt⟩ : Fin 2048) = ((cfg0.win 5).blk t).view.emb y 1 := Fin.ext (by
      rw [h1]; show (y 1).val = 0 * 2048 + 1 * (y 1).val; omega)
    refine Eq.trans ?_ (congrArg₂ (output m c) e0 e1)
    exact (congrArg (out0_5 (iblk m c 0 t) (iblk m c 1 t) (iblk m c 2 t) (iblk m c 3 t) (iblk m c 4 t)) hy).trans (tile_apply m c t _ _)
  · have hi0 : (i 0).val < 8192 := (i 0).isLt
    have hi1 : (i 1).val < 2048 := (i 1).isLt
    have hN : (i 0).val / 256 < cfg0.N := by rw [show cfg0.N = 32 from N_0]; omega
    refine ⟨⟨(i 0).val / 256, hN⟩, (by decide +kernel : ∀ t : Fin grid0.N, (win0_5).flush t = true) _, ?_⟩
    show i ∈ ((View.whole main_v3).slice (win0_5.rect ⟨(i 0).val / 256, hN⟩)).set
    rw [View.set_slice_whole, Rect.mem_set_unit]
    intro a
    have h := out_at ⟨(i 0).val / 256, hN⟩
    match a with
    | ⟨0, _⟩ =>
      show win0_5.index ⟨(i 0).val / 256, hN⟩ (0 : Fin 2) * 256 ≤ (i 0).val ∧ (i 0).val < win0_5.index ⟨(i 0).val / 256, hN⟩ (0 : Fin 2) * 256 + 256
      rw [h]; show (i 0).val / 256 * 256 ≤ (i 0).val ∧ (i 0).val < (i 0).val / 256 * 256 + 256; omega
    | ⟨1, _⟩ =>
      show win0_5.index ⟨(i 0).val / 256, hN⟩ (1 : Fin 2) * 2048 ≤ (i 1).val ∧ (i 1).val < win0_5.index ⟨(i 0).val / 256, hN⟩ (1 : Fin 2) * 2048 + 2048
      rw [h]; show 0 * 2048 ≤ (i 1).val ∧ (i 1).val < 0 * 2048 + 2048; omega

end Cert.KernelOutprojIdeal.Tile
end
-- ==== Proof.Scan.lean ====
/- The prefix sums of the decay kernel: six rounds of rotate, mask and add over the rows of a tile give, at every row, the sum of
the rows of its chunk of 64 up to it. -/
module

public import proofs.«01_k».proof.Proof.Gen.KernelAbIdeal.Frame
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.KernelAbIdeal.Scan

open Cert.KernelAbIdeal Cert.KernelAbIdeal.Gen Idealize.ShloMosaic Idealize.ShloMosaic.TcCoe Idealize.SL.Sem

/-- The sum of the last `n` rows of the chunk of 64 up to row `r`, fewer where the chunk begins later. -/
def lastRows (n : ℕ) (f : ℕ → EReal) (r : ℕ) : EReal := ∑ i ∈ Finset.range (min n (r % 64 + 1)), f (r - i)

/-- The sum of the rows of the chunk of 64 up to row `r`. -/
def chunkSum (f : ℕ → EReal) (r : ℕ) : EReal := ∑ i ∈ Finset.range (r % 64 + 1), f (r - i)

theorem lastRows_one (f : ℕ → EReal) (r : ℕ) : lastRows 1 f r = f r := by
  have h : min 1 (r % 64 + 1) = 1 := by omega
  simp only [lastRows, h, Finset.sum_range_one, Nat.sub_zero]

theorem lastRows_full (f : ℕ → EReal) (r : ℕ) : lastRows 64 f r = chunkSum f r := by
  have h : min 64 (r % 64 + 1) = r % 64 + 1 := by omega
  simp only [lastRows, chunkSum, h]

/-- One round: a row's sum and, within the chunk, the sum of the row `n` before. -/
theorem lastRows_step (n : ℕ) (f : ℕ → EReal) (r : ℕ) :
    lastRows n f r + (if n ≤ r % 64 then lastRows n f (r - n) else 0) = lastRows (n + n) f r := by
  by_cases h : n ≤ r % 64
  · have h1 : min n (r % 64 + 1) = n := by omega
    have h2 : (r - n) % 64 = r % 64 - n := by omega
    have h3 : min (n + n) (r % 64 + 1) = n + min n (r % 64 - n + 1) := by omega
    simp only [if_pos h, lastRows, h1, h2, h3, Finset.sum_range_add]
    refine congrArg _ (Finset.sum_congr rfl fun i _ => ?_)
    rw [Nat.sub_sub]
  · have h1 : min n (r % 64 + 1) = r % 64 + 1 := by omega
    have h2 : min (n + n) (r % 64 + 1) = r % 64 + 1 := by omega
    simp only [if_neg h, lastRows, h1, h2, add_zero]

/-- One round of the kernel: the rows rotated by `n`, kept where the row's place in its chunk is at least `n`, added. -/
def round (place : IVec S512x128 32) (n : BitVec 32) (x : FVec Ideal S512x128 .f32) : FVec Ideal S512x128 .f32 :=
  addf x (select (cmpi .sge place (broadcast S512x128 n)) (dynamicRotate 0 n none x rotates_S512x128_d0)
    (broadcast S512x128 (Scalar.ofBits .f32 0x00000000#32)))

/-- A row's place in its chunk, as the kernel's masks compute it. -/
def place : IVec S512x128 32 :=
  select (andi (xori k0_pay8 (broadcastTo S512x128 k0_pay9 broadcasts_S512x128_S512x128)) k0_pay7)
    (addi k0_pay6 (broadcast S512x128 (Scalar.select (Scalar.cmpi .eq 64#32 0#32) 1#32 64#32))) k0_pay6

theorem place_apply (r : Fin 512) (l : Fin 128) : place (ix2 r l) = BitVec.ofNat 32 (r.val % 64) := by
  unfold place
  pointwise [k0_pay6, k0_pay7, k0_pay8, k0_pay9]
  revert r
  decide +kernel

/-- The kernel's running sums are six rounds. -/
theorem rounds (x : FVec Ideal S512x128 .f32) :
    k0_pay10 x (Scalar.select (Scalar.cmpi .eq 64#32 0#32) 1#32 64#32) k0_pay6 k0_pay7 k0_pay8 k0_pay9
      = round place 32#32 (round place 16#32 (round place 8#32 (round place 4#32 (round place 2#32 (round place 1#32 x))))) := rfl

/-- The masks' comparison of two places. -/
theorem place_ge : ∀ a n : Fin 64, Scalar.cmpi .sge (BitVec.ofNat 32 a.val) (BitVec.ofNat 32 n.val) = if n.val ≤ a.val then 1#1 else 0#1 := by
  decide +kernel

/-- A round over sums of `n` rows gives sums of `2 n` rows. -/
theorem round_apply (n : ℕ) (hn : n < 64) (x : FVec Ideal S512x128 .f32)
    (f : Fin 128 → ℕ → EReal) (h : ∀ (r : Fin 512) (l : Fin 128), x (ix2 r l) = lastRows n (f l) r.val) (r : Fin 512) (l : Fin 128) :
    round place (BitVec.ofNat 32 n) x (ix2 r l) = lastRows (n + n) (f l) r.val := by
  rw [← lastRows_step, ← h r l]
  have hc := place_ge ⟨r.val % 64, Nat.mod_lt _ (by omega)⟩ ⟨n, hn⟩
  show x (ix2 r l) + Scalar.select (Scalar.cmpi .sge (place (ix2 r l)) (BitVec.ofNat 32 n))
    (dynamicRotate 0 (BitVec.ofNat 32 n) none x rotates_S512x128_d0 (ix2 r l)) (Ideal.ofBits FTy.f32 0x00000000#32) = _
  rw [place_apply, hc]
  refine congrArg _ ?_
  by_cases hr : n ≤ r.val % 64
  · rw [if_pos hr, if_pos hr]
    refine Eq.trans ?_ (h ⟨r.val - n, by omega⟩ l)
    refine dynamicRotate_apply (0 : Fin 2) _ x rotates_S512x128_d0 (ix2 r l) (ix2 ⟨r.val - n, by omega⟩ l) fun b => ?_
    have hb : (BitVec.ofNat 32 n).toNat = n := by rw [BitVec.toNat_ofNat]; omega
    match b with
    | ⟨0, _⟩ =>
      show r.val - n = (r.val + 512 - (BitVec.ofNat 32 n).toNat % 512) % 512
      rw [hb]; omega
    | ⟨1, _⟩ => rfl
  · rw [if_neg hr, if_neg hr]
    exact Ideal.ofBits_zero_f32

/-- The kernel's running sums at an index: the sum of the chunk's rows up to the row. -/
theorem scan_apply (x : FVec Ideal S512x128 .f32) (f : Fin 128 → ℕ → EReal)
    (h : ∀ (r : Fin 512) (l : Fin 128), x (ix2 r l) = f l r.val) (r : Fin 512) (l : Fin 128) :
    k0_pay10 x (Scalar.select (Scalar.cmpi .eq 64#32 0#32) 1#32 64#32) k0_pay6 k0_pay7 k0_pay8 k0_pay9 (ix2 r l)
      = chunkSum (f l) r.val := by
  rw [rounds, ← lastRows_full]
  refine round_apply 32 (by omega) _ f (fun r l => ?_) r l
  refine round_apply 16 (by omega) _ f (fun r l => ?_) r l
  refine round_apply 8 (by omega) _ f (fun r l => ?_) r l
  refine round_apply 4 (by omega) _ f (fun r l => ?_) r l
  refine round_apply 2 (by omega) _ f (fun r l => ?_) r l
  refine round_apply 1 (by omega) _ f (fun r l => ?_) r l
  rw [lastRows_one, h r l]

/-- The chunk's total at an index: the running sum of the chunk's last row. -/
theorem total_apply (x : FVec Ideal S512x128 .f32) (r : Fin 512) (l : Fin 128) :
    k0_pay2 x (ix2 r l) = x (ix2 ⟨r.val / 64 * 64 + 63, by omega⟩ l) := by
  pointwise [k0_pay2]

end Cert.KernelAbIdeal.Scan
end
-- ==== Proof.TileAb.lean ====
/- What the decay and beta call leaves in its three outputs, element by element.  The grid runs over 16 row tiles of 512 rows, 8
   chunks each.  The first point rounds the 128 weight columns from column 12288 on into scratch, the others read them back.  A
   point multiplies its rows with them; from the product come beta (a logistic), and the log decay (the negated exponential of
   the first gate vector times the softplus of the product plus the second), whose running sums over each chunk are the first
   output and whose chunk totals are the third. -/
module

public import proofs.«01_k».proof.Proof.Scan
public import Idealize.ShloMosaic.Lib.Pipeline.ValueKit.Held
public import Idealize.ShloMosaic.Lib.Pipeline.ReadBack

@[expose] public section

set_option maxRecDepth 16384

noncomputable section

namespace Cert.KernelAbIdeal.Tile

open Cert.KernelAbIdeal Cert.KernelAbIdeal.Gen Cert.KernelAbIdeal.Scan Idealize.ShloMosaic Idealize.ShloMosaic.TcCoe Idealize.SL.Sem

variable (m : (ℓ : Loc nD τ sig) → Buf (Elt Ideal) ℓ)

/-- The rows `x` as launched, over the extended reals. -/
abbrev rows (c : Dev nD) : S8192x2048.Idx → EReal := m ((c : Thread nD τ).loc main_arg0)

/-- The weights `w_in` as launched, over the extended reals. -/
abbrev weights (c : Dev nD) : S2048x20544.Idx → EReal := m ((c : Thread nD τ).loc main_arg1)

/-- The logarithms of the decay rates as launched, over the extended reals. -/
abbrev rates (c : Dev nD) : S32.Idx → EReal := m ((c : Thread nD τ).loc main_arg2)

/-- The biases of the softplus as launched, over the extended reals. -/
abbrev biases (c : Dev nD) : S32.Idx → EReal := m ((c : Thread nD τ).loc main_arg3)

/-- A vector of 32 heads on 128 lanes, the other lanes holding zero as the program pads. -/
def lanes (v : S32.Idx → EReal) (l : Fin 128) : EReal :=
  if h : l.val < 32 then v (ix1 ⟨l.val, h⟩) else FloatOps.sitofp (F := Ideal) FTy.f32 0#32

/-- An element of the product of the rows with the 128 weight columns from column 12288 on. -/
def product (c : Dev nD) (n : Fin 8192) (l : Fin 128) : EReal :=
  ∑ k : Fin 2048, rows m c (ix2 n k) * weights m c (ix2 k ⟨12288 + l.val, by omega⟩)

/-- The log decay of a row on a lane, over the product `p`, the rate's logarithm `a` and the bias `d`. -/
def decayOf (p a d : EReal) : EReal :=
  (0 - Ideal.exp a) * (max (p + d) 0 + Ideal.log1p (Ideal.exp (0 - FloatOps.absf (F := Ideal) (φ := FTy.f32) (p + d))))

/-- The log decay of a row on a lane; zero beyond the rows. -/
def decay (c : Dev nD) (l : Fin 128) (n : ℕ) : EReal :=
  if h : n < 8192 then decayOf (product m c ⟨n, h⟩ l) (lanes (rates m c) l) (lanes (biases m c) l) else 0

theorem point_lt (t : Fin cfg0.N) : t.val < 16 := lt_of_lt_of_eq t.isLt (show cfg0.N = 16 from N_0)

/-- The rows' window is at row tile `t`. -/
theorem rows_at : ∀ t : Fin cfg0.N, win0_0.index t = ![t.val, 0] :=
  (by decide +kernel : ∀ t : Fin grid0.N, _)

/-- The weights' window begins at the element offset of the gate columns, at every point. -/
theorem weights_at : ∀ t : Fin cfg0.N, win0_1.index t = ![12288, 0] :=
  (by decide +kernel : ∀ t : Fin grid0.N, _)

theorem rates_at : ∀ t : Fin cfg0.N, win0_2.index t = ![0, 0] :=
  (by decide +kernel : ∀ t : Fin grid0.N, _)

theorem biases_at : ∀ t : Fin cfg0.N, win0_3.index t = ![0, 0] :=
  (by decide +kernel : ∀ t : Fin grid0.N, _)

/-- The rows' block, read at an index. -/
theorem rows_apply (c : Dev nD) (t : Fin cfg0.N) (r : Fin 512) (k : Fin 2048) :
    iblk m c 0 t (ix2 r k)
      = rows m c (ix2 ⟨512 * t.val + r.val, by have := point_lt t; omega⟩ k) := by
  blk_simp [iblk]
  entry_read
  pointwise
  blk_ext [rows_at t]

/-- The transposed weights, as the region finds them. -/
theorem weights_entry (c : Dev nD) :
    V m c main_v1 = (transpose S20544x2048 [1, 0] (weights m c) transposes_S2048x20544_S20544x2048_1_0 : S20544x2048.Idx → EReal) := by
  show StableHlo.after _ _ _ = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_results_simp <;> rfl

/-- The padded rates, as the region finds them. -/
theorem rates_entry (c : Dev nD) :
    V m c main_v3 = (pad S1x128 ![0, 0] ![0, 96] ![0, 0] (shapeCast S1x32 (rates m c) shapeCasts_S32_S1x32)
      (fun _ : S_.Idx => FloatOps.sitofp (F := Ideal) FTy.f32 0#32) pads_S1x32_S1x128_000_0960 h_S_ : S1x128.Idx → EReal) := by
  show StableHlo.after _ _ _ = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_results_simp <;> rfl

/-- The padded biases, as the region finds them. -/
theorem biases_entry (c : Dev nD) :
    V m c main_v5 = (pad S1x128 ![0, 0] ![0, 96] ![0, 0] (shapeCast S1x32 (biases m c) shapeCasts_S32_S1x32)
      (fun _ : S_.Idx => FloatOps.sitofp (F := Ideal) FTy.f32 0#32) pads_S1x32_S1x128_000_0960 h_S_ : S1x128.Idx → EReal) := by
  show StableHlo.after _ _ _ = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_results_simp <;> rfl

/-- A vector of 32 heads, padded, read on a lane. -/
theorem padded_apply (v : S32.Idx → EReal) (r : Fin 1) (l : Fin 128) :
    pad S1x128 ![0, 0] ![0, 96] ![0, 0] (shapeCast S1x32 v shapeCasts_S32_S1x32)
      (fun _ : S_.Idx => FloatOps.sitofp (F := Ideal) FTy.f32 0#32) pads_S1x32_S1x128_000_0960 h_S_ (ix2 r l) = lanes v l := by
  unfold lanes
  split
  · next h =>
    refine (pad_apply_of_inside _ _ _ _ _ _ _ (ix2 r l) (ix2 r ⟨l.val, h⟩) (fun a => ?_)).trans ?_
    · match a with
      | ⟨0, _⟩ => show r.val = 0 + r.val * 1; omega
      | ⟨1, _⟩ => show l.val = 0 + l.val * 1; omega
    · pointwise
  · next h =>
    exact pad_apply_of_not_inside _ _ _ _ _ _ _ (ix2 r l) (1 : Fin 2) (fun hin => h (by
      have h3 : (l.val - 0) / 1 < 32 := hin.2.2
      omega))

/-- The weights' block, read at an index. -/
theorem weights_apply (c : Dev nD) (t : Fin cfg0.N) (r : Fin 128) (k : Fin 2048) :
    iblk m c 1 t (ix2 r k) = weights m c (ix2 k ⟨12288 + r.val, by omega⟩) := by
  blk_simp [iblk]
  rw [weights_entry m c]
  pointwise
  have e : ∀ a, (((View.whole main_v1).slice (win0_1.rect t)).emb (ix2 r k) a).val
      = win0_1.index t a + (ix2 r k a).val := fun a => win0_1.rect_emb_val_off t (ix2 r k) a
  have e0 := e 0
  have e1 := e 1
  rw [weights_at t] at e0 e1
  refine congrArg _ (congrArg₂ ix2 (Fin.ext ?_) (Fin.ext ?_))
  · exact e1.trans (Nat.zero_add _)
  · exact e0

/-- The rates' block, read at an index. -/
theorem rates_apply (c : Dev nD) (t : Fin cfg0.N) (r : Fin 1) (l : Fin 128) :
    iblk m c 2 t (ix2 r l) = lanes (rates m c) l := by
  blk_simp [iblk]
  rw [rates_entry m c]
  refine Eq.trans ?_ (padded_apply (rates m c) r l)
  blk_ext [rates_at t]

/-- The biases' block, read at an index. -/
theorem biases_apply (c : Dev nD) (t : Fin cfg0.N) (r : Fin 1) (l : Fin 128) :
    iblk m c 3 t (ix2 r l) = lanes (biases m c) l := by
  blk_simp [iblk]
  rw [biases_entry m c]
  refine Eq.trans ?_ (padded_apply (biases m c) r l)
  blk_ext [biases_at t]

/-- The scratch holds the weights after every point. -/
theorem scratch_apply (c : Dev nD) (t : Fin cfg0.N) (r : Fin 128) (k : Fin 2048) :
    (outsAt0 m c t.val t.isLt).2.2.2 (ix2 r k) = weights m c (ix2 k ⟨12288 + r.val, by omega⟩) := by
  rw [Pipeline.eq_of_write_hold_apply (fun n h => (outsAt0 m c n h).2.2.2) 16 (fun t => iblk m c 1 t)
    (fun t h i => by
      rw [outsAt0_A m c t h]; frame_out
      pointwise [k0_pay3])
    (fun t h i => by
      rw [outsAt0_B m c t h]; rfl) t (ix2 r k)]
  exact weights_apply m c _ r k

/-- The point's product, over whatever blocks. -/
theorem product_apply (c : Dev nD) (t : Fin cfg0.N) (w : Vec Ideal S128x2048 .bf16)
    (hw : ∀ (l : Fin 128) (k : Fin 2048), w (ix2 l k) = weights m c (ix2 k ⟨12288 + l.val, by omega⟩)) (r : Fin 512) (l : Fin 128) :
    k0_pay4 (iblk m c 0 t) w (ix2 r l) = product m c ⟨512 * t.val + r.val, by have := point_lt t; omega⟩ l := by
  pointwise [k0_pay4]
  exact Finset.sum_congr rfl fun k _ => congrArg₂ (· * ·) (rows_apply m c t r k) (hw l k)

/-- The point's log decays, over whatever blocks. -/
theorem decay_apply (c : Dev nD) (t : Fin cfg0.N) (w : Vec Ideal S128x2048 .bf16)
    (hw : ∀ (l : Fin 128) (k : Fin 2048), w (ix2 l k) = weights m c (ix2 k ⟨12288 + l.val, by omega⟩)) (r : Fin 512) (l : Fin 128) :
    k0_pay5 (iblk m c 0 t) w (iblk m c 2 t) (iblk m c 3 t) (ix2 r l) = decay m c l (512 * t.val + r.val) := by
  rw [decay, dif_pos (by have := point_lt t; omega : 512 * t.val + r.val < 8192), ← product_apply m c t w hw r l,
    ← rates_apply m c t 0 l, ← biases_apply m c t 0 l]
  pointwise [k0_pay5]
  rfl

/-- The chunk's sum over the rows of a tile is its sum over all rows. -/
theorem chunkSum_tile (f : ℕ → EReal) (t r : ℕ) : chunkSum (fun n => f (512 * t + n)) r = chunkSum f (512 * t + r) := by
  have h : (512 * t + r) % 64 = r % 64 := by omega
  unfold chunkSum
  rw [h]
  refine Finset.sum_congr rfl fun i hi => congrArg f ?_
  have := Finset.mem_range.mp hi
  omega

/-- The point's running sums, over whatever blocks. -/
theorem sums_apply (c : Dev nD) (t : Fin cfg0.N) (w : Vec Ideal S128x2048 .bf16)
    (hw : ∀ (l : Fin 128) (k : Fin 2048), w (ix2 l k) = weights m c (ix2 k ⟨12288 + l.val, by omega⟩)) (r : Fin 512) (l : Fin 128) :
    k0_pay10 (k0_pay5 (iblk m c 0 t) w (iblk m c 2 t) (iblk m c 3 t))
        (Scalar.select (Scalar.cmpi .eq 64#32 0#32) 1#32 64#32) k0_pay6 k0_pay7 k0_pay8 k0_pay9 (ix2 r l)
      = chunkSum (decay m c l) (512 * t.val + r.val) := by
  rw [← chunkSum_tile]
  exact scan_apply _ (fun l n => decay m c l (512 * t.val + n)) (decay_apply m c t w hw) r l

/-- The chunk totals of a row: the running sum of its chunk's last row. -/
def total (c : Dev nD) (l : Fin 128) (n : ℕ) : EReal := chunkSum (decay m c l) (n / 64 * 64 + 63)

/-- The three output tiles after a point. -/
theorem tile_apply (c : Dev nD) (t : Fin cfg0.N) (r : Fin 512) (l : Fin 128) :
    (outsAt0 m c t.val t.isLt).1 (ix2 r l) = chunkSum (decay m c l) (512 * t.val + r.val)
      ∧ (outsAt0 m c t.val t.isLt).2.1 (ix2 r l)
          = Ideal.logistic (product m c ⟨512 * t.val + r.val, by have := point_lt t; omega⟩ l)
      ∧ (outsAt0 m c t.val t.isLt).2.2.1 (ix2 r l) = total m c l (512 * t.val + r.val) := by
  have ht : ∀ w : Vec Ideal S128x2048 .bf16, (∀ (l : Fin 128) (k : Fin 2048), w (ix2 l k) = weights m c (ix2 k ⟨12288 + l.val, by omega⟩)) →
      k0_pay2 (k0_pay10 (k0_pay5 (iblk m c 0 t) w (iblk m c 2 t) (iblk m c 3 t))
        (Scalar.select (Scalar.cmpi .eq 64#32 0#32) 1#32 64#32) k0_pay6 k0_pay7 k0_pay8 k0_pay9) (ix2 r l) = total m c l (512 * t.val + r.val) := by
    intro w hw
    rw [total_apply, sums_apply m c t w hw]
    unfold total
    congr 1
    show 512 * t.val + (r.val / 64 * 64 + 63) = _
    omega
  have hl : ∀ w : Vec Ideal S128x2048 .bf16, (∀ (l : Fin 128) (k : Fin 2048), w (ix2 l k) = weights m c (ix2 k ⟨12288 + l.val, by omega⟩)) →
      k0_pay1 (k0_pay4 (iblk m c 0 t) w) (ix2 r l)
        = Ideal.logistic (product m c ⟨512 * t.val + r.val, by have := point_lt t; omega⟩ l) := by
    intro w hw
    rw [← product_apply m c t w hw r l]
    rfl
  have hs := fun l k => scratch_apply m c t l k
  by_cases h : t.val % 16 = 0
  · have hw : ∀ (l : Fin 128) (k : Fin 2048), k0_pay3 (iblk m c 1 t) (ix2 l k) = weights m c (ix2 k ⟨12288 + l.val, by omega⟩) := by
      intro l k
      rw [← weights_apply m c t l k]
      pointwise [k0_pay3]
    rw [outsAt0_A m c t h]
    refine ⟨?_, ?_, ?_⟩
    · frame_out
      exact sums_apply m c t _ hw r l
    · frame_out
      exact hl _ hw
    · frame_out
      exact ht _ hw
  · rw [outsAt0_B m c t h] at hs ⊢
    refine ⟨?_, ?_, ?_⟩
    · frame_out
      simp only [read_unread_whole]
      exact sums_apply m c t _ hs r l
    · frame_out
      simp only [read_unread_whole]
      exact hl _ hs
    · frame_out
      simp only [read_unread_whole]
      exact ht _ hs

/-- Output window 4 is at row tile `t`. -/
theorem out4_at : ∀ t : Fin cfg0.N, win0_4.index t = ![t.val, 0] :=
  (by decide +kernel : ∀ t : Fin grid0.N, _)

/-- The running sums the call leaves. -/
theorem array4 (c : Dev nD) : (dats m 0 c).arrAt 4 cfg0.N = fun i : S8192x128.Idx => chunkSum (decay m c (i 1)) (i 0).val := by
  refine (dats m 0 c).arrAt_eq_of_cover 4 _ (fun t _ => ?_) (fun i => ?_)
  · show (cfg0.win 4).cut (grid0.coords t) ((dats m 0 c).after 4 t) = _
    rw [after0_4]
    funext y
    have hy : y = ix2 (⟨(y 0).val, (y 0).isLt⟩ : Fin 512) (⟨(y 1).val, (y 1).isLt⟩ : Fin 128) := eq_ix2 y
    have h0 : (((cfg0.win 4).blk t).view.emb y 0).val = win0_4.index t (0 : Fin 2) * 512 + 1 * (y 0).val := rfl
    have h1 : (((cfg0.win 4).blk t).view.emb y 1).val = win0_4.index t (1 : Fin 2) * 128 + 1 * (y 1).val := rfl
    rw [out4_at t] at h0 h1
    have e0 : 512 * t.val + (y 0).val = (((cfg0.win 4).blk t).view.emb y 0).val := by
      rw [h0]; show 512 * t.val + (y 0).val = t.val * 512 + 1 * (y 0).val; omega
    have e1 : (⟨(y 1).val, (y 1).isLt⟩ : Fin 128) = ((cfg0.win 4).blk t).view.emb y 1 := Fin.ext (by
      rw [h1]; show (y 1).val = 0 * 128 + 1 * (y 1).val; omega)
    refine Eq.trans ?_ (congrArg₂ (fun n l => chunkSum (decay m c l) n) e0 e1)
    exact (congrArg (outsAt0 m c t.val t.isLt).1 hy).trans (tile_apply m c t _ _).1
  · have hi0 : (i 0).val < 8192 := (i 0).isLt
    have hi1 : (i 1).val < 128 := (i 1).isLt
    have hN : (i 0).val / 512 < cfg0.N := by rw [show cfg0.N = 16 from N_0]; omega
    refine ⟨⟨(i 0).val / 512, hN⟩, (by decide +kernel : ∀ t : Fin grid0.N, (win0_4).flush t = true) _, ?_⟩
    show i ∈ ((View.whole main_v6_0).slice (win0_4.rect ⟨(i 0).val / 512, hN⟩)).set
    rw [View.set_slice_whole, Rect.mem_set_unit]
    intro a
    have h := out4_at ⟨(i 0).val / 512, hN⟩
    match a with
    | ⟨0, _⟩ =>
      show win0_4.index ⟨(i 0).val / 512, hN⟩ (0 : Fin 2) * 512 ≤ (i 0).val ∧ (i 0).val < win0_4.index ⟨(i 0).val / 512, hN⟩ (0 : Fin 2) * 512 + 512
      rw [h]; show (i 0).val / 512 * 512 ≤ (i 0).val ∧ (i 0).val < (i 0).val / 512 * 512 + 512; omega
    | ⟨1, _⟩ =>
      show win0_4.index ⟨(i 0).val / 512, hN⟩ (1 : Fin 2) * 128 ≤ (i 1).val ∧ (i 1).val < win0_4.index ⟨(i 0).val / 512, hN⟩ (1 : Fin 2) * 128 + 128
      rw [h]; show 0 * 128 ≤ (i 1).val ∧ (i 1).val < 0 * 128 + 128; omega

/-- Output window 5 is at row tile `t`. -/
theorem out5_at : ∀ t : Fin cfg0.N, win0_5.index t = ![t.val, 0] :=
  (by decide +kernel : ∀ t : Fin grid0.N, _)

/-- The logistics the call leaves. -/
theorem array5 (c : Dev nD) : (dats m 0 c).arrAt 5 cfg0.N = fun i : S8192x128.Idx => Ideal.logistic (product m c (i 0) (i 1)) := by
  refine (dats m 0 c).arrAt_eq_of_cover 5 _ (fun t _ => ?_) (fun i => ?_)
  · show (cfg0.win 5).cut (grid0.coords t) ((dats m 0 c).after 5 t) = _
    rw [after0_5]
    funext y
    have hy : y = ix2 (⟨(y 0).val, (y 0).isLt⟩ : Fin 512) (⟨(y 1).val, (y 1).isLt⟩ : Fin 128) := eq_ix2 y
    have h0 : (((cfg0.win 5).blk t).view.emb y 0).val = win0_5.index t (0 : Fin 2) * 512 + 1 * (y 0).val := rfl
    have h1 : (((cfg0.win 5).blk t).view.emb y 1).val = win0_5.index t (1 : Fin 2) * 128 + 1 * (y 1).val := rfl
    rw [out5_at t] at h0 h1
    have e0 : 512 * t.val + (y 0).val = (((cfg0.win 5).blk t).view.emb y 0).val := by
      rw [h0]; show 512 * t.val + (y 0).val = t.val * 512 + 1 * (y 0).val; omega
    have e1 : (⟨(y 1).val, (y 1).isLt⟩ : Fin 128) = ((cfg0.win 5).blk t).view.emb y 1 := Fin.ext (by
      rw [h1]; show (y 1).val = 0 * 128 + 1 * (y 1).val; omega)
    refine Eq.trans ?_ (congrArg₂ (fun n l => Ideal.logistic (product m c n l)) (Fin.ext (a := ⟨_, by have := point_lt t; have : (y 0).val < 512 := (y 0).isLt; omega⟩) e0) e1)
    exact (congrArg (outsAt0 m c t.val t.isLt).2.1 hy).trans (tile_apply m c t _ _).2.1
  · have hi0 : (i 0).val < 8192 := (i 0).isLt
    have hi1 : (i 1).val < 128 := (i 1).isLt
    have hN : (i 0).val / 512 < cfg0.N := by rw [show cfg0.N = 16 from N_0]; omega
    refine ⟨⟨(i 0).val / 512, hN⟩, (by decide +kernel : ∀ t : Fin grid0.N, (win0_5).flush t = true) _, ?_⟩
    show i ∈ ((View.whole main_v6_1).slice (win0_5.rect ⟨(i 0).val / 512, hN⟩)).set
    rw [View.set_slice_whole, Rect.mem_set_unit]
    intro a
    have h := out5_at ⟨(i 0).val / 512, hN⟩
    match a with
    | ⟨0, _⟩ =>
      show win0_5.index ⟨(i 0).val / 512, hN⟩ (0 : Fin 2) * 512 ≤ (i 0).val ∧ (i 0).val < win0_5.index ⟨(i 0).val / 512, hN⟩ (0 : Fin 2) * 512 + 512
      rw [h]; show (i 0).val / 512 * 512 ≤ (i 0).val ∧ (i 0).val < (i 0).val / 512 * 512 + 512; omega
    | ⟨1, _⟩ =>
      show win0_5.index ⟨(i 0).val / 512, hN⟩ (1 : Fin 2) * 128 ≤ (i 1).val ∧ (i 1).val < win0_5.index ⟨(i 0).val / 512, hN⟩ (1 : Fin 2) * 128 + 128
      rw [h]; show 0 * 128 ≤ (i 1).val ∧ (i 1).val < 0 * 128 + 128; omega

/-- Output window 6 is at row tile `t`. -/
theorem out6_at : ∀ t : Fin cfg0.N, win0_6.index t = ![t.val, 0] :=
  (by decide +kernel : ∀ t : Fin grid0.N, _)

/-- The chunk totals the call leaves. -/
theorem array6 (c : Dev nD) : (dats m 0 c).arrAt 6 cfg0.N = fun i : S8192x128.Idx => total m c (i 1) (i 0).val := by
  refine (dats m 0 c).arrAt_eq_of_cover 6 _ (fun t _ => ?_) (fun i => ?_)
  · show (cfg0.win 6).cut (grid0.coords t) ((dats m 0 c).after 6 t) = _
    rw [after0_6]
    funext y
    have hy : y = ix2 (⟨(y 0).val, (y 0).isLt⟩ : Fin 512) (⟨(y 1).val, (y 1).isLt⟩ : Fin 128) := eq_ix2 y
    have h0 : (((cfg0.win 6).blk t).view.emb y 0).val = win0_6.index t (0 : Fin 2) * 512 + 1 * (y 0).val := rfl
    have h1 : (((cfg0.win 6).blk t).view.emb y 1).val = win0_6.index t (1 : Fin 2) * 128 + 1 * (y 1).val := rfl
    rw [out6_at t] at h0 h1
    have e0 : 512 * t.val + (y 0).val = (((cfg0.win 6).blk t).view.emb y 0).val := by
      rw [h0]; show 512 * t.val + (y 0).val = t.val * 512 + 1 * (y 0).val; omega
    have e1 : (⟨(y 1).val, (y 1).isLt⟩ : Fin 128) = ((cfg0.win 6).blk t).view.emb y 1 := Fin.ext (by
      rw [h1]; show (y 1).val = 0 * 128 + 1 * (y 1).val; omega)
    refine Eq.trans ?_ (congrArg₂ (fun n l => total m c l n) e0 e1)
    exact (congrArg (outsAt0 m c t.val t.isLt).2.2.1 hy).trans (tile_apply m c t _ _).2.2
  · have hi0 : (i 0).val < 8192 := (i 0).isLt
    have hi1 : (i 1).val < 128 := (i 1).isLt
    have hN : (i 0).val / 512 < cfg0.N := by rw [show cfg0.N = 16 from N_0]; omega
    refine ⟨⟨(i 0).val / 512, hN⟩, (by decide +kernel : ∀ t : Fin grid0.N, (win0_6).flush t = true) _, ?_⟩
    show i ∈ ((View.whole main_v6_2).slice (win0_6.rect ⟨(i 0).val / 512, hN⟩)).set
    rw [View.set_slice_whole, Rect.mem_set_unit]
    intro a
    have h := out6_at ⟨(i 0).val / 512, hN⟩
    match a with
    | ⟨0, _⟩ =>
      show win0_6.index ⟨(i 0).val / 512, hN⟩ (0 : Fin 2) * 512 ≤ (i 0).val ∧ (i 0).val < win0_6.index ⟨(i 0).val / 512, hN⟩ (0 : Fin 2) * 512 + 512
      rw [h]; show (i 0).val / 512 * 512 ≤ (i 0).val ∧ (i 0).val < (i 0).val / 512 * 512 + 512; omega
    | ⟨1, _⟩ =>
      show win0_6.index ⟨(i 0).val / 512, hN⟩ (1 : Fin 2) * 128 ≤ (i 1).val ∧ (i 1).val < win0_6.index ⟨(i 0).val / 512, hN⟩ (1 : Fin 2) * 128 + 128
      rw [h]; show 0 * 128 ≤ (i 1).val ∧ (i 1).val < 0 * 128 + 128; omega

/-- A head on its lane among the first 32. -/
def low (j : Fin 32) : Fin 128 := ⟨j.val, by omega⟩

/-- A head on its lane among the second 32. -/
def high (j : Fin 32) : Fin 128 := ⟨32 + j.val, by omega⟩

/-- The running sums after the last host operations. -/
theorem post_main_v7 (c : Dev nD) :
    Pipeline.afterTail₀ cfgs (dats m) 0 (V0 m) [hostOps1] c main_v7 = fun i : S8192x32.Idx => chunkSum (decay m c (low (i 1))) (i 0).val := by
  have h : Pipeline.afterTail₀ cfgs (dats m) 0 (V0 m) [hostOps1] c main_v7
      = (extractStridedSlice S8192x32 ![0, 0] ((dats m 0 c).arrAt 4 cfg0.N : S8192x128.Idx → EReal) slices_S8192x128_S8192x32_0_0 : S8192x32.Idx → EReal) := by
    unfold Pipeline.afterTail₀
    rw [← Pipeline.withArrays_arr (cfgs 0).spec (by decide) c (V0 m c) (fun w => (dats m 0 c).arrAt w (cfgs 0).N) 4]
    simp only [hostOps1, List.flatten_cons, List.flatten_nil, List.append_nil]
    after_results_simp <;> rfl
  rw [h, array4]
  funext i
  idx_vars i
  pointwise
  rfl

/-- The logistics after the last host operations. -/
theorem post_main_v8 (c : Dev nD) :
    Pipeline.afterTail₀ cfgs (dats m) 0 (V0 m) [hostOps1] c main_v8 = fun i : S8192x32.Idx => Ideal.logistic (product m c (i 0) (high (i 1))) := by
  have h : Pipeline.afterTail₀ cfgs (dats m) 0 (V0 m) [hostOps1] c main_v8
      = (extractStridedSlice S8192x32 ![0, 32] ((dats m 0 c).arrAt 5 cfg0.N : S8192x128.Idx → EReal) slices_S8192x128_S8192x32_0_32 : S8192x32.Idx → EReal) := by
    unfold Pipeline.afterTail₀
    rw [← Pipeline.withArrays_arr (cfgs 0).spec (by decide) c (V0 m c) (fun w => (dats m 0 c).arrAt w (cfgs 0).N) 5]
    simp only [hostOps1, List.flatten_cons, List.flatten_nil, List.append_nil]
    after_results_simp <;> rfl
  rw [h, array5]
  funext i
  idx_vars i
  pointwise
  rfl

/-- The chunk totals after the last host operations. -/
theorem post_main_v9 (c : Dev nD) :
    Pipeline.afterTail₀ cfgs (dats m) 0 (V0 m) [hostOps1] c main_v9 = fun i : S8192x32.Idx => total m c (low (i 1)) (i 0).val := by
  have h : Pipeline.afterTail₀ cfgs (dats m) 0 (V0 m) [hostOps1] c main_v9
      = (extractStridedSlice S8192x32 ![0, 0] ((dats m 0 c).arrAt 6 cfg0.N : S8192x128.Idx → EReal) slices_S8192x128_S8192x32_0_0 : S8192x32.Idx → EReal) := by
    unfold Pipeline.afterTail₀
    rw [← Pipeline.withArrays_arr (cfgs 0).spec (by decide) c (V0 m c) (fun w => (dats m 0 c).arrAt w (cfgs 0).N) 6]
    simp only [hostOps1, List.flatten_cons, List.flatten_nil, List.append_nil]
    after_results_simp <;> rfl
  rw [h, array6]
  funext i
  idx_vars i
  pointwise
  rfl

/-- The log decay of a head, with the vectors read at the head. -/
theorem decay_low (c : Dev nD) (n : Fin 8192) (l : Fin 32) :
    decay m c (low l) n.val = -Ideal.exp (rates m c (ix1 l)) * (max (product m c n (low l) + biases m c (ix1 l)) 0
      + Ideal.log1p (Ideal.exp (-FloatOps.absf (F := Ideal) (φ := FTy.f32) (product m c n (low l) + biases m c (ix1 l))))) := by
  have h : ∀ v : S32.Idx → EReal, lanes v (low l) = v (ix1 l) := fun v => dif_pos l.isLt
  rw [decay, dif_pos n.isLt, h, h, decayOf, zero_sub, zero_sub]

/-- The run, read: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = (fun i : S8192x32.Idx => chunkSum (decay m c (low (i 1))) (i 0).val)
      ∧ r.2.mem ((c : Thread nD τ).loc main_v8) = (fun i : S8192x32.Idx => Ideal.logistic (product m c (i 0) (high (i 1))))
      ∧ r.2.mem ((c : Thread nD τ).loc main_v9) = (fun i : S8192x32.Idx => total m c (low (i 1)) (i 0).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v7 (Pipeline.mem_restRefs_of main_v7 (by decide) (by decide))).trans (post_main_v7 m c),
      ((h c).2 main_v8 (Pipeline.mem_restRefs_of main_v8 (by decide) (by decide))).trans (post_main_v8 m c),
      ((h c).2 main_v9 (Pipeline.mem_restRefs_of main_v9 (by decide) (by decide))).trans (post_main_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelAbIdeal.Tile
end
-- ==== Proof.SumsAb.lean ====
/- The reference of the decay and beta call: its cumulative sum over the rows of a chunk, read at an index, and its three results
   element by element. -/
module

public import proofs.«01_k».proof.Proof.Gen.ReferenceAbIdeal.Run
public import proofs.«01_k».proof.Proof.Scan
public import Idealize.ShloMosaic.Lib.Pointwise.Index

@[expose] public section

set_option maxRecDepth 16384

noncomputable section

namespace Cert.ReferenceAbIdeal.Sums

open Cert.ReferenceAbIdeal Cert.ReferenceAbIdeal.Gen Cert.KernelAbIdeal.Scan Idealize.ShloMosaic Idealize.ShloMosaic.TcCoe Idealize.SL.Sem

theorem foldl_add {ι : Type} (g : ι → EReal) (l : List ι) (a : EReal) : l.foldl (fun s n => s + g n) a = a + (l.map g).sum := by
  induction l generalizing a with
  | nil => simp
  | cons n l ih => rw [List.foldl_cons, ih, List.map_cons, List.sum_cons, add_assoc]

/-- The sum over a window of 64 rows that ends at row `r`, the rows before the chunk left out. -/
theorem sum_window (g : ℕ → EReal) (r : ℕ) (hr : r < 64) :
    ∑ n : Fin 64, (if 63 ≤ r + n.val then g (r + n.val - 63) else 0) = ∑ i ∈ Finset.range (r + 1), g (r - i) := by
  rw [Fin.sum_univ_eq_sum_range (fun n => if 63 ≤ r + n then g (r + n - 63) else 0) 64, ← Finset.sum_range_reflect]
  rw [← Finset.sum_subset (Finset.range_subset_range.mpr (by omega : r + 1 ≤ 64))]
  · refine Finset.sum_congr rfl fun i hi => ?_
    have := Finset.mem_range.mp hi
    rw [if_pos (by omega)]
    congr 1
    omega
  · intro i hi hn
    have h1 := Finset.mem_range.mp hi
    have h2 : ¬ i < r + 1 := fun h => hn (Finset.mem_range.mpr h)
    rw [if_neg (by omega)]

/-- The reference's cumulative sum at an index. -/
theorem window_apply (x : FVec Ideal S128x64x32 .f32) (v : S_.Idx → EReal) (hv : ∀ i, v i = 0) (f : ℕ → EReal) (q : Fin 128) (r : Fin 64) (l : Fin 32)
    (hx : ∀ r : Fin 64, x (ix3 q r l) = f (q.val * 64 + r.val)) :
    Host.reduceWindowAdd ![1, 64, 1] ![1, 1, 1] ![0, 63, 0] ![0, 0, 0] x v reduceWindows_S128x64x32_S128x64x32_w1s1p0_0_w64s1p63_0_w1s1p0_0 h_S_ (ix3 q r l)
      = chunkSum f (q.val * 64 + r.val) := by
  have hm : (q.val * 64 + r.val) % 64 = r.val := by omega
  unfold chunkSum
  rw [hm]
  have hs := sum_window (fun n => f (q.val * 64 + n)) r.val r.isLt
  have he : ∑ i ∈ Finset.range (r.val + 1), f (q.val * 64 + r.val - i) = ∑ i ∈ Finset.range (r.val + 1), f (q.val * 64 + (r.val - i)) :=
    Finset.sum_congr rfl fun i hi => by
      have := Finset.mem_range.mp hi
      congr 1; omega
  rw [he, ← hs]
  unfold Host.reduceWindowAdd
  rw [Ideal.hostReduceWindowAdd_def]
  unfold Ideal.hostReduceWindowAdd Host.reduceWindow
  rw [hv]
  dsimp only
  rw [foldl_add, zero_add, ← Fin.sum_univ_def]
  have hw : ∑ n : Fin 64, (if 63 ≤ r.val + n.val then f (q.val * 64 + (r.val + n.val - 63)) else 0)
      = ∑ i : (⟨3, ![1, 64, 1]⟩ : Shape).Idx, (if 63 ≤ r.val + (i 1).val then f (q.val * 64 + (r.val + (i 1).val - 63)) else 0) := by
    rw [sum_idx3, Fin.sum_univ_one]
    refine Finset.sum_congr rfl fun n _ => ?_
    rw [Fin.sum_univ_one]
    rfl
  rw [hw, ← Equiv.sum_comp (Shape.rowMajor ⟨3, ![1, 64, 1]⟩).symm]
  refine Finset.sum_congr rfl fun n _ => ?_
  let i : (⟨3, ![1, 64, 1]⟩ : Shape).Idx := (Shape.rowMajor ⟨3, ![1, 64, 1]⟩).symm n
  have h0 : (i 0).val = 0 := Nat.lt_one_iff.mp (i 0).isLt
  have h2 : (i 2).val = 0 := Nat.lt_one_iff.mp (i 2).isLt
  have h1 : (i 1).val < 64 := (i 1).isLt
  by_cases h : 63 ≤ r.val + (i 1).val
  · refine Eq.trans ?_ (if_pos h).symm
    refine (dif_pos ?_).trans ?_
    · intro a
      match a with
      | ⟨0, _⟩ => show 0 ≤ q.val * 1 + (i 0).val ∧ q.val * 1 + (i 0).val - 0 < 128; omega
      | ⟨1, _⟩ => show 63 ≤ r.val * 1 + (i 1).val ∧ r.val * 1 + (i 1).val - 63 < 64; omega
      | ⟨2, _⟩ => show 0 ≤ l.val * 1 + (i 2).val ∧ l.val * 1 + (i 2).val - 0 < 32; omega
    · refine Eq.trans (congrArg x (funext fun a => Fin.ext ?_)) (hx ⟨r.val + (i 1).val - 63, by omega⟩)
      match a with
      | ⟨0, _⟩ => show q.val * 1 + (i 0).val - 0 = q.val; omega
      | ⟨1, _⟩ => show r.val * 1 + (i 1).val - 63 = r.val + (i 1).val - 63; omega
      | ⟨2, _⟩ => show l.val * 1 + (i 2).val - 0 = l.val; omega
  · refine Eq.trans ?_ (if_neg h).symm
    refine dif_neg fun hin => h ?_
    have h3 : 63 ≤ r.val * 1 + (i 1).val := (hin 1).1
    omega

/-- The reference's running sums over the chunks of a matrix of rows, read at an index. -/
theorem sums_apply (x : FVec Ideal S8192x32 .f32) (v : S_.Idx → EReal) (hv : ∀ i, v i = 0) (f : Fin 32 → ℕ → EReal)
    (hx : ∀ (n : Fin 8192) (l : Fin 32), x (ix2 n l) = f l n.val) (n : Fin 8192) (l : Fin 32) :
    shapeCast S8192x32 (Host.reduceWindowAdd ![1, 64, 1] ![1, 1, 1] ![0, 63, 0] ![0, 0, 0] (shapeCast S128x64x32 x shapeCasts_S8192x32_S128x64x32) v
      reduceWindows_S128x64x32_S128x64x32_w1s1p0_0_w64s1p63_0_w1s1p0_0 h_S_) shapeCasts_S128x64x32_S8192x32 (ix2 n l) = chunkSum (f l) n.val := by
  have hc : ∀ (q : Fin 128) (r : Fin 64), shapeCast S128x64x32 x shapeCasts_S8192x32_S128x64x32 (ix3 q r l) = f l (q.val * 64 + r.val) := by
    intro q r
    rw [← hx ⟨q.val * 64 + r.val, by omega⟩ l]
    pointwise
    blk_ext []
  have hw := window_apply (shapeCast S128x64x32 x shapeCasts_S8192x32_S128x64x32) v hv (f l) ⟨n.val / 64, by omega⟩ ⟨n.val % 64, by omega⟩ l
    (fun r => hc _ r)
  have hn : n.val / 64 * 64 + n.val % 64 = n.val := by omega
  refine Eq.trans ?_ (hw.trans (congrArg (chunkSum (f l)) hn))
  refine shapeCast_apply _ _ (ix2 n l) (ix3 _ _ l) ?_
  rw [Shape.rowMajor_val_three, Shape.rowMajor_val_two]
  show (n.val / 64 * 64 + n.val % 64) * 32 + l.val = n.val * 32 + l.val
  rw [hn]

/-- The reference's chunk totals, read at an index. -/
theorem totals_apply (x : FVec Ideal S8192x32 .f32) (v : S_.Idx → EReal) (hv : ∀ i, v i = 0) (f : Fin 32 → ℕ → EReal)
    (hx : ∀ (n : Fin 8192) (l : Fin 32), x (ix2 n l) = f l n.val) (n : Fin 8192) (l : Fin 32) :
    shapeCast S8192x32 (broadcastInDim S128x64x32 ![0, 1, 2] bcast_S128x1x32_S128x64x32_0_1_2 (extractStridedSlice S128x1x32 ![0, 63, 0]
      (Host.reduceWindowAdd ![1, 64, 1] ![1, 1, 1] ![0, 63, 0] ![0, 0, 0] (shapeCast S128x64x32 x shapeCasts_S8192x32_S128x64x32) v
      reduceWindows_S128x64x32_S128x64x32_w1s1p0_0_w64s1p63_0_w1s1p0_0 h_S_) slices_S128x64x32_S128x1x32_0_63_0)) shapeCasts_S128x64x32_S8192x32 (ix2 n l)
      = chunkSum (f l) (n.val / 64 * 64 + 63) := by
  have h := sums_apply x v hv f hx ⟨n.val / 64 * 64 + 63, by omega⟩ l
  refine Eq.trans ?_ h
  generalize Host.reduceWindowAdd ![1, 64, 1] ![1, 1, 1] ![0, 63, 0] ![0, 0, 0] (shapeCast S128x64x32 x shapeCasts_S8192x32_S128x64x32) v
      reduceWindows_S128x64x32_S128x64x32_w1s1p0_0_w64s1p63_0_w1s1p0_0 h_S_ = y
  pointwise
  refine congrArg y ?_
  rw [ix3_inj]
  exact ⟨Fin.ext (show n.val / 64 = (n.val / 64 * 64 + 63) / 64 by omega),
    Fin.ext (show 63 = (n.val / 64 * 64 + 63) % 64 by omega), rfl⟩

end Cert.ReferenceAbIdeal.Sums
end
-- ==== Proof.TapsDwconv.lean ====
/- What the loop of the depthwise convolution stores.  The rows are read from a buffer, 32 rows of halo above the tile, or
   from one of seven copies of it, each shifted by one row more: a load from a copy at a multiple of eight rows is the
   buffer's rows from any row on.  So each of the 64 by 256 pieces a trip stores is the convolution there. -/
module

public import proofs.«01_k».proof.Proof.Gen.KernelDwconvIdeal.Loops
public import proofs.«01_k».proof.Proof.Gen.KernelDwconvIdeal.Frame.RunB
public import Idealize.ShloMosaic.Lib.Pipeline.ValueKit
public import Idealize.ShloMosaic.Lib.Pointwise
public import Idealize.ShloMosaic.Lib.Writes
public import Idealize.ShloMosaic.Lib.Claim

@[expose] public section

set_option maxRecDepth 16384

noncomputable section

namespace Cert.KernelDwconvIdeal.Taps

open Cert.KernelDwconvIdeal Cert.KernelDwconvIdeal.Gen Idealize.ShloMosaic Idealize.ShloMosaic.TcCoe Idealize.ShloMosaic.Tactic Idealize.SL.Sem

/-- The depthwise convolution of the rows `H` with the taps `W` and the bias `B`, in the order of the sum: the last tap's
    product, the bias, then the other taps' products. -/
def conv (H : ℕ → Fin 2048 → EReal) (W : Fin 31 → Fin 2048 → EReal) (B : Fin 2048 → EReal) (n : ℕ) (j : Fin 2048) : EReal :=
  H (n + 32) j * W 30 j + B j + H (n + 2) j * W 0 j + H (n + 3) j * W 1 j + H (n + 4) j * W 2 j + H (n + 5) j * W 3 j + H (n + 6) j * W 4 j + H (n + 7) j * W 5 j + H (n + 8) j * W 6 j + H (n + 9) j * W 7 j + H (n + 10) j * W 8 j + H (n + 11) j * W 9 j + H (n + 12) j * W 10 j + H (n + 13) j * W 11 j + H (n + 14) j * W 12 j + H (n + 15) j * W 13 j + H (n + 16) j * W 14 j + H (n + 17) j * W 15 j + H (n + 18) j * W 16 j + H (n + 19) j * W 17 j + H (n + 20) j * W 18 j + H (n + 21) j * W 19 j + H (n + 22) j * W 20 j + H (n + 23) j * W 21 j + H (n + 24) j * W 22 j + H (n + 25) j * W 23 j + H (n + 26) j * W 24 j + H (n + 27) j * W 25 j + H (n + 28) j * W 26 j + H (n + 29) j * W 27 j + H (n + 30) j * W 28 j + H (n + 31) j * W 29 j

/-- A tile's rows of the convolution. -/
def sums (H : ℕ → Fin 2048 → EReal) (W : Fin 31 → Fin 2048 → EReal) (B : Fin 2048 → EReal) : Vec Ideal S256x2048 .f32 :=
  fun y => conv H W B (y 0).val (y 1)

/-- A sum of products that are the convolution's, one by one, is the convolution. -/
theorem conv_of (H : ℕ → Fin 2048 → EReal) (W : Fin 31 → Fin 2048 → EReal) (B : Fin 2048 → EReal) (n : ℕ) (j : Fin 2048)
    {x30 w30 x0 w0 x1 w1 x2 w2 x3 w3 x4 w4 x5 w5 x6 w6 x7 w7 x8 w8 x9 w9 x10 w10 x11 w11 x12 w12 x13 w13 x14 w14 x15 w15 x16 w16 x17 w17 x18 w18 x19 w19 x20 w20 x21 w21 x22 w22 x23 w23 x24 w24 x25 w25 x26 w26 x27 w27 x28 w28 x29 w29 b : EReal}
    (h30 : x30 = H (n + 32) j) (k30 : w30 = W 30 j) (hb : b = B j) (h0 : x0 = H (n + 2) j) (k0 : w0 = W 0 j) (h1 : x1 = H (n + 3) j) (k1 : w1 = W 1 j) (h2 : x2 = H (n + 4) j) (k2 : w2 = W 2 j) (h3 : x3 = H (n + 5) j) (k3 : w3 = W 3 j) (h4 : x4 = H (n + 6) j) (k4 : w4 = W 4 j) (h5 : x5 = H (n + 7) j) (k5 : w5 = W 5 j) (h6 : x6 = H (n + 8) j) (k6 : w6 = W 6 j) (h7 : x7 = H (n + 9) j) (k7 : w7 = W 7 j) (h8 : x8 = H (n + 10) j) (k8 : w8 = W 8 j) (h9 : x9 = H (n + 11) j) (k9 : w9 = W 9 j) (h10 : x10 = H (n + 12) j) (k10 : w10 = W 10 j) (h11 : x11 = H (n + 13) j) (k11 : w11 = W 11 j) (h12 : x12 = H (n + 14) j) (k12 : w12 = W 12 j) (h13 : x13 = H (n + 15) j) (k13 : w13 = W 13 j) (h14 : x14 = H (n + 16) j) (k14 : w14 = W 14 j) (h15 : x15 = H (n + 17) j) (k15 : w15 = W 15 j) (h16 : x16 = H (n + 18) j) (k16 : w16 = W 16 j) (h17 : x17 = H (n + 19) j) (k17 : w17 = W 17 j) (h18 : x18 = H (n + 20) j) (k18 : w18 = W 18 j) (h19 : x19 = H (n + 21) j) (k19 : w19 = W 19 j) (h20 : x20 = H (n + 22) j) (k20 : w20 = W 20 j) (h21 : x21 = H (n + 23) j) (k21 : w21 = W 21 j) (h22 : x22 = H (n + 24) j) (k22 : w22 = W 22 j) (h23 : x23 = H (n + 25) j) (k23 : w23 = W 23 j) (h24 : x24 = H (n + 26) j) (k24 : w24 = W 24 j) (h25 : x25 = H (n + 27) j) (k25 : w25 = W 25 j) (h26 : x26 = H (n + 28) j) (k26 : w26 = W 26 j) (h27 : x27 = H (n + 29) j) (k27 : w27 = W 27 j) (h28 : x28 = H (n + 30) j) (k28 : w28 = W 28 j) (h29 : x29 = H (n + 31) j) (k29 : w29 = W 29 j) :
    x30 * w30 + b + x0 * w0 + x1 * w1 + x2 * w2 + x3 * w3 + x4 * w4 + x5 * w5 + x6 * w6 + x7 * w7 + x8 * w8 + x9 * w9 + x10 * w10 + x11 * w11 + x12 * w12 + x13 * w13 + x14 * w14 + x15 * w15 + x16 * w16 + x17 * w17 + x18 * w18 + x19 * w19 + x20 * w20 + x21 * w21 + x22 * w22 + x23 * w23 + x24 * w24 + x25 * w25 + x26 * w26 + x27 * w27 + x28 * w28 + x29 * w29 = conv H W B n j := by
  rw [h30, k30, hb, h0, k0, h1, k1, h2, k2, h3, k3, h4, k4, h5, k5, h6, k6, h7, k7, h8, k8, h9, k9, h10, k10, h11, k11, h12, k12, h13, k13, h14, k14, h15, k15, h16, k16, h17, k17, h18, k18, h19, k19, h20, k20, h21, k21, h22, k22, h23, k23, h24, k24, h25, k25, h26, k26, h27, k27, h28, k28, h29, k29]
  rfl

section Reads

variable {arg2 : Memref sig .tc .vmem S31x2048 .f32} {arg3 : Memref sig .tc .vmem S1x2048 .f32}
  {arg7 : Memref sig .tc .vmem S288x2048 .f32} {arg8 : Memref sig .tc .vmem S7x280x2048 .f32}
  {X2 : BufTy.Contents (Elt Ideal) arg2.view.ty} {X3 : BufTy.Contents (Elt Ideal) arg3.view.ty}
  {X7 : BufTy.Contents (Elt Ideal) arg7.view.ty} {X8 : BufTy.Contents (Elt Ideal) arg8.view.ty}
  {H : ℕ → Fin 2048 → EReal} {W : Fin 31 → Fin 2048 → EReal} {B : Fin 2048 → EReal}

/-- A load of a tap's row. -/
theorem tap_read (h2 : ∀ y : S31x2048.Idx, arg2.view.read (Elt Ideal) X2 y = W (y 0) (y 1)) (s : Fin 31) {q : ℕ}
    {inb : ∀ a, (![s.val, q] : Fin 2 → ℕ) a + S1x256.size a ≤ S31x2048.size a} {x : Fin 256} {j : Fin 2048}
    (hj : q + x.val = j.val) :
    View.readAt (Elt Ideal) arg2.view (Rect.unit (s := S31x2048) ![s.val, q] ![1, 256] inb).toLoadRect X2 (ix2 0 x) = W s j := by
  refine (h2 _).trans (congrArg₂ W (Fin.ext ?_) (Fin.ext ?_))
  · show s.val + 1 * 0 = s.val
    omega
  · show q + 1 * x.val = j.val
    omega

/-- A load of the bias. -/
theorem bias_read (h3 : ∀ y : S1x2048.Idx, arg3.view.read (Elt Ideal) X3 y = B (y 1)) {q : ℕ}
    {inb : ∀ a, (![0, q] : Fin 2 → ℕ) a + S1x256.size a ≤ S1x2048.size a} {x : Fin 256} {j : Fin 2048}
    (hj : q + x.val = j.val) :
    View.readAt (Elt Ideal) arg3.view (Rect.unit (s := S1x2048) ![0, q] ![1, 256] inb).toLoadRect X3 (ix2 0 x) = B j := by
  refine (h3 _).trans (congrArg B (Fin.ext ?_))
  show q + 1 * x.val = j.val
  omega

/-- A load of rows from the buffer. -/
theorem rows_read (h7 : ∀ y : S288x2048.Idx, arg7.view.read (Elt Ideal) X7 y = H (y 0).val (y 1)) {o : Fin 2 → ℕ} {a q : ℕ}
    (ho : o = ![a, q]) {inb : ∀ a, o a + S64x256.size a ≤ S288x2048.size a} {r : Fin 64} {x : Fin 256} {n : ℕ} {j : Fin 2048}
    (hn : a + r.val = n) (hj : q + x.val = j.val) :
    View.readAt (Elt Ideal) arg7.view (Rect.unit (s := S288x2048) o ![64, 256] inb).toLoadRect X7 (ix2 r x) = H n j := by
  subst ho
  refine (h7 _).trans (congrArg₂ H ?_ (Fin.ext ?_))
  · show a + 1 * r.val = n
    omega
  · show q + 1 * x.val = j.val
    omega

/-- A load of rows from one of the shifted copies of the buffer. -/
theorem copy_read (h8 : ∀ y : S7x280x2048.Idx, arg8.view.read (Elt Ideal) X8 y = H ((y 0).val + 1 + (y 1).val) (y 2))
    {o : Fin 3 → ℕ} {b a q : ℕ} (ho : o = ![b, a, q]) {inb : ∀ a, o a + S1x64x256.size a ≤ S7x280x2048.size a}
    {r : Fin 64} {x : Fin 256} {n : ℕ} {j : Fin 2048} (hn : b + 1 + a + r.val = n) (hj : q + x.val = j.val) :
    View.readAt (Elt Ideal) arg8.view (Rect.unit (s := S7x280x2048) o ![1, 64, 256] inb).toLoadRect X8 (ix3 0 r x) = H n j := by
  subst ho
  refine (h8 _).trans (congrArg₂ H ?_ (Fin.ext ?_))
  · show b + 1 * 0 + 1 + (a + 1 * r.val) = n
    omega
  · show q + 1 * x.val = j.val
    omega

end Reads

/-- Moving to other indices that are the same. -/
theorem conv_congr {H : ℕ → Fin 2048 → EReal} {W : Fin 31 → Fin 2048 → EReal} {B : Fin 2048 → EReal} {n n' : ℕ}
    {j j' : Fin 2048} (hn : n = n') (hj : j.val = j'.val) : conv H W B n j = conv H W B n' j' := by
  rw [hn, Fin.ext hj]

/-- The row of a load from the buffer itself. -/
theorem rows_at {m K r n : ℕ} (h : 8 * m + 8 = n) : 8 * m + 64 * K + 8 + r = 64 * K + r + n := by omega

/-- The row of a load from the first copy. -/
theorem next_at {m K r n : ℕ} (h : 0 + 1 + (8 * m + 8) = n) : 0 + 1 + (8 * m + 64 * K + 8) + r = 64 * K + r + n := by omega

/-- The row of a load from another copy. -/
theorem copy_at {b m K r n : ℕ} (h : b + 1 + 8 * m = n) : b + 1 + (8 * m + 64 * K) + r = 64 * K + r + n := by omega

set_option maxHeartbeats 1000000 in
/-- What a trip of the loop stores: 64 rows of the convolution, in eight groups of 256 columns. -/
theorem trip_stores (𝒱 : Variants) (c : Dev nD) (bd : Option 𝒱.V) (i : grid0.Coords) (arg1 : Memref sig .tc .vmem S256x2048 .f32) (harg1 : arg1.IsWhole) (arg2 : Memref sig .tc .vmem S31x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S288x2048 .f32) (harg7 : arg7.IsWhole) (arg8 : Memref sig .tc .vmem S7x280x2048 .f32) (harg8 : arg8.IsWhole) (arg9 : Memref sig .tc .vmem S256x2048 .f32) (harg9 : arg9.IsWhole) (v23 : Vec Ideal S280x2048 .f32) (X2 : BufTy.Contents (Elt Ideal) arg2.view.ty) (X3 : BufTy.Contents (Elt Ideal) arg3.view.ty) (X7 : BufTy.Contents (Elt Ideal) arg7.view.ty) (X8 : BufTy.Contents (Elt Ideal) arg8.view.ty)
    (H : ℕ → Fin 2048 → EReal) (W : Fin 31 → Fin 2048 → EReal) (B : Fin 2048 → EReal)
    (h2 : ∀ y : S31x2048.Idx, arg2.view.read (Elt Ideal) X2 y = W (y 0) (y 1))
    (h3 : ∀ y : S1x2048.Idx, arg3.view.read (Elt Ideal) X3 y = B (y 1))
    (h7 : ∀ y : S288x2048.Idx, arg7.view.read (Elt Ideal) X7 y = H (y 0).val (y 1))
    (h8 : ∀ y : S7x280x2048.Idx, arg8.view.read (Elt Ideal) X8 y = H ((y 0).val + 1 + (y 1).val) (y 2))
    (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 v23 X2 X3 X7 X8 k, ∀ x, p.2 x = conv H W B ((p.1.emb x) 0).val ((p.1.emb x) 1) := by
  intro p hp
  unfold tripL_k0_t1 trip_k0_t1 at hp
  dsimp only at hp
  rcases List.mem_cons.mp hp with rfl | hp
  · clear hp
    intro x
    dsimp only at x ⊢
    idx_vars x
    obtain ⟨jj, hj⟩ : ∃ jj : Fin 2048, 1792 + x1.val = jj.val := ⟨⟨1792 + x1.val, by omega⟩, rfl⟩
    refine Eq.trans ?_ (conv_congr (n := 64 * k.val + x0.val) (j := jj) ?_ ?_)
    rotate_left
    · show _ = k0_off72 k 0 + 1 * x0.val
      rw [k0_off72_eq k]
      show _ = 64 * k.val + 1 * x0.val
      omega
    · show _ = k0_off72 k 1 + 1 * x1.val
      rw [k0_off72_eq k]
      show _ = 1792 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 1792) (a := 8 * 3 + 64 * k.val + 8) (k0_off64_eq k 3) (rows_at rfl) hj
    · exact tap_read h2 30 hj
    · exact bias_read h3 hj
    · exact copy_read h8 (r := x0) (x := x1) (n := 64 * k.val + x0.val + 2) (q := 1792) (b := 1) (a := 8 * 0 + 64 * k.val) (k0_off65_eq k 0) (copy_at rfl) hj
    · exact tap_read h2 0 hj
    · exact copy_read h8 (r := x0) (x := x1) (n := 64 * k.val + x0.val + 3) (q := 1792) (b := 2) (a := 8 * 0 + 64 * k.val) (k0_off66_eq k 0) (copy_at rfl) hj
    · exact tap_read h2 1 hj
    · exact copy_read h8 (r := x0) (x := x1) (n := 64 * k.val + x0.val + 4) (q := 1792) (b := 3) (a := 8 * 0 + 64 * k.val) (k0_off67_eq k 0) (copy_at rfl) hj
    · exact tap_read h2 2 hj
    · exact copy_read h8 (r := x0) (x := x1) (n := 64 * k.val + x0.val + 5) (q := 1792) (b := 4) (a := 8 * 0 + 64 * k.val) (k0_off68_eq k 0) (copy_at rfl) hj
    · exact tap_read h2 3 hj
    · exact copy_read h8 (r := x0) (x := x1) (n := 64 * k.val + x0.val + 6) (q := 1792) (b := 5) (a := 8 * 0 + 64 * k.val) (k0_off69_eq k 0) (copy_at rfl) hj
    · exact tap_read h2 4 hj
    · exact copy_read h8 (r := x0) (x := x1) (n := 64 * k.val + x0.val + 7) (q := 1792) (b := 6) (a := 8 * 0 + 64 * k.val) (k0_off70_eq k 0) (copy_at rfl) hj
    · exact tap_read h2 5 hj
    · exact rows_read h7 (r := x0) (x := x1) (n := 64 * k.val + x0.val + 8) (q := 1792) (a := 8 * 0 + 64 * k.val + 8) (k0_off64_eq k 0) (rows_at rfl) hj
    · exact tap_read h2 6 hj
    · exact copy_read h8 (r := x0) (x := x1) (n := 64 * k.val + x0.val + 9) (q := 1792) (b := 0) (a := 8 * 0 + 64 * k.val + 8) (k0_off71_eq k 0) (next_at rfl) hj
    · exact tap_read h2 7 hj
    · exact copy_read h8 (r := x0) (x := x1) (n := 64 * k.val + x0.val + 10) (q := 1792) (b := 1) (a := 8 * 1 + 64 * k.val) (k0_off65_eq k 1) (copy_at rfl) hj
    · exact tap_read h2 8 hj
    · exact copy_read h8 (r := x0) (x := x1) (n := 64 * k.val + x0.val + 11) (q := 1792) (b := 2) (a := 8 * 1 + 64 * k.val) (k0_off66_eq k 1) (copy_at rfl) hj
    · exact tap_read h2 9 hj
    · exact copy_read h8 (r := x0) (x := x1) (n := 64 * k.val + x0.val + 12) (q := 1792) (b := 3) (a := 8 * 1 + 64 * k.val) (k0_off67_eq k 1) (copy_at rfl) hj
    · exact tap_read h2 10 hj
    · exact copy_read h8 (r := x0) (x := x1) (n := 64 * k.val + x0.val + 13) (q := 1792) (b := 4) (a := 8 * 1 + 64 * k.val) (k0_off68_eq k 1) (copy_at rfl) hj
    · exact tap_read h2 11 hj
    · exact copy_read h8 (r := x0) (x := x1) (n := 64 * k.val + x0.val + 14) (q := 1792) (b := 5) (a := 8 * 1 + 64 * k.val) (k0_off69_eq k 1) (copy_at rfl) hj
    · exact tap_read h2 12 hj
    · exact copy_read h8 (r := x0) (x := x1) (n := 64 * k.val + x0.val + 15) (q := 1792) (b := 6) (a := 8 * 1 + 64 * k.val) (k0_off70_eq k 1) (copy_at rfl) hj
    · exact tap_read h2 13 hj
    · exact rows_read h7 (r := x0) (x := x1) (n := 64 * k.val + x0.val + 16) (q := 1792) (a := 8 * 1 + 64 * k.val + 8) (k0_off64_eq k 1) (rows_at rfl) hj
    · exact tap_read h2 14 hj
    · exact copy_read h8 (r := x0) (x := x1) (n := 64 * k.val + x0.val + 17) (q := 1792) (b := 0) (a := 8 * 1 + 64 * k.val + 8) (k0_off71_eq k 1) (next_at rfl) hj
    · exact tap_read h2 15 hj
    · exact copy_read h8 (r := x0) (x := x1) (n := 64 * k.val + x0.val + 18) (q := 1792) (b := 1) (a := 8 * 2 + 64 * k.val) (k0_off65_eq k 2) (copy_at rfl) hj
    · exact tap_read h2 16 hj
    · exact copy_read h8 (r := x0) (x := x1) (n := 64 * k.val + x0.val + 19) (q := 1792) (b := 2) (a := 8 * 2 + 64 * k.val) (k0_off66_eq k 2) (copy_at rfl) hj
    · exact tap_read h2 17 hj
    · exact copy_read h8 (r := x0) (x := x1) (n := 64 * k.val + x0.val + 20) (q := 1792) (b := 3) (a := 8 * 2 + 64 * k.val) (k0_off67_eq k 2) (copy_at rfl) hj
    · exact tap_read h2 18 hj
    · exact copy_read h8 (r := x0) (x := x1) (n := 64 * k.val + x0.val + 21) (q := 1792) (b := 4) (a := 8 * 2 + 64 * k.val) (k0_off68_eq k 2) (copy_at rfl) hj
    · exact tap_read h2 19 hj
    · exact copy_read h8 (r := x0) (x := x1) (n := 64 * k.val + x0.val + 22) (q := 1792) (b := 5) (a := 8 * 2 + 64 * k.val) (k0_off69_eq k 2) (copy_at rfl) hj
    · exact tap_read h2 20 hj
    · exact copy_read h8 (r := x0) (x := x1) (n := 64 * k.val + x0.val + 23) (q := 1792) (b := 6) (a := 8 * 2 + 64 * k.val) (k0_off70_eq k 2) (copy_at rfl) hj
    · exact tap_read h2 21 hj
    · exact rows_read h7 (r := x0) (x := x1) (n := 64 * k.val + x0.val + 24) (q := 1792) (a := 8 * 2 + 64 * k.val + 8) (k0_off64_eq k 2) (rows_at rfl) hj
    · exact tap_read h2 22 hj
    · exact copy_read h8 (r := x0) (x := x1) (n := 64 * k.val + x0.val + 25) (q := 1792) (b := 0) (a := 8 * 2 + 64 * k.val + 8) (k0_off71_eq k 2) (next_at rfl) hj
    · exact tap_read h2 23 hj
    · exact copy_read h8 (r := x0) (x := x1) (n := 64 * k.val + x0.val + 26) (q := 1792) (b := 1) (a := 8 * 3 + 64 * k.val) (k0_off65_eq k 3) (copy_at rfl) hj
    · exact tap_read h2 24 hj
    · exact copy_read h8 (r := x0) (x := x1) (n := 64 * k.val + x0.val + 27) (q := 1792) (b := 2) (a := 8 * 3 + 64 * k.val) (k0_off66_eq k 3) (copy_at rfl) hj
    · exact tap_read h2 25 hj
    · exact copy_read h8 (r := x0) (x := x1) (n := 64 * k.val + x0.val + 28) (q := 1792) (b := 3) (a := 8 * 3 + 64 * k.val) (k0_off67_eq k 3) (copy_at rfl) hj
    · exact tap_read h2 26 hj
    · exact copy_read h8 (r := x0) (x := x1) (n := 64 * k.val + x0.val + 29) (q := 1792) (b := 4) (a := 8 * 3 + 64 * k.val) (k0_off68_eq k 3) (copy_at rfl) hj
    · exact tap_read h2 27 hj
    · exact copy_read h8 (r := x0) (x := x1) (n := 64 * k.val + x0.val + 30) (q := 1792) (b := 5) (a := 8 * 3 + 64 * k.val) (k0_off69_eq k 3) (copy_at rfl) hj
    · exact tap_read h2 28 hj
    · exact copy_read h8 (r := x0) (x := x1) (n := 64 * k.val + x0.val + 31) (q := 1792) (b := 6) (a := 8 * 3 + 64 * k.val) (k0_off70_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 1536 + x1.val = jj.val := ⟨⟨1536 + x1.val, by omega⟩, rfl⟩
    refine Eq.trans ?_ (conv_congr (n := 64 * k.val + x0.val) (j := jj) ?_ ?_)
    rotate_left
    · show _ = k0_off63 k 0 + 1 * x0.val
      rw [k0_off63_eq k]
      show _ = 64 * k.val + 1 * x0.val
      omega
    · show _ = k0_off63 k 1 + 1 * x1.val
      rw [k0_off63_eq k]
      show _ = 1536 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 1536) (a := 8 * 3 + 64 * k.val + 8) (k0_off55_eq k 3) (rows_at rfl) hj
    · exact tap_read h2 30 hj
    · exact bias_read h3 hj
    · exact copy_read h8 (r := x0) (x := x1) (n := 64 * k.val + x0.val + 2) (q := 1536) (b := 1) (a := 8 * 0 + 64 * k.val) (k0_off56_eq k 0) (copy_at rfl) hj
    · exact tap_read h2 0 hj
    · exact copy_read h8 (r := x0) (x := x1) (n := 64 * k.val + x0.val + 3) (q := 1536) (b := 2) (a := 8 * 0 + 64 * k.val) (k0_off57_eq k 0) (copy_at rfl) hj
    · exact tap_read h2 1 hj
    · exact copy_read h8 (r := x0) (x := x1) (n := 64 * k.val + x0.val + 4) (q := 1536) (b := 3) (a := 8 * 0 + 64 * k.val) (k0_off58_eq k 0) (copy_at rfl) hj
    · exact tap_read h2 2 hj
    · exact copy_read h8 (r := x0) (x := x1) (n := 64 * k.val + x0.val + 5) (q := 1536) (b := 4) (a := 8 * 0 + 64 * k.val) (k0_off59_eq k 0) (copy_at rfl) hj
    · exact tap_read h2 3 hj
    · exact copy_read h8 (r := x0) (x := x1) (n := 64 * k.val + x0.val + 6) (q := 1536) (b := 5) (a := 8 * 0 + 64 * k.val) (k0_off60_eq k 0) (copy_at rfl) hj
    · exact tap_read h2 4 hj
    · exact copy_read h8 (r := x0) (x := x1) (n := 64 * k.val + x0.val + 7) (q := 1536) (b := 6) (a := 8 * 0 + 64 * k.val) (k0_off61_eq k 0) (copy_at rfl) hj
    · exact tap_read h2 5 hj
    · exact rows_read h7 (r := x0) (x := x1) (n := 64 * k.val + x0.val + 8) (q := 1536) (a := 8 * 0 + 64 * k.val + 8) (k0_off55_eq k 0) (rows_at rfl) hj
    · exact tap_read h2 6 hj
    · exact copy_read h8 (r := x0) (x := x1) (n := 64 * k.val + x0.val + 9) (q := 1536) (b := 0) (a := 8 * 0 + 64 * k.val + 8) (k0_off62_eq k 0) (next_at rfl) hj
    · exact tap_read h2 7 hj
    · exact copy_read h8 (r := x0) (x := x1) (n := 64 * k.val + x0.val + 10) (q := 1536) (b := 1) (a := 8 * 1 + 64 * k.val) (k0_off56_eq k 1) (copy_at rfl) hj
    · exact tap_read h2 8 hj
    · exact copy_read h8 (r := x0) (x := x1) (n := 64 * k.val + x0.val + 11) (q := 1536) (b := 2) (a := 8 * 1 + 64 * k.val) (k0_off57_eq k 1) (copy_at rfl) hj
    · exact tap_read h2 9 hj
    · exact copy_read h8 (r := x0) (x := x1) (n := 64 * k.val + x0.val + 12) (q := 1536) (b := 3) (a := 8 * 1 + 64 * k.val) (k0_off58_eq k 1) (copy_at rfl) hj
    · exact tap_read h2 10 hj
    · exact copy_read h8 (r := x0) (x := x1) (n := 64 * k.val + x0.val + 13) (q := 1536) (b := 4) (a := 8 * 1 + 64 * k.val) (k0_off59_eq k 1) (copy_at rfl) hj
    · exact tap_read h2 11 hj
    · exact copy_read h8 (r := x0) (x := x1) (n := 64 * k.val + x0.val + 14) (q := 1536) (b := 5) (a := 8 * 1 + 64 * k.val) (k0_off60_eq k 1) (copy_at rfl) hj
    · exact tap_read h2 12 hj
    · exact copy_read h8 (r := x0) (x := x1) (n := 64 * k.val + x0.val + 15) (q := 1536) (b := 6) (a := 8 * 1 + 64 * k.val) (k0_off61_eq k 1) (copy_at rfl) hj
    · exact tap_read h2 13 hj
    · exact rows_read h7 (r := x0) (x := x1) (n := 64 * k.val + x0.val + 16) (q := 1536) (a := 8 * 1 + 64 * k.val + 8) (k0_off55_eq k 1) (rows_at rfl) hj
    · exact tap_read h2 14 hj
    · exact copy_read h8 (r := x0) (x := x1) (n := 64 * k.val + x0.val + 17) (q := 1536) (b := 0) (a := 8 * 1 + 64 * k.val + 8) (k0_off62_eq k 1) (next_at rfl) hj
    · exact tap_read h2 15 hj
    · exact copy_read h8 (r := x0) (x := x1) (n := 64 * k.val + x0.val + 18) (q := 1536) (b := 1) (a := 8 * 2 + 64 * k.val) (k0_off56_eq k 2) (copy_at rfl) hj
    · exact tap_read h2 16 hj
    · exact copy_read h8 (r := x0) (x := x1) (n := 64 * k.val + x0.val + 19) (q := 1536) (b := 2) (a := 8 * 2 + 64 * k.val) (k0_off57_eq k 2) (copy_at rfl) hj
    · exact tap_read h2 17 hj
    · exact copy_read h8 (r := x0) (x := x1) (n := 64 * k.val + x0.val + 20) (q := 1536) (b := 3) (a := 8 * 2 + 64 * k.val) (k0_off58_eq k 2) (copy_at rfl) hj
    · exact tap_read h2 18 hj
    · exact copy_read h8 (r := x0) (x := x1) (n := 64 * k.val + x0.val + 21) (q := 1536) (b := 4) (a := 8 * 2 + 64 * k.val) (k0_off59_eq k 2) (copy_at rfl) hj
    · exact tap_read h2 19 hj
    · exact copy_read h8 (r := x0) (x := x1) (n := 64 * k.val + x0.val + 22) (q := 1536) (b := 5) (a := 8 * 2 + 64 * k.val) (k0_off60_eq k 2) (copy_at rfl) hj
    · exact tap_read h2 20 hj
    · exact copy_read h8 (r := x0) (x := x1) (n := 64 * k.val + x0.val + 23) (q := 1536) (b := 6) (a := 8 * 2 + 64 * k.val) (k0_off61_eq k 2) (copy_at rfl) hj
    · exact tap_read h2 21 hj
    · exact rows_read h7 (r := x0) (x := x1) (n := 64 * k.val + x0.val + 24) (q := 1536) (a := 8 * 2 + 64 * k.val + 8) (k0_off55_eq k 2) (rows_at rfl) hj
    · exact tap_read h2 22 hj
    · exact copy_read h8 (r := x0) (x := x1) (n := 64 * k.val + x0.val + 25) (q := 1536) (b := 0) (a := 8 * 2 + 64 * k.val + 8) (k0_off62_eq k 2) (next_at rfl) hj
    · exact tap_read h2 23 hj
    · exact copy_read h8 (r := x0) (x := x1) (n := 64 * k.val + x0.val + 26) (q := 1536) (b := 1) (a := 8 * 3 + 64 * k.val) (k0_off56_eq k 3) (copy_at rfl) hj
    · exact tap_read h2 24 hj
    · exact copy_read h8 (r := x0) (x := x1) (n := 64 * k.val + x0.val + 27) (q := 1536) (b := 2) (a := 8 * 3 + 64 * k.val) (k0_off57_eq k 3) (copy_at rfl) hj
    · exact tap_read h2 25 hj
    · exact copy_read h8 (r := x0) (x := x1) (n := 64 * k.val + x0.val + 28) (q := 1536) (b := 3) (a := 8 * 3 + 64 * k.val) (k0_off58_eq k 3) (copy_at rfl) hj
    · exact tap_read h2 26 hj
    · exact copy_read h8 (r := x0) (x := x1) (n := 64 * k.val + x0.val + 29) (q := 1536) (b := 4) (a := 8 * 3 + 64 * k.val) (k0_off59_eq k 3) (copy_at rfl) hj
    · exact tap_read h2 27 hj
    · exact copy_read h8 (r := x0) (x := x1) (n := 64 * k.val + x0.val + 30) (q := 1536) (b := 5) (a := 8 * 3 + 64 * k.val) (k0_off60_eq k 3) (copy_at rfl) hj
    · exact tap_read h2 28 hj
    · exact copy_read h8 (r := x0) (x := x1) (n := 64 * k.val + x0.val + 31) (q := 1536) (b := 6) (a := 8 * 3 + 64 * k.val) (k0_off61_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 1280 + x1.val = jj.val := ⟨⟨1280 + x1.val, by omega⟩, rfl⟩
    refine Eq.trans ?_ (conv_congr (n := 64 * k.val + x0.val) (j := jj) ?_ ?_)
    rotate_left
    · show _ = k0_off54 k 0 + 1 * x0.val
      rw [k0_off54_eq k]
      show _ = 64 * k.val + 1 * x0.val
      omega
    · show _ = k0_off54 k 1 + 1 * x1.val
      rw [k0_off54_eq k]
      show _ = 1280 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 1280) (a := 8 * 3 + 64 * k.val + 8) (k0_off46_eq k 3) (rows_at rfl) hj
    · exact tap_read h2 30 hj
    · exact bias_read h3 hj
    · exact copy_read h8 (r := x0) (x := x1) (n := 64 * k.val + x0.val + 2) (q := 1280) (b := 1) (a := 8 * 0 + 64 * k.val) (k0_off47_eq k 0) (copy_at rfl) hj
    · exact tap_read h2 0 hj
    · exact copy_read h8 (r := x0) (x := x1) (n := 64 * k.val + x0.val + 3) (q := 1280) (b := 2) (a := 8 * 0 + 64 * k.val) (k0_off48_eq k 0) (copy_at rfl) hj
    · exact tap_read h2 1 hj
    · exact copy_read h8 (r := x0) (x := x1) (n := 64 * k.val + x0.val + 4) (q := 1280) (b := 3) (a := 8 * 0 + 64 * k.val) (k0_off49_eq k 0) (copy_at rfl) hj
    · exact tap_read h2 2 hj
    · exact copy_read h8 (r := x0) (x := x1) (n := 64 * k.val + x0.val + 5) (q := 1280) (b := 4) (a := 8 * 0 + 64 * k.val) (k0_off50_eq k 0) (copy_at rfl) hj
    · exact tap_read h2 3 hj
    · exact copy_read h8 (r := x0) (x := x1) (n := 64 * k.val + x0.val + 6) (q := 1280) (b := 5) (a := 8 * 0 + 64 * k.val) (k0_off51_eq k 0) (copy_at rfl) hj
    · exact tap_read h2 4 hj
    · exact copy_read h8 (r := x0) (x := x1) (n := 64 * k.val + x0.val + 7) (q := 1280) (b := 6) (a := 8 * 0 + 64 * k.val) (k0_off52_eq k 0) (copy_at rfl) hj
    · exact tap_read h2 5 hj
    · exact rows_read h7 (r := x0) (x := x1) (n := 64 * k.val + x0.val + 8) (q := 1280) (a := 8 * 0 + 64 * k.val + 8) (k0_off46_eq k 0) (rows_at rfl) hj
    · exact tap_read h2 6 hj
    · exact copy_read h8 (r := x0) (x := x1) (n := 64 * k.val + x0.val + 9) (q := 1280) (b := 0) (a := 8 * 0 + 64 * k.val + 8) (k0_off53_eq k 0) (next_at rfl) hj
    · exact tap_read h2 7 hj
    · exact copy_read h8 (r := x0) (x := x1) (n := 64 * k.val + x0.val + 10) (q := 1280) (b := 1) (a := 8 * 1 + 64 * k.val) (k0_off47_eq k 1) (copy_at rfl) hj
    · exact tap_read h2 8 hj
    · exact copy_read h8 (r := x0) (x := x1) (n := 64 * k.val + x0.val + 11) (q := 1280) (b := 2) (a := 8 * 1 + 64 * k.val) (k0_off48_eq k 1) (copy_at rfl) hj
    · exact tap_read h2 9 hj
    · exact copy_read h8 (r := x0) (x := x1) (n := 64 * k.val + x0.val + 12) (q := 1280) (b := 3) (a := 8 * 1 + 64 * k.val) (k0_off49_eq k 1) (copy_at rfl) hj
    · exact tap_read h2 10 hj
    · exact copy_read h8 (r := x0) (x := x1) (n := 64 * k.val + x0.val + 13) (q := 1280) (b := 4) (a := 8 * 1 + 64 * k.val) (k0_off50_eq k 1) (copy_at rfl) hj
    · exact tap_read h2 11 hj
    · exact copy_read h8 (r := x0) (x := x1) (n := 64 * k.val + x0.val + 14) (q := 1280) (b := 5) (a := 8 * 1 + 64 * k.val) (k0_off51_eq k 1) (copy_at rfl) hj
    · exact tap_read h2 12 hj
    · exact copy_read h8 (r := x0) (x := x1) (n := 64 * k.val + x0.val + 15) (q := 1280) (b := 6) (a := 8 * 1 + 64 * k.val) (k0_off52_eq k 1) (copy_at rfl) hj
    · exact tap_read h2 13 hj
    · exact rows_read h7 (r := x0) (x := x1) (n := 64 * k.val + x0.val + 16) (q := 1280) (a := 8 * 1 + 64 * k.val + 8) (k0_off46_eq k 1) (rows_at rfl) hj
    · exact tap_read h2 14 hj
    · exact copy_read h8 (r := x0) (x := x1) (n := 64 * k.val + x0.val + 17) (q := 1280) (b := 0) (a := 8 * 1 + 64 * k.val + 8) (k0_off53_eq k 1) (next_at rfl) hj
    · exact tap_read h2 15 hj
    · exact copy_read h8 (r := x0) (x := x1) (n := 64 * k.val + x0.val + 18) (q := 1280) (b := 1) (a := 8 * 2 + 64 * k.val) (k0_off47_eq k 2) (copy_at rfl) hj
    · exact tap_read h2 16 hj
    · exact copy_read h8 (r := x0) (x := x1) (n := 64 * k.val + x0.val + 19) (q := 1280) (b := 2) (a := 8 * 2 + 64 * k.val) (k0_off48_eq k 2) (copy_at rfl) hj
    · exact tap_read h2 17 hj
    · exact copy_read h8 (r := x0) (x := x1) (n := 64 * k.val + x0.val + 20) (q := 1280) (b := 3) (a := 8 * 2 + 64 * k.val) (k0_off49_eq k 2) (copy_at rfl) hj
    · exact tap_read h2 18 hj
    · exact copy_read h8 (r := x0) (x := x1) (n := 64 * k.val + x0.val + 21) (q := 1280) (b := 4) (a := 8 * 2 + 64 * k.val) (k0_off50_eq k 2) (copy_at rfl) hj
    · exact tap_read h2 19 hj
    · exact copy_read h8 (r := x0) (x := x1) (n := 64 * k.val + x0.val + 22) (q := 1280) (b := 5) (a := 8 * 2 + 64 * k.val) (k0_off51_eq k 2) (copy_at rfl) hj
    · exact tap_read h2 20 hj
    · exact copy_read h8 (r := x0) (x := x1) (n := 64 * k.val + x0.val + 23) (q := 1280) (b := 6) (a := 8 * 2 + 64 * k.val) (k0_off52_eq k 2) (copy_at rfl) hj
    · exact tap_read h2 21 hj
    · exact rows_read h7 (r := x0) (x := x1) (n := 64 * k.val + x0.val + 24) (q := 1280) (a := 8 * 2 + 64 * k.val + 8) (k0_off46_eq k 2) (rows_at rfl) hj
    · exact tap_read h2 22 hj
    · exact copy_read h8 (r := x0) (x := x1) (n := 64 * k.val + x0.val + 25) (q := 1280) (b := 0) (a := 8 * 2 + 64 * k.val + 8) (k0_off53_eq k 2) (next_at rfl) hj
    · exact tap_read h2 23 hj
    · exact copy_read h8 (r := x0) (x := x1) (n := 64 * k.val + x0.val + 26) (q := 1280) (b := 1) (a := 8 * 3 + 64 * k.val) (k0_off47_eq k 3) (copy_at rfl) hj
    · exact tap_read h2 24 hj
    · exact copy_read h8 (r := x0) (x := x1) (n := 64 * k.val + x0.val + 27) (q := 1280) (b := 2) (a := 8 * 3 + 64 * k.val) (k0_off48_eq k 3) (copy_at rfl) hj
    · exact tap_read h2 25 hj
    · exact copy_read h8 (r := x0) (x := x1) (n := 64 * k.val + x0.val + 28) (q := 1280) (b := 3) (a := 8 * 3 + 64 * k.val) (k0_off49_eq k 3) (copy_at rfl) hj
    · exact tap_read h2 26 hj
    · exact copy_read h8 (r := x0) (x := x1) (n := 64 * k.val + x0.val + 29) (q := 1280) (b := 4) (a := 8 * 3 + 64 * k.val) (k0_off50_eq k 3) (copy_at rfl) hj
    · exact tap_read h2 27 hj
    · exact copy_read h8 (r := x0) (x := x1) (n := 64 * k.val + x0.val + 30) (q := 1280) (b := 5) (a := 8 * 3 + 64 * k.val) (k0_off51_eq k 3) (copy_at rfl) hj
    · exact tap_read h2 28 hj
    · exact copy_read h8 (r := x0) (x := x1) (n := 64 * k.val + x0.val + 31) (q := 1280) (b := 6) (a := 8 * 3 + 64 * k.val) (k0_off52_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 1024 + x1.val = jj.val := ⟨⟨1024 + x1.val, by omega⟩, rfl⟩
    refine Eq.trans ?_ (conv_congr (n := 64 * k.val + x0.val) (j := jj) ?_ ?_)
    rotate_left
    · show _ = k0_off45 k 0 + 1 * x0.val
      rw [k0_off45_eq k]
      show _ = 64 * k.val + 1 * x0.val
      omega
    · show _ = k0_off45 k 1 + 1 * x1.val
      rw [k0_off45_eq k]
      show _ = 1024 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 1024) (a := 8 * 3 + 64 * k.val + 8) (k0_off37_eq k 3) (rows_at rfl) hj
    · exact tap_read h2 30 hj
    · exact bias_read h3 hj
    · exact copy_read h8 (r := x0) (x := x1) (n := 64 * k.val + x0.val + 2) (q := 1024) (b := 1) (a := 8 * 0 + 64 * k.val) (k0_off38_eq k 0) (copy_at rfl) hj
    · exact tap_read h2 0 hj
    · exact copy_read h8 (r := x0) (x := x1) (n := 64 * k.val + x0.val + 3) (q := 1024) (b := 2) (a := 8 * 0 + 64 * k.val) (k0_off39_eq k 0) (copy_at rfl) hj
    · exact tap_read h2 1 hj
    · exact copy_read h8 (r := x0) (x := x1) (n := 64 * k.val + x0.val + 4) (q := 1024) (b := 3) (a := 8 * 0 + 64 * k.val) (k0_off40_eq k 0) (copy_at rfl) hj
    · exact tap_read h2 2 hj
    · exact copy_read h8 (r := x0) (x := x1) (n := 64 * k.val + x0.val + 5) (q := 1024) (b := 4) (a := 8 * 0 + 64 * k.val) (k0_off41_eq k 0) (copy_at rfl) hj
    · exact tap_read h2 3 hj
    · exact copy_read h8 (r := x0) (x := x1) (n := 64 * k.val + x0.val + 6) (q := 1024) (b := 5) (a := 8 * 0 + 64 * k.val) (k0_off42_eq k 0) (copy_at rfl) hj
    · exact tap_read h2 4 hj
    · exact copy_read h8 (r := x0) (x := x1) (n := 64 * k.val + x0.val + 7) (q := 1024) (b := 6) (a := 8 * 0 + 64 * k.val) (k0_off43_eq k 0) (copy_at rfl) hj
    · exact tap_read h2 5 hj
    · exact rows_read h7 (r := x0) (x := x1) (n := 64 * k.val + x0.val + 8) (q := 1024) (a := 8 * 0 + 64 * k.val + 8) (k0_off37_eq k 0) (rows_at rfl) hj
    · exact tap_read h2 6 hj
    · exact copy_read h8 (r := x0) (x := x1) (n := 64 * k.val + x0.val + 9) (q := 1024) (b := 0) (a := 8 * 0 + 64 * k.val + 8) (k0_off44_eq k 0) (next_at rfl) hj
    · exact tap_read h2 7 hj
    · exact copy_read h8 (r := x0) (x := x1) (n := 64 * k.val + x0.val + 10) (q := 1024) (b := 1) (a := 8 * 1 + 64 * k.val) (k0_off38_eq k 1) (copy_at rfl) hj
    · exact tap_read h2 8 hj
    · exact copy_read h8 (r := x0) (x := x1) (n := 64 * k.val + x0.val + 11) (q := 1024) (b := 2) (a := 8 * 1 + 64 * k.val) (k0_off39_eq k 1) (copy_at rfl) hj
    · exact tap_read h2 9 hj
    · exact copy_read h8 (r := x0) (x := x1) (n := 64 * k.val + x0.val + 12) (q := 1024) (b := 3) (a := 8 * 1 + 64 * k.val) (k0_off40_eq k 1) (copy_at rfl) hj
    · exact tap_read h2 10 hj
    · exact copy_read h8 (r := x0) (x := x1) (n := 64 * k.val + x0.val + 13) (q := 1024) (b := 4) (a := 8 * 1 + 64 * k.val) (k0_off41_eq k 1) (copy_at rfl) hj
    · exact tap_read h2 11 hj
    · exact copy_read h8 (r := x0) (x := x1) (n := 64 * k.val + x0.val + 14) (q := 1024) (b := 5) (a := 8 * 1 + 64 * k.val) (k0_off42_eq k 1) (copy_at rfl) hj
    · exact tap_read h2 12 hj
    · exact copy_read h8 (r := x0) (x := x1) (n := 64 * k.val + x0.val + 15) (q := 1024) (b := 6) (a := 8 * 1 + 64 * k.val) (k0_off43_eq k 1) (copy_at rfl) hj
    · exact tap_read h2 13 hj
    · exact rows_read h7 (r := x0) (x := x1) (n := 64 * k.val + x0.val + 16) (q := 1024) (a := 8 * 1 + 64 * k.val + 8) (k0_off37_eq k 1) (rows_at rfl) hj
    · exact tap_read h2 14 hj
    · exact copy_read h8 (r := x0) (x := x1) (n := 64 * k.val + x0.val + 17) (q := 1024) (b := 0) (a := 8 * 1 + 64 * k.val + 8) (k0_off44_eq k 1) (next_at rfl) hj
    · exact tap_read h2 15 hj
    · exact copy_read h8 (r := x0) (x := x1) (n := 64 * k.val + x0.val + 18) (q := 1024) (b := 1) (a := 8 * 2 + 64 * k.val) (k0_off38_eq k 2) (copy_at rfl) hj
    · exact tap_read h2 16 hj
    · exact copy_read h8 (r := x0) (x := x1) (n := 64 * k.val + x0.val + 19) (q := 1024) (b := 2) (a := 8 * 2 + 64 * k.val) (k0_off39_eq k 2) (copy_at rfl) hj
    · exact tap_read h2 17 hj
    · exact copy_read h8 (r := x0) (x := x1) (n := 64 * k.val + x0.val + 20) (q := 1024) (b := 3) (a := 8 * 2 + 64 * k.val) (k0_off40_eq k 2) (copy_at rfl) hj
    · exact tap_read h2 18 hj
    · exact copy_read h8 (r := x0) (x := x1) (n := 64 * k.val + x0.val + 21) (q := 1024) (b := 4) (a := 8 * 2 + 64 * k.val) (k0_off41_eq k 2) (copy_at rfl) hj
    · exact tap_read h2 19 hj
    · exact copy_read h8 (r := x0) (x := x1) (n := 64 * k.val + x0.val + 22) (q := 1024) (b := 5) (a := 8 * 2 + 64 * k.val) (k0_off42_eq k 2) (copy_at rfl) hj
    · exact tap_read h2 20 hj
    · exact copy_read h8 (r := x0) (x := x1) (n := 64 * k.val + x0.val + 23) (q := 1024) (b := 6) (a := 8 * 2 + 64 * k.val) (k0_off43_eq k 2) (copy_at rfl) hj
    · exact tap_read h2 21 hj
    · exact rows_read h7 (r := x0) (x := x1) (n := 64 * k.val + x0.val + 24) (q := 1024) (a := 8 * 2 + 64 * k.val + 8) (k0_off37_eq k 2) (rows_at rfl) hj
    · exact tap_read h2 22 hj
    · exact copy_read h8 (r := x0) (x := x1) (n := 64 * k.val + x0.val + 25) (q := 1024) (b := 0) (a := 8 * 2 + 64 * k.val + 8) (k0_off44_eq k 2) (next_at rfl) hj
    · exact tap_read h2 23 hj
    · exact copy_read h8 (r := x0) (x := x1) (n := 64 * k.val + x0.val + 26) (q := 1024) (b := 1) (a := 8 * 3 + 64 * k.val) (k0_off38_eq k 3) (copy_at rfl) hj
    · exact tap_read h2 24 hj
    · exact copy_read h8 (r := x0) (x := x1) (n := 64 * k.val + x0.val + 27) (q := 1024) (b := 2) (a := 8 * 3 + 64 * k.val) (k0_off39_eq k 3) (copy_at rfl) hj
    · exact tap_read h2 25 hj
    · exact copy_read h8 (r := x0) (x := x1) (n := 64 * k.val + x0.val + 28) (q := 1024) (b := 3) (a := 8 * 3 + 64 * k.val) (k0_off40_eq k 3) (copy_at rfl) hj
    · exact tap_read h2 26 hj
    · exact copy_read h8 (r := x0) (x := x1) (n := 64 * k.val + x0.val + 29) (q := 1024) (b := 4) (a := 8 * 3 + 64 * k.val) (k0_off41_eq k 3) (copy_at rfl) hj
    · exact tap_read h2 27 hj
    · exact copy_read h8 (r := x0) (x := x1) (n := 64 * k.val + x0.val + 30) (q := 1024) (b := 5) (a := 8 * 3 + 64 * k.val) (k0_off42_eq k 3) (copy_at rfl) hj
    · exact tap_read h2 28 hj
    · exact copy_read h8 (r := x0) (x := x1) (n := 64 * k.val + x0.val + 31) (q := 1024) (b := 6) (a := 8 * 3 + 64 * k.val) (k0_off43_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 768 + x1.val = jj.val := ⟨⟨768 + x1.val, by omega⟩, rfl⟩
    refine Eq.trans ?_ (conv_congr (n := 64 * k.val + x0.val) (j := jj) ?_ ?_)
    rotate_left
    · show _ = k0_off36 k 0 + 1 * x0.val
      rw [k0_off36_eq k]
      show _ = 64 * k.val + 1 * x0.val
      omega
    · show _ = k0_off36 k 1 + 1 * x1.val
      rw [k0_off36_eq k]
      show _ = 768 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 768) (a := 8 * 3 + 64 * k.val + 8) (k0_off28_eq k 3) (rows_at rfl) hj
    · exact tap_read h2 30 hj
    · exact bias_read h3 hj
    · exact copy_read h8 (r := x0) (x := x1) (n := 64 * k.val + x0.val + 2) (q := 768) (b := 1) (a := 8 * 0 + 64 * k.val) (k0_off29_eq k 0) (copy_at rfl) hj
    · exact tap_read h2 0 hj
    · exact copy_read h8 (r := x0) (x := x1) (n := 64 * k.val + x0.val + 3) (q := 768) (b := 2) (a := 8 * 0 + 64 * k.val) (k0_off30_eq k 0) (copy_at rfl) hj
    · exact tap_read h2 1 hj
    · exact copy_read h8 (r := x0) (x := x1) (n := 64 * k.val + x0.val + 4) (q := 768) (b := 3) (a := 8 * 0 + 64 * k.val) (k0_off31_eq k 0) (copy_at rfl) hj
    · exact tap_read h2 2 hj
    · exact copy_read h8 (r := x0) (x := x1) (n := 64 * k.val + x0.val + 5) (q := 768) (b := 4) (a := 8 * 0 + 64 * k.val) (k0_off32_eq k 0) (copy_at rfl) hj
    · exact tap_read h2 3 hj
    · exact copy_read h8 (r := x0) (x := x1) (n := 64 * k.val + x0.val + 6) (q := 768) (b := 5) (a := 8 * 0 + 64 * k.val) (k0_off33_eq k 0) (copy_at rfl) hj
    · exact tap_read h2 4 hj
    · exact copy_read h8 (r := x0) (x := x1) (n := 64 * k.val + x0.val + 7) (q := 768) (b := 6) (a := 8 * 0 + 64 * k.val) (k0_off34_eq k 0) (copy_at rfl) hj
    · exact tap_read h2 5 hj
    · exact rows_read h7 (r := x0) (x := x1) (n := 64 * k.val + x0.val + 8) (q := 768) (a := 8 * 0 + 64 * k.val + 8) (k0_off28_eq k 0) (rows_at rfl) hj
    · exact tap_read h2 6 hj
    · exact copy_read h8 (r := x0) (x := x1) (n := 64 * k.val + x0.val + 9) (q := 768) (b := 0) (a := 8 * 0 + 64 * k.val + 8) (k0_off35_eq k 0) (next_at rfl) hj
    · exact tap_read h2 7 hj
    · exact copy_read h8 (r := x0) (x := x1) (n := 64 * k.val + x0.val + 10) (q := 768) (b := 1) (a := 8 * 1 + 64 * k.val) (k0_off29_eq k 1) (copy_at rfl) hj
    · exact tap_read h2 8 hj
    · exact copy_read h8 (r := x0) (x := x1) (n := 64 * k.val + x0.val + 11) (q := 768) (b := 2) (a := 8 * 1 + 64 * k.val) (k0_off30_eq k 1) (copy_at rfl) hj
    · exact tap_read h2 9 hj
    · exact copy_read h8 (r := x0) (x := x1) (n := 64 * k.val + x0.val + 12) (q := 768) (b := 3) (a := 8 * 1 + 64 * k.val) (k0_off31_eq k 1) (copy_at rfl) hj
    · exact tap_read h2 10 hj
    · exact copy_read h8 (r := x0) (x := x1) (n := 64 * k.val + x0.val + 13) (q := 768) (b := 4) (a := 8 * 1 + 64 * k.val) (k0_off32_eq k 1) (copy_at rfl) hj
    · exact tap_read h2 11 hj
    · exact copy_read h8 (r := x0) (x := x1) (n := 64 * k.val + x0.val + 14) (q := 768) (b := 5) (a := 8 * 1 + 64 * k.val) (k0_off33_eq k 1) (copy_at rfl) hj
    · exact tap_read h2 12 hj
    · exact copy_read h8 (r := x0) (x := x1) (n := 64 * k.val + x0.val + 15) (q := 768) (b := 6) (a := 8 * 1 + 64 * k.val) (k0_off34_eq k 1) (copy_at rfl) hj
    · exact tap_read h2 13 hj
    · exact rows_read h7 (r := x0) (x := x1) (n := 64 * k.val + x0.val + 16) (q := 768) (a := 8 * 1 + 64 * k.val + 8) (k0_off28_eq k 1) (rows_at rfl) hj
    · exact tap_read h2 14 hj
    · exact copy_read h8 (r := x0) (x := x1) (n := 64 * k.val + x0.val + 17) (q := 768) (b := 0) (a := 8 * 1 + 64 * k.val + 8) (k0_off35_eq k 1) (next_at rfl) hj
    · exact tap_read h2 15 hj
    · exact copy_read h8 (r := x0) (x := x1) (n := 64 * k.val + x0.val + 18) (q := 768) (b := 1) (a := 8 * 2 + 64 * k.val) (k0_off29_eq k 2) (copy_at rfl) hj
    · exact tap_read h2 16 hj
    · exact copy_read h8 (r := x0) (x := x1) (n := 64 * k.val + x0.val + 19) (q := 768) (b := 2) (a := 8 * 2 + 64 * k.val) (k0_off30_eq k 2) (copy_at rfl) hj
    · exact tap_read h2 17 hj
    · exact copy_read h8 (r := x0) (x := x1) (n := 64 * k.val + x0.val + 20) (q := 768) (b := 3) (a := 8 * 2 + 64 * k.val) (k0_off31_eq k 2) (copy_at rfl) hj
    · exact tap_read h2 18 hj
    · exact copy_read h8 (r := x0) (x := x1) (n := 64 * k.val + x0.val + 21) (q := 768) (b := 4) (a := 8 * 2 + 64 * k.val) (k0_off32_eq k 2) (copy_at rfl) hj
    · exact tap_read h2 19 hj
    · exact copy_read h8 (r := x0) (x := x1) (n := 64 * k.val + x0.val + 22) (q := 768) (b := 5) (a := 8 * 2 + 64 * k.val) (k0_off33_eq k 2) (copy_at rfl) hj
    · exact tap_read h2 20 hj
    · exact copy_read h8 (r := x0) (x := x1) (n := 64 * k.val + x0.val + 23) (q := 768) (b := 6) (a := 8 * 2 + 64 * k.val) (k0_off34_eq k 2) (copy_at rfl) hj
    · exact tap_read h2 21 hj
    · exact rows_read h7 (r := x0) (x := x1) (n := 64 * k.val + x0.val + 24) (q := 768) (a := 8 * 2 + 64 * k.val + 8) (k0_off28_eq k 2) (rows_at rfl) hj
    · exact tap_read h2 22 hj
    · exact copy_read h8 (r := x0) (x := x1) (n := 64 * k.val + x0.val + 25) (q := 768) (b := 0) (a := 8 * 2 + 64 * k.val + 8) (k0_off35_eq k 2) (next_at rfl) hj
    · exact tap_read h2 23 hj
    · exact copy_read h8 (r := x0) (x := x1) (n := 64 * k.val + x0.val + 26) (q := 768) (b := 1) (a := 8 * 3 + 64 * k.val) (k0_off29_eq k 3) (copy_at rfl) hj
    · exact tap_read h2 24 hj
    · exact copy_read h8 (r := x0) (x := x1) (n := 64 * k.val + x0.val + 27) (q := 768) (b := 2) (a := 8 * 3 + 64 * k.val) (k0_off30_eq k 3) (copy_at rfl) hj
    · exact tap_read h2 25 hj
    · exact copy_read h8 (r := x0) (x := x1) (n := 64 * k.val + x0.val + 28) (q := 768) (b := 3) (a := 8 * 3 + 64 * k.val) (k0_off31_eq k 3) (copy_at rfl) hj
    · exact tap_read h2 26 hj
    · exact copy_read h8 (r := x0) (x := x1) (n := 64 * k.val + x0.val + 29) (q := 768) (b := 4) (a := 8 * 3 + 64 * k.val) (k0_off32_eq k 3) (copy_at rfl) hj
    · exact tap_read h2 27 hj
    · exact copy_read h8 (r := x0) (x := x1) (n := 64 * k.val + x0.val + 30) (q := 768) (b := 5) (a := 8 * 3 + 64 * k.val) (k0_off33_eq k 3) (copy_at rfl) hj
    · exact tap_read h2 28 hj
    · exact copy_read h8 (r := x0) (x := x1) (n := 64 * k.val + x0.val + 31) (q := 768) (b := 6) (a := 8 * 3 + 64 * k.val) (k0_off34_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 512 + x1.val = jj.val := ⟨⟨512 + x1.val, by omega⟩, rfl⟩
    refine Eq.trans ?_ (conv_congr (n := 64 * k.val + x0.val) (j := jj) ?_ ?_)
    rotate_left
    · show _ = k0_off27 k 0 + 1 * x0.val
      rw [k0_off27_eq k]
      show _ = 64 * k.val + 1 * x0.val
      omega
    · show _ = k0_off27 k 1 + 1 * x1.val
      rw [k0_off27_eq k]
      show _ = 512 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 512) (a := 8 * 3 + 64 * k.val + 8) (k0_off19_eq k 3) (rows_at rfl) hj
    · exact tap_read h2 30 hj
    · exact bias_read h3 hj
    · exact copy_read h8 (r := x0) (x := x1) (n := 64 * k.val + x0.val + 2) (q := 512) (b := 1) (a := 8 * 0 + 64 * k.val) (k0_off20_eq k 0) (copy_at rfl) hj
    · exact tap_read h2 0 hj
    · exact copy_read h8 (r := x0) (x := x1) (n := 64 * k.val + x0.val + 3) (q := 512) (b := 2) (a := 8 * 0 + 64 * k.val) (k0_off21_eq k 0) (copy_at rfl) hj
    · exact tap_read h2 1 hj
    · exact copy_read h8 (r := x0) (x := x1) (n := 64 * k.val + x0.val + 4) (q := 512) (b := 3) (a := 8 * 0 + 64 * k.val) (k0_off22_eq k 0) (copy_at rfl) hj
    · exact tap_read h2 2 hj
    · exact copy_read h8 (r := x0) (x := x1) (n := 64 * k.val + x0.val + 5) (q := 512) (b := 4) (a := 8 * 0 + 64 * k.val) (k0_off23_eq k 0) (copy_at rfl) hj
    · exact tap_read h2 3 hj
    · exact copy_read h8 (r := x0) (x := x1) (n := 64 * k.val + x0.val + 6) (q := 512) (b := 5) (a := 8 * 0 + 64 * k.val) (k0_off24_eq k 0) (copy_at rfl) hj
    · exact tap_read h2 4 hj
    · exact copy_read h8 (r := x0) (x := x1) (n := 64 * k.val + x0.val + 7) (q := 512) (b := 6) (a := 8 * 0 + 64 * k.val) (k0_off25_eq k 0) (copy_at rfl) hj
    · exact tap_read h2 5 hj
    · exact rows_read h7 (r := x0) (x := x1) (n := 64 * k.val + x0.val + 8) (q := 512) (a := 8 * 0 + 64 * k.val + 8) (k0_off19_eq k 0) (rows_at rfl) hj
    · exact tap_read h2 6 hj
    · exact copy_read h8 (r := x0) (x := x1) (n := 64 * k.val + x0.val + 9) (q := 512) (b := 0) (a := 8 * 0 + 64 * k.val + 8) (k0_off26_eq k 0) (next_at rfl) hj
    · exact tap_read h2 7 hj
    · exact copy_read h8 (r := x0) (x := x1) (n := 64 * k.val + x0.val + 10) (q := 512) (b := 1) (a := 8 * 1 + 64 * k.val) (k0_off20_eq k 1) (copy_at rfl) hj
    · exact tap_read h2 8 hj
    · exact copy_read h8 (r := x0) (x := x1) (n := 64 * k.val + x0.val + 11) (q := 512) (b := 2) (a := 8 * 1 + 64 * k.val) (k0_off21_eq k 1) (copy_at rfl) hj
    · exact tap_read h2 9 hj
    · exact copy_read h8 (r := x0) (x := x1) (n := 64 * k.val + x0.val + 12) (q := 512) (b := 3) (a := 8 * 1 + 64 * k.val) (k0_off22_eq k 1) (copy_at rfl) hj
    · exact tap_read h2 10 hj
    · exact copy_read h8 (r := x0) (x := x1) (n := 64 * k.val + x0.val + 13) (q := 512) (b := 4) (a := 8 * 1 + 64 * k.val) (k0_off23_eq k 1) (copy_at rfl) hj
    · exact tap_read h2 11 hj
    · exact copy_read h8 (r := x0) (x := x1) (n := 64 * k.val + x0.val + 14) (q := 512) (b := 5) (a := 8 * 1 + 64 * k.val) (k0_off24_eq k 1) (copy_at rfl) hj
    · exact tap_read h2 12 hj
    · exact copy_read h8 (r := x0) (x := x1) (n := 64 * k.val + x0.val + 15) (q := 512) (b := 6) (a := 8 * 1 + 64 * k.val) (k0_off25_eq k 1) (copy_at rfl) hj
    · exact tap_read h2 13 hj
    · exact rows_read h7 (r := x0) (x := x1) (n := 64 * k.val + x0.val + 16) (q := 512) (a := 8 * 1 + 64 * k.val + 8) (k0_off19_eq k 1) (rows_at rfl) hj
    · exact tap_read h2 14 hj
    · exact copy_read h8 (r := x0) (x := x1) (n := 64 * k.val + x0.val + 17) (q := 512) (b := 0) (a := 8 * 1 + 64 * k.val + 8) (k0_off26_eq k 1) (next_at rfl) hj
    · exact tap_read h2 15 hj
    · exact copy_read h8 (r := x0) (x := x1) (n := 64 * k.val + x0.val + 18) (q := 512) (b := 1) (a := 8 * 2 + 64 * k.val) (k0_off20_eq k 2) (copy_at rfl) hj
    · exact tap_read h2 16 hj
    · exact copy_read h8 (r := x0) (x := x1) (n := 64 * k.val + x0.val + 19) (q := 512) (b := 2) (a := 8 * 2 + 64 * k.val) (k0_off21_eq k 2) (copy_at rfl) hj
    · exact tap_read h2 17 hj
    · exact copy_read h8 (r := x0) (x := x1) (n := 64 * k.val + x0.val + 20) (q := 512) (b := 3) (a := 8 * 2 + 64 * k.val) (k0_off22_eq k 2) (copy_at rfl) hj
    · exact tap_read h2 18 hj
    · exact copy_read h8 (r := x0) (x := x1) (n := 64 * k.val + x0.val + 21) (q := 512) (b := 4) (a := 8 * 2 + 64 * k.val) (k0_off23_eq k 2) (copy_at rfl) hj
    · exact tap_read h2 19 hj
    · exact copy_read h8 (r := x0) (x := x1) (n := 64 * k.val + x0.val + 22) (q := 512) (b := 5) (a := 8 * 2 + 64 * k.val) (k0_off24_eq k 2) (copy_at rfl) hj
    · exact tap_read h2 20 hj
    · exact copy_read h8 (r := x0) (x := x1) (n := 64 * k.val + x0.val + 23) (q := 512) (b := 6) (a := 8 * 2 + 64 * k.val) (k0_off25_eq k 2) (copy_at rfl) hj
    · exact tap_read h2 21 hj
    · exact rows_read h7 (r := x0) (x := x1) (n := 64 * k.val + x0.val + 24) (q := 512) (a := 8 * 2 + 64 * k.val + 8) (k0_off19_eq k 2) (rows_at rfl) hj
    · exact tap_read h2 22 hj
    · exact copy_read h8 (r := x0) (x := x1) (n := 64 * k.val + x0.val + 25) (q := 512) (b := 0) (a := 8 * 2 + 64 * k.val + 8) (k0_off26_eq k 2) (next_at rfl) hj
    · exact tap_read h2 23 hj
    · exact copy_read h8 (r := x0) (x := x1) (n := 64 * k.val + x0.val + 26) (q := 512) (b := 1) (a := 8 * 3 + 64 * k.val) (k0_off20_eq k 3) (copy_at rfl) hj
    · exact tap_read h2 24 hj
    · exact copy_read h8 (r := x0) (x := x1) (n := 64 * k.val + x0.val + 27) (q := 512) (b := 2) (a := 8 * 3 + 64 * k.val) (k0_off21_eq k 3) (copy_at rfl) hj
    · exact tap_read h2 25 hj
    · exact copy_read h8 (r := x0) (x := x1) (n := 64 * k.val + x0.val + 28) (q := 512) (b := 3) (a := 8 * 3 + 64 * k.val) (k0_off22_eq k 3) (copy_at rfl) hj
    · exact tap_read h2 26 hj
    · exact copy_read h8 (r := x0) (x := x1) (n := 64 * k.val + x0.val + 29) (q := 512) (b := 4) (a := 8 * 3 + 64 * k.val) (k0_off23_eq k 3) (copy_at rfl) hj
    · exact tap_read h2 27 hj
    · exact copy_read h8 (r := x0) (x := x1) (n := 64 * k.val + x0.val + 30) (q := 512) (b := 5) (a := 8 * 3 + 64 * k.val) (k0_off24_eq k 3) (copy_at rfl) hj
    · exact tap_read h2 28 hj
    · exact copy_read h8 (r := x0) (x := x1) (n := 64 * k.val + x0.val + 31) (q := 512) (b := 6) (a := 8 * 3 + 64 * k.val) (k0_off25_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 256 + x1.val = jj.val := ⟨⟨256 + x1.val, by omega⟩, rfl⟩
    refine Eq.trans ?_ (conv_congr (n := 64 * k.val + x0.val) (j := jj) ?_ ?_)
    rotate_left
    · show _ = k0_off18 k 0 + 1 * x0.val
      rw [k0_off18_eq k]
      show _ = 64 * k.val + 1 * x0.val
      omega
    · show _ = k0_off18 k 1 + 1 * x1.val
      rw [k0_off18_eq k]
      show _ = 256 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 256) (a := 8 * 3 + 64 * k.val + 8) (k0_off10_eq k 3) (rows_at rfl) hj
    · exact tap_read h2 30 hj
    · exact bias_read h3 hj
    · exact copy_read h8 (r := x0) (x := x1) (n := 64 * k.val + x0.val + 2) (q := 256) (b := 1) (a := 8 * 0 + 64 * k.val) (k0_off11_eq k 0) (copy_at rfl) hj
    · exact tap_read h2 0 hj
    · exact copy_read h8 (r := x0) (x := x1) (n := 64 * k.val + x0.val + 3) (q := 256) (b := 2) (a := 8 * 0 + 64 * k.val) (k0_off12_eq k 0) (copy_at rfl) hj
    · exact tap_read h2 1 hj
    · exact copy_read h8 (r := x0) (x := x1) (n := 64 * k.val + x0.val + 4) (q := 256) (b := 3) (a := 8 * 0 + 64 * k.val) (k0_off13_eq k 0) (copy_at rfl) hj
    · exact tap_read h2 2 hj
    · exact copy_read h8 (r := x0) (x := x1) (n := 64 * k.val + x0.val + 5) (q := 256) (b := 4) (a := 8 * 0 + 64 * k.val) (k0_off14_eq k 0) (copy_at rfl) hj
    · exact tap_read h2 3 hj
    · exact copy_read h8 (r := x0) (x := x1) (n := 64 * k.val + x0.val + 6) (q := 256) (b := 5) (a := 8 * 0 + 64 * k.val) (k0_off15_eq k 0) (copy_at rfl) hj
    · exact tap_read h2 4 hj
    · exact copy_read h8 (r := x0) (x := x1) (n := 64 * k.val + x0.val + 7) (q := 256) (b := 6) (a := 8 * 0 + 64 * k.val) (k0_off16_eq k 0) (copy_at rfl) hj
    · exact tap_read h2 5 hj
    · exact rows_read h7 (r := x0) (x := x1) (n := 64 * k.val + x0.val + 8) (q := 256) (a := 8 * 0 + 64 * k.val + 8) (k0_off10_eq k 0) (rows_at rfl) hj
    · exact tap_read h2 6 hj
    · exact copy_read h8 (r := x0) (x := x1) (n := 64 * k.val + x0.val + 9) (q := 256) (b := 0) (a := 8 * 0 + 64 * k.val + 8) (k0_off17_eq k 0) (next_at rfl) hj
    · exact tap_read h2 7 hj
    · exact copy_read h8 (r := x0) (x := x1) (n := 64 * k.val + x0.val + 10) (q := 256) (b := 1) (a := 8 * 1 + 64 * k.val) (k0_off11_eq k 1) (copy_at rfl) hj
    · exact tap_read h2 8 hj
    · exact copy_read h8 (r := x0) (x := x1) (n := 64 * k.val + x0.val + 11) (q := 256) (b := 2) (a := 8 * 1 + 64 * k.val) (k0_off12_eq k 1) (copy_at rfl) hj
    · exact tap_read h2 9 hj
    · exact copy_read h8 (r := x0) (x := x1) (n := 64 * k.val + x0.val + 12) (q := 256) (b := 3) (a := 8 * 1 + 64 * k.val) (k0_off13_eq k 1) (copy_at rfl) hj
    · exact tap_read h2 10 hj
    · exact copy_read h8 (r := x0) (x := x1) (n := 64 * k.val + x0.val + 13) (q := 256) (b := 4) (a := 8 * 1 + 64 * k.val) (k0_off14_eq k 1) (copy_at rfl) hj
    · exact tap_read h2 11 hj
    · exact copy_read h8 (r := x0) (x := x1) (n := 64 * k.val + x0.val + 14) (q := 256) (b := 5) (a := 8 * 1 + 64 * k.val) (k0_off15_eq k 1) (copy_at rfl) hj
    · exact tap_read h2 12 hj
    · exact copy_read h8 (r := x0) (x := x1) (n := 64 * k.val + x0.val + 15) (q := 256) (b := 6) (a := 8 * 1 + 64 * k.val) (k0_off16_eq k 1) (copy_at rfl) hj
    · exact tap_read h2 13 hj
    · exact rows_read h7 (r := x0) (x := x1) (n := 64 * k.val + x0.val + 16) (q := 256) (a := 8 * 1 + 64 * k.val + 8) (k0_off10_eq k 1) (rows_at rfl) hj
    · exact tap_read h2 14 hj
    · exact copy_read h8 (r := x0) (x := x1) (n := 64 * k.val + x0.val + 17) (q := 256) (b := 0) (a := 8 * 1 + 64 * k.val + 8) (k0_off17_eq k 1) (next_at rfl) hj
    · exact tap_read h2 15 hj
    · exact copy_read h8 (r := x0) (x := x1) (n := 64 * k.val + x0.val + 18) (q := 256) (b := 1) (a := 8 * 2 + 64 * k.val) (k0_off11_eq k 2) (copy_at rfl) hj
    · exact tap_read h2 16 hj
    · exact copy_read h8 (r := x0) (x := x1) (n := 64 * k.val + x0.val + 19) (q := 256) (b := 2) (a := 8 * 2 + 64 * k.val) (k0_off12_eq k 2) (copy_at rfl) hj
    · exact tap_read h2 17 hj
    · exact copy_read h8 (r := x0) (x := x1) (n := 64 * k.val + x0.val + 20) (q := 256) (b := 3) (a := 8 * 2 + 64 * k.val) (k0_off13_eq k 2) (copy_at rfl) hj
    · exact tap_read h2 18 hj
    · exact copy_read h8 (r := x0) (x := x1) (n := 64 * k.val + x0.val + 21) (q := 256) (b := 4) (a := 8 * 2 + 64 * k.val) (k0_off14_eq k 2) (copy_at rfl) hj
    · exact tap_read h2 19 hj
    · exact copy_read h8 (r := x0) (x := x1) (n := 64 * k.val + x0.val + 22) (q := 256) (b := 5) (a := 8 * 2 + 64 * k.val) (k0_off15_eq k 2) (copy_at rfl) hj
    · exact tap_read h2 20 hj
    · exact copy_read h8 (r := x0) (x := x1) (n := 64 * k.val + x0.val + 23) (q := 256) (b := 6) (a := 8 * 2 + 64 * k.val) (k0_off16_eq k 2) (copy_at rfl) hj
    · exact tap_read h2 21 hj
    · exact rows_read h7 (r := x0) (x := x1) (n := 64 * k.val + x0.val + 24) (q := 256) (a := 8 * 2 + 64 * k.val + 8) (k0_off10_eq k 2) (rows_at rfl) hj
    · exact tap_read h2 22 hj
    · exact copy_read h8 (r := x0) (x := x1) (n := 64 * k.val + x0.val + 25) (q := 256) (b := 0) (a := 8 * 2 + 64 * k.val + 8) (k0_off17_eq k 2) (next_at rfl) hj
    · exact tap_read h2 23 hj
    · exact copy_read h8 (r := x0) (x := x1) (n := 64 * k.val + x0.val + 26) (q := 256) (b := 1) (a := 8 * 3 + 64 * k.val) (k0_off11_eq k 3) (copy_at rfl) hj
    · exact tap_read h2 24 hj
    · exact copy_read h8 (r := x0) (x := x1) (n := 64 * k.val + x0.val + 27) (q := 256) (b := 2) (a := 8 * 3 + 64 * k.val) (k0_off12_eq k 3) (copy_at rfl) hj
    · exact tap_read h2 25 hj
    · exact copy_read h8 (r := x0) (x := x1) (n := 64 * k.val + x0.val + 28) (q := 256) (b := 3) (a := 8 * 3 + 64 * k.val) (k0_off13_eq k 3) (copy_at rfl) hj
    · exact tap_read h2 26 hj
    · exact copy_read h8 (r := x0) (x := x1) (n := 64 * k.val + x0.val + 29) (q := 256) (b := 4) (a := 8 * 3 + 64 * k.val) (k0_off14_eq k 3) (copy_at rfl) hj
    · exact tap_read h2 27 hj
    · exact copy_read h8 (r := x0) (x := x1) (n := 64 * k.val + x0.val + 30) (q := 256) (b := 5) (a := 8 * 3 + 64 * k.val) (k0_off15_eq k 3) (copy_at rfl) hj
    · exact tap_read h2 28 hj
    · exact copy_read h8 (r := x0) (x := x1) (n := 64 * k.val + x0.val + 31) (q := 256) (b := 6) (a := 8 * 3 + 64 * k.val) (k0_off16_eq k 3) (copy_at rfl) hj
    · exact tap_read h2 29 hj
  rcases List.mem_cons.mp hp with rfl | hp
  · clear hp
    intro x
    dsimp only at x ⊢
    idx_vars x
    obtain ⟨jj, hj⟩ : ∃ jj : Fin 2048, 0 + x1.val = jj.val := ⟨⟨0 + x1.val, by omega⟩, rfl⟩
    refine Eq.trans ?_ (conv_congr (n := 64 * k.val + x0.val) (j := jj) ?_ ?_)
    rotate_left
    · show _ = k0_off9 k 0 + 1 * x0.val
      rw [k0_off9_eq k]
      show _ = 64 * k.val + 1 * x0.val
      omega
    · show _ = k0_off9 k 1 + 1 * x1.val
      rw [k0_off9_eq k]
      show _ = 0 + 1 * x1.val
      omega
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94]
    refine (conv_of H W B (64 * k.val + x0.val) jj
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
    · exact rows_read h7 (r := x0) (x := x1) (n := 64 * k.val + x0.val + 32) (q := 0) (a := 8 * 3 + 64 * k.val + 8) (k0_off1_eq k 3) (rows_at rfl) hj
    · pointwise
      exact tap_read h2 30 hj
    · pointwise
      exact bias_read h3 hj
    · pointwise
      exact copy_read h8 (r := x0) (x := x1) (n := 64 * k.val + x0.val + 2) (q := 0) (b := 1) (a := 8 * 0 + 64 * k.val) (k0_off2_eq k 0) (copy_at rfl) hj
    · pointwise
      exact tap_read h2 0 hj
    · pointwise
      exact copy_read h8 (r := x0) (x := x1) (n := 64 * k.val + x0.val + 3) (q := 0) (b := 2) (a := 8 * 0 + 64 * k.val) (k0_off3_eq k 0) (copy_at rfl) hj
    · pointwise
      exact tap_read h2 1 hj
    · pointwise
      exact copy_read h8 (r := x0) (x := x1) (n := 64 * k.val + x0.val + 4) (q := 0) (b := 3) (a := 8 * 0 + 64 * k.val) (k0_off4_eq k 0) (copy_at rfl) hj
    · pointwise
      exact tap_read h2 2 hj
    · exact copy_read h8 (r := x0) (x := x1) (n := 64 * k.val + x0.val + 5) (q := 0) (b := 4) (a := 8 * 0 + 64 * k.val) (k0_off5_eq k 0) (copy_at rfl) hj
    · exact tap_read h2 3 hj
    · exact copy_read h8 (r := x0) (x := x1) (n := 64 * k.val + x0.val + 6) (q := 0) (b := 5) (a := 8 * 0 + 64 * k.val) (k0_off6_eq k 0) (copy_at rfl) hj
    · exact tap_read h2 4 hj
    · exact copy_read h8 (r := x0) (x := x1) (n := 64 * k.val + x0.val + 7) (q := 0) (b := 6) (a := 8 * 0 + 64 * k.val) (k0_off7_eq k 0) (copy_at rfl) hj
    · exact tap_read h2 5 hj
    · exact rows_read h7 (r := x0) (x := x1) (n := 64 * k.val + x0.val + 8) (q := 0) (a := 8 * 0 + 64 * k.val + 8) (k0_off1_eq k 0) (rows_at rfl) hj
    · exact tap_read h2 6 hj
    · exact copy_read h8 (r := x0) (x := x1) (n := 64 * k.val + x0.val + 9) (q := 0) (b := 0) (a := 8 * 0 + 64 * k.val + 8) (k0_off8_eq k 0) (next_at rfl) hj
    · exact tap_read h2 7 hj
    · exact copy_read h8 (r := x0) (x := x1) (n := 64 * k.val + x0.val + 10) (q := 0) (b := 1) (a := 8 * 1 + 64 * k.val) (k0_off2_eq k 1) (copy_at rfl) hj
    · exact tap_read h2 8 hj
    · exact copy_read h8 (r := x0) (x := x1) (n := 64 * k.val + x0.val + 11) (q := 0) (b := 2) (a := 8 * 1 + 64 * k.val) (k0_off3_eq k 1) (copy_at rfl) hj
    · exact tap_read h2 9 hj
    · exact copy_read h8 (r := x0) (x := x1) (n := 64 * k.val + x0.val + 12) (q := 0) (b := 3) (a := 8 * 1 + 64 * k.val) (k0_off4_eq k 1) (copy_at rfl) hj
    · exact tap_read h2 10 hj
    · exact copy_read h8 (r := x0) (x := x1) (n := 64 * k.val + x0.val + 13) (q := 0) (b := 4) (a := 8 * 1 + 64 * k.val) (k0_off5_eq k 1) (copy_at rfl) hj
    · exact tap_read h2 11 hj
    · exact copy_read h8 (r := x0) (x := x1) (n := 64 * k.val + x0.val + 14) (q := 0) (b := 5) (a := 8 * 1 + 64 * k.val) (k0_off6_eq k 1) (copy_at rfl) hj
    · exact tap_read h2 12 hj
    · exact copy_read h8 (r := x0) (x := x1) (n := 64 * k.val + x0.val + 15) (q := 0) (b := 6) (a := 8 * 1 + 64 * k.val) (k0_off7_eq k 1) (copy_at rfl) hj
    · exact tap_read h2 13 hj
    · exact rows_read h7 (r := x0) (x := x1) (n := 64 * k.val + x0.val + 16) (q := 0) (a := 8 * 1 + 64 * k.val + 8) (k0_off1_eq k 1) (rows_at rfl) hj
    · exact tap_read h2 14 hj
    · exact copy_read h8 (r := x0) (x := x1) (n := 64 * k.val + x0.val + 17) (q := 0) (b := 0) (a := 8 * 1 + 64 * k.val + 8) (k0_off8_eq k 1) (next_at rfl) hj
    · exact tap_read h2 15 hj
    · exact copy_read h8 (r := x0) (x := x1) (n := 64 * k.val + x0.val + 18) (q := 0) (b := 1) (a := 8 * 2 + 64 * k.val) (k0_off2_eq k 2) (copy_at rfl) hj
    · exact tap_read h2 16 hj
    · exact copy_read h8 (r := x0) (x := x1) (n := 64 * k.val + x0.val + 19) (q := 0) (b := 2) (a := 8 * 2 + 64 * k.val) (k0_off3_eq k 2) (copy_at rfl) hj
    · exact tap_read h2 17 hj
    · exact copy_read h8 (r := x0) (x := x1) (n := 64 * k.val + x0.val + 20) (q := 0) (b := 3) (a := 8 * 2 + 64 * k.val) (k0_off4_eq k 2) (copy_at rfl) hj
    · exact tap_read h2 18 hj
    · exact copy_read h8 (r := x0) (x := x1) (n := 64 * k.val + x0.val + 21) (q := 0) (b := 4) (a := 8 * 2 + 64 * k.val) (k0_off5_eq k 2) (copy_at rfl) hj
    · exact tap_read h2 19 hj
    · exact copy_read h8 (r := x0) (x := x1) (n := 64 * k.val + x0.val + 22) (q := 0) (b := 5) (a := 8 * 2 + 64 * k.val) (k0_off6_eq k 2) (copy_at rfl) hj
    · exact tap_read h2 20 hj
    · exact copy_read h8 (r := x0) (x := x1) (n := 64 * k.val + x0.val + 23) (q := 0) (b := 6) (a := 8 * 2 + 64 * k.val) (k0_off7_eq k 2) (copy_at rfl) hj
    · exact tap_read h2 21 hj
    · exact rows_read h7 (r := x0) (x := x1) (n := 64 * k.val + x0.val + 24) (q := 0) (a := 8 * 2 + 64 * k.val + 8) (k0_off1_eq k 2) (rows_at rfl) hj
    · exact tap_read h2 22 hj
    · exact copy_read h8 (r := x0) (x := x1) (n := 64 * k.val + x0.val + 25) (q := 0) (b := 0) (a := 8 * 2 + 64 * k.val + 8) (k0_off8_eq k 2) (next_at rfl) hj
    · exact tap_read h2 23 hj
    · exact copy_read h8 (r := x0) (x := x1) (n := 64 * k.val + x0.val + 26) (q := 0) (b := 1) (a := 8 * 3 + 64 * k.val) (k0_off2_eq k 3) (copy_at rfl) hj
    · exact tap_read h2 24 hj
    · exact copy_read h8 (r := x0) (x := x1) (n := 64 * k.val + x0.val + 27) (q := 0) (b := 2) (a := 8 * 3 + 64 * k.val) (k0_off3_eq k 3) (copy_at rfl) hj
    · exact tap_read h2 25 hj
    · exact copy_read h8 (r := x0) (x := x1) (n := 64 * k.val + x0.val + 28) (q := 0) (b := 3) (a := 8 * 3 + 64 * k.val) (k0_off4_eq k 3) (copy_at rfl) hj
    · exact tap_read h2 26 hj
    · exact copy_read h8 (r := x0) (x := x1) (n := 64 * k.val + x0.val + 29) (q := 0) (b := 4) (a := 8 * 3 + 64 * k.val) (k0_off5_eq k 3) (copy_at rfl) hj
    · exact tap_read h2 27 hj
    · exact copy_read h8 (r := x0) (x := x1) (n := 64 * k.val + x0.val + 30) (q := 0) (b := 5) (a := 8 * 3 + 64 * k.val) (k0_off6_eq k 3) (copy_at rfl) hj
    · exact tap_read h2 28 hj
    · exact copy_read h8 (r := x0) (x := x1) (n := 64 * k.val + x0.val + 31) (q := 0) (b := 6) (a := 8 * 3 + 64 * k.val) (k0_off7_eq k 3) (copy_at rfl) hj
    · exact tap_read h2 29 hj
  exact absurd hp List.not_mem_nil

/-- What the trips before `n` store. -/
theorem loop_stores (𝒱 : Variants) (c : Dev nD) (bd : Option 𝒱.V) (i : grid0.Coords) (arg1 : Memref sig .tc .vmem S256x2048 .f32) (harg1 : arg1.IsWhole) (arg2 : Memref sig .tc .vmem S31x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S288x2048 .f32) (harg7 : arg7.IsWhole) (arg8 : Memref sig .tc .vmem S7x280x2048 .f32) (harg8 : arg8.IsWhole) (arg9 : Memref sig .tc .vmem S256x2048 .f32) (harg9 : arg9.IsWhole) (v23 : Vec Ideal S280x2048 .f32) (X2 : BufTy.Contents (Elt Ideal) arg2.view.ty) (X3 : BufTy.Contents (Elt Ideal) arg3.view.ty) (X7 : BufTy.Contents (Elt Ideal) arg7.view.ty) (X8 : BufTy.Contents (Elt Ideal) arg8.view.ty)
    (H : ℕ → Fin 2048 → EReal) (W : Fin 31 → Fin 2048 → EReal) (B : Fin 2048 → EReal)
    (h2 : ∀ y : S31x2048.Idx, arg2.view.read (Elt Ideal) X2 y = W (y 0) (y 1))
    (h3 : ∀ y : S1x2048.Idx, arg3.view.read (Elt Ideal) X3 y = B (y 1))
    (h7 : ∀ y : S288x2048.Idx, arg7.view.read (Elt Ideal) X7 y = H (y 0).val (y 1))
    (h8 : ∀ y : S7x280x2048.Idx, arg8.view.read (Elt Ideal) X8 y = H ((y 0).val + 1 + (y 1).val) (y 2))
    (n : ℕ) (hn : n ≤ k0_t1_loop.trips) :
    ∀ p ∈ pb_k0_t1 (F := Ideal) 𝒱 c bd i arg1 harg1 arg2 harg2 arg3 harg3 arg4 harg4 arg5 harg5 arg6 harg6 arg7 harg7 arg8 harg8 arg9 harg9 v23 X2 X3 X7 X8 n, ∀ x, p.2 x = conv H W B ((p.1.emb x) 0).val ((p.1.emb x) 1) := by
  induction n with
  | zero => exact fun p hp => absurd hp List.not_mem_nil
  | succ k ih =>
    intro p hp
    have e := pb_k0_t1_succ (F := Ideal) 𝒱 c bd i arg1 harg1 arg2 harg2 arg3 harg3 arg4 harg4 arg5 harg5 arg6 harg6 arg7 harg7 arg8 harg8 arg9 harg9 v23 X2 X3 X7 X8 ⟨k, hn⟩
    rw [e] at hp
    rcases List.mem_append.mp hp with hp | hp
    · exact trip_stores 𝒱 c bd i arg1 harg1 arg2 harg2 arg3 harg3 arg4 harg4 arg5 harg5 arg6 harg6 arg7 harg7 arg8 harg8 arg9 harg9 v23 X2 X3 X7 X8 H W B h2 h3 h7 h8 ⟨k, hn⟩ p hp
    · exact ih (Nat.le_of_lt hn) p hp

/-- After the loop the buffer it stores to reads as the convolution. -/
theorem loop_reads (𝒱 : Variants) (c : Dev nD) (bd : Option 𝒱.V) (i : grid0.Coords) (arg1 : Memref sig .tc .vmem S256x2048 .f32) (harg1 : arg1.IsWhole) (arg2 : Memref sig .tc .vmem S31x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S288x2048 .f32) (harg7 : arg7.IsWhole) (arg8 : Memref sig .tc .vmem S7x280x2048 .f32) (harg8 : arg8.IsWhole) (arg9 : Memref sig .tc .vmem S256x2048 .f32) (harg9 : arg9.IsWhole) (v23 : Vec Ideal S280x2048 .f32) (X2 : BufTy.Contents (Elt Ideal) arg2.view.ty) (X3 : BufTy.Contents (Elt Ideal) arg3.view.ty) (X7 : BufTy.Contents (Elt Ideal) arg7.view.ty) (X8 : BufTy.Contents (Elt Ideal) arg8.view.ty)
    (H : ℕ → Fin 2048 → EReal) (W : Fin 31 → Fin 2048 → EReal) (B : Fin 2048 → EReal)
    (h2 : ∀ y : S31x2048.Idx, arg2.view.read (Elt Ideal) X2 y = W (y 0) (y 1))
    (h3 : ∀ y : S1x2048.Idx, arg3.view.read (Elt Ideal) X3 y = B (y 1))
    (h7 : ∀ y : S288x2048.Idx, arg7.view.read (Elt Ideal) X7 y = H (y 0).val (y 1))
    (h8 : ∀ y : S7x280x2048.Idx, arg8.view.read (Elt Ideal) X8 y = H ((y 0).val + 1 + (y 1).val) (y 2)) :
    View.canon (Val := Elt Ideal) (s := S256x2048) (e := .f32) (pb_k0_t1 (F := Ideal) 𝒱 c bd i arg1 harg1 arg2 harg2 arg3 harg3 arg4 harg4 arg5 harg5 arg6 harg6 arg7 harg7 arg8 harg8 arg9 harg9 v23 X2 X3 X7 X8 (Scf.trips k0_t1_loop.lb k0_t1_loop.ub k0_t1_loop.st))
      = sums H W B := by
  funext y
  refine View.canon_apply_of_pieces (S := S256x2048) (e := .f32) (sums H W B) _ ?_ y ?_
  · intro p hp x
    exact loop_stores 𝒱 c bd i arg1 harg1 arg2 harg2 arg3 harg3 arg4 harg4 arg5 harg5 arg6 harg6 arg7 harg7 arg8 harg8 arg9 harg9 v23 X2 X3 X7 X8 H W B h2 h3 h7 h8 _ (Nat.le_refl _) p hp x
  · exact View.cover_of_tiledL (pb_k0_t1 (F := Ideal) 𝒱 c bd i arg1 harg1 arg2 harg2 arg3 harg3 arg4 harg4 arg5 harg5 arg6 harg6 arg7 harg7 arg8 harg8 arg9 harg9 v23 X2 X3 X7 X8 (Scf.trips k0_t1_loop.lb k0_t1_loop.ub k0_t1_loop.st)) S64x256.size (by sl_kernel_rfl) y

end Cert.KernelDwconvIdeal.Taps
end
-- ==== Proof.TileDwconv.lean ====
/- What the depthwise convolution with its layer normalisation leaves in its output, element by element.  The grid runs
   over 32 row tiles in order.  The first clears the 32 rows above the tile in the buffer, the others find there the last 32
   rows of the tile before.  So at every point the buffer reads as 288 consecutive rows of one array: the rows as launched,
   with 32 rows of zeros on top of them.  The loop over its copies is in TapsDwconv. -/
module

public import proofs.«01_k».proof.Proof.Gen.KernelDwconvIdeal.Value
public import proofs.«01_k».proof.Proof.TapsDwconv
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Writes
public import Idealize.ShloMosaic.Lib.Claim

@[expose] public section

set_option maxRecDepth 16384

noncomputable section

namespace Cert.KernelDwconvIdeal.Tile

open Cert.KernelDwconvIdeal Cert.KernelDwconvIdeal.Gen Idealize.ShloMosaic Idealize.ShloMosaic.TcCoe Idealize.SL.Sem

variable (m : (ℓ : Loc nD τ sig) → Buf (Elt Ideal) ℓ)

/-- The rows `c` as launched, over the extended reals. -/
abbrev rows (c : Dev nD) : S8192x2048.Idx → EReal := m ((c : Thread nD τ).loc main_arg0)

/-- The taps as launched, over the extended reals. -/
abbrev taps (c : Dev nD) : S31x2048.Idx → EReal := m ((c : Thread nD τ).loc main_arg1)

/-- The convolution's bias as launched, over the extended reals. -/
abbrev bias (c : Dev nD) : S2048.Idx → EReal := m ((c : Thread nD τ).loc main_arg2)

/-- The gain `conv_ln_g` as launched, over the extended reals. -/
abbrev gain (c : Dev nD) : S2048.Idx → EReal := m ((c : Thread nD τ).loc main_arg3)

/-- The shift `conv_ln_b` as launched, over the extended reals. -/
abbrev shift (c : Dev nD) : S2048.Idx → EReal := m ((c : Thread nD τ).loc main_arg4)

/-- The rows under 32 rows of zeros: at row `n` the array's row `n - 32`. -/
def padded (c : Dev nD) (n : ℕ) (j : Fin 2048) : EReal :=
  if h : 32 ≤ n ∧ n < 8224 then rows m c (ix2 ⟨n - 32, by omega⟩ j) else 0

/-- A choice between an array's row and a zero is the padded array. -/
theorem padded_of (c : Dev nD) (n : ℕ) (j : Fin 2048) (P : Prop) [Decidable P] (hP : P ↔ 32 ≤ n ∧ n < 8224)
    (f : P → EReal) (z : EReal) (hz : z = 0)
    (hf : ∀ h : P, f h = rows m c (ix2 ⟨n - 32, by have := hP.mp h; omega⟩ j)) :
    (if h : P then f h else z) = padded m c n j := by
  unfold padded
  by_cases h : P
  · rw [dif_pos h, dif_pos (hP.mp h)]
    exact hf h
  · rw [dif_neg h, dif_neg (fun h' => h (hP.mpr h'))]
    exact hz

/-- The depthwise convolution of the rows with the taps, with the bias. -/
def filtered (c : Dev nD) (n : ℕ) (j : Fin 2048) : EReal :=
  Taps.conv (padded m c) (fun s j => taps m c (ix2 s j)) (fun j => bias m c (ix1 j)) n j

/-- The mean of 2048 numbers. -/
def mean (f : Fin 2048 → EReal) : EReal := Ideal.div (∑ j, f j) (Ideal.ofBits FTy.f32 0x45000000#32)

/-- A row, less its mean. -/
def centred (f : Fin 2048 → EReal) (j : Fin 2048) : EReal := f j - mean f

/-- The layer normalisation of a row. -/
def normed (f : Fin 2048 → EReal) (g b : S2048.Idx → EReal) (j : Fin 2048) : EReal :=
  centred f j * Ideal.rsqrt (mean (fun k => centred f k * centred f k) + Ideal.ofBits FTy.f32 0x3727C5AC#32) * g (ix1 j) + b (ix1 j)

/-- A number times its logistic function. -/
def gated (y : EReal) : EReal := y * Ideal.logistic y

/-- The call's output. -/
def output (c : Dev nD) (n : ℕ) (j : Fin 2048) : EReal := gated (normed (filtered m c n) (gain m c) (shift m c) j)

/-- The rows' window is at row tile `t`. -/
theorem rows_at : ∀ t : Fin cfg0.N, win0_0.index t = ![t.val, 0] :=
  (by decide +kernel : ∀ t : Fin grid0.N, _)

/-- The taps' window is the whole array. -/
theorem taps_at : ∀ t : Fin cfg0.N, win0_1.index t = ![0, 0] :=
  (by decide +kernel : ∀ t : Fin grid0.N, _)

/-- The bias's window is the whole row. -/
theorem bias_at : ∀ t : Fin cfg0.N, win0_2.index t = ![0, 0] :=
  (by decide +kernel : ∀ t : Fin grid0.N, _)

/-- The gain's window is the whole row. -/
theorem gain_at : ∀ t : Fin cfg0.N, win0_3.index t = ![0, 0] :=
  (by decide +kernel : ∀ t : Fin grid0.N, _)

/-- The shift's window is the whole row. -/
theorem shift_at : ∀ t : Fin cfg0.N, win0_4.index t = ![0, 0] :=
  (by decide +kernel : ∀ t : Fin grid0.N, _)

theorem point_lt (t : Fin cfg0.N) : t.val < 32 := lt_of_lt_of_eq t.isLt (show cfg0.N = 32 from N_0)

/-- The rows' block, read at an index. -/
theorem rows_apply (c : Dev nD) (t : Fin cfg0.N) (r : Fin 256) (k : Fin 2048) :
    iblk m c 0 t (ix2 r k) = rows m c (ix2 ⟨256 * t.val + r.val, by have := point_lt t; omega⟩ k) := by
  blk_simp [iblk]
  entry_read
  pointwise
  blk_ext [rows_at t]

/-- The taps' block, read at an index. -/
theorem taps_apply (c : Dev nD) (t : Fin cfg0.N) (s : Fin 31) (k : Fin 2048) :
    iblk m c 1 t (ix2 s k) = taps m c (ix2 s k) := by
  blk_simp [iblk]
  entry_read
  pointwise
  blk_ext [taps_at t]

/-- The bias's block, read at an index. -/
theorem bias_apply (c : Dev nD) (t : Fin cfg0.N) (r : Fin 1) (k : Fin 2048) :
    iblk m c 2 t (ix2 r k) = bias m c (ix1 k) := by
  blk_simp [iblk]
  entry_read
  pointwise
  blk_ext [bias_at t]

/-- The gain's block, read at an index. -/
theorem gain_apply (c : Dev nD) (t : Fin cfg0.N) (r : Fin 1) (k : Fin 2048) :
    iblk m c 3 t (ix2 r k) = gain m c (ix1 k) := by
  blk_simp [iblk]
  entry_read
  pointwise
  blk_ext [gain_at t]

/-- The shift's block, read at an index. -/
theorem shift_apply (c : Dev nD) (t : Fin cfg0.N) (r : Fin 1) (k : Fin 2048) :
    iblk m c 4 t (ix2 r k) = shift m c (ix1 k) := by
  blk_simp [iblk]
  entry_read
  pointwise
  blk_ext [shift_at t]

/-- The rows of the buffer at point `t`, row by row. -/
def tall (c : Dev nD) (t : Fin cfg0.N) (n : ℕ) (j : Fin 2048) : EReal := padded m c (256 * t.val + n) j

/-- What the buffer reads as at point `t`, once the point's rows are stored. -/
def held (c : Dev nD) (t : Fin cfg0.N) : Vec Ideal S288x2048 .f32 := fun y => tall m c t (y 0).val (y 1)

/-- The 256 rows of the buffer the point's rows are stored to. -/
abbrev below : Rect S288x2048 := Rect.unit ![32, 0] ![256, 2048] inb_S288x2048_S256x2048_32_0

/-- The 32 rows of the buffer above them. -/
abbrev above : Rect S288x2048 := Rect.unit ![0, 0] ![32, 2048] inb_S288x2048_S32x2048_0_0

/-- The rows stored from row 32 of the buffer on agree with what the buffer is to read as. -/
theorem piece_rows (c : Dev nD) (t : Fin cfg0.N) (x : S256x2048.Idx) :
    k0_pay94 (F := Ideal) (iblk m c 0 t) x = held m c t (below.emb x) := by
  idx_vars x
  refine Eq.trans (b := iblk m c 0 t (ix2 x0 x1)) (by pointwise [k0_pay94]) ((rows_apply m c t x0 x1).trans ?_)
  have ht := point_lt t
  unfold held tall padded
  have e : ((below.emb (ix2 x0 x1)) 0).val = 32 + 1 * x0.val := rfl
  rw [dif_pos (by rw [e]; omega)]
  refine congrArg (rows m c) (congrArg₂ ix2 (Fin.ext ?_) (Fin.ext ?_))
  · show 256 * t.val + x0.val = 256 * t.val + (32 + 1 * x0.val) - 32
    omega
  · show x1.val = 0 + 1 * x1.val
    omega

/-- The zeros the first point stores agree too. -/
theorem piece_zeros (c : Dev nD) (t : Fin cfg0.N) (h : t.val % 32 = 0) (x : S32x2048.Idx) :
    k0_pay93 (F := Ideal) x = held m c t (above.emb x) := by
  idx_vars x
  refine Eq.trans (b := (0 : EReal)) (by pointwise [k0_pay93]) ?_
  have ht := point_lt t
  unfold held tall padded
  rw [dif_neg]
  show ¬ (32 ≤ 256 * t.val + (0 + 1 * x0.val) ∧ _)
  omega

/-- Every row of the buffer is one of the first 32 or one of the 256 after them. -/
theorem rows_cover (y : S288x2048.Idx) : y ∈ below.set ∨ y ∈ above.set := by
  rw [Rect.mem_set_unit, Rect.mem_set_unit]
  idx_vars y
  by_cases h : 32 ≤ y0.val
  · exact Or.inl (Fin.forall_fin_two.mpr ⟨⟨h, show y0.val < 32 + 256 by omega⟩, ⟨Nat.zero_le _, show y1.val < 0 + 2048 by omega⟩⟩)
  · exact Or.inr (Fin.forall_fin_two.mpr ⟨⟨Nat.zero_le _, show y0.val < 0 + 32 by omega⟩, ⟨Nat.zero_le _, show y1.val < 0 + 2048 by omega⟩⟩)

/-- At the first point the two stores are of what the buffer is to read as. -/
theorem first_pieces (c : Dev nD) (t : Fin cfg0.N) (h : t.val % 32 = 0) :
    ∀ p ∈ ([⟨below, k0_pay94 (F := Ideal) (iblk m c 0 t)⟩, ⟨above, k0_pay93 (F := Ideal)⟩] : List (View.Piece (Elt Ideal) S288x2048 .f32)),
      ∀ x, p.2 x = held m c t (p.1.emb x) := by
  intro p hp x
  rcases List.mem_cons.mp hp with rfl | hp
  · exact piece_rows m c t x
  · obtain rfl := List.mem_singleton.mp hp
    exact piece_zeros m c t h x

/-- They cover it. -/
theorem first_cover (c : Dev nD) (t : Fin cfg0.N) (y : S288x2048.Idx) :
    ∃ p ∈ ([⟨below, k0_pay94 (F := Ideal) (iblk m c 0 t)⟩, ⟨above, k0_pay93 (F := Ideal)⟩] : List (View.Piece (Elt Ideal) S288x2048 .f32)),
      y ∈ p.1.set := by
  rcases rows_cover y with hy | hy
  · exact ⟨_, List.mem_cons_self, hy⟩
  · exact ⟨_, List.mem_cons_of_mem _ List.mem_cons_self, hy⟩

/-- At the first point the two stores leave the buffer reading as said. -/
theorem first_reads (c : Dev nD) (t : Fin cfg0.N) (h : t.val % 32 = 0) :
    View.canon (Val := Elt Ideal) (s := S288x2048) (e := .f32)
      [⟨below, k0_pay94 (F := Ideal) (iblk m c 0 t)⟩, ⟨above, k0_pay93 (F := Ideal)⟩] = held m c t := by
  funext y
  exact View.canon_apply_of_pieces (held m c t) _ (first_pieces m c t h) y (first_cover m c t y)

/-- The same, over whatever the buffer held. -/
theorem first_holds (c : Dev nD) (t : Fin cfg0.N) (h : t.val % 32 = 0) (f : (View.whole cc0_scratch0).ty.Contents (Elt Ideal))
    (y : S288x2048.Idx) :
    View.read (Elt Ideal) (View.whole cc0_scratch0)
        ((View.whole cc0_scratch0).writes (Elt Ideal) f
          [⟨below, k0_pay94 (F := Ideal) (iblk m c 0 t)⟩, ⟨above, k0_pay93 (F := Ideal)⟩]) y
      = held m c t y :=
  View.read_writes_apply_of_pieces (s := S288x2048) (e := .f32) (View.whole cc0_scratch0) _ (held m c t) _
    (first_pieces m c t h) y (first_cover m c t y)

/-- At the other points the store over the rows carried leaves it so, when the first 32 rows carried are as said. -/
theorem later_reads (c : Dev nD) (t : Fin cfg0.N) (f : (View.whole cc0_scratch0).ty.Contents (Elt Ideal))
    (hf : ∀ y : S288x2048.Idx, (y 0).val < 32 → View.read (Elt Ideal) (View.whole cc0_scratch0) f y = held m c t y) :
    View.read (Elt Ideal) (View.whole cc0_scratch0)
        ((View.whole cc0_scratch0).writes (Elt Ideal) f [⟨below, k0_pay94 (F := Ideal) (iblk m c 0 t)⟩])
      = held m c t := by
  refine funext fun (y : S288x2048.Idx) => ?_
  by_cases hy : 32 ≤ (y 0).val
  · refine View.read_writes_apply_of_pieces (s := S288x2048) (e := .f32) (View.whole cc0_scratch0) _ (held m c t) _ ?_ y ?_
    · intro p hp x
      obtain rfl := List.mem_singleton.mp hp
      exact piece_rows m c t x
    · rcases rows_cover y with h | h
      · exact ⟨_, List.mem_cons_self, h⟩
      · have := (Rect.mem_set_unit.mp h 0).2
        have : (y 0).val < 0 + 32 := this
        omega
  · rw [← hf y (by omega)]
    refine View.read_writes_cons_miss (s := S288x2048) (e := .f32) _ _ _ _ y (fun h => hy ?_)
    have h' : y ∈ below.set := h
    rw [Rect.mem_set_unit] at h'
    exact (h' 0).1

/-- After every point the first 32 rows of the buffer are the last 32 of the point's rows. -/
theorem halo_apply (c : Dev nD) (t : Fin cfg0.N) (q : Fin 32) (j : Fin 2048) :
    (outsAt0 m c t.val t.isLt).2 (above.emb (ix2 q j)) = tall m c t (256 + q.val) j := by
  by_cases h : t.val % 32 = 0
  · rw [outsAt0_A m c t h]
    frame_out
    refine (View.canon_cons_emb above _ _ (ix2 q j)).trans ?_
    simp only [View.readCov_eq_canon', first_reads m c t h]
    pointwise [k0_pay103]
    rfl
  · rw [outsAt0_B m c t h]
    frame_out
    refine (View.canon_cons_emb above _ _ (ix2 q j)).trans ?_
    simp only [View.readCov_eq_canon']
    pointwise [k0_pay103]
    refine (View.canon_apply_of_pieces (S := S288x2048) (e := .f32) (held m c t) _ ?_ _ ?_).trans ?_
    · intro p hp x
      obtain rfl := List.mem_singleton.mp hp
      exact piece_rows m c t x
    · refine ⟨_, List.mem_cons_self, ?_⟩
      show _ ∈ below.set
      rw [Rect.mem_set_unit]
      exact Fin.forall_fin_two.mpr ⟨⟨show 32 ≤ 256 + q.val by omega, show 256 + q.val < 32 + 256 by omega⟩,
        ⟨Nat.zero_le _, show j.val < 0 + 2048 by omega⟩⟩
    · rfl

/-- The first 32 rows carried into a point are as the buffer is to read. -/
theorem carried (c : Dev nD) (t : Fin cfg0.N) (h : ¬ t.val % 32 = 0) (hp : t.val - 1 < cfg0.N) (y : S288x2048.Idx) (hy : (y 0).val < 32) :
    (outsAt0 m c (t.val - 1) hp).2 y = held m c t y := by
  idx_vars y
  have hy' : y0.val < 32 := hy
  have e : (ix2 y0 y1 : S288x2048.Idx) = above.emb (ix2 ⟨y0.val, hy'⟩ y1) := by
    rw [eq_ix2 (above.emb (ix2 ⟨y0.val, hy'⟩ y1))]
    exact congrArg₂ ix2 (Fin.ext (show y0.val = 0 + 1 * y0.val by omega))
      (Fin.ext (show y1.val = 0 + 1 * y1.val by omega))
  refine (congrArg _ e).trans ((halo_apply m c ⟨t.val - 1, hp⟩ ⟨y0.val, hy'⟩ y1).trans ?_)
  unfold held tall
  refine congrArg₂ (padded m c) ?_ rfl
  show 256 * (t.val - 1) + (256 + y0.val) = 256 * t.val + y0.val
  omega

/-- One of the seven copies of the buffer. -/
abbrev copy (b : ℕ) (hb : b < 7) : Rect S7x280x2048 :=
  Rect.unit ![b, 0, 0] ![1, 280, 2048] (by
    intro a
    match a with
    | ⟨0, _⟩ => show b + 1 ≤ 7; omega
    | ⟨1, _⟩ => show 0 + 280 ≤ 280; omega
    | ⟨2, _⟩ => show 0 + 2048 ≤ 2048; omega)

/-- An index lies in the copy its first coordinate names. -/
theorem copy_mem (b : ℕ) (hb : b < 7) (y : S7x280x2048.Idx) (h : (y 0).val = b) : y ∈ (copy b hb).set := by
  rw [Rect.mem_set_unit]
  intro a
  match a with
  | ⟨0, _⟩ => exact ⟨show b ≤ (y 0).val by omega, show (y 0).val < b + 1 by omega⟩
  | ⟨1, _⟩ => exact ⟨Nat.zero_le _, show (y 1).val < 0 + 280 by have := (y 1).isLt; have : (y 1).val < 280 := this; omega⟩
  | ⟨2, _⟩ => exact ⟨Nat.zero_le _, show (y 2).val < 0 + 2048 by have := (y 2).isLt; have : (y 2).val < 2048 := this; omega⟩

/-- What the copies are to read as. -/
def copies (H : ℕ → Fin 2048 → EReal) : Vec Ideal S7x280x2048 .f32 := fun y => H ((y 0).val + 1 + (y 1).val) (y 2)

/-- The copies read as the rows of the buffer, each from one row further on. -/
theorem copies_read (H : ℕ → Fin 2048 → EReal) (f : (View.whole cc0_scratch1).ty.Contents (Elt Ideal))
    (v0 v1 v2 v3 v4 v5 v6 : Vec Ideal S280x2048 .f32)
    (h0 : ∀ y : S280x2048.Idx, v0 y = H (1 + (y 0).val) (y 1))
    (h1 : ∀ y : S280x2048.Idx, v1 y = H (2 + (y 0).val) (y 1))
    (h2 : ∀ y : S280x2048.Idx, v2 y = H (3 + (y 0).val) (y 1))
    (h3 : ∀ y : S280x2048.Idx, v3 y = H (4 + (y 0).val) (y 1))
    (h4 : ∀ y : S280x2048.Idx, v4 y = H (5 + (y 0).val) (y 1))
    (h5 : ∀ y : S280x2048.Idx, v5 y = H (6 + (y 0).val) (y 1))
    (h6 : ∀ y : S280x2048.Idx, v6 y = H (7 + (y 0).val) (y 1))
    (y : S7x280x2048.Idx) :
    View.read (Elt Ideal) (View.whole cc0_scratch1) ((View.whole cc0_scratch1).writes (Elt Ideal) f
      [⟨copy 6 (by decide), k0_pay101 (F := Ideal) v6⟩,
        ⟨copy 5 (by decide), k0_pay100 (F := Ideal) v5⟩,
        ⟨copy 4 (by decide), k0_pay99 (F := Ideal) v4⟩,
        ⟨copy 3 (by decide), k0_pay98 (F := Ideal) v3⟩,
        ⟨copy 2 (by decide), k0_pay97 (F := Ideal) v2⟩,
        ⟨copy 1 (by decide), k0_pay96 (F := Ideal) v1⟩,
        ⟨copy 0 (by decide), k0_pay95 (F := Ideal) v0⟩]) y
      = H ((y 0).val + 1 + (y 1).val) (y 2) := by
  refine View.read_writes_apply_of_pieces (s := S7x280x2048) (e := .f32) (View.whole cc0_scratch1) _
    (copies H) _ ?_ y ?_
  · intro p hp x
    rcases List.mem_cons.mp hp with rfl | hp
    · idx_vars x
      refine Eq.trans (b := v6 (ix2 x1 x2)) (by pointwise [k0_pay101]) ((h6 _).trans ?_)
      refine congrArg₂ H ?_ (Fin.ext ?_)
      · show 7 + x1.val = 6 + 1 * x0.val + 1 + (0 + 1 * x1.val)
        omega
      · show x2.val = 0 + 1 * x2.val
        omega
    rcases List.mem_cons.mp hp with rfl | hp
    · idx_vars x
      refine Eq.trans (b := v5 (ix2 x1 x2)) (by pointwise [k0_pay100]) ((h5 _).trans ?_)
      refine congrArg₂ H ?_ (Fin.ext ?_)
      · show 6 + x1.val = 5 + 1 * x0.val + 1 + (0 + 1 * x1.val)
        omega
      · show x2.val = 0 + 1 * x2.val
        omega
    rcases List.mem_cons.mp hp with rfl | hp
    · idx_vars x
      refine Eq.trans (b := v4 (ix2 x1 x2)) (by pointwise [k0_pay99]) ((h4 _).trans ?_)
      refine congrArg₂ H ?_ (Fin.ext ?_)
      · show 5 + x1.val = 4 + 1 * x0.val + 1 + (0 + 1 * x1.val)
        omega
      · show x2.val = 0 + 1 * x2.val
        omega
    rcases List.mem_cons.mp hp with rfl | hp
    · idx_vars x
      refine Eq.trans (b := v3 (ix2 x1 x2)) (by pointwise [k0_pay98]) ((h3 _).trans ?_)
      refine congrArg₂ H ?_ (Fin.ext ?_)
      · show 4 + x1.val = 3 + 1 * x0.val + 1 + (0 + 1 * x1.val)
        omega
      · show x2.val = 0 + 1 * x2.val
        omega
    rcases List.mem_cons.mp hp with rfl | hp
    · idx_vars x
      refine Eq.trans (b := v2 (ix2 x1 x2)) (by pointwise [k0_pay97]) ((h2 _).trans ?_)
      refine congrArg₂ H ?_ (Fin.ext ?_)
      · show 3 + x1.val = 2 + 1 * x0.val + 1 + (0 + 1 * x1.val)
        omega
      · show x2.val = 0 + 1 * x2.val
        omega
    rcases List.mem_cons.mp hp with rfl | hp
    · idx_vars x
      refine Eq.trans (b := v1 (ix2 x1 x2)) (by pointwise [k0_pay96]) ((h1 _).trans ?_)
      refine congrArg₂ H ?_ (Fin.ext ?_)
      · show 2 + x1.val = 1 + 1 * x0.val + 1 + (0 + 1 * x1.val)
        omega
      · show x2.val = 0 + 1 * x2.val
        omega
    rcases List.mem_cons.mp hp with rfl | hp
    · idx_vars x
      refine Eq.trans (b := v0 (ix2 x1 x2)) (by pointwise [k0_pay95]) ((h0 _).trans ?_)
      refine congrArg₂ H ?_ (Fin.ext ?_)
      · show 1 + x1.val = 0 + 1 * x0.val + 1 + (0 + 1 * x1.val)
        omega
      · show x2.val = 0 + 1 * x2.val
        omega
    exact absurd hp List.not_mem_nil
  · have hy : (y 0).val < 7 := (y 0).isLt
    by_cases e6 : (y 0).val = 6
    · exact ⟨_, List.mem_cons_self, copy_mem 6 (by decide) y e6⟩
    by_cases e5 : (y 0).val = 5
    · exact ⟨_, (List.mem_cons_of_mem _ List.mem_cons_self), copy_mem 5 (by decide) y e5⟩
    by_cases e4 : (y 0).val = 4
    · exact ⟨_, (List.mem_cons_of_mem _ (List.mem_cons_of_mem _ List.mem_cons_self)), copy_mem 4 (by decide) y e4⟩
    by_cases e3 : (y 0).val = 3
    · exact ⟨_, (List.mem_cons_of_mem _ (List.mem_cons_of_mem _ (List.mem_cons_of_mem _ List.mem_cons_self))), copy_mem 3 (by decide) y e3⟩
    by_cases e2 : (y 0).val = 2
    · exact ⟨_, (List.mem_cons_of_mem _ (List.mem_cons_of_mem _ (List.mem_cons_of_mem _ (List.mem_cons_of_mem _ List.mem_cons_self)))), copy_mem 2 (by decide) y e2⟩
    by_cases e1 : (y 0).val = 1
    · exact ⟨_, (List.mem_cons_of_mem _ (List.mem_cons_of_mem _ (List.mem_cons_of_mem _ (List.mem_cons_of_mem _ (List.mem_cons_of_mem _ List.mem_cons_self))))), copy_mem 1 (by decide) y e1⟩
    exact ⟨_, (List.mem_cons_of_mem _ (List.mem_cons_of_mem _ (List.mem_cons_of_mem _ (List.mem_cons_of_mem _ (List.mem_cons_of_mem _ (List.mem_cons_of_mem _ List.mem_cons_self)))))), copy_mem 0 (by decide) y (by omega)⟩

/-- The body's operations on one row of a tile, over whatever blocks: the normalised row, gated. -/
theorem payload_apply (acc : Vec Ideal S256x2048 .f32) (x3 x4 : Vec Ideal S1x2048 .f32) (f : Fin 2048 → EReal)
    (g b : S2048.Idx → EReal) (r : Fin 256) (hf : ∀ j, acc (ix2 r j) = f j)
    (hg : ∀ j, x3 (ix2 0 j) = g (ix1 j)) (hb : ∀ j, x4 (ix2 0 j) = b (ix1 j)) (j : Fin 2048) :
    k0_pay1 (k0_pay104 x3) (k0_pay105 x4) (k0_pay106 acc) (ix2 r j) = gated (normed f g b j) := by
  pointwise [k0_pay1, k0_pay104, k0_pay105, k0_pay106]
  simp only [hf, hg, hb]
  rfl

/-- The convolution of a tile's buffer is the convolution of the rows, at the tile's rows. -/
theorem conv_at (c : Dev nD) (t : Fin cfg0.N) (n : ℕ) (j : Fin 2048) :
    Taps.conv (tall m c t) (fun s j => taps m c (ix2 s j)) (fun j => bias m c (ix1 j)) n j = filtered m c (256 * t.val + n) j := rfl

/-- The tile the body stores, when the buffers it reads are as said. -/
theorem tile_of (c : Dev nD) (t : Fin cfg0.N) (v : Vec Ideal S280x2048 .f32)
    (X7 : (View.whole cc0_scratch0).ty.Contents (Elt Ideal)) (X8 : (View.whole cc0_scratch1).ty.Contents (Elt Ideal))
    (h7 : ∀ y : S288x2048.Idx, View.read (Elt Ideal) (View.whole cc0_scratch0) X7 y = held m c t y)
    (h8 : ∀ y : S7x280x2048.Idx, View.read (Elt Ideal) (View.whole cc0_scratch1) X8 y = tall m c t ((y 0).val + 1 + (y 1).val) (y 2))
    (r : Fin 256) (j : Fin 2048) :
    k0_pay1 (k0_pay104 (iblk m c 3 t)) (k0_pay105 (iblk m c 4 t))
      (k0_pay106 ((View.whole cc0_scratch2).readCov
        (pb_k0_t1 Variants.none c none (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) scM0_1 (Memref.isWhole_whole _) scM0_2 (Memref.isWhole_whole _)
          v ((hs0_1 t).unread (iblk m c 1 t)) ((hs0_2 t).unread (iblk m c 2 t)) X7 X8
          (Scf.trips k0_t1_loop.lb k0_t1_loop.ub k0_t1_loop.st))
        (Rect.unit (s := S256x2048) ![0, 0] ![256, 2048] inb_S256x2048_S256x2048_0_0).toLoadRect)) (ix2 r j)
      = output m c (256 * t.val + r.val) j := by
  refine payload_apply _ _ _ (filtered m c (256 * t.val + r.val)) _ _ r (fun j => ?_) (gain_apply m c t 0) (shift_apply m c t 0) j
  rw [View.readCov_eq_canon', Taps.loop_reads (H := tall m c t) (W := fun s j => taps m c (ix2 s j)) (B := fun j => bias m c (ix1 j))
    (h7 := h7) (h8 := h8) (h2 := fun y => ?_) (h3 := fun y => ?_)]
  · refine Eq.trans ?_ (conv_at m c t r.val j)
    exact Taps.conv_congr (by show 0 + 1 * r.val = r.val; omega) (by show 0 + 1 * j.val = j.val; omega)
  · rw [(hs0_1 t).read_unread]
    idx_vars y
    exact taps_apply m c t y0 y1
  · rw [(hs0_2 t).read_unread]
    idx_vars y
    exact bias_apply m c t y0 y1

/-- A load of 280 rows of the buffer. -/
theorem load_apply (c : Dev nD) (t : Fin cfg0.N) (b : ℕ) (inb : ∀ a, (![b, 0] : Fin 2 → ℕ) a + S280x2048.size a ≤ S288x2048.size a)
    (y : S280x2048.Idx) :
    View.ld (held m c t) (Rect.unit (s := S288x2048) ![b, 0] ![280, 2048] inb) y = tall m c t (b + (y 0).val) (y 1) := by
  refine congrArg₂ (tall m c t) ?_ (Fin.ext ?_)
  · show b + 1 * (y 0).val = b + (y 0).val
    omega
  · show 0 + 1 * (y 1).val = (y 1).val
    omega

/-- The output tile at point `t`. -/
theorem tile_apply (c : Dev nD) (t : Fin cfg0.N) (r : Fin 256) (j : Fin 2048) :
    (outsAt0 m c t.val t.isLt).1 (ix2 r j) = output m c (256 * t.val + r.val) j := by
  by_cases h : t.val % 32 = 0
  · rw [outsAt0_A m c t h]
    frame_out
    refine tile_of m c t _ _ _ (first_holds m c t h _) ?_ r j
    simp only [View.readCov_eq_canon', first_reads m c t h]
    exact copies_read (tall m c t) _ _ _ _ _ _ _ _ (load_apply m c t 1 _) (load_apply m c t 2 _) (load_apply m c t 3 _)
      (load_apply m c t 4 _) (load_apply m c t 5 _) (load_apply m c t 6 _) (load_apply m c t 7 _)
  · rw [outsAt0_B m c t h]
    frame_out
    have hl := later_reads m c t ((Memref.isWhole_whole cc0_scratch0).unread (outsAt0 m c (t.val - 1) (by omega)).2)
      (fun y hy => by rw [read_unread_whole]; exact carried m c t h _ y hy)
    refine tile_of m c t _ _ _ (fun y => congrFun hl y) ?_ r j
    rw [hl]
    exact copies_read (tall m c t) _ _ _ _ _ _ _ _ (load_apply m c t 1 _) (load_apply m c t 2 _) (load_apply m c t 3 _)
      (load_apply m c t 4 _) (load_apply m c t 5 _) (load_apply m c t 6 _) (load_apply m c t 7 _)

/-- The array the call leaves: the normalised convolution, times its logistic function. -/
theorem result (c : Dev nD) : Value.G5 m c = fun i : S8192x2048.Idx => output m c (i 0).val (i 1) := by
  funext i
  idx_vars i
  have h : Value.pt5Of (ix2 i0 i1) < cfg0.N := by
    show 1 * (i0.val / 256 - 0) + 1 * (i1.val / 2048 - 0) < grid0.N
    rw [N_0]; omega
  unfold Value.G5
  rw [dif_pos h, ← Value.outsAt0_sweep m c _ h, eq_ix2 (Value.loc5Of _)]
  refine (tile_apply m c ⟨_, h⟩ _ _).trans ?_
  have hp : Value.pt5Of (ix2 i0 i1) = i0.val / 256 := by
    show 1 * (i0.val / 256 - 0) + 1 * (i1.val / 2048 - 0) = _; omega
  refine congrArg₂ (output m c) ?_ (Fin.ext ?_)
  · show 256 * Value.pt5Of (ix2 i0 i1) + i0.val % 256 = i0.val
    rw [hp]; omega
  · show i1.val % 2048 = i1.val
    omega

end Cert.KernelDwconvIdeal.Tile
end
-- ==== Proof.SumsDwconv.lean ====
/- The reference of the depthwise convolution, element by element: its sum of shifted products, taken over the taps in order,
   is the one the kernel's tiles take. -/
module

public import proofs.«01_k».proof.Defs
public import proofs.«01_k».proof.Proof.TileDwconv
public import proofs.«01_k».proof.Proof.Gen.ReferenceDwconvIdeal.Run
public import Idealize.ShloMosaic.Lib.Pointwise
public import Idealize.ShloMosaic.Lib.Tactic.ValueTie

@[expose] public section

noncomputable section

namespace Cert.ReferenceDwconvIdeal.Sums

open Cert.ReferenceDwconvIdeal Cert.ReferenceDwconvIdeal.Gen Cert.ReferenceDwconvIdeal.Value Idealize.ShloMosaic Idealize.ShloMosaic.TcCoe Idealize.SL.Sem Idealize.ShloMosaic.StableHlo
open Cert.KernelDwconvIdeal.Tile (rows taps bias padded padded_of filtered)

variable (m : (ℓ : Loc Cert.KernelDwconvIdeal.nD Cert.KernelDwconvIdeal.τ Cert.KernelDwconvIdeal.sig) → Buf (Elt Ideal) ℓ)
  (c : Dev Cert.KernelDwconvIdeal.nD)

/-- The taps in order with the bias last are the last tap and the bias first. -/
theorem reorder (a0 a1 a2 a3 a4 a5 a6 a7 a8 a9 a10 a11 a12 a13 a14 a15 a16 a17 a18 a19 a20 a21 a22 a23 a24 a25 a26 a27 a28 a29 a30 b : EReal) :
    a0 + a1 + a2 + a3 + a4 + a5 + a6 + a7 + a8 + a9 + a10 + a11 + a12 + a13 + a14 + a15 + a16 + a17 + a18 + a19 + a20 + a21 + a22 + a23 + a24 + a25 + a26 + a27 + a28 + a29 + a30 + b = a30 + b + a0 + a1 + a2 + a3 + a4 + a5 + a6 + a7 + a8 + a9 + a10 + a11 + a12 + a13 + a14 + a15 + a16 + a17 + a18 + a19 + a20 + a21 + a22 + a23 + a24 + a25 + a26 + a27 + a28 + a29 := by
  ac_rfl

/-- The sum of shifted products in order is the one the tiles take. -/
theorem in_order (H : ℕ → Fin 2048 → EReal) (W : Fin 31 → Fin 2048 → EReal) (B : Fin 2048 → EReal) (n : ℕ) (j : Fin 2048) :
    H (n + 2) j * W 0 j + H (1 + n + 2) j * W 1 j + H (2 + n + 2) j * W 2 j + H (3 + n + 2) j * W 3 j + H (4 + n + 2) j * W 4 j + H (5 + n + 2) j * W 5 j + H (6 + n + 2) j * W 6 j + H (7 + n + 2) j * W 7 j + H (8 + n + 2) j * W 8 j + H (9 + n + 2) j * W 9 j + H (10 + n + 2) j * W 10 j + H (11 + n + 2) j * W 11 j + H (12 + n + 2) j * W 12 j + H (13 + n + 2) j * W 13 j + H (14 + n + 2) j * W 14 j + H (15 + n + 2) j * W 15 j + H (16 + n + 2) j * W 16 j + H (17 + n + 2) j * W 17 j + H (18 + n + 2) j * W 18 j + H (19 + n + 2) j * W 19 j + H (20 + n + 2) j * W 20 j + H (21 + n + 2) j * W 21 j + H (22 + n + 2) j * W 22 j + H (23 + n + 2) j * W 23 j + H (24 + n + 2) j * W 24 j + H (25 + n + 2) j * W 25 j + H (26 + n + 2) j * W 26 j + H (27 + n + 2) j * W 27 j + H (28 + n + 2) j * W 28 j + H (29 + n + 2) j * W 29 j + H (30 + n + 2) j * W 30 j + B j = Cert.KernelDwconvIdeal.Taps.conv H W B n j := by
  have hn (s : ℕ) : s + n + 2 = n + (s + 2) := by omega
  simp only [hn]
  exact reorder _ _ _ _ _ _ _ _ _ _ _ _ _ _ _ _ _ _ _ _ _ _ _ _ _ _ _ _ _ _ _ _

/-- The integer zero, as a float, is zero. -/
theorem zero_word : FloatOps.sitofp (F := Ideal) FTy.f32 0#32 = (0 : EReal) := by
  simp [FloatOps.sitofp]

/-- The reference's padded rows. -/
theorem padded_apply (V0 : Valuation τ sig (Elt Ideal)) (h0 : V0 (Proc.devRef .tc main_arg0) = rows m c)
    (p : Fin 8222) (j : Fin 2048) (q : ℕ) (hq : p.val + 2 = q) :
    res_main_v0 (F := Ideal) V0 (ix2 p j) = padded m c q j := by
  unfold res_main_v0
  rw [h0]
  pointwise
  clean_types
  refine padded_of m c q j _ ⟨fun h => ?_, fun h => ?_⟩ _ _ zero_word fun _ => ?_
  · have ha : 30 ≤ p.val := (h (0 : Fin 2)).1
    omega
  · have ha : 30 ≤ p.val ∧ (p.val - 30) % 1 = 0 ∧ (p.val - 30) / 1 < 8192 := by omega
    have hb : 0 ≤ j.val ∧ (j.val - 0) % 1 = 0 ∧ (j.val - 0) / 1 < 2048 := by omega
    exact Fin.forall_fin_two.2 ⟨ha, hb⟩
  refine congrArg (rows m c) (congrArg₂ ix2 (Fin.ext ?_) rfl)
  show p.val - 30 = q - 32
  omega

/-- The reference's convolution. -/
theorem sums_apply (V0 : Valuation τ sig (Elt Ideal)) (h0 : V0 (Proc.devRef .tc main_arg0) = rows m c)
    (h1 : V0 (Proc.devRef .tc main_arg1) = taps m c) (h2 : V0 (Proc.devRef .tc main_arg2) = bias m c)
    (n : Fin 8192) (j : Fin 2048) :
    res_main_v221 (F := Ideal) V0 (ix2 n j) = filtered m c n.val j := by
  unfold res_main_v221 res_main_v155 res_main_v78
  pointwise
  have hp (p : Fin 8222) : res_main_v0 (F := Ideal) V0 (ix2 p j) = padded m c (p.val + 2) j := padded_apply m c V0 h0 p j _ rfl
  simp only [hp, h1, h2]
  exact in_order (padded m c) (fun s j => taps m c (ix2 s j)) (fun j => bias m c (ix1 j)) n.val j

/-- The reference's mean of a row. -/
theorem mean_apply (V0 : Valuation τ sig (Elt Ideal)) (f : Fin 8192 → Fin 2048 → EReal)
    (hf : ∀ n j, res_main_v221 (F := Ideal) V0 (ix2 n j) = f n j) (n : Fin 8192) (l : Fin 1) :
    res_main_v225 (F := Ideal) V0 (ix2 n l) = Cert.KernelDwconvIdeal.Tile.mean (f n) := by
  unfold res_main_v225
  pointwise
  simp only [hf]
  rfl

/-- The reference's row, less its mean. -/
theorem centred_apply (V0 : Valuation τ sig (Elt Ideal)) (f : Fin 8192 → Fin 2048 → EReal)
    (hf : ∀ n j, res_main_v221 (F := Ideal) V0 (ix2 n j) = f n j) (n : Fin 8192) (j : Fin 2048) :
    res_main_v227 (F := Ideal) V0 (ix2 n j) = Cert.KernelDwconvIdeal.Tile.centred (f n) j := by
  unfold res_main_v227
  pointwise
  simp only [hf, mean_apply V0 f hf]
  rfl

/-- The reference's layer normalisation. -/
theorem normed_apply (V0 : Valuation τ sig (Elt Ideal)) (f : Fin 8192 → Fin 2048 → EReal) (g b : S2048.Idx → EReal)
    (hf : ∀ n j, res_main_v221 (F := Ideal) V0 (ix2 n j) = f n j)
    (h3 : V0 (Proc.devRef .tc main_arg3) = g) (h4 : V0 (Proc.devRef .tc main_arg4) = b) (n : Fin 8192) (j : Fin 2048) :
    res_main_v245 (F := Ideal) V0 (ix2 n j) = Cert.KernelDwconvIdeal.Tile.normed (f n) g b j := by
  unfold res_main_v245
  rw [h3, h4]
  pointwise
  simp only [hf, mean_apply V0 f hf, centred_apply V0 f hf]
  rfl

end Cert.ReferenceDwconvIdeal.Sums

end
-- ==== Proof.StagesRoute.lean ====
/- The stages of the routing call's body, named: the kernel finds the greatest entry of a row and its earliest label with two
   reductions, overwrites it, and repeats this for every group, for the groups themselves, and for the experts. -/
module

public import proofs.«01_k».proof.Defs
public import proofs.«01_k».proof.Proof.Gen.KernelRouteIdeal.Value
public import Idealize.ShloMosaic.Lib.Pipeline.ValueKit.Held
public import Idealize.ShloMosaic.Lib.Pointwise

@[expose] public section

set_option maxRecDepth 16384

noncomputable section

namespace Cert.KernelRouteIdeal.Stages

open Cert.KernelRouteIdeal Cert.KernelRouteIdeal.Gen Idealize.ShloMosaic Idealize.ShloMosaic.TcCoe

/-- A tile of 256 rows and 256 lanes. -/
abbrev Tile := FVec Ideal S256x256 .f32

/-- One value for each of the 256 rows. -/
abbrev Col := FVec Ideal S256x1 .f32

/-- The greatest entry of each row. -/
def top (v : Tile) : Col :=
  shapeCast S256x1 (multiReduction .maximumf [1] S256 v 0xFF800000#32 reduces_S256x256_S256 (.inl rfl) rfl) shapeCasts_S256_S256x1

/-- A column on every lane. -/
def spread (v : Col) : Tile := broadcastTo S256x256 v broadcasts_S256x1_S256x256

/-- The labels of a row's greatest entries; a large number on the other lanes. -/
def candidates (lab v : Tile) : Tile :=
  select (cmpf .oeq v (spread (top v))) lab (broadcast S256x256 (Scalar.ofBits (F := Ideal) .f32 0x4E6E6B28#32))

/-- The least entry of each row. -/
def low (v : Tile) : Col :=
  shapeCast S256x1 (multiReduction .minimumf [1] S256 v 0x7F800000#32 reduces_S256x256_S256 (.inl rfl) rfl) shapeCasts_S256_S256x1

/-- The label of a row's earliest greatest entry. -/
def found (lab v : Tile) : Col := low (candidates lab v)

/-- The lanes with that label. -/
def hit (lab v : Tile) : IVec S256x256 1 := cmpf .oeq lab (spread (found lab v))

/-- Minus infinity everywhere. -/
def bottoms : Tile := broadcast S256x256 (Scalar.ofBits (F := Ideal) .f32 0xFF800000#32)

/-- The tile with the lanes of that label overwritten by minus infinity. -/
def cut (lab v : Tile) : Tile := select (hit lab v) bottoms v

/-- The sum of each row over the lanes of that label. -/
def weigh (lab s v : Tile) : Col :=
  shapeCast S256x1 (multiReduction .add [1] S256 (select (hit lab v) s (broadcast S256x256 (Scalar.ofBits (F := Ideal) .f32 0x00000000#32)))
    0x00000000#32 reduces_S256x256_S256 (.inl rfl) rfl) shapeCasts_S256_S256x1

/-- The lanes whose label is `g`. -/
def inside (grp : Tile) (g : BitVec 32) : IVec S256x256 1 := cmpf .oeq grp (broadcast S256x256 (Scalar.ofBits (F := Ideal) .f32 g))

/-- A tile with minus infinity off the lanes whose label is `g`. -/
def only (grp : Tile) (g : BitVec 32) (b : Tile) : Tile := select (inside grp g) b bottoms

/-- The two greatest entries of each row, added. -/
def pair (lane v : Tile) : Col := addf (top v) (top (cut lane v))

/-- The scores with those of group `g` filled in. -/
def scored (grp lane b : Tile) (g : BitVec 32) (acc : Tile) : Tile :=
  select (inside grp g) (spread (shapeCast S256x1 (pair lane (only grp g b)) shapeCasts_S256x1_S256x1)) acc

/-- The scores of all groups. -/
def scores (grp lane b : Tile) : Tile :=
  scored grp lane b 0x40E00000#32 (scored grp lane b 0x40C00000#32 (scored grp lane b 0x40A00000#32 (scored grp lane b 0x40800000#32
    (scored grp lane b 0x40400000#32 (scored grp lane b 0x40000000#32 (scored grp lane b 0x3F800000#32 (scored grp lane b 0x00000000#32
      (broadcast S256x256 (Scalar.ofBits (F := Ideal) .f32 0x00000000#32)))))))))

/-- The lanes of the four groups picked. -/
def chosen (grp v : Tile) : IVec S256x256 1 :=
  ori (ori (ori (ori (broadcast S256x256 0#1) (hit grp v)) (hit grp (cut grp v))) (hit grp (cut grp (cut grp v))))
    (hit grp (cut grp (cut grp (cut grp v))))

/-- The entries of the picked groups; minus infinity on the other lanes. -/
def kept (grp lane b : Tile) : Tile := select (chosen grp (scores grp lane b)) b bottoms

/-- The tile after `r` picks. -/
def after (lane v : Tile) : ℕ → Tile
  | 0 => v
  | r + 1 => cut lane (after lane v r)

/-- Eight columns side by side. -/
def beside (a b c d e f g h : Col) : FVec Ideal S256x8 .f32 :=
  concatenate S256x8 1 [⟨S256x1, a⟩, ⟨S256x1, b⟩, ⟨S256x1, c⟩, ⟨S256x1, d⟩, ⟨S256x1, e⟩, ⟨S256x1, f⟩, ⟨S256x1, g⟩, ⟨S256x1, h⟩]
    concatenates_S256x1_S256x1_S256x1_S256x1_S256x1_S256x1_S256x1_S256x1_S256x8_d1

variable (b lane grp s acc v : Tile)

theorem scores_01 : k0_pay9 b lane grp k0_pay7 k0_pay8
    = scored grp lane b 0x3F800000#32 (scored grp lane b 0x00000000#32 (broadcast S256x256 (Scalar.ofBits (F := Ideal) .f32 0x00000000#32))) := rfl

theorem scores_23 : k0_pay11 b lane grp acc (k0_pay10 grp) (Scalar.ofBits (F := Ideal) .f32 0xFF800000#32)
    = scored grp lane b 0x40400000#32 (scored grp lane b 0x40000000#32 acc) := rfl

theorem scores_45 : k0_pay14 b lane grp acc (k0_pay12 grp) (k0_pay13 b grp)
    = scored grp lane b 0x40A00000#32 (scored grp lane b 0x40800000#32 acc) := rfl

theorem scores_67 : k0_pay18 b lane grp acc (k0_pay15 grp) (k0_pay16 b grp) (k0_pay17 b grp)
    = scored grp lane b 0x40E00000#32 (scored grp lane b 0x40C00000#32 acc) := rfl

theorem candidates_groups : k0_pay20 b lane grp acc (k0_pay15 grp) (k0_pay16 b grp) (k0_pay17 b grp)
    = candidates grp (k0_pay18 b lane grp acc (k0_pay15 grp) (k0_pay16 b grp) (k0_pay17 b grp)) := rfl

theorem kept_groups : k0_pay21 b grp v k0_pay19 (candidates grp v) = select (chosen grp v) b bottoms := rfl

theorem found_0 : k0_pay22 lane v = found lane v := rfl
theorem weigh_0 : k0_pay24 s lane v = weigh lane s v := rfl
theorem found_1 : k0_pay26 lane v = found lane (cut lane v) := rfl
theorem weigh_1 : k0_pay28 s lane v = weigh lane s (cut lane v) := rfl
theorem cut_2 : k0_pay30 lane v = cut lane (cut lane v) := rfl
theorem candidates_2 : k0_pay31 lane v = candidates lane (cut lane (cut lane v)) := rfl
theorem found_2 : k0_pay32 (candidates lane v) = found lane v := rfl
theorem weigh_2 : k0_pay34 s lane (candidates lane v) = weigh lane s v := rfl
theorem found_3 : k0_pay36 lane v (candidates lane v) = found lane (cut lane v) := rfl
theorem weigh_3 : k0_pay38 s lane v (candidates lane v) = weigh lane s (cut lane v) := rfl
theorem cut_4 : k0_pay40 lane v (candidates lane v) = cut lane (cut lane v) := rfl
theorem found_4 : k0_pay41 lane v (candidates lane v) = found lane (cut lane (cut lane v)) := rfl
theorem hit_4 : k0_pay42 lane v (candidates lane v) = hit lane (cut lane (cut lane v)) := rfl
theorem weigh_4 : k0_pay44 (k0_pay43 s lane v (candidates lane v)) = weigh lane s (cut lane (cut lane v)) := rfl
theorem found_5 : k0_pay46 lane v (hit lane v) = found lane (cut lane v) := rfl
theorem weigh_5 : k0_pay48 s lane v (hit lane v) = weigh lane s (cut lane v) := rfl
theorem found_6 : k0_pay50 lane v (hit lane v) = found lane (cut lane (cut lane v)) := rfl
theorem weigh_6 : k0_pay52 s lane v (hit lane v) = weigh lane s (cut lane (cut lane v)) := rfl
theorem cut_7 : k0_pay54 lane v (hit lane v) = cut lane (cut lane (cut lane v)) := rfl
theorem top_7 : k0_pay55 lane v (hit lane v) = top (cut lane (cut lane (cut lane v))) := rfl

/-- The weights of the eight picks, over their sum, times the scale. -/
def normed (w : FVec Ideal S256x8 .f32) : FVec Ideal S256x8 .f32 :=
  mulf (divf w (broadcastTo S256x8 (shapeCast S256x1 (multiReduction .add [1] S256 w 0x00000000#32 reduces_S256x8_S256 (.inl rfl) rfl)
    shapeCasts_S256_S256x1) broadcasts_S256x1_S256x8)) (broadcast S256x8 (Scalar.ofBits (F := Ideal) .f32 0x40200000#32))

theorem weights_stage (a₀ a₁ a₂ a₃ a₄ a₅ a₆ : Col) : k0_pay59 s lane a₀ a₁ a₂ a₃ a₄ a₅ a₆ v (top v)
    = normed (beside a₀ a₁ a₂ a₃ a₄ a₅ a₆ (weigh lane s v)) := rfl

theorem labels_stage (a₀ a₁ a₂ a₃ a₄ a₅ a₆ : Col) : k0_pay60 lane a₀ a₁ a₂ a₃ a₄ a₅ a₆ v (top v)
    = fptosi 32 (beside a₀ a₁ a₂ a₃ a₄ a₅ a₆ (found lane v)) := rfl

end Cert.KernelRouteIdeal.Stages

end
-- ==== Proof.Picks.lean ====
/- Selection by repeated maximum and by sorting.  The kernel picks the greatest entry of a row, of equal ones the earliest, then
   overwrites it with minus infinity and goes on.  The reference sorts the row by descending entries, equal ones in order, and
   takes the first places.  While as many entries as are picked lie above minus infinity, the two pick the same positions. -/
module

public import Idealize.ShloMosaic.Lib.SortPrefix
public import Idealize.ShloMosaic.Lib.PlanTiles.StableSort
public import Mathlib.Data.EReal.Basic

@[expose] public section

noncomputable section

namespace Cert.Picks

open Idealize.ShloMosaic Idealize.ShloMosaic.PlanTiles

variable {n : ℕ} [NeZero n]

theorem exists_first (f : Fin n → EReal) : ∃ p, (∀ q, f q ≤ f p) ∧ ∀ q, f q = f p → p ≤ q := by
  obtain ⟨a, -, ha⟩ := Finset.exists_max_image Finset.univ f ⟨0, Finset.mem_univ _⟩
  obtain ⟨p, hp, hmin⟩ := Finset.exists_min_image (Finset.univ.filter fun q => f q = f a) id ⟨a, by simp⟩
  have hpa : f p = f a := by simpa using hp
  refine ⟨p, fun q => hpa ▸ ha q (Finset.mem_univ _), fun q hq => hmin q ?_⟩
  simpa using hq.trans hpa

/-- The earliest position of the greatest entry. -/
def first (f : Fin n → EReal) : Fin n := (exists_first f).choose

theorem le_first (f : Fin n → EReal) (q : Fin n) : f q ≤ f (first f) := (exists_first f).choose_spec.1 q

theorem first_le (f : Fin n → EReal) (q : Fin n) (h : f q = f (first f)) : first f ≤ q := (exists_first f).choose_spec.2 q h

/-- The first position is the only one that is greatest and earliest. -/
theorem first_eq (f : Fin n → EReal) (p : Fin n) (h1 : ∀ q, f q ≤ f p) (h2 : ∀ q, f q = f p → p ≤ q) : first f = p :=
  le_antisymm (first_le f p (le_antisymm (le_first f p) (h1 _))) (h2 _ (le_antisymm (h1 _) (le_first f p)))

/-- A row with one entry overwritten by minus infinity. -/
def mask (f : Fin n → EReal) (p q : Fin n) : EReal := if q = p then ⊥ else f q

/-- What is left of a row after `r` picks. -/
def rest (f : Fin n → EReal) : ℕ → Fin n → EReal
  | 0 => f
  | r + 1 => mask (rest f r) (first (rest f r))

/-- The `r`-th pick. -/
def pick (f : Fin n → EReal) (r : ℕ) : Fin n := first (rest f r)

theorem rest_eq (f : Fin n → EReal) (r : ℕ) (q : Fin n) : rest f r q = ⊥ ∨ rest f r q = f q := by
  induction r with
  | zero => exact Or.inr rfl
  | succ r ih =>
    show mask _ _ q = _ ∨ mask _ _ q = _
    unfold mask
    split
    · exact Or.inl rfl
    · exact ih

theorem rest_picked (f : Fin n → EReal) (r s : ℕ) (h : s < r) : rest f r (pick f s) = ⊥ := by
  induction r with
  | zero => omega
  | succ r ih =>
    show mask _ _ _ = _
    unfold mask
    split
    · rfl
    · next hne =>
      refine ih (lt_of_le_of_ne (by omega) fun e => hne ?_)
      rw [e]; rfl

theorem rest_other (f : Fin n → EReal) (r : ℕ) (q : Fin n) (h : ∀ s < r, pick f s ≠ q) : rest f r q = f q := by
  induction r with
  | zero => rfl
  | succ r ih =>
    show mask _ _ _ = _
    unfold mask
    rw [if_neg fun e => h r (by omega) e.symm]
    exact ih fun s hs => h s (by omega)

/-- At least `k` entries of the row lie above minus infinity. -/
def Enough (f : Fin n → EReal) (k : ℕ) : Prop := ∃ S : Finset (Fin n), k ≤ S.card ∧ ∀ q ∈ S, f q ≠ ⊥

variable {f : Fin n → EReal} {k : ℕ}

theorem rest_pick_ne (h : Enough f k) (r : ℕ) (hr : r < k) : rest f r (pick f r) ≠ ⊥ := by
  classical
  obtain ⟨S, hS, hne⟩ := h
  obtain ⟨q, hq, hnew⟩ : ∃ q ∈ S, q ∉ (Finset.range r).image (pick f) := by
    by_contra hall
    push Not at hall
    have h1 := Finset.card_le_card (show S ⊆ (Finset.range r).image (pick f) from fun q hq => hall q hq)
    have h2 : ((Finset.range r).image (pick f)).card ≤ (Finset.range r).card := Finset.card_image_le
    rw [Finset.card_range] at h2
    omega
  intro hb
  have hle := le_first (rest f r) q
  rw [show rest f r (first (rest f r)) = ⊥ from hb, le_bot_iff,
    rest_other f r q fun s hs e => hnew (Finset.mem_image.2 ⟨s, Finset.mem_range.2 hs, e⟩)] at hle
  exact hne q hq hle

theorem pick_ne (h : Enough f k) (r s : ℕ) (hr : r < k) (hs : s < r) : pick f s ≠ pick f r := fun e =>
  rest_pick_ne h r hr (e ▸ rest_picked f r s hs)

theorem rest_pick (h : Enough f k) (r : ℕ) (hr : r < k) : rest f r (pick f r) = f (pick f r) :=
  (rest_eq f r _).resolve_left (rest_pick_ne h r hr)

/-- Greater entries before lesser ones, of equal ones the earlier position first. -/
def before (f : Fin n → EReal) (p q : Fin n) : Bool := decide (f q < f p) || (decide (f p = f q) && decide (p < q))

theorem before_total (f : Fin n → EReal) : StrictTotalBefore (before f) :=
  StrictTotalBefore.of_key_then_position (fun a b : EReal => decide (b < a)) f (fun a => by simp)
    (fun a b c hab hbc => by
      have h1 : b < a := of_decide_eq_true hab
      have h2 : c < b := of_decide_eq_true hbc
      exact decide_eq_true (h2.trans h1))
    fun a b => by
      rcases lt_trichotomy a b with h | h | h
      · exact Or.inr (Or.inr (decide_eq_true h))
      · exact Or.inr (Or.inl h)
      · exact Or.inl (decide_eq_true h)

/-- A position that none of the picks so far takes is not before the next pick. -/
theorem not_before (h : Enough f k) (r : ℕ) (hr : r < k) (q : Fin n) (hq : ∀ s < r, pick f s ≠ q) :
    before f q (pick f r) = false := by
  have h1 := le_first (rest f r) q
  have h2 := first_le (rest f r) q
  rw [rest_other f r q hq, show rest f r (first (rest f r)) = f (pick f r) from rest_pick h r hr] at h1 h2
  unfold before
  rw [decide_eq_false (not_lt.2 h1), Bool.false_or, Bool.and_eq_false_iff]
  by_cases e : f q = f (pick f r)
  · exact Or.inr (decide_eq_false (not_lt.2 (h2 e)))
  · exact Or.inl (decide_eq_false e)

/-- How many entries lie below the one at a position: a whole number that orders the positions as the entries do. -/
def below (f : Fin n → EReal) (p : Fin n) : ℕ := (Finset.univ.filter fun q => f q < f p).card

theorem below_lt (f : Fin n → EReal) (p q : Fin n) : below f p < below f q ↔ f p < f q := by
  classical
  constructor
  · intro h
    by_contra hle
    refine absurd h (not_lt.2 (Finset.card_le_card fun a ha => ?_))
    simp only [Finset.mem_filter, Finset.mem_univ, true_and] at ha ⊢
    exact ha.trans_le (not_lt.1 hle)
  · intro h
    refine Finset.card_lt_card (Finset.ssubset_iff_of_subset (fun a ha => ?_) |>.2 ⟨p, ?_, ?_⟩)
    · simp only [Finset.mem_filter, Finset.mem_univ, true_and] at ha ⊢
      exact ha.trans h
    · simpa using h
    · simp

/-- The stable sort by descending entries is the sort by descending entries and then by position. -/
theorem sortedFrom_gt (f : Fin n → EReal) : sortedFrom (fun p q => decide (f q < f p)) = sortedFrom (before f) := by
  have hG : (fun p q => decide (f q < f p)) = fun p q : Fin n => decide (below f q < below f p) := by
    funext p q
    exact decide_eq_decide.2 (below_lt f q p).symm
  have hlex := pairwise_stableSort_lex (below f) (· < ·) (List.finRange n) (List.pairwise_lt_finRange n)
  rw [← hG] at hlex
  have hs : (stableSort (fun p q => decide (f q < f p)) (List.finRange n)).Pairwise fun a b => before f b a = false := by
    refine hlex.imp fun {a b} h => ?_
    unfold before
    rcases h with h | ⟨h, hab⟩
    · have hlt := (below_lt f b a).1 h
      rw [decide_eq_false (not_lt.2 hlt.le), decide_eq_false hlt.ne]; rfl
    · have h1 : ¬f a < f b := fun hl => by have := (below_lt f a b).2 hl; omega
      rw [decide_eq_false h1, decide_eq_false (not_lt.2 (le_of_lt hab))]; simp
  have he : sortPositions n (fun p q => decide (f q < f p)) = sortPositions n (before f) :=
    (before_total f).eq_stableSort_of_sorted (perm_stableSort _ _) hs
  funext i
  exact List.get_of_eq he _

/-- The sort's first `k` places come from the picks. -/
theorem sortedFrom_pick (h : Enough f k) (hk : k ≤ n) (i : Fin k) :
    sortedFrom (fun p q => decide (f q < f p)) (i.castLE hk) = pick f i.val := by
  rw [sortedFrom_gt]
  refine (before_total f).sortedFrom_eq_of_prefix hk (fun j : Fin k => pick f j.val) (fun a b hab => ?_) (fun a b hab => ?_)
    (fun a p hp => ?_) i
  · rcases lt_trichotomy a b with hl | hl | hl
    · exact absurd hab (pick_ne h b.val a.val b.isLt hl)
    · exact hl
    · exact absurd hab.symm (pick_ne h a.val b.val a.isLt hl)
  · exact not_before h a.val a.isLt _ fun s hs => pick_ne h b.val s b.isLt (hs.trans hab)
  · exact not_before h a.val a.isLt p fun s hs => hp ⟨s, hs.trans a.isLt⟩

end Cert.Picks

end
-- ==== Proof.SpecRoute.lean ====
/- What the routing computes from one row: the eight groups are scored by their two greatest entries, four groups are picked by
   score, and eight experts are picked by entry among them.  Every pick takes the earliest of the greatest. -/
module

public import proofs.«01_k».proof.Proof.Picks
public import proofs.«01_k».proof.Defs

@[expose] public section

noncomputable section

namespace Cert.Routing

open Cert.Picks Idealize.ShloMosaic

/-- The expert `e` of group `g`. -/
def lane (g : Fin 8) (e : Fin 32) : Fin 256 := ⟨g.val * 32 + e.val, by omega⟩

/-- The group of an expert. -/
def grp (j : Fin 256) : Fin 8 := ⟨j.val / 32, by omega⟩

/-- The place of an expert in its group. -/
def place (j : Fin 256) : Fin 32 := ⟨j.val % 32, by omega⟩

theorem lane_grp_place (j : Fin 256) : lane (grp j) (place j) = j := Fin.ext (by simp only [lane, grp, place]; omega)
theorem grp_lane (g : Fin 8) (e : Fin 32) : grp (lane g e) = g := Fin.ext (by simp only [lane, grp]; omega)
theorem place_lane (g : Fin 8) (e : Fin 32) : place (lane g e) = e := Fin.ext (by simp only [lane, place]; omega)

/-- The entries of group `g`. -/
def part (f : Fin 256 → EReal) (g : Fin 8) (e : Fin 32) : EReal := f (lane g e)

/-- The score of a group: its two greatest entries, added. -/
def score (f : Fin 256 → EReal) (g : Fin 8) : EReal := part f g (pick (part f g) 0) + part f g (pick (part f g) 1)

/-- Whether a group is among the four picked. -/
def Chosen (q : Fin 8 → EReal) (g : Fin 8) : Prop := ∃ r < 4, pick q r = g

open Classical in
/-- The entries of the picked groups; minus infinity elsewhere. -/
def masked (f : Fin 256 → EReal) (j : Fin 256) : EReal := if Chosen (score f) (grp j) then f j else ⊥

/-- The expert picked `r`-th. -/
def choice (f : Fin 256 → EReal) (r : ℕ) : Fin 256 := pick (masked f) r

/-- The weight of the expert picked `l`-th: its score over the sum of the picked scores, times the scale. -/
def weight (s f : Fin 256 → EReal) (l : Fin 8) : EReal :=
  Ideal.div (s (choice f l)) (∑ r : Fin 8, s (choice f r)) * Ideal.ofBits .f32 0x40200000#32

variable {f : Fin 256 → EReal}

theorem part_enough (hf : ∀ j, f j ≠ ⊥) (g : Fin 8) : Enough (part f g) 2 :=
  ⟨Finset.univ, by simp, fun e _ => hf _⟩

theorem score_ne (hf : ∀ j, f j ≠ ⊥) (g : Fin 8) : score f g ≠ ⊥ := fun h => by
  unfold score at h
  rcases (by simpa [score] using h : part f g _ = ⊥ ∨ part f g _ = ⊥) with h | h
  · exact hf _ h
  · exact hf _ h

theorem score_enough (hf : ∀ j, f j ≠ ⊥) : Enough (score f) 4 :=
  ⟨Finset.univ, by simp, fun g _ => score_ne hf g⟩

theorem masked_enough (hf : ∀ j, f j ≠ ⊥) : Enough (masked f) 8 := by
  refine ⟨Finset.univ.image (lane (pick (score f) 0)), ?_, ?_⟩
  · rw [Finset.card_image_of_injective _ fun a b h => by
      have := congrArg place h
      rwa [place_lane, place_lane] at this]
    simp
  · intro q hq
    obtain ⟨e, -, rfl⟩ := Finset.mem_image.1 hq
    rw [masked, if_pos ⟨0, by omega, (grp_lane _ _).symm⟩]
    exact hf _

/-- A group's entries among all lanes, minus infinity off the group. -/
def embed (g : Fin 8) (p : Fin 32 → EReal) (j : Fin 256) : EReal := if grp j = g then p (place j) else ⊥

theorem embed_lane (g : Fin 8) (p : Fin 32 → EReal) (e : Fin 32) : embed g p (lane g e) = p e := by
  rw [embed, if_pos (grp_lane g e), place_lane]

theorem embed_first (g : Fin 8) (p : Fin 32 → EReal) (hp : p (first p) ≠ ⊥) : first (embed g p) = lane g (first p) := by
  refine first_eq _ _ (fun j => ?_) fun j hj => ?_
  · rw [embed_lane, embed]
    split_ifs with h
    · exact le_first p _
    · exact bot_le
  · rw [embed_lane, embed] at hj
    split_ifs at hj with h
    · have := first_le p _ hj
      rw [← lane_grp_place j, h]
      have h2 : (first p).val ≤ (place j).val := this
      show (lane g (first p)).val ≤ (lane g (place j)).val
      simp only [lane]; omega
    · exact absurd hj.symm hp

theorem embed_mask (g : Fin 8) (p : Fin 32 → EReal) (e : Fin 32) : mask (embed g p) (lane g e) = embed g (mask p e) := by
  funext j
  simp only [mask, embed]
  by_cases h : grp j = g
  · have : j = lane g e ↔ place j = e := by
      constructor
      · rintro rfl; exact place_lane g e
      · intro h2; rw [← lane_grp_place j, h, h2]
    simp only [this, h, if_true]
  · have : j ≠ lane g e := fun h2 => h (h2 ▸ grp_lane g e)
    simp only [h, this, if_false]

theorem embed_greatest (g : Fin 8) (p : Fin 32 → EReal) (hp : p (first p) ≠ ⊥) :
    embed g p (first (embed g p)) = p (first p) := by rw [embed_first g p hp, embed_lane]

/-- The two greatest entries among all lanes of a group's embedding are the group's. -/
theorem embed_pair (hf : ∀ j, f j ≠ ⊥) (g : Fin 8) :
    embed g (part f g) (first (embed g (part f g)))
      + mask (embed g (part f g)) (first (embed g (part f g))) (first (mask (embed g (part f g)) (first (embed g (part f g)))))
      = score f g := by
  have h0 : part f g (first (part f g)) ≠ ⊥ := hf _
  have h1 : mask (part f g) (first (part f g)) (first (mask (part f g) (first (part f g)))) ≠ ⊥ :=
    rest_pick_ne (part_enough hf g) 1 (by omega)
  have h2 : mask (part f g) (first (part f g)) (first (mask (part f g) (first (part f g)))) = part f g (pick (part f g) 1) :=
    rest_pick (part_enough hf g) 1 (by omega)
  rw [embed_first g _ h0, embed_mask, embed_greatest g _ h1, embed_lane, h2]
  rfl

/-- The earliest of the greatest of a row constant on the groups is a group's first expert. -/
theorem first_groups (q : Fin 8 → EReal) : first (fun j => q (grp j)) = lane (first q) 0 := by
  refine first_eq _ _ (fun j => ?_) fun j hj => ?_
  · simp only [grp_lane]; exact le_first q _
  · simp only [grp_lane] at hj
    have : (first q).val ≤ (grp j).val := first_le q _ hj
    show (lane (first q) 0).val ≤ j.val
    simp only [lane, grp] at this ⊢
    change _ + 0 ≤ _
    omega

end Cert.Routing

end
-- ==== Proof.RowsRoute.lean ====
/- The stages of the routing call's body, row by row: the two reductions find the earliest greatest entry of a row, and the
   overwriting takes that entry, or its whole group, away. -/
module

public import proofs.«01_k».proof.Proof.StagesRoute
public import proofs.«01_k».proof.Proof.SpecRoute
public import Idealize.ShloMosaic.Lib.Tactic.ValueTie

@[expose] public section

set_option maxRecDepth 16384

noncomputable section

namespace Cert.KernelRouteIdeal.Rows

open Cert.KernelRouteIdeal Cert.KernelRouteIdeal.Gen Cert.KernelRouteIdeal.Stages Cert.Picks Cert.Routing
open Idealize.ShloMosaic Idealize.ShloMosaic.TcCoe

theorem bottom : Ideal.ofBits .f32 4286578688#32 = ⊥ := by simp [Ideal.ofBits, Ideal.ieee]
theorem topmost : Ideal.ofBits .f32 2139095040#32 = ⊤ := by simp [Ideal.ofBits, Ideal.ieee]
theorem large : Ideal.ofBits .f32 1315859240#32 = ((1000000000 : ℝ) : EReal) := by
  simp [Ideal.ofBits, Ideal.ieee, -EReal.coe_mul]; norm_num [-EReal.coe_mul]

/-- Row `i` of a tile. -/
def row (v : Tile) (i : Fin 256) (j : Fin 256) : EReal := v (ix2 i j)

theorem top_row (v : Tile) (i : Fin 256) (z : Fin 1) : top v (ix2 i z) = row v i (first (row v i)) := by
  unfold top
  pointwise
  rw [bottom]
  refine le_antisymm (Finset.fold_max_le _ |>.2 ⟨bot_le, fun j _ => le_first (row v i) j⟩) ?_
  exact Finset.le_fold_max _ |>.2 (.inr ⟨_, Finset.mem_univ _, le_rfl⟩)

/-- A tile of labels: on lane `j` of every row the number `g j`, which does not decrease along the lanes. -/
structure Names (lab : Tile) (g : Fin 256 → ℕ) : Prop where
  entry : ∀ i j, lab (ix2 i j) = (((g j : ℕ) : ℝ) : EReal)
  mono : ∀ j k, j ≤ k → g j ≤ g k
  bound : ∀ j, g j < 256

variable {lab : Tile} {g : Fin 256 → ℕ}

theorem found_row (h : Names lab g) (v : Tile) (i : Fin 256) (z : Fin 1) :
    found lab v (ix2 i z) = (((g (first (row v i)) : ℕ) : ℝ) : EReal) := by
  unfold found low candidates spread
  pointwise
  clean_types
  rw [topmost, large]
  simp only [top_row, h.entry]
  refine le_antisymm ?_ (Finset.le_fold_min _ |>.2 ⟨le_top, fun j _ => ?_⟩)
  · refine Finset.fold_min_le _ |>.2 (.inr ⟨first (row v i), Finset.mem_univ _, ?_⟩)
    exact le_of_eq (if_pos rfl)
  · split_ifs with hj
    · exact EReal.coe_le_coe_iff.2 (Nat.cast_le.2 (h.mono _ _ (first_le (row v i) j hj)))
    · refine EReal.coe_le_coe_iff.2 ?_
      have h1 : ((g (first (row v i)) : ℕ) : ℝ) < 256 := by exact_mod_cast h.bound _
      linarith

theorem same (a b : ℕ) : ((((a : ℕ) : ℝ) : EReal) = (((b : ℕ) : ℝ) : EReal)) ↔ a = b := by
  rw [EReal.coe_eq_coe_iff, Nat.cast_inj]

theorem hit_row (h : Names lab g) (v : Tile) (i j : Fin 256) :
    hit lab v (ix2 i j) = BitVec.ofBool (decide (g j = g (first (row v i)))) := by
  unfold hit spread
  pointwise
  clean_types
  rw [found_row h, h.entry]
  simp only [Ideal.cmp, same]

theorem cut_row (h : Names lab g) (v : Tile) (i j : Fin 256) :
    cut lab v (ix2 i j) = if g j = g (first (row v i)) then ⊥ else v (ix2 i j) := by
  unfold cut hit bottoms spread
  pointwise
  clean_types
  simp only [found_row h, h.entry, same, bottom]

/-- The lanes' own numbers. -/
theorem lanes_names : Names k0_pay5 Fin.val where
  entry i j := by
    unfold k0_pay5
    pointwise
    clean_types
    show (((BitVec.ofNat 32 j.val).toInt : ℝ) : EReal) = _
    rw [show (BitVec.ofNat 32 j.val).toInt = (j.val : ℤ) from by
      revert j; decide +kernel]
    norm_cast
  mono _ _ h := h
  bound j := j.isLt

/-- The lanes' groups. -/
theorem groups_names : Names k0_pay6 fun j => (grp j).val where
  entry i j := by
    unfold k0_pay6
    pointwise
    clean_types
    refine (congrArg (fun n : ℤ => ((n : ℝ) : EReal)) (a₂ := ((grp j).val : ℤ)) ?_).trans (by norm_cast)
    revert j
    decide +kernel
  mono j k h := Nat.div_le_div_right h
  bound j := by have := (grp j).isLt; omega

/-- Taking the earliest greatest entry away. -/
theorem cut_lane (v : Tile) (i : Fin 256) : row (cut k0_pay5 v) i = mask (row v i) (first (row v i)) := by
  funext j
  rw [row, cut_row lanes_names, mask]
  simp only [Fin.val_inj]
  rfl

theorem after_row (v : Tile) (i : Fin 256) (r : ℕ) : row (after k0_pay5 v r) i = rest (row v i) r := by
  induction r with
  | zero => rfl
  | succ r ih => rw [after, cut_lane, ih]; rfl

theorem weigh_row (s v : Tile) (i : Fin 256) (z : Fin 1) : weigh k0_pay5 s v (ix2 i z) = row s i (first (row v i)) := by
  unfold weigh
  pointwise
  clean_types
  simp only [hit_row lanes_names, Fin.val_inj]
  rw [Finset.sum_eq_single (first (row v i))]
  · simp [Scalar.select]; rfl
  · intro j _ hj
    simp [Scalar.select, hj]
  · intro h; exact absurd (Finset.mem_univ _) h

/-- Taking a group away from a row constant on the groups. -/
theorem cut_groups (v : Tile) (i : Fin 256) (q : Fin 8 → EReal) (h : row v i = fun j => q (grp j)) :
    row (cut k0_pay6 v) i = fun j => mask q (first q) (grp j) := by
  funext j
  rw [row, cut_row groups_names, h, first_groups, mask]
  simp only [grp_lane, Fin.val_inj]
  rw [show v (ix2 i j) = q (grp j) from congrFun h j]

theorem hit_groups (v : Tile) (i : Fin 256) (q : Fin 8 → EReal) (h : row v i = fun j => q (grp j)) (j : Fin 256) :
    hit k0_pay6 v (ix2 i j) = BitVec.ofBool (decide (grp j = first q)) := by
  rw [hit_row groups_names, h, first_groups]
  simp only [grp_lane, Fin.val_inj]

theorem or_bits (a b c d : Bool) : IntOp.ori (IntOp.ori (IntOp.ori (IntOp.ori 0#1 (BitVec.ofBool a)) (BitVec.ofBool b)) (BitVec.ofBool c))
    (BitVec.ofBool d) = 1#1 ↔ a = true ∨ b = true ∨ c = true ∨ d = true := by
  cases a <;> cases b <;> cases c <;> cases d <;> decide

theorem chosen_row (v : Tile) (i : Fin 256) (q : Fin 8 → EReal) (h : row v i = fun j => q (grp j)) (j : Fin 256) :
    chosen k0_pay6 v (ix2 i j) = 1#1 ↔ Chosen q (grp j) := by
  have h1 := cut_groups v i _ h
  have h2 := cut_groups _ i _ h1
  have h3 := cut_groups _ i _ h2
  unfold chosen
  pointwise
  clean_types
  rw [hit_groups v i _ h, hit_groups _ i _ h1, hit_groups _ i _ h2, hit_groups _ i _ h3]
  have e : Chosen q (grp j) ↔ grp j = first q ∨ grp j = first (mask q (first q))
      ∨ grp j = first (mask (mask q (first q)) (first (mask q (first q))))
      ∨ grp j = first (mask (mask (mask q (first q)) (first (mask q (first q))))
          (first (mask (mask q (first q)) (first (mask q (first q)))))) := by
    constructor
    · rintro ⟨r, hr, hq⟩
      obtain rfl | rfl | rfl | rfl : r = 0 ∨ r = 1 ∨ r = 2 ∨ r = 3 := by omega
      · exact .inl hq.symm
      · exact .inr (.inl hq.symm)
      · exact .inr (.inr (.inl hq.symm))
      · exact .inr (.inr (.inr hq.symm))
    · rintro (hq | hq | hq | hq)
      · exact ⟨0, by omega, hq.symm⟩
      · exact ⟨1, by omega, hq.symm⟩
      · exact ⟨2, by omega, hq.symm⟩
      · exact ⟨3, by omega, hq.symm⟩
  rw [e, or_bits]
  simp only [decide_eq_true_eq]

/-- A group's entries alone. -/
theorem only_row (b : Tile) (i : Fin 256) (w : BitVec 32) (u : Fin 8) (hw : Ideal.ofBits .f32 w = (((u.val : ℕ) : ℝ) : EReal)) :
    row (only k0_pay6 w b) i = embed u (part (row b i) u) := by
  funext j
  unfold row only inside bottoms
  pointwise
  clean_types
  rw [hw, groups_names.entry, bottom]
  simp only [same, Fin.val_inj, embed]
  by_cases h : grp j = u
  · rw [if_pos h, if_pos h, part, ← h, lane_grp_place]
  · rw [if_neg h, if_neg h]

theorem scored_row (b acc : Tile) (i j : Fin 256) (w : BitVec 32) (u : Fin 8) (hw : Ideal.ofBits .f32 w = (((u.val : ℕ) : ℝ) : EReal))
    (hb : ∀ k, row b i k ≠ ⊥) :
    scored k0_pay6 k0_pay5 b w acc (ix2 i j) = if grp j = u then score (row b i) u else acc (ix2 i j) := by
  unfold scored inside spread pair
  pointwise
  clean_types
  rw [hw, groups_names.entry, top_row, top_row, cut_lane, only_row b i w u hw, embed_pair hb]
  simp only [same, Fin.val_inj]

theorem n0 : Ideal.ofBits .f32 0x00000000#32 = (((0 : ℕ) : ℝ) : EReal) := by simp [Ideal.ofBits, Ideal.ieee]
theorem n1 : Ideal.ofBits .f32 0x3F800000#32 = (((1 : ℕ) : ℝ) : EReal) := by
  simp [Ideal.ofBits, Ideal.ieee, -EReal.coe_mul]; norm_num [-EReal.coe_mul]
theorem n2 : Ideal.ofBits .f32 0x40000000#32 = (((2 : ℕ) : ℝ) : EReal) := by
  simp [Ideal.ofBits, Ideal.ieee, -EReal.coe_mul]; norm_num [-EReal.coe_mul]
theorem n3 : Ideal.ofBits .f32 0x40400000#32 = (((3 : ℕ) : ℝ) : EReal) := by
  simp [Ideal.ofBits, Ideal.ieee, -EReal.coe_mul]; norm_num [-EReal.coe_mul]
theorem n4 : Ideal.ofBits .f32 0x40800000#32 = (((4 : ℕ) : ℝ) : EReal) := by
  simp [Ideal.ofBits, Ideal.ieee, -EReal.coe_mul]; norm_num [-EReal.coe_mul]
theorem n5 : Ideal.ofBits .f32 0x40A00000#32 = (((5 : ℕ) : ℝ) : EReal) := by
  simp [Ideal.ofBits, Ideal.ieee, -EReal.coe_mul]; norm_num [-EReal.coe_mul]
theorem n6 : Ideal.ofBits .f32 0x40C00000#32 = (((6 : ℕ) : ℝ) : EReal) := by
  simp [Ideal.ofBits, Ideal.ieee, -EReal.coe_mul]; norm_num [-EReal.coe_mul]
theorem n7 : Ideal.ofBits .f32 0x40E00000#32 = (((7 : ℕ) : ℝ) : EReal) := by
  simp [Ideal.ofBits, Ideal.ieee, -EReal.coe_mul]; norm_num [-EReal.coe_mul]

/-- Every lane holds the score of its group. -/
theorem scores_row (b : Tile) (i : Fin 256) (hb : ∀ k, row b i k ≠ ⊥) :
    row (scores k0_pay6 k0_pay5 b) i = fun j => score (row b i) (grp j) := by
  funext j
  unfold row scores
  rw [scored_row _ _ _ _ _ 7 n7 hb, scored_row _ _ _ _ _ 6 n6 hb, scored_row _ _ _ _ _ 5 n5 hb, scored_row _ _ _ _ _ 4 n4 hb,
    scored_row _ _ _ _ _ 3 n3 hb, scored_row _ _ _ _ _ 2 n2 hb, scored_row _ _ _ _ _ 1 n1 hb, scored_row _ _ _ _ _ 0 n0 hb]
  generalize grp j = u
  fin_cases u <;> rfl

/-- The entries of the picked groups. -/
theorem kept_row (b : Tile) (i : Fin 256) (hb : ∀ k, row b i k ≠ ⊥) : row (kept k0_pay6 k0_pay5 b) i = masked (row b i) := by
  funext j
  unfold masked
  have h := chosen_row (scores k0_pay6 k0_pay5 b) i _ (scores_row b i hb) j
  show kept k0_pay6 k0_pay5 b (ix2 i j) = _
  unfold kept bottoms
  pointwise
  clean_types
  rw [bottom]
  unfold Scalar.select
  by_cases hc : Chosen (score (row b i)) (grp j)
  · rw [if_pos hc]; exact if_pos (h.2 hc)
  · rw [if_neg hc]; exact if_neg fun e => hc (h.1 e)

/-- Eight columns, each read off at its own place. -/
theorem beside_row (c : ℕ → Col) (i : Fin 256) (l : Fin 8) :
    beside (c 0) (c 1) (c 2) (c 3) (c 4) (c 5) (c 6) (c 7) (ix2 i l) = c l (ix2 i 0) := by
  unfold beside
  pointwise
  clean_types
  fin_cases l <;> rfl

/-- The labels of the picks, as integers. -/
theorem labels_row (b : Tile) (i : Fin 256) (l : Fin 8) (hb : ∀ k, row b i k ≠ ⊥) (c : ℕ → Col)
    (hc : ∀ r, c r = found k0_pay5 (after k0_pay5 (kept k0_pay6 k0_pay5 b) r)) :
    fptosi 32 (beside (c 0) (c 1) (c 2) (c 3) (c 4) (c 5) (c 6) (c 7)) (ix2 i l)
      = BitVec.ofNat 32 (choice (row b i) l).val := by
  pointwise
  rw [beside_row c i l, hc, found_row lanes_names, after_row, kept_row b i hb]
  show Ideal.fptosi 32 (((choice (row b i) l).val : ℝ) : EReal) = _
  generalize choice (row b i) l = p
  have h := p.isLt
  rw [Ideal.fptosi, Ideal.toIntClamped_coe, if_pos (Nat.cast_nonneg _), Int.floor_natCast, min_eq_right (by norm_num; omega),
    max_eq_right (by omega)]
  rfl

/-- The weights of the picks. -/
theorem weights_row (s b : Tile) (i : Fin 256) (l : Fin 8) (hb : ∀ k, row b i k ≠ ⊥) (c : ℕ → Col)
    (hc : ∀ r, c r = weigh k0_pay5 s (after k0_pay5 (kept k0_pay6 k0_pay5 b) r)) :
    normed (beside (c 0) (c 1) (c 2) (c 3) (c 4) (c 5) (c 6) (c 7)) (ix2 i l) = weight (row s i) (row b i) l := by
  unfold normed
  pointwise
  clean_types
  rw [Finset.sum_congr rfl fun x _ => beside_row c i x, beside_row c i l]
  simp only [hc, weigh_row, after_row, kept_row b i hb]
  rfl

end Cert.KernelRouteIdeal.Rows

end
-- ==== Proof.TileRoute.lean ====
/- What the routing call leaves in its first two outputs, element by element.  The grid runs over 32 tiles of 256 rows.  A point
   multiplies its rows with the router's weights, takes the logistic, adds the biases, and picks the experts of every row. -/
module

public import proofs.«01_k».proof.Proof.RowsRoute
public import Idealize.ShloMosaic.Lib.Pipeline.ValueKit
public import Idealize.ShloMosaic.Lib.Claim

@[expose] public section

set_option maxRecDepth 16384

noncomputable section

namespace Cert.KernelRouteIdeal.Tile

open Cert.KernelRouteIdeal Cert.KernelRouteIdeal.Gen Cert.KernelRouteIdeal.Stages Cert.KernelRouteIdeal.Rows Cert.Picks Cert.Routing
open Idealize.ShloMosaic Idealize.ShloMosaic.TcCoe Idealize.SL.Sem

variable (m : (ℓ : Loc nD τ sig) → Buf (Elt Ideal) ℓ)

/-- The rows as launched, over the extended reals. -/
abbrev rows (c : Dev nD) : S8192x2048.Idx → EReal := m ((c : Thread nD τ).loc main_arg0)

/-- The router's weights as launched, over the extended reals. -/
abbrev weights (c : Dev nD) : S2048x256.Idx → EReal := m ((c : Thread nD τ).loc main_arg1)

/-- The biases of the experts as launched, over the extended reals. -/
abbrev biases (c : Dev nD) : S256.Idx → EReal := m ((c : Thread nD τ).loc main_arg2)

/-- The scores of the experts for row `n`. -/
def scoreRow (c : Dev nD) (n : Fin 8192) (j : Fin 256) : EReal :=
  Ideal.logistic (∑ k : Fin 2048, rows m c (ix2 n k) * weights m c (ix2 k j))

/-- The scores with the biases added. -/
def biasedRow (c : Dev nD) (n : Fin 8192) (j : Fin 256) : EReal := scoreRow m c n j + biases m c (ix1 j)

theorem point_lt (t : Fin cfg0.N) : t.val < 32 := lt_of_lt_of_eq t.isLt (show cfg0.N = 32 from N_0)

/-- The rows' window is at row tile `t`. -/
theorem rows_at : ∀ t : Fin cfg0.N, win0_0.index t = ![t.val, 0] :=
  (by decide +kernel : ∀ t : Fin grid0.N, _)

theorem weights_at : ∀ t : Fin cfg0.N, win0_1.index t = ![0, 0] :=
  (by decide +kernel : ∀ t : Fin grid0.N, _)

theorem biases_at : ∀ t : Fin cfg0.N, win0_2.index t = ![0, 0] :=
  (by decide +kernel : ∀ t : Fin grid0.N, _)

/-- The rows' block, read at an index. -/
theorem rows_apply (c : Dev nD) (t : Fin cfg0.N) (r : Fin 256) (k : Fin 2048) :
    iblk m c 0 t (ix2 r k) = rows m c (ix2 ⟨256 * t.val + r.val, by have := point_lt t; omega⟩ k) := by
  blk_simp [iblk]
  entry_read
  blk_ext [rows_at t]

/-- The weights' block, read at an index. -/
theorem weights_apply (c : Dev nD) (t : Fin cfg0.N) (k : Fin 2048) (j : Fin 256) :
    iblk m c 1 t (ix2 k j) = weights m c (ix2 k j) := by
  blk_simp [iblk]
  entry_read
  blk_ext [weights_at t]

/-- The biases' block, read at an index. -/
theorem biases_apply (c : Dev nD) (t : Fin cfg0.N) (r : Fin 1) (j : Fin 256) :
    iblk m c 2 t (ix2 r j) = biases m c (ix1 j) := by
  blk_simp [iblk]
  entry_read
  pointwise
  blk_ext [biases_at t]

/-- The point's scores. -/
abbrev scoreTile (c : Dev nD) (t : Fin cfg0.N) : Tile := k0_pay3 (iblk m c 0 t) (iblk m c 1 t)

/-- The point's biased scores. -/
abbrev biasedTile (c : Dev nD) (t : Fin cfg0.N) : Tile := k0_pay4 (iblk m c 0 t) (iblk m c 1 t) (iblk m c 2 t)

theorem score_row (c : Dev nD) (t : Fin cfg0.N) (r : Fin 256) :
    row (scoreTile m c t) r = scoreRow m c ⟨256 * t.val + r.val, by have := point_lt t; omega⟩ := by
  funext j
  unfold row scoreTile scoreRow
  pointwise [k0_pay3]
  exact congrArg _ (Finset.sum_congr rfl fun k _ => congrArg₂ (· * ·) (rows_apply m c t r k) (weights_apply m c t k j))

theorem biased_row (c : Dev nD) (t : Fin cfg0.N) (r : Fin 256) :
    row (biasedTile m c t) r = biasedRow m c ⟨256 * t.val + r.val, by have := point_lt t; omega⟩ := by
  funext j
  rw [biasedRow, ← score_row, ← biases_apply m c t 0 j]
  unfold row biasedTile
  pointwise [k0_pay4, k0_pay3]

/-- A logistic is never minus infinity. -/
theorem logistic_ne (x : EReal) : Ideal.logistic x ≠ ⊥ := by
  induction x using EReal.rec with
  | bot => simp
  | top =>
    have h : Ideal.logistic ⊤ = ((1 : ℝ) : EReal) := by simp [Ideal.logistic, Ideal.div]
    rw [h]
    exact EReal.coe_ne_bot 1
  | coe a =>
    have h : (1 + Real.exp (-a)) ≠ 0 := by positivity
    rw [Ideal.logistic, ← EReal.coe_neg, Ideal.exp_coe, ← EReal.coe_one, ← EReal.coe_add, Ideal.div_coe h, ← EReal.coe_mul]
    exact EReal.coe_ne_bot _

/-- The score of no expert is minus infinity, nor is it with a bias that is not. -/
theorem biased_ne (c : Dev nD) (h : ∀ j : Fin 256, biases m c (ix1 j) ≠ ⊥) (n : Fin 8192) (j : Fin 256) : biasedRow m c n j ≠ ⊥ := by
  intro e
  unfold biasedRow at e
  rcases (by simpa using e : scoreRow m c n j = ⊥ ∨ biases m c (ix1 j) = ⊥) with e | e
  · unfold scoreRow at e
    generalize (∑ k : Fin 2048, rows m c (ix2 n k) * weights m c (ix2 k j)) = x at e
    exact logistic_ne x e
  · exact h j e

/-- The two output tiles after a point. -/
theorem tile_apply (c : Dev nD) (h : ∀ j : Fin 256, biases m c (ix1 j) ≠ ⊥) (t : Fin cfg0.N) (r : Fin 256) (l : Fin 8) :
    (outsAt0 m c t.val t.isLt).1 (ix2 r l)
        = BitVec.ofNat 32 (choice (biasedRow m c ⟨256 * t.val + r.val, by have := point_lt t; omega⟩) l).val
      ∧ (outsAt0 m c t.val t.isLt).2.1 (ix2 r l)
        = weight (scoreRow m c ⟨256 * t.val + r.val, by have := point_lt t; omega⟩)
            (biasedRow m c ⟨256 * t.val + r.val, by have := point_lt t; omega⟩) l := by
  have hb : ∀ k, row (biasedTile m c t) r k ≠ ⊥ := fun k => by rw [biased_row]; exact biased_ne m c h _ k
  have hl := labels_row (biasedTile m c t) r l hb
    (fun s => found k0_pay5 (after k0_pay5 (kept k0_pay6 k0_pay5 (biasedTile m c t)) s)) fun _ => rfl
  have hw := weights_row (scoreTile m c t) (biasedTile m c t) r l hb
    (fun s => weigh k0_pay5 (scoreTile m c t) (after k0_pay5 (kept k0_pay6 k0_pay5 (biasedTile m c t)) s)) fun _ => rfl
  rw [biased_row] at hl hw
  rw [score_row] at hw
  rw [← hl, ← hw]
  by_cases h : t.val % 32 = 0
  · rw [outsAt0_A m c t h]
    constructor
    · dsimp only
      frame_out
      simp only [scores_01, scores_23, scores_45, scores_67, candidates_groups, kept_groups, found_0, found_1, cut_2, candidates_2,
        found_2, found_3, cut_4, found_4, hit_4, found_5, found_6, cut_7, top_7, labels_stage]
      rfl
    · dsimp only
      frame_out
      simp only [scores_01, scores_23, scores_45, scores_67, candidates_groups, kept_groups, weigh_0, weigh_1, cut_2, candidates_2,
        weigh_2, weigh_3, cut_4, weigh_4, hit_4, weigh_5, weigh_6, cut_7, top_7, weights_stage]
      rfl
  · rw [outsAt0_B m c t h]
    constructor
    · dsimp only
      frame_out
      simp only [scores_01, scores_23, scores_45, scores_67, candidates_groups, kept_groups, found_0, found_1, cut_2, candidates_2,
        found_2, found_3, cut_4, found_4, hit_4, found_5, found_6, cut_7, top_7, labels_stage]
      rfl
    · dsimp only
      frame_out
      simp only [scores_01, scores_23, scores_45, scores_67, candidates_groups, kept_groups, weigh_0, weigh_1, cut_2, candidates_2,
        weigh_2, weigh_3, cut_4, weigh_4, hit_4, weigh_5, weigh_6, cut_7, top_7, weights_stage]
      rfl

/-- Output window 3 is at row tile `t`. -/
theorem out3_at : ∀ t : Fin cfg0.N, win0_3.index t = ![t.val, 0] :=
  (by decide +kernel : ∀ t : Fin grid0.N, _)

/-- The experts picked. -/
theorem array3 (c : Dev nD) (h : ∀ j : Fin 256, biases m c (ix1 j) ≠ ⊥) :
    (dats m 0 c).arrAt 3 cfg0.N = fun i : S8192x8.Idx => BitVec.ofNat 32 (choice (biasedRow m c (i 0)) (i 1).val).val := by
  refine (dats m 0 c).arrAt_eq_of_cover 3 _ (fun t _ => ?_) (fun i => ?_)
  · show (cfg0.win 3).cut (grid0.coords t) ((dats m 0 c).after 3 t) = _
    rw [after0_3]
    funext y
    have hy : y = ix2 (⟨(y 0).val, (y 0).isLt⟩ : Fin 256) (⟨(y 1).val, (y 1).isLt⟩ : Fin 8) := eq_ix2 y
    have h0 : (((cfg0.win 3).blk t).view.emb y 0).val = win0_3.index t (0 : Fin 2) * 256 + 1 * (y 0).val := rfl
    have h1 : (((cfg0.win 3).blk t).view.emb y 1).val = win0_3.index t (1 : Fin 2) * 8 + 1 * (y 1).val := rfl
    rw [out3_at t] at h0 h1
    have e0 : 256 * t.val + (y 0).val = (((cfg0.win 3).blk t).view.emb y 0).val := by
      rw [h0]; show 256 * t.val + (y 0).val = t.val * 256 + 1 * (y 0).val; omega
    have e1 : (⟨(y 1).val, (y 1).isLt⟩ : Fin 8) = ((cfg0.win 3).blk t).view.emb y 1 := Fin.ext (by
      rw [h1]; show (y 1).val = 0 * 8 + 1 * (y 1).val; omega)
    refine Eq.trans ?_ (congrArg₂ (fun (n : Fin 8192) (l : Fin 8) => BitVec.ofNat 32 (choice (biasedRow m c n) l.val).val)
      (Fin.ext (a := ⟨_, by have := point_lt t; have : (y 0).val < 256 := (y 0).isLt; omega⟩) e0) e1)
    exact (congrArg (outsAt0 m c t.val t.isLt).1 hy).trans (tile_apply m c h t _ _).1
  · have hi0 : (i 0).val < 8192 := (i 0).isLt
    have hi1 : (i 1).val < 8 := (i 1).isLt
    have hN : (i 0).val / 256 < cfg0.N := by rw [show cfg0.N = 32 from N_0]; omega
    refine ⟨⟨(i 0).val / 256, hN⟩, (by decide +kernel : ∀ t : Fin grid0.N, (win0_3).flush t = true) _, ?_⟩
    show i ∈ ((View.whole main_v1_0).slice (win0_3.rect ⟨(i 0).val / 256, hN⟩)).set
    rw [View.set_slice_whole, Rect.mem_set_unit]
    intro a
    have h := out3_at ⟨(i 0).val / 256, hN⟩
    match a with
    | ⟨0, _⟩ =>
      show win0_3.index ⟨(i 0).val / 256, hN⟩ (0 : Fin 2) * 256 ≤ (i 0).val ∧ (i 0).val < win0_3.index ⟨(i 0).val / 256, hN⟩ (0 : Fin 2) * 256 + 256
      rw [h]; show (i 0).val / 256 * 256 ≤ (i 0).val ∧ (i 0).val < (i 0).val / 256 * 256 + 256; omega
    | ⟨1, _⟩ =>
      show win0_3.index ⟨(i 0).val / 256, hN⟩ (1 : Fin 2) * 8 ≤ (i 1).val ∧ (i 1).val < win0_3.index ⟨(i 0).val / 256, hN⟩ (1 : Fin 2) * 8 + 8
      rw [h]; show 0 * 8 ≤ (i 1).val ∧ (i 1).val < 0 * 8 + 8; omega

/-- Output window 4 is at row tile `t`. -/
theorem out4_at : ∀ t : Fin cfg0.N, win0_4.index t = ![t.val, 0] :=
  (by decide +kernel : ∀ t : Fin grid0.N, _)

/-- Their weights. -/
theorem array4 (c : Dev nD) (h : ∀ j : Fin 256, biases m c (ix1 j) ≠ ⊥) :
    (dats m 0 c).arrAt 4 cfg0.N = fun i : S8192x8.Idx => weight (scoreRow m c (i 0)) (biasedRow m c (i 0)) (i 1) := by
  refine (dats m 0 c).arrAt_eq_of_cover 4 _ (fun t _ => ?_) (fun i => ?_)
  · show (cfg0.win 4).cut (grid0.coords t) ((dats m 0 c).after 4 t) = _
    rw [after0_4]
    funext y
    have hy : y = ix2 (⟨(y 0).val, (y 0).isLt⟩ : Fin 256) (⟨(y 1).val, (y 1).isLt⟩ : Fin 8) := eq_ix2 y
    have h0 : (((cfg0.win 4).blk t).view.emb y 0).val = win0_4.index t (0 : Fin 2) * 256 + 1 * (y 0).val := rfl
    have h1 : (((cfg0.win 4).blk t).view.emb y 1).val = win0_4.index t (1 : Fin 2) * 8 + 1 * (y 1).val := rfl
    rw [out4_at t] at h0 h1
    have e0 : 256 * t.val + (y 0).val = (((cfg0.win 4).blk t).view.emb y 0).val := by
      rw [h0]; show 256 * t.val + (y 0).val = t.val * 256 + 1 * (y 0).val; omega
    have e1 : (⟨(y 1).val, (y 1).isLt⟩ : Fin 8) = ((cfg0.win 4).blk t).view.emb y 1 := Fin.ext (by
      rw [h1]; show (y 1).val = 0 * 8 + 1 * (y 1).val; omega)
    refine Eq.trans ?_ (congrArg₂ (fun (n : Fin 8192) (l : Fin 8) => weight (scoreRow m c n) (biasedRow m c n) l)
      (Fin.ext (a := ⟨_, by have := point_lt t; have : (y 0).val < 256 := (y 0).isLt; omega⟩) e0) e1)
    exact (congrArg (outsAt0 m c t.val t.isLt).2.1 hy).trans (tile_apply m c h t _ _).2
  · have hi0 : (i 0).val < 8192 := (i 0).isLt
    have hi1 : (i 1).val < 8 := (i 1).isLt
    have hN : (i 0).val / 256 < cfg0.N := by rw [show cfg0.N = 32 from N_0]; omega
    refine ⟨⟨(i 0).val / 256, hN⟩, (by decide +kernel : ∀ t : Fin grid0.N, (win0_4).flush t = true) _, ?_⟩
    show i ∈ ((View.whole main_v1_1).slice (win0_4.rect ⟨(i 0).val / 256, hN⟩)).set
    rw [View.set_slice_whole, Rect.mem_set_unit]
    intro a
    have h := out4_at ⟨(i 0).val / 256, hN⟩
    match a with
    | ⟨0, _⟩ =>
      show win0_4.index ⟨(i 0).val / 256, hN⟩ (0 : Fin 2) * 256 ≤ (i 0).val ∧ (i 0).val < win0_4.index ⟨(i 0).val / 256, hN⟩ (0 : Fin 2) * 256 + 256
      rw [h]; show (i 0).val / 256 * 256 ≤ (i 0).val ∧ (i 0).val < (i 0).val / 256 * 256 + 256; omega
    | ⟨1, _⟩ =>
      show win0_4.index ⟨(i 0).val / 256, hN⟩ (1 : Fin 2) * 8 ≤ (i 1).val ∧ (i 1).val < win0_4.index ⟨(i 0).val / 256, hN⟩ (1 : Fin 2) * 8 + 8
      rw [h]; show 0 * 8 ≤ (i 1).val ∧ (i 1).val < 0 * 8 + 8; omega

end Cert.KernelRouteIdeal.Tile

end
-- ==== Proof.TopRoute.lean ====
/- The top-k of a row, read as picks: a stable sort by greatest first puts the earliest of the greatest first, then the earliest of
   the greatest of the rest, and so on, as long as enough entries are not minus infinity.  And the read of one entry of each row at
   a given column. -/
module

public import proofs.«01_k».proof.Proof.Picks
public import proofs.«01_k».proof.Defs
public import Idealize.ShloMosaic.Lib.Pointwise
public import Idealize.ShloMosaic.Lib.ValueIdxCore

@[expose] public section

noncomputable section

namespace Cert.TopRoute

open Cert.Picks Idealize.ShloMosaic

/-- The comparison of the sort, as a decision. -/
theorem gt_bit (a b : EReal) : ((FloatOps.cmpfTotal (F := Ideal) (φ := .f32) .gt a b) == 1#1) = decide (b < a) := by
  show (BitVec.ofBool (decide (b < a)) == 1#1) = _
  cases decide (b < a) <;> rfl

variable {R G N k : ℕ} [NeZero N]

theorem along2 (i : Fin R) (l q : Fin N) : Shape.Idx.along (s := ⟨2, ![R, N]⟩) (ix2 i l) 1 q = ix2 i q := by
  funext a
  match a with
  | ⟨0, _⟩ => rfl
  | ⟨1, _⟩ => rfl

theorem along3 (i : Fin R) (g : Fin G) (l q : Fin N) : Shape.Idx.along (s := ⟨3, ![R, G, N]⟩) (ix3 i g l) 2 q = ix3 i g q := by
  funext a
  match a with
  | ⟨0, _⟩ => rfl
  | ⟨1, _⟩ => rfl
  | ⟨2, _⟩ => rfl

/-- The positions of a top-k along the last axis of two. -/
theorem indices2 (x : (⟨2, ![R, N]⟩ : Shape).Idx → EReal) (h : Shape.Slices ⟨2, ![R, N]⟩ (fun _ => 0) ⟨2, ![R, k]⟩) (hk : k ≤ N)
    (i : Fin R) (l : Fin k) (f : Fin N → EReal) (hf : ∀ q, x (ix2 i q) = f q) (hE : Enough f k) :
    (Host.topK (s := ⟨2, ![R, N]⟩) ⟨2, ![R, k]⟩ 1 (FloatOps.cmpfTotal (F := Ideal) (φ := .f32) .gt) x h).2 (ix2 i l)
      = BitVec.ofNat 32 (pick f l.val).val := by
  have hj : (fun a => ⟨0 + (ix2 i l (a.cast h.1.symm)).val, Nat.lt_of_lt_of_le (Nat.add_lt_add_left (ix2 i l _).isLt _) (h.2 a)⟩
      : (⟨2, ![R, N]⟩ : Shape).Idx) = ix2 i (l.castLE hk) := by
    funext a
    match a with
    | ⟨0, _⟩ => exact Fin.ext (Nat.zero_add _)
    | ⟨1, _⟩ => exact Fin.ext (Nat.zero_add _)
  rw [← sortedFrom_pick hE hk l]
  unfold Host.topK extractStridedSlice
  dsimp only
  rw [hj]
  unfold Host.sort2
  rw [dif_pos (show 1 < 2 by decide)]
  dsimp only
  have hb : (fun p q : Fin N => (FloatOps.cmpfTotal (F := Ideal) (φ := .f32) .gt (x (Shape.Idx.along (s := ⟨2, ![R, N]⟩) (ix2 i (l.castLE hk)) 1 p))
      (x (Shape.Idx.along (s := ⟨2, ![R, N]⟩) (ix2 i (l.castLE hk)) 1 q)) == 1#1)) = fun p q => decide (f q < f p) := by
    funext p q
    rw [gt_bit, along2, along2, hf, hf]
  exact congrArg (fun B => BitVec.ofNat 32 (sortedFrom (n := N) B (l.castLE hk)).val) hb

/-- The entries of a top-k along the last axis of three. -/
theorem values3 (x : (⟨3, ![R, G, N]⟩ : Shape).Idx → EReal) (h : Shape.Slices ⟨3, ![R, G, N]⟩ (fun _ => 0) ⟨3, ![R, G, k]⟩) (hk : k ≤ N)
    (i : Fin R) (g : Fin G) (l : Fin k) (f : Fin N → EReal) (hf : ∀ q, x (ix3 i g q) = f q) (hE : Enough f k) :
    (Host.topK (s := ⟨3, ![R, G, N]⟩) ⟨3, ![R, G, k]⟩ 2 (FloatOps.cmpfTotal (F := Ideal) (φ := .f32) .gt) x h).1 (ix3 i g l)
      = f (pick f l.val) := by
  have hj : (fun a => ⟨0 + (ix3 i g l (a.cast h.1.symm)).val, Nat.lt_of_lt_of_le (Nat.add_lt_add_left (ix3 i g l _).isLt _) (h.2 a)⟩
      : (⟨3, ![R, G, N]⟩ : Shape).Idx) = ix3 i g (l.castLE hk) := by
    funext a
    match a with
    | ⟨0, _⟩ => exact Fin.ext (Nat.zero_add _)
    | ⟨1, _⟩ => exact Fin.ext (Nat.zero_add _)
    | ⟨2, _⟩ => exact Fin.ext (Nat.zero_add _)
  rw [← sortedFrom_pick hE hk l, ← hf, ← along3 i g (l.castLE hk)]
  unfold Host.topK extractStridedSlice
  dsimp only
  rw [hj]
  unfold Host.sort2
  rw [dif_pos (show 2 < 3 by decide)]
  dsimp only
  have hb : (fun p q : Fin N => (FloatOps.cmpfTotal (F := Ideal) (φ := .f32) .gt (x (Shape.Idx.along (s := ⟨3, ![R, G, N]⟩) (ix3 i g (l.castLE hk)) 2 p))
      (x (Shape.Idx.along (s := ⟨3, ![R, G, N]⟩) (ix3 i g (l.castLE hk)) 2 q)) == 1#1)) = fun p q => decide (f q < f p) := by
    funext p q
    rw [gt_bit, along3, along3, hf, hf]
  exact congrArg (fun B => x (Shape.Idx.along (s := ⟨3, ![R, G, N]⟩) (ix3 i g (l.castLE hk)) 2 (sortedFrom (n := N) B (l.castLE hk)))) hb

/-- The dimension numbers of a read of one entry of each row per column of the indices. -/
abbrev pickDims (A N B : ℕ)
    (wf : GatherDims.WF ⟨2, ![A, N]⟩ ⟨3, ![A, B, 1]⟩ ⟨2, ![A, B]⟩ [] [1] [0] [1] [0] 2 ![1, 1]) :
    GatherDims ⟨2, ![A, N]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

/-- Such a read at an index that names a column of the row. -/
theorem gather_pick {A B : ℕ}
    (wf : GatherDims.WF ⟨2, ![A, N]⟩ ⟨3, ![A, B, 1]⟩ ⟨2, ![A, B]⟩ [] [1] [0] [1] [0] 2 ![1, 1])
    (x : (⟨2, ![A, N]⟩ : Shape).Idx → EReal) (idx : IVec ⟨3, ![A, B, 1]⟩ 32) (i : Fin A) (l : Fin B) (p : Fin N) (hN : N < 2 ^ 31)
    (hp : idx (ix3 i l 0) = BitVec.ofNat 32 p.val) :
    Host.gather (pickDims A N B wf) x idx (ix2 i l) = x (ix2 i p) := by
  unfold Host.gather
  congr 1
  funext a
  refine Fin.ext ?_
  show (pickDims A N B wf).start (ix2 i l) idx a + (pickDims A N B wf).batchCoord (ix2 i l) a
      + (pickDims A N B wf).offCoord (ix2 i l) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pickDims A N B wf).startIndexMap from List.mem_singleton.mpr rfl)]
    have hsi : (pickDims A N B wf).siIdx (ix2 i l) ⟨List.idxOf (1 : Fin 2) (pickDims A N B wf).startIndexMap,
        List.idxOf_lt_length_iff.2 (List.mem_singleton.mpr rfl)⟩ = ix3 i l 0 := by
      funext b; refine Fin.ext ?_
      match b with
      | ⟨0, _⟩ => rfl
      | ⟨1, _⟩ => rfl
      | ⟨2, _⟩ => rfl
    rw [hsi, hp]
    show min (BitVec.ofNat 32 p.val).toInt.toNat (N - 1) = p.val
    have hlt := p.isLt
    have ht : (BitVec.ofNat 32 p.val).toInt = (p.val : ℤ) := by
      rw [BitVec.toInt_eq_toNat_of_lt]
      · rw [BitVec.toNat_ofNat, Nat.mod_eq_of_lt (by omega)]
      · rw [BitVec.toNat_ofNat, Nat.mod_eq_of_lt (by omega)]; omega
    rw [ht]
    omega

end Cert.TopRoute

end
-- ==== Proof.SumsRoute.lean ====
/- The reference of the routing call, row by row: its three top-k picks are the ones the kernel's tiles take. -/
module

public import proofs.«01_k».proof.Defs
public import proofs.«01_k».proof.Proof.TileRoute
public import proofs.«01_k».proof.Proof.TopRoute
public import proofs.«01_k».proof.Proof.Gen.ReferenceRouteIdeal.Run
public import Idealize.ShloMosaic.Lib.Pointwise
public import Idealize.ShloMosaic.Lib.Tactic.ValueTie

@[expose] public section

set_option maxRecDepth 16384

noncomputable section

namespace Cert.ReferenceRouteIdeal.Sums

open Cert.ReferenceRouteIdeal Cert.ReferenceRouteIdeal.Gen Cert.Picks Cert.Routing Cert.TopRoute
open Idealize.ShloMosaic Idealize.ShloMosaic.TcCoe

/-- The reference's scores. -/
def scores (x : FVec Ideal S8192x2048 .f32) (w : FVec Ideal S2048x256 .f32) : FVec Ideal S8192x256 .f32 :=
  Host.divf (broadcastInDim S8192x256 ![] bcast_S_S8192x256 (constant S_ .f32 0x3F800000#32))
    (addf (broadcastInDim S8192x256 ![] bcast_S_S8192x256 (constant S_ .f32 0x3F800000#32))
      (Host.exp (Host.negf (Host.dotGeneral dot_S8192x2048_S2048x256_S8192x256_1_0_0_1_n_n none x w))))

/-- The scores with the biases added. -/
def biased (s : FVec Ideal S8192x256 .f32) (b : FVec Ideal S256 .f32) : FVec Ideal S8192x256 .f32 :=
  addf s (broadcastInDim S8192x256 ![0, 1] bcast_S1x256_S8192x256_0_1 (broadcastInDim S1x256 ![1] bcast_S256_S1x256_1 b))

/-- The scores of the groups. -/
def groupScores (v : FVec Ideal S8192x256 .f32) : FVec Ideal S8192x8 .f32 :=
  Host.reduceAdd ((Host.topK S8192x8x2 2 (FloatOps.cmpfTotal .gt) (shapeCast S8192x8x32 v shapeCasts_S8192x256_S8192x8x32)
    sliceFits_S8192x8x32_S8192x8x2).1) (constant S_ .f32 0x00000000#32) reducesTo_S8192x8x2_S8192x8_d2 h_S_

/-- The groups picked. -/
def groups (g : FVec Ideal S8192x8 .f32) : IVec S8192x4 32 :=
  (Host.topK S8192x4 1 (FloatOps.cmpfTotal .gt) g sliceFits_S8192x8_S8192x4).2

/-- Whether a group is picked. -/
def picked (p : IVec S8192x4 32) : IVec S8192x8 1 :=
  cmpf .ogt (Host.reduceAdd (F := Ideal) (φ := .f32) (uitofp .f32 (cmpi .eq
      (broadcastInDim S8192x4x8 ![0, 1, 2] bcast_S8192x4x1_S8192x4x8_0_1_2 (broadcastInDim S8192x4x1 ![0, 1] bcast_S8192x4_S8192x4x1_0_1 p))
      (broadcastInDim S8192x4x8 ![0, 1, 2] bcast_S1x1x8_S8192x4x8_0_1_2 (iotaInDim S1x1x8 32 2))))
    (constant S_ .f32 0x00000000#32) reducesTo_S8192x4x8_S8192x8_d1 h_S_)
    (broadcastInDim S8192x8 ![] bcast_S_S8192x8 (constant S_ .f32 0x00000000#32))

/-- The entries of the picked groups. -/
def kept (p : IVec S8192x8 1) (v : FVec Ideal S8192x256 .f32) : FVec Ideal S8192x256 .f32 :=
  select (shapeCast S8192x256 (broadcastInDim S8192x8x32 ![0, 1] bcast_S8192x8_S8192x8x32_0_1 p) shapeCasts_S8192x8x32_S8192x256) v
    (broadcastInDim S8192x256 ![] bcast_S_S8192x256 (id (constant S_ .f32 0xFF800000#32)))

/-- The experts picked. -/
def experts (v : FVec Ideal S8192x256 .f32) : IVec S8192x8 32 :=
  (Host.topK S8192x8 1 (FloatOps.cmpfTotal .gt) v sliceFits_S8192x256_S8192x8).2

/-- An index counted from the end made one counted from the start. -/
def wrapped (p : IVec S8192x8 32) : IVec S8192x8x1 32 :=
  shapeCast S8192x8x1 (select (cmpi .slt p (broadcastInDim S8192x8 ![] bcast_S_S8192x8 (constantI S_ 32 0#32)))
    (addi p (broadcastInDim S8192x8 ![] bcast_S_S8192x8 (constantI S_ 32 256#32))) p) shapeCasts_S8192x8_S8192x8x1

/-- Whether an index is inside a row. -/
def within (q : IVec S8192x8x1 32) : IVec S8192x8 1 :=
  Host.reduce IntOp.andi (andi (cmpi .sge q (broadcastInDim S8192x8x1 ![] bcast_S_S8192x8x1 (constantI S_ 32 0#32)))
    (cmpi .sle q (broadcastInDim S8192x8x1 ![0, 1, 2] bcast_S1x1x1_S8192x8x1_0_1_2 (broadcastInDim S1x1x1 ![2] bcast_S1_S1x1x1_2 (constantI S1 32 255#32)))))
    (constantI S_ 1 1#1) reducesTo_S8192x8x1_S8192x8_d2 h_S_

/-- The scores of the picked experts. -/
def taken (s : FVec Ideal S8192x256 .f32) (p : IVec S8192x8 32) : FVec Ideal S8192x8 .f32 :=
  select (within (wrapped p)) (Host.gather gather_S8192x256_S8192x8x1_S8192x8_n_1_0_0_1_2_11 s (wrapped p))
    (broadcastInDim S8192x8 ![] bcast_S_S8192x8 (constant S_ .f32 0x7FC00000#32))

/-- The weights. -/
def weighed (v : FVec Ideal S8192x8 .f32) : FVec Ideal S8192x8 .f32 :=
  mulf (Host.divf v (broadcastInDim S8192x8 ![0, 1] bcast_S8192x1_S8192x8_0_1 (broadcastInDim S8192x1 ![0] bcast_S8192_S8192x1_0
    (Host.reduceAdd v (constant S_ .f32 0x00000000#32) reducesTo_S8192x8_S8192_d1 h_S_))))
    (broadcastInDim S8192x8 ![] bcast_S_S8192x8 (constant S_ .f32 0x40200000#32))

/-- All of it. -/
def picks (v : FVec Ideal S8192x256 .f32) : IVec S8192x8 32 := experts (kept (picked (groups (groupScores v))) v)

variable (v : FVec Ideal S8192x256 .f32) (n : Fin 8192) (f : Fin 256 → EReal)

theorem groupScores_row (hv : ∀ j, v (ix2 n j) = f j) (hf : ∀ j, f j ≠ ⊥) (g : Fin 8) :
    groupScores v (ix2 n g) = score f g := by
  have h (e : Fin 2) : (Host.topK S8192x8x2 2 (FloatOps.cmpfTotal (F := Ideal) (φ := .f32) .gt) (shapeCast S8192x8x32 v shapeCasts_S8192x256_S8192x8x32)
      sliceFits_S8192x8x32_S8192x8x2).1 (ix3 n g e) = part f g (pick (part f g) e.val) :=
    values3 _ _ (by omega) n g e (part f g) (fun q => by
      pointwise
      clean_types
      exact hv (lane g q)) (part_enough hf g)
  unfold groupScores
  pointwise
  clean_types
  simp only [h]
  rw [Fin.sum_univ_two]
  rfl

theorem groups_row (g : FVec Ideal S8192x8 .f32) (q : Fin 8 → EReal) (hg : ∀ u, g (ix2 n u) = q u) (hE : Enough q 4) (l : Fin 4) :
    groups g (ix2 n l) = BitVec.ofNat 32 (pick q l.val).val :=
  indices2 _ _ (by omega) n l q hg hE

/-- Whether two groups are equal, as a number. -/
theorem hit_value (a b : Fin 8) :
    FloatOps.uitofp (F := Ideal) FTy.f32 (IntOp.cmpi CmpIPredicate.eq (BitVec.ofNat 32 a.val) (BitVec.ofNat 32 b.val))
      = if a = b then (1 : EReal) else 0 := by
  have h : IntOp.cmpi CmpIPredicate.eq (BitVec.ofNat 32 a.val) (BitVec.ofNat 32 b.val) = if a = b then 1#1 else 0#1 := by
    revert a b; decide +kernel
  rw [h]
  split_ifs
  · show (((1 : ℕ) : ℝ) : EReal) = 1
    norm_num
  · show (((0 : ℕ) : ℝ) : EReal) = 0
    norm_num

theorem picked_row (p : IVec S8192x4 32) (q : Fin 8 → EReal) (hp : ∀ l : Fin 4, p (ix2 n l) = BitVec.ofNat 32 (pick q l.val).val) (g : Fin 8) :
    picked p (ix2 n g) = 1#1 ↔ Chosen q g := by
  unfold picked
  pointwise
  clean_types
  simp only [hp, hit_value]
  constructor
  · intro h
    by_contra hc
    have hz : ∑ x : Fin 4, (if pick q x.val = g then (1 : EReal) else 0) = 0 :=
      Finset.sum_eq_zero fun x _ => if_neg fun e => hc ⟨x.val, x.isLt, e⟩
    rw [hz] at h
    simp at h
  · rintro ⟨r, hr, e⟩
    have h1 : (1 : EReal) ≤ ∑ x : Fin 4, (if pick q x.val = g then (1 : EReal) else 0) := by
      refine le_trans (le_of_eq ?_) (Finset.single_le_sum (f := fun x : Fin 4 => if pick q x.val = g then (1 : EReal) else 0)
        (fun x _ => ?_) (Finset.mem_univ ⟨r, hr⟩))
      · exact (if_pos e).symm
      · split_ifs
        · exact zero_le_one
        · exact le_rfl
    rw [decide_eq_true (lt_of_lt_of_le zero_lt_one h1)]
    rfl

theorem kept_row (p : IVec S8192x8 1) (hv : ∀ j, v (ix2 n j) = f j) (hp : ∀ g, p (ix2 n g) = 1#1 ↔ Chosen (score f) g) (j : Fin 256) :
    kept p v (ix2 n j) = masked f j := by
  unfold kept
  pointwise
  clean_types
  rw [hv, masked]
  have h := hp (grp j)
  unfold Scalar.select
  by_cases hc : Chosen (score f) (grp j)
  · rw [if_pos hc]; exact if_pos (h.2 hc)
  · rw [if_neg hc]; exact (if_neg fun e => hc (h.1 e)).trans Cert.KernelRouteIdeal.Rows.bottom

theorem picks_row (hv : ∀ j, v (ix2 n j) = f j) (hf : ∀ j, f j ≠ ⊥) (l : Fin 8) :
    picks v (ix2 n l) = BitVec.ofNat 32 (choice f l.val).val :=
  indices2 _ _ (by omega) n l (masked f)
    (kept_row v n f _ hv (picked_row n _ (score f) (groups_row n _ (score f) (groupScores_row v n f hv hf) (score_enough hf)))) (masked_enough hf)

theorem wrapped_row (p : IVec S8192x8 32) (l : Fin 8) (a : Fin 256) (hp : p (ix2 n l) = BitVec.ofNat 32 a.val) :
    wrapped p (ix3 n l 0) = BitVec.ofNat 32 a.val := by
  unfold wrapped
  pointwise
  clean_types
  rw [hp]
  clear hp
  revert a
  decide +kernel

theorem within_row (q : IVec S8192x8x1 32) (l : Fin 8) (a : Fin 256) (hp : q (ix3 n l 0) = BitVec.ofNat 32 a.val) :
    within q (ix2 n l) = 1#1 := by
  unfold within
  pointwise
  clean_types
  rw [Finset.univ_unique, Finset.fold_singleton]
  rw [show (default : Fin 1) = 0 from rfl, hp]
  clear hp
  revert a
  decide +kernel

theorem taken_row (s : FVec Ideal S8192x256 .f32) (p : IVec S8192x8 32) (l : Fin 8) (a : Fin 256) (hp : p (ix2 n l) = BitVec.ofNat 32 a.val) :
    taken s p (ix2 n l) = s (ix2 n a) := by
  have hw := wrapped_row n p l a hp
  have hg : Host.gather gather_S8192x256_S8192x8x1_S8192x8_n_1_0_0_1_2_11 s (wrapped p) (ix2 n l) = s (ix2 n a) :=
    gather_pick _ s (wrapped p) n l a (by norm_num) hw
  unfold taken
  show Scalar.select (within (wrapped p) (ix2 n l)) (Host.gather gather_S8192x256_S8192x8x1_S8192x8_n_1_0_0_1_2_11 s (wrapped p) (ix2 n l)) _ = _
  rw [within_row n _ l a hw, hg]
  rfl

theorem weighed_row (s : FVec Ideal S8192x256 .f32) (hv : ∀ j, v (ix2 n j) = f j) (hf : ∀ j, f j ≠ ⊥) (l : Fin 8) (σ : Fin 256 → EReal)
    (hs : ∀ j, s (ix2 n j) = σ j) :
    weighed (taken s (picks v)) (ix2 n l) = weight σ f l := by
  have h (r : Fin 8) : taken s (picks v) (ix2 n r) = σ (choice f r.val) :=
    (taken_row n s _ r _ (picks_row v n f hv hf r)).trans (hs _)
  unfold weighed
  pointwise
  clean_types
  simp only [h]
  rfl

end Cert.ReferenceRouteIdeal.Sums

end
-- ==== Proof.MarksRoute.lean ====
/- The routing call's marks: a tile with a one wherever an expert is picked for a row.  Sums of the marks over the rows above count
   how often an expert has been picked before, and sums over all rows count how often it is picked at all. -/
module

public import proofs.«01_k».proof.Proof.RowsRoute

@[expose] public section

set_option maxRecDepth 16384

noncomputable section

namespace Cert.Routing

open Cert.Picks

open Classical in
/-- One if an expert is among the first `r` picks, zero if not. -/
def marked (f : Fin 256 → EReal) (r : ℕ) (j : Fin 256) : ℕ := if ∃ s < r, choice f s = j then 1 else 0

/-- How many of the rows before row `n` pick an expert. -/
def earlier (b : Fin 8192 → Fin 256 → EReal) (n : ℕ) (j : Fin 256) : ℕ :=
  ∑ i ∈ Finset.range n, if h : i < 8192 then marked (b ⟨i, h⟩) 8 j else 0

theorem earlier_add (b : Fin 8192 → Fin 256 → EReal) (n k : ℕ) (h : n + k ≤ 8192) (j : Fin 256) :
    earlier b (n + k) j = earlier b n j + ∑ i : Fin k, marked (b ⟨n + i.val, by omega⟩) 8 j := by
  unfold earlier
  rw [Finset.sum_range_add, Finset.sum_range (fun i => if h : n + i < 8192 then marked (b ⟨n + i, h⟩) 8 j else 0)]
  refine congrArg₂ (· + ·) rfl (Finset.sum_congr rfl fun i _ => ?_)
  rw [dif_pos]

theorem marked_le (f : Fin 256 → EReal) (r : ℕ) (j : Fin 256) : marked f r j ≤ 1 := by
  unfold marked; split_ifs <;> omega

theorem earlier_le (b : Fin 8192 → Fin 256 → EReal) (n : ℕ) (j : Fin 256) : earlier b n j ≤ n := by
  unfold earlier
  refine (Finset.sum_le_card_nsmul _ _ 1 fun i _ => ?_).trans (by simp)
  split_ifs
  · exact marked_le _ _ _
  · omega

end Cert.Routing

namespace Cert.KernelRouteIdeal.Stages

open Cert.KernelRouteIdeal Cert.KernelRouteIdeal.Gen Idealize.ShloMosaic Idealize.ShloMosaic.TcCoe

/-- A tile of zeros. -/
def zeros : Tile := broadcast S256x256 (Scalar.ofBits (F := Ideal) .f32 0x00000000#32)

/-- The marks with the lanes of the earliest greatest entry set to one. -/
def mark (lane v s : Tile) : Tile := select (hit lane v) (broadcast S256x256 (Scalar.ofBits (F := Ideal) .f32 0x3F800000#32)) s

/-- The marks after `r` picks. -/
def marks (lane v : Tile) : ℕ → Tile
  | 0 => zeros
  | r + 1 => mark lane (after lane v r) (marks lane v r)

/-- The rows above every row, added up, on top of what is carried. -/
def above (s : Tile) (carry : FVec Ideal S1x256 .f32) : Tile :=
  addf (matmul dot_S256x256_S256x256_S256x256_1_0_0_1_n_n none
      (truncf .bf16 (sitofp (F := Ideal) .f32 (extui 32 (cmpi .slt (iota .tc S256x256 32 [1] iota_S256x256_d1_w32) (iota .tc S256x256 32 [0] iota_S256x256_d0_w32))
        natLt_1_32)) bitsLt_bf16_f32) (truncf .bf16 s bitsLt_bf16_f32) (constant S256x256 .f32 0x00000000#32))
    (broadcastTo S256x256 carry broadcasts_S1x256_S256x256)

variable (lane s acc v : Tile) (carry : FVec Ideal S1x256 .f32)

theorem marks_2 : k0_pay29 lane v = mark lane (cut lane v) (mark lane v zeros) := rfl
theorem marks_4 : k0_pay39 lane acc v (candidates lane v) = mark lane (cut lane v) (mark lane v acc) := rfl
theorem marks_7 : k0_pay53 lane acc v (hit lane v) = mark lane (cut lane (cut lane v)) (mark lane (cut lane v) (mark lane v acc)) := rfl
theorem marks_8 : k0_pay58 lane acc v (top v) = mark lane v acc := rfl
theorem found_7 : k0_pay56 lane v (top v) = found lane v := rfl
theorem above_stage : k0_pay61 lane acc v (top v) carry = above (mark lane v acc) carry := rfl
theorem rank_0 (u : Tile) : k0_pay62 lane (found lane u) acc v (top v) carry = weigh lane (above (mark lane v acc) carry) u := rfl

theorem ranks_stage (w : Tile) (d : Col) (u₁ u₂ u₃ u₄ u₅ u₆ u₇ : Tile) :
    k0_pay63 lane (found lane u₁) (found lane u₂) (found lane u₃) (found lane u₄) (found lane u₅) (found lane u₆) (found lane u₇) w d
      = fptosi 32 (beside d (weigh lane w u₁) (weigh lane w u₂) (weigh lane w u₃) (weigh lane w u₄) (weigh lane w u₅) (weigh lane w u₆)
          (weigh lane w u₇)) := rfl

end Cert.KernelRouteIdeal.Stages

namespace Cert.KernelRouteIdeal.Rows

open Cert.KernelRouteIdeal Cert.KernelRouteIdeal.Gen Cert.KernelRouteIdeal.Stages Cert.Picks Cert.Routing
open Idealize.ShloMosaic Idealize.ShloMosaic.TcCoe

theorem marks_row (b : Tile) (i j : Fin 256) (hb : ∀ k, row b i k ≠ ⊥) (r : ℕ) :
    marks k0_pay5 (kept k0_pay6 k0_pay5 b) r (ix2 i j) = ((marked (row b i) r j : ℕ) : EReal) := by
  induction r with
  | zero =>
    unfold marks zeros marked
    pointwise
    clean_types
    rw [if_neg (by rintro ⟨s, hs, -⟩; omega)]
    simp
  | succ r ih =>
    have e : marks k0_pay5 (kept k0_pay6 k0_pay5 b) (r + 1) (ix2 i j)
        = if j = choice (row b i) r then (1 : EReal) else marks k0_pay5 (kept k0_pay6 k0_pay5 b) r (ix2 i j) := by
      show mark _ _ _ _ = _
      unfold mark
      pointwise
      clean_types
      rw [hit_row lanes_names, after_row, kept_row b i hb]
      unfold Scalar.select choice pick
      simp only [Fin.val_inj]
      by_cases h : j = first (rest (masked (row b i)) r)
      · rw [if_pos h, if_pos (by simp [h])]
      · rw [if_neg h, if_neg (by simp [h])]
    rw [e, ih]
    unfold marked
    by_cases h : j = choice (row b i) r
    · rw [if_pos h, if_pos ⟨r, by omega, h.symm⟩]; simp
    · rw [if_neg h]
      have : (∃ s < r + 1, choice (row b i) s = j) ↔ ∃ s < r, choice (row b i) s = j := by
        constructor
        · rintro ⟨s, hs, e⟩
          refine ⟨s, lt_of_le_of_ne (by omega) fun h2 => h (h2 ▸ e.symm), e⟩
        · rintro ⟨s, hs, e⟩; exact ⟨s, by omega, e⟩
      simp only [this]

/-- Whether a lane is before a row, as a number. -/
theorem before_value (a b : Fin 256) :
    FloatOps.sitofp (F := Ideal) FTy.f32 (BitVec.setWidth 32 (IntOp.cmpi CmpIPredicate.slt (BitVec.ofNat 32 a.val) (BitVec.ofNat 32 b.val)))
      = if a.val < b.val then (1 : EReal) else 0 := by
  have h : IntOp.cmpi CmpIPredicate.slt (BitVec.ofNat 32 a.val) (BitVec.ofNat 32 b.val) = if a.val < b.val then 1#1 else 0#1 := by
    revert a b; decide +kernel
  rw [h]
  split_ifs
  · show (((1 : ℤ) : ℝ) : EReal) = 1
    norm_num
  · show (((0 : ℤ) : ℝ) : EReal) = 0
    norm_num

/-- A sum over the rows above row `i`. -/
theorem sum_above (i : Fin 256) (q : Fin 256 → ℕ) :
    ∑ x : Fin 256, (if x.val < i.val then (1 : EReal) else 0) * ((q x : ℕ) : EReal)
      = ((∑ k : Fin i.val, q ⟨k.val, by omega⟩ : ℕ) : EReal) := by
  have h1 : ∀ x : Fin 256, (if x.val < i.val then (1 : EReal) else 0) * ((q x : ℕ) : EReal)
      = ((if x.val < i.val then q x else 0 : ℕ) : EReal) := fun x => by split_ifs <;> simp
  rw [Finset.sum_congr rfl fun x _ => h1 x, ← Nat.cast_sum]
  refine congrArg _ ?_
  rw [Finset.sum_fin_eq_sum_range, Finset.sum_fin_eq_sum_range,
    ← Finset.sum_subset (Finset.range_subset_range.mpr i.isLt.le)]
  · refine Finset.sum_congr rfl fun k hk => ?_
    have h2 := Finset.mem_range.mp hk
    have h3 : k < 256 := h2.trans i.isLt
    simp [h2, h3]
  · intro k _ hn
    have h : ¬ k < i.val := fun h => hn (Finset.mem_range.mpr h)
    split_ifs <;> rfl

theorem above_row (s : Tile) (carry : FVec Ideal S1x256 .f32) (i j : Fin 256) (q : Fin 256 → ℕ) (z : ℕ) (hs : ∀ k, s (ix2 k j) = ((q k : ℕ) : EReal))
    (hc : carry (ix2 0 j) = ((z : ℕ) : EReal)) :
    above s carry (ix2 i j) = (((z + ∑ k : Fin i.val, q ⟨k.val, by omega⟩ : ℕ)) : EReal) := by
  unfold above
  pointwise
  clean_types
  rw [hc, Finset.sum_congr rfl fun x _ => congrArg₂ (· * ·) (before_value x i) (hs x), sum_above, ← Nat.cast_add, add_comm]

/-- A tile's marks added to what is carried. -/
theorem carried_row (s : Tile) (carry : FVec Ideal S1x256 .f32) (j : Fin 256) (q : Fin 256 → ℕ) (z : ℕ) (hs : ∀ k, s (ix2 k j) = ((q k : ℕ) : EReal))
    (hc : carry (ix2 0 j) = ((z : ℕ) : EReal)) :
    k0_pay1 s carry (ix2 0 j) = (((z + ∑ k : Fin 256, q k : ℕ)) : EReal) := by
  unfold k0_pay1
  pointwise
  clean_types
  rw [hc, Finset.sum_congr rfl fun x _ => hs x, ← Nat.cast_sum, ← Nat.cast_add]

/-- A small whole number as an integer. -/
theorem whole (n : ℕ) (h : n ≤ 8192) : Ideal.fptosi 32 ((n : ℕ) : EReal) = BitVec.ofNat 32 n := by
  rw [← EReal.coe_natCast, Ideal.fptosi, Ideal.toIntClamped_coe, if_pos (Nat.cast_nonneg _), Int.floor_natCast, min_eq_right (by norm_num; omega),
    max_eq_right (by omega)]
  rfl

/-- The ranks of the picks, as integers. -/
theorem ranks_row (b w : Tile) (i : Fin 256) (l : Fin 8) (hb : ∀ k, row b i k ≠ ⊥) (z : Fin 256 → ℕ) (hz : ∀ j, z j ≤ 8192)
    (hw : ∀ j, w (ix2 i j) = ((z j : ℕ) : EReal)) (c : ℕ → Col)
    (hc : ∀ r, c r = weigh k0_pay5 w (after k0_pay5 (kept k0_pay6 k0_pay5 b) r)) :
    fptosi 32 (beside (c 0) (c 1) (c 2) (c 3) (c 4) (c 5) (c 6) (c 7)) (ix2 i l)
      = BitVec.ofNat 32 (z (choice (row b i) l)) := by
  pointwise
  rw [beside_row c i l, hc, weigh_row, after_row, kept_row b i hb]
  show Ideal.fptosi 32 (w (ix2 i (choice (row b i) l))) = _
  rw [hw, whole _ (hz _)]

end Cert.KernelRouteIdeal.Rows

end
-- ==== Proof.SumsCounts.lean ====
/- The reference of the routing call, its last two results: how many earlier rows have a pick too, and how many rows pick an expert. -/
module

public import proofs.«01_k».proof.Proof.SumsRoute
public import proofs.«01_k».proof.Proof.MarksRoute

@[expose] public section

set_option maxRecDepth 16384

noncomputable section

namespace Cert.ReferenceRouteIdeal.Sums

open Cert.ReferenceRouteIdeal Cert.ReferenceRouteIdeal.Gen Cert.Picks Cert.Routing
open Idealize.ShloMosaic Idealize.ShloMosaic.TcCoe

/-- A one wherever an expert is picked for a row. -/
def hits (p : IVec S8192x8 32) : FVec Ideal S8192x256 .f32 :=
  Host.reduceAdd (F := Ideal) (φ := .f32) (uitofp .f32 (cmpi .eq
      (broadcastInDim S8192x8x256 ![0, 1, 2] bcast_S8192x8x1_S8192x8x256_0_1_2 (broadcastInDim S8192x8x1 ![0, 1] bcast_S8192x8_S8192x8x1_0_1 p))
      (broadcastInDim S8192x8x256 ![0, 1, 2] bcast_S1x1x256_S8192x8x256_0_1_2 (iotaInDim S1x1x256 32 2))))
    (constant S_ .f32 0x00000000#32) reducesTo_S8192x8x256_S8192x256_d1 h_S_

/-- The sums over a row and the rows above it. -/
def upTo (x : FVec Ideal S8192x256 .f32) : FVec Ideal S8192x256 .f32 :=
  Host.reduceWindowAdd ![8192, 1] ![1, 1] ![8191, 0] ![0, 0] x (broadcastInDim S_ ![] bcast_S_S_ (constant S_ .f32 0x00000000#32))
    reduceWindows_S8192x256_S8192x256_w8192s1p8191_0_w1s1p0_0 h_S_

/-- For every pick the number of earlier rows that have it too. -/
def ranks (p : IVec S8192x8 32) : IVec S8192x8 32 := fptosi 32 (taken (subf (upTo (hits p)) (hits p)) p)

/-- For every expert the number of rows that pick it. -/
def counts (p : IVec S8192x8 32) : FVec Ideal S1x256 .f32 :=
  broadcastInDim S1x256 ![1] bcast_S256_S1x256_1 (Host.reduceAdd (hits p) (constant S_ .f32 0x00000000#32) reducesTo_S8192x256_S256_d0 h_S_)

/-- Whether two experts are equal, as a number. -/
theorem same_value (a b : Fin 256) :
    FloatOps.uitofp (F := Ideal) FTy.f32 (IntOp.cmpi CmpIPredicate.eq (BitVec.ofNat 32 a.val) (BitVec.ofNat 32 b.val))
      = ((if a = b then 1 else 0 : ℕ) : EReal) := by
  have h : IntOp.cmpi CmpIPredicate.eq (BitVec.ofNat 32 a.val) (BitVec.ofNat 32 b.val) = if a = b then 1#1 else 0#1 := by
    revert a b; decide +kernel
  rw [h]
  split_ifs
  · show (((1 : ℕ) : ℝ) : EReal) = _
    norm_num
  · show (((0 : ℕ) : ℝ) : EReal) = _
    norm_num

/-- An expert is picked for a row once or not at all. -/
theorem marked_sum (f : Fin 256 → EReal) (hf : ∀ j, f j ≠ ⊥) (j : Fin 256) :
    ∑ l : Fin 8, (if choice f l.val = j then 1 else 0 : ℕ) = marked f 8 j := by
  unfold marked
  by_cases h : ∃ s < 8, choice f s = j
  · rw [if_pos h]
    obtain ⟨s, hs, e⟩ := h
    rw [Finset.sum_eq_single (⟨s, hs⟩ : Fin 8), if_pos e]
    · intro l _ hl
      refine if_neg fun e2 => ?_
      have hne : l.val ≠ s := fun h => hl (Fin.ext h)
      have h3 : choice f l.val = choice f s := e2.trans e.symm
      rcases lt_or_gt_of_ne hne with h | h
      · exact pick_ne (masked_enough hf) s l.val hs h h3
      · exact pick_ne (masked_enough hf) l.val s l.isLt h h3.symm
    · intro h; exact absurd (Finset.mem_univ _) h
  · rw [if_neg h]
    exact Finset.sum_eq_zero fun l _ => if_neg fun e => h ⟨l.val, l.isLt, e⟩

variable (p : IVec S8192x8 32) (b : Fin 8192 → Fin 256 → EReal)

theorem hits_row (hf : ∀ n j, b n j ≠ ⊥) (hp : ∀ n l, p (ix2 n l) = BitVec.ofNat 32 (choice (b n) l.val).val) (n : Fin 8192) (j : Fin 256) :
    hits p (ix2 n j) = ((marked (b n) 8 j : ℕ) : EReal) := by
  unfold hits
  pointwise
  clean_types
  simp only [hp]
  rw [Finset.sum_congr rfl fun x _ => same_value (choice (b n) x.val) j, ← Nat.cast_sum, marked_sum (b n) (hf n)]

theorem counts_row (hf : ∀ n j, b n j ≠ ⊥) (hp : ∀ n l, p (ix2 n l) = BitVec.ofNat 32 (choice (b n) l.val).val) (j : Fin 256) :
    counts p (ix2 0 j) = ((earlier b 8192 j : ℕ) : EReal) := by
  unfold counts
  have hh := hits_row p b hf hp
  generalize hits p = x at hh
  pointwise
  clean_types
  rw [Finset.sum_congr rfl fun n _ => hh n j, ← Nat.cast_sum]
  unfold earlier
  rw [Finset.sum_range]
  refine congrArg _ (Finset.sum_congr rfl fun n _ => ?_)
  rw [dif_pos]

theorem foldl_add {ι : Type} (g : ι → EReal) (l : List ι) (a : EReal) : l.foldl (fun s n => s + g n) a = a + (l.map g).sum := by
  induction l generalizing a with
  | nil => simp
  | cons n l ih => rw [List.foldl_cons, ih, List.map_cons, List.sum_cons, add_assoc]

/-- The sum over a window of all rows that ends at row `r`. -/
theorem sum_window (g : ℕ → EReal) (r : ℕ) (hr : r < 8192) :
    ∑ n : Fin 8192, (if 8191 ≤ r + n.val then g (r + n.val - 8191) else 0) = ∑ i ∈ Finset.range (r + 1), g i := by
  rw [Fin.sum_univ_eq_sum_range (fun n => if 8191 ≤ r + n then g (r + n - 8191) else 0) 8192, ← Finset.sum_range_reflect,
    ← Finset.sum_range_reflect g]
  rw [← Finset.sum_subset (Finset.range_subset_range.mpr (by omega : r + 1 ≤ 8192))]
  · refine Finset.sum_congr rfl fun i hi => ?_
    have := Finset.mem_range.mp hi
    rw [if_pos (by omega)]
    exact congrArg g (by omega)
  · intro i hi hn
    have h1 := Finset.mem_range.mp hi
    have h2 : ¬ i < r + 1 := fun h => hn (Finset.mem_range.mpr h)
    rw [if_neg (by omega)]

theorem upTo_row (x : FVec Ideal S8192x256 .f32) (f : ℕ → EReal) (n : Fin 8192) (j : Fin 256) (hx : ∀ n : Fin 8192, x (ix2 n j) = f n.val) :
    upTo x (ix2 n j) = ∑ i ∈ Finset.range (n.val + 1), f i := by
  rw [← sum_window f n.val n.isLt]
  have hv : ∀ i, broadcastInDim (α := EReal) S_ ![] bcast_S_S_ (constant (F := Ideal) S_ .f32 0x00000000#32) i = 0 := fun _ =>
    Cert.KernelRouteIdeal.Rows.n0.trans (by simp)
  unfold upTo Host.reduceWindowAdd
  rw [Ideal.hostReduceWindowAdd_def]
  unfold Ideal.hostReduceWindowAdd Host.reduceWindow
  rw [hv]
  dsimp only
  rw [foldl_add, zero_add, ← Fin.sum_univ_def]
  have hw : ∑ k : Fin 8192, (if 8191 ≤ n.val + k.val then f (n.val + k.val - 8191) else 0)
      = ∑ i : (⟨2, ![8192, 1]⟩ : Shape).Idx, (if 8191 ≤ n.val + (i 0).val then f (n.val + (i 0).val - 8191) else 0) := by
    rw [sum_idx2]
    refine Finset.sum_congr rfl fun k _ => ?_
    rw [Fin.sum_univ_one]
    rfl
  rw [hw, ← Equiv.sum_comp (Shape.rowMajor ⟨2, ![8192, 1]⟩).symm]
  refine Finset.sum_congr rfl fun k _ => ?_
  let i : (⟨2, ![8192, 1]⟩ : Shape).Idx := (Shape.rowMajor ⟨2, ![8192, 1]⟩).symm k
  have h1 : (i 1).val = 0 := Nat.lt_one_iff.mp (i 1).isLt
  have h0 : (i 0).val < 8192 := (i 0).isLt
  by_cases h : 8191 ≤ n.val + (i 0).val
  · refine Eq.trans ?_ (if_pos h).symm
    refine (dif_pos ?_).trans ?_
    · intro a
      match a with
      | ⟨0, _⟩ => show 8191 ≤ n.val * 1 + (i 0).val ∧ n.val * 1 + (i 0).val - 8191 < 8192; omega
      | ⟨1, _⟩ => show 0 ≤ j.val * 1 + (i 1).val ∧ j.val * 1 + (i 1).val - 0 < 256; omega
    · refine Eq.trans (congrArg x (funext fun a => Fin.ext ?_)) (hx ⟨n.val + (i 0).val - 8191, by omega⟩)
      match a with
      | ⟨0, _⟩ => show n.val * 1 + (i 0).val - 8191 = n.val + (i 0).val - 8191; omega
      | ⟨1, _⟩ => show j.val * 1 + (i 1).val - 0 = j.val; omega
  · refine Eq.trans ?_ (if_neg h).symm
    refine dif_neg fun hin => h ?_
    have h3 : 8191 ≤ n.val * 1 + (i 0).val := (hin 0).1
    omega

theorem ranks_row (hf : ∀ n j, b n j ≠ ⊥) (hp : ∀ n l, p (ix2 n l) = BitVec.ofNat 32 (choice (b n) l.val).val) (n : Fin 8192) (l : Fin 8) :
    ranks p (ix2 n l) = BitVec.ofNat 32 (earlier b n.val (choice (b n) l.val)) := by
  have hh := hits_row p b hf hp
  have e (j : Fin 256) : subf (upTo (hits p)) (hits p) (ix2 n j) = ((earlier b n.val j : ℕ) : EReal) := by
    have hu := upTo_row (hits p) (fun i => ((if h : i < 8192 then marked (b ⟨i, h⟩) 8 j else 0 : ℕ) : EReal)) n j fun k => by
      rw [hh, dif_pos k.isLt]
    show upTo (hits p) (ix2 n j) - hits p (ix2 n j) = _
    rw [hu, hh, ← Nat.cast_sum, Finset.sum_range_succ, dif_pos n.isLt, Nat.cast_add]
    unfold earlier
    rw [← EReal.coe_natCast, ← EReal.coe_natCast, ← EReal.coe_add, ← EReal.coe_sub, add_sub_cancel_right]
  unfold ranks
  show Ideal.fptosi 32 (taken (subf (upTo (hits p)) (hits p)) p (ix2 n l)) = _
  rw [taken_row n _ p l _ (hp n l), e, Cert.KernelRouteIdeal.Rows.whole _ ((earlier_le _ _ _).trans n.isLt.le)]

end Cert.ReferenceRouteIdeal.Sums

end
-- ==== Proof.CountsRoute.lean ====
/- What the routing call leaves in its last two outputs: for every pick the number of earlier rows with the same pick, and for every
   expert the number of rows that pick it.  The scratch carries the counts from tile to tile. -/
module

public import proofs.«01_k».proof.Proof.TileRoute
public import proofs.«01_k».proof.Proof.MarksRoute
public import Idealize.ShloMosaic.Lib.Pipeline.ReadBack
public import Idealize.ShloMosaic.Lib.Writes

@[expose] public section

set_option maxRecDepth 16384

noncomputable section

namespace Cert.KernelRouteIdeal.Counts

open Cert.KernelRouteIdeal Cert.KernelRouteIdeal.Gen Cert.KernelRouteIdeal.Stages Cert.KernelRouteIdeal.Rows Cert.KernelRouteIdeal.Tile
open Cert.Picks Cert.Routing Idealize.ShloMosaic Idealize.ShloMosaic.TcCoe Idealize.SL.Sem

variable (m : (ℓ : Loc nD τ sig) → Buf (Elt Ideal) ℓ)

/-- The entries the point's picks are taken from. -/
abbrev keptTile (c : Dev nD) (t : Fin cfg0.N) : Tile := kept k0_pay6 k0_pay5 (biasedTile m c t)

/-- The point's marks. -/
abbrev marksTile (c : Dev nD) (t : Fin cfg0.N) : Tile := marks k0_pay5 (keptTile m c t) 8

/-- The ranks of the point's picks, over what is carried to it. -/
def ranksTile (c : Dev nD) (t : Fin cfg0.N) (carry : FVec Ideal S1x256 .f32) : IVec S256x8 32 :=
  let w := above (marksTile m c t) carry
  let d (r : ℕ) : Col := weigh k0_pay5 w (after k0_pay5 (keptTile m c t) r)
  fptosi 32 (beside (d 0) (d 1) (d 2) (d 3) (d 4) (d 5) (d 6) (d 7))

theorem left_first (c : Dev nD) (t : Fin cfg0.N) (h : t.val % 32 = 0) :
    (outsAt0 m c t.val t.isLt).2.2
      = (ranksTile m c t (k0_pay2 (F := Ideal)), k0_pay1 (marksTile m c t) (k0_pay2 (F := Ideal)), k0_pay1 (marksTile m c t) (k0_pay2 (F := Ideal))) := by
  rw [outsAt0_A m c t h]
  dsimp only
  frame_out
  simp only [scores_01, scores_23, scores_45, scores_67, candidates_groups, kept_groups, found_0, found_1, cut_2, candidates_2,
    found_2, found_3, cut_4, found_4, hit_4, found_5, found_6, cut_7, top_7, found_7, marks_2, marks_4, marks_7, marks_8, above_stage,
    rank_0, ranks_stage]
  rfl

theorem left_next (c : Dev nD) (t : Fin cfg0.N) (h : ¬t.val % 32 = 0) (carry : FVec Ideal S1x256 .f32)
    (hc : (outsAt0 m c (t.val - 1) (Nat.lt_of_le_of_lt (Nat.sub_le _ _) t.isLt)).2.2.2.2 = carry) :
    (outsAt0 m c t.val t.isLt).2.2
      = (ranksTile m c t carry, k0_pay1 (marksTile m c t) carry, k0_pay1 (marksTile m c t) carry) := by
  rw [outsAt0_B m c t h, hc]
  dsimp only
  frame_out
  simp only [read_unread_whole, scores_01, scores_23, scores_45, scores_67, candidates_groups, kept_groups, found_0, found_1, cut_2, candidates_2,
    found_2, found_3, cut_4, found_4, hit_4, found_5, found_6, cut_7, top_7, found_7, marks_2, marks_4, marks_7, marks_8, above_stage,
    rank_0, ranks_stage]
  rfl

/-- How many of the rows before row `n` have its pick `l` too. -/
def rank (c : Dev nD) (n : Fin 8192) (l : Fin 8) : BitVec 32 :=
  BitVec.ofNat 32 (earlier (biasedRow m c) n.val (choice (biasedRow m c n) l.val))

/-- How many rows pick an expert. -/
def count (c : Dev nD) (j : Fin 256) : EReal := ((earlier (biasedRow m c) 8192 j : ℕ) : EReal)

theorem marks_apply (c : Dev nD) (h : ∀ j : Fin 256, biases m c (ix1 j) ≠ ⊥) (t : Fin cfg0.N) (r j : Fin 256) :
    marksTile m c t (ix2 r j)
      = ((marked (biasedRow m c ⟨256 * t.val + r.val, by have := point_lt t; omega⟩) 8 j : ℕ) : EReal) := by
  have hb : ∀ k, row (biasedTile m c t) r k ≠ ⊥ := fun k => by rw [biased_row]; exact biased_ne m c h _ k
  have e := marks_row (biasedTile m c t) r j hb 8
  rwa [biased_row] at e

theorem carried_apply (c : Dev nD) (h : ∀ j : Fin 256, biases m c (ix1 j) ≠ ⊥) (t : Fin cfg0.N) (carry : FVec Ideal S1x256 .f32) (j : Fin 256)
    (hc : carry (ix2 0 j) = ((earlier (biasedRow m c) (256 * t.val) j : ℕ) : EReal)) :
    k0_pay1 (marksTile m c t) carry (ix2 0 j) = ((earlier (biasedRow m c) (256 * (t.val + 1)) j : ℕ) : EReal) := by
  have ht := point_lt t
  rw [carried_row _ _ j _ _ (fun k => marks_apply m c h t k j) hc]
  exact congrArg _ (earlier_add (biasedRow m c) (256 * t.val) 256 (by omega) j).symm

theorem cleared (j : Fin 256) (b : Fin 8192 → Fin 256 → EReal) : k0_pay2 (F := Ideal) (ix2 0 j) = ((earlier b 0 j : ℕ) : EReal) := by
  unfold k0_pay2 earlier
  pointwise
  simp

/-- The scratch after a point: the counts of the rows so far. -/
theorem scratch_apply (c : Dev nD) (h : ∀ j : Fin 256, biases m c (ix1 j) ≠ ⊥) (n : ℕ) (hn : n < cfg0.N) (j : Fin 256) :
    (outsAt0 m c n hn).2.2.2.2 (ix2 0 j) = ((earlier (biasedRow m c) (256 * (n + 1)) j : ℕ) : EReal) := by
  induction n with
  | zero =>
    rw [left_first m c ⟨0, hn⟩ rfl]
    exact carried_apply m c h ⟨0, hn⟩ _ j (cleared j _)
  | succ n ih =>
    have hN : n + 1 < 32 := lt_of_lt_of_eq hn (show cfg0.N = 32 from N_0)
    rw [left_next m c ⟨n + 1, hn⟩ (by show ¬(n + 1) % 32 = 0; omega) _ rfl]
    exact carried_apply m c h ⟨n + 1, hn⟩ _ j (ih (by omega))

/-- What is carried to a point. -/
theorem left_at (c : Dev nD) (h : ∀ j : Fin 256, biases m c (ix1 j) ≠ ⊥) (t : Fin cfg0.N) :
    ∃ carry : FVec Ideal S1x256 .f32, (∀ j, carry (ix2 0 j) = ((earlier (biasedRow m c) (256 * t.val) j : ℕ) : EReal))
      ∧ (outsAt0 m c t.val t.isLt).2.2 = (ranksTile m c t carry, k0_pay1 (marksTile m c t) carry, k0_pay1 (marksTile m c t) carry) := by
  have ht := point_lt t
  by_cases h0 : t.val % 32 = 0
  · refine ⟨_, fun j => ?_, left_first m c t h0⟩
    rw [show 256 * t.val = 0 by omega]
    exact cleared j _
  · refine ⟨_, fun j => ?_, left_next m c t h0 _ rfl⟩
    rw [scratch_apply m c h]
    rw [show 256 * (t.val - 1 + 1) = 256 * t.val by omega]

/-- The ranks' tile after a point. -/
theorem rank_apply (c : Dev nD) (h : ∀ j : Fin 256, biases m c (ix1 j) ≠ ⊥) (t : Fin cfg0.N) (r : Fin 256) (l : Fin 8) :
    (outsAt0 m c t.val t.isLt).2.2.1 (ix2 r l) = rank m c ⟨256 * t.val + r.val, by have := point_lt t; omega⟩ l := by
  have ht := point_lt t
  have hb : ∀ k, row (biasedTile m c t) r k ≠ ⊥ := fun k => by rw [biased_row]; exact biased_ne m c h _ k
  obtain ⟨carry, hc, e⟩ := left_at m c h t
  rw [e]
  have hr := ranks_row (biasedTile m c t) (above (marksTile m c t) carry) r l hb (earlier (biasedRow m c) (256 * t.val + r.val))
    (fun j => (earlier_le _ _ j).trans (by omega))
    (fun j => by
      rw [above_row _ _ r j _ _ (fun k => marks_apply m c h t k j) (hc j)]
      exact congrArg _ (earlier_add (biasedRow m c) (256 * t.val) r.val (by omega) j).symm)
    (fun s => weigh k0_pay5 (above (marksTile m c t) carry) (after k0_pay5 (keptTile m c t) s)) fun _ => rfl
  rw [biased_row] at hr
  exact hr

/-- Output window 5 is at row tile `t`. -/
theorem out5_at : ∀ t : Fin cfg0.N, win0_5.index t = ![t.val, 0] :=
  (by decide +kernel : ∀ t : Fin grid0.N, _)

/-- For every pick, how many earlier rows have it too. -/
theorem array5 (c : Dev nD) (h : ∀ j : Fin 256, biases m c (ix1 j) ≠ ⊥) :
    (dats m 0 c).arrAt 5 cfg0.N = fun i : S8192x8.Idx => rank m c (i 0) (i 1) := by
  refine (dats m 0 c).arrAt_eq_of_cover 5 _ (fun t _ => ?_) (fun i => ?_)
  · show (cfg0.win 5).cut (grid0.coords t) ((dats m 0 c).after 5 t) = _
    rw [after0_5]
    funext y
    have hy : y = ix2 (⟨(y 0).val, (y 0).isLt⟩ : Fin 256) (⟨(y 1).val, (y 1).isLt⟩ : Fin 8) := eq_ix2 y
    have h0 : (((cfg0.win 5).blk t).view.emb y 0).val = win0_5.index t (0 : Fin 2) * 256 + 1 * (y 0).val := rfl
    have h1 : (((cfg0.win 5).blk t).view.emb y 1).val = win0_5.index t (1 : Fin 2) * 8 + 1 * (y 1).val := rfl
    rw [out5_at t] at h0 h1
    have e0 : 256 * t.val + (y 0).val = (((cfg0.win 5).blk t).view.emb y 0).val := by
      rw [h0]; show 256 * t.val + (y 0).val = t.val * 256 + 1 * (y 0).val; omega
    have e1 : (⟨(y 1).val, (y 1).isLt⟩ : Fin 8) = ((cfg0.win 5).blk t).view.emb y 1 := Fin.ext (by
      rw [h1]; show (y 1).val = 0 * 8 + 1 * (y 1).val; omega)
    refine Eq.trans ?_ (congrArg₂ (fun (n : Fin 8192) (l : Fin 8) => rank m c n l)
      (Fin.ext (a := ⟨_, by have := point_lt t; have : (y 0).val < 256 := (y 0).isLt; omega⟩) e0) e1)
    exact (congrArg (outsAt0 m c t.val t.isLt).2.2.1 hy).trans (rank_apply m c h t _ _)
  · have hi0 : (i 0).val < 8192 := (i 0).isLt
    have hi1 : (i 1).val < 8 := (i 1).isLt
    have hN : (i 0).val / 256 < cfg0.N := by rw [show cfg0.N = 32 from N_0]; omega
    refine ⟨⟨(i 0).val / 256, hN⟩, (by decide +kernel : ∀ t : Fin grid0.N, (win0_5).flush t = true) _, ?_⟩
    show i ∈ ((View.whole main_v1_2).slice (win0_5.rect ⟨(i 0).val / 256, hN⟩)).set
    rw [View.set_slice_whole, Rect.mem_set_unit]
    intro a
    have h := out5_at ⟨(i 0).val / 256, hN⟩
    match a with
    | ⟨0, _⟩ =>
      show win0_5.index ⟨(i 0).val / 256, hN⟩ (0 : Fin 2) * 256 ≤ (i 0).val ∧ (i 0).val < win0_5.index ⟨(i 0).val / 256, hN⟩ (0 : Fin 2) * 256 + 256
      rw [h]; show (i 0).val / 256 * 256 ≤ (i 0).val ∧ (i 0).val < (i 0).val / 256 * 256 + 256; omega
    | ⟨1, _⟩ =>
      show win0_5.index ⟨(i 0).val / 256, hN⟩ (1 : Fin 2) * 8 ≤ (i 1).val ∧ (i 1).val < win0_5.index ⟨(i 0).val / 256, hN⟩ (1 : Fin 2) * 8 + 8
      rw [h]; show 0 * 8 ≤ (i 1).val ∧ (i 1).val < 0 * 8 + 8; omega

/-- For every expert, how many rows pick it. -/
theorem array6 (c : Dev nD) (h : ∀ j : Fin 256, biases m c (ix1 j) ≠ ⊥) :
    (dats m 0 c).arrAt 6 cfg0.N = fun i : S1x256.Idx => count m c (i 1) := by
  have hN : 31 < cfg0.N := lt_of_lt_of_eq (by decide) N_0.symm
  rw [Cert.KernelRouteIdeal.Value.final6, Cert.KernelRouteIdeal.Value.G6_last, ← Cert.KernelRouteIdeal.Value.outsAt0_sweep m c 31 hN]
  obtain ⟨carry, hc, e⟩ := left_at m c h ⟨31, hN⟩
  refine (congrArg (fun p => p.2.1) e).trans (funext fun i => ?_)
  idx_vars i
  obtain rfl : i0 = 0 := Subsingleton.elim _ _
  exact carried_apply m c h ⟨31, hN⟩ carry i1 (hc i1)

/-- The run, with the four outputs named. -/
theorem run (ρ : Dev nD → PrngReg) (h : ∀ (c : Dev nD) (j : Fin 256), biases m c (ix1 j) ≠ ⊥) :
    θ_run defs (onTc (τ := τ) (main (F := Ideal))) ⟨m, fun _ => 0, ρ⟩ fun r => ∀ c : Dev nD,
      r.2.mem ((c : Thread nD τ).loc main_v1_0)
          = (fun i : S8192x8.Idx => BitVec.ofNat 32 (choice (biasedRow m c (i 0)) (i 1).val).val)
      ∧ r.2.mem ((c : Thread nD τ).loc main_v1_1)
          = (fun i : S8192x8.Idx => weight (scoreRow m c (i 0)) (biasedRow m c (i 0)) (i 1))
      ∧ r.2.mem ((c : Thread nD τ).loc main_v1_2) = (fun i : S8192x8.Idx => rank m c (i 0) (i 1))
      ∧ r.2.mem ((c : Thread nD τ).loc main_v1_3) = (fun i : S1x256.Idx => count m c (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨(hr c).1.trans (array3 m c (h c)), (hr c).2.1.trans (array4 m c (h c)),
      (hr c).2.2.1.trans (array5 m c (h c)), (hr c).2.2.2.1.trans (array6 m c (h c)), (hr c).2.2.2.2⟩)
    (Cert.KernelRouteIdeal.Value.run_blocks (F := Ideal) m ρ)

end Cert.KernelRouteIdeal.Counts

end
-- ==== Proof.LinkRoute.lean ====
/- The routing call's two sides set against each other: the reference's stages, fed with the arrays the kernel is launched with,
   give row by row the scores, the picks, the weights, the ranks and the counts the kernel leaves.  The condition on the biases is read here too. -/
module

public import proofs.«01_k».proof.Defs
public import proofs.«01_k».proof.Proof.SumsRoute
public import proofs.«01_k».proof.Proof.SumsCounts
public import proofs.«01_k».proof.Proof.CountsRoute

@[expose] public section

noncomputable section

namespace Cert.LinkRoute

open Cert.Picks Cert.Routing
open Idealize.ShloMosaic Idealize.ShloMosaic.TcCoe

/-- The shape condition of the bias predicate: a scalar spreads over a vector. -/
theorem spreads : Cert.Pre_biased_above.Facts := ⟨by decide⟩

variable (m : (ℓ : Loc Cert.KernelRouteIdeal.nD Cert.KernelRouteIdeal.τ Cert.KernelRouteIdeal.sig) → Buf (Elt Ideal) ℓ)
variable (c : Dev Cert.KernelRouteIdeal.nD)

/-- The predicate says that no bias is minus infinity. -/
theorem biases_ne [Cert.Pre_biased_above.Facts] (h : Pre_KernelRouteIdeal_biased_above m) (j : Fin 256) :
    Cert.KernelRouteIdeal.Tile.biases m c (ix1 j) ≠ ⊥ := by
  have hj := congrFun (h c) (ix1 j)
  have hj' : BitVec.ofBool (decide (Ideal.ofBits .f32 4286578688#32 < Cert.KernelRouteIdeal.Tile.biases m c (ix1 j))) = 1#1 := hj
  rw [Cert.KernelRouteIdeal.Rows.bottom] at hj'
  intro e
  rw [e] at hj'
  simp at hj'

/-- The reference's scores of the launched arrays. -/
abbrev scores := Cert.ReferenceRouteIdeal.Sums.scores (Cert.KernelRouteIdeal.Tile.rows m c) (Cert.KernelRouteIdeal.Tile.weights m c)

/-- The same with the biases. -/
abbrev biased := Cert.ReferenceRouteIdeal.Sums.biased (scores m c) (Cert.KernelRouteIdeal.Tile.biases m c)

/-- The reference's scores are the kernel's. -/
theorem scores_apply (n : Fin 8192) (j : Fin 256) : scores m c (ix2 n j) = Cert.KernelRouteIdeal.Tile.scoreRow m c n j := by
  unfold scores Cert.ReferenceRouteIdeal.Sums.scores Cert.KernelRouteIdeal.Tile.scoreRow
  pointwise
  clean_types
  rfl

/-- So are the scores with the biases. -/
theorem biased_apply (n : Fin 8192) (j : Fin 256) : biased m c (ix2 n j) = Cert.KernelRouteIdeal.Tile.biasedRow m c n j := by
  unfold biased Cert.ReferenceRouteIdeal.Sums.biased Cert.KernelRouteIdeal.Tile.biasedRow
  rw [← scores_apply]
  generalize scores m c = s
  pointwise

/-- The reference picks the experts the kernel picks. -/
theorem picks_link [Cert.Pre_biased_above.Facts] (h : Pre_KernelRouteIdeal_biased_above m) :
    Cert.ReferenceRouteIdeal.Sums.picks (biased m c)
      = fun i => BitVec.ofNat 32 (choice (Cert.KernelRouteIdeal.Tile.biasedRow m c (i 0)) (i 1).val).val := by
  funext i
  idx_vars i
  exact Cert.ReferenceRouteIdeal.Sums.picks_row _ _ _ (biased_apply m c _)
    (Cert.KernelRouteIdeal.Tile.biased_ne m c (biases_ne m c h) _) _

/-- The reference gives them the weights the kernel gives them. -/
theorem weights_link [Cert.Pre_biased_above.Facts] (h : Pre_KernelRouteIdeal_biased_above m) :
    Cert.ReferenceRouteIdeal.Sums.weighed (Cert.ReferenceRouteIdeal.Sums.taken (scores m c) (Cert.ReferenceRouteIdeal.Sums.picks (biased m c)))
      = fun i => weight (Cert.KernelRouteIdeal.Tile.scoreRow m c (i 0)) (Cert.KernelRouteIdeal.Tile.biasedRow m c (i 0)) (i 1) := by
  funext i
  idx_vars i
  exact Cert.ReferenceRouteIdeal.Sums.weighed_row _ _ _ _ (biased_apply m c _)
    (Cert.KernelRouteIdeal.Tile.biased_ne m c (biases_ne m c h) _) _ _ (scores_apply m c _)

/-- The reference counts the earlier rows with a pick as the kernel does. -/
theorem ranks_link [Cert.Pre_biased_above.Facts] (h : Pre_KernelRouteIdeal_biased_above m) :
    Cert.ReferenceRouteIdeal.Sums.ranks (Cert.ReferenceRouteIdeal.Sums.picks (biased m c))
      = fun i => Cert.KernelRouteIdeal.Counts.rank m c (i 0) (i 1) := by
  rw [picks_link m c h]
  funext i
  idx_vars i
  exact Cert.ReferenceRouteIdeal.Sums.ranks_row _ (Cert.KernelRouteIdeal.Tile.biasedRow m c)
    (Cert.KernelRouteIdeal.Tile.biased_ne m c (biases_ne m c h)) (fun _ _ => rfl) _ _

/-- The reference counts the rows that pick an expert as the kernel does. -/
theorem counts_link [Cert.Pre_biased_above.Facts] (h : Pre_KernelRouteIdeal_biased_above m) :
    Cert.ReferenceRouteIdeal.Sums.counts (Cert.ReferenceRouteIdeal.Sums.picks (biased m c))
      = fun i => Cert.KernelRouteIdeal.Counts.count m c (i 1) := by
  rw [picks_link m c h]
  funext i
  idx_vars i
  obtain rfl : i0 = 0 := Subsingleton.elim _ _
  exact Cert.ReferenceRouteIdeal.Sums.counts_row _ (Cert.KernelRouteIdeal.Tile.biasedRow m c)
    (Cert.KernelRouteIdeal.Tile.biased_ne m c (biases_ne m c h)) (fun _ _ => rfl) _

end Cert.LinkRoute

end
-- ==== Proof.TileDest.lean ====
/- What the call that turns ranks into places leaves, element by element.  The grid runs over 16 tiles of 512 rows.  A point picks,
   for each of the 8 picks of a row, the start of the picked expert's group out of the row of 256 starts, by a comparison and a sum
   over the lanes, and adds the rank. -/
module

public import proofs.«01_k».proof.Proof.Gen.KernelDestIdeal.Value
public import Idealize.ShloMosaic.Lib.Pipeline.ValueKit
public import Idealize.ShloMosaic.Lib.Claim
public import Idealize.ShloMosaic.Lib.Tactic.ValueTie

@[expose] public section

set_option maxRecDepth 16384

noncomputable section

namespace Cert.KernelDestIdeal.Tile

open Cert.KernelDestIdeal Cert.KernelDestIdeal.Gen Idealize.ShloMosaic Idealize.ShloMosaic.TcCoe Idealize.SL.Sem

variable (m : (ℓ : Loc nD τ sig) → Buf (Elt Ideal) ℓ)

/-- The picks as launched. -/
abbrev picks (c : Dev nD) : S8192x8.Idx → BitVec 32 := m ((c : Thread nD τ).loc main_arg0)

/-- The ranks as launched. -/
abbrev ranks (c : Dev nD) : S8192x8.Idx → BitVec 32 := m ((c : Thread nD τ).loc main_arg1)

/-- The counts of the experts as launched, over the extended reals. -/
abbrev counts (c : Dev nD) : S1x256.Idx → EReal := m ((c : Thread nD τ).loc main_arg2)

/-- The counts as integers. -/
def wholes (x : S1x256.Idx → EReal) : IVec S256 32 := fptosi (F := Ideal) (φ := .f32) 32 (shapeCast S256 x shapeCasts_S1x256_S256)

/-- Where each expert's group starts: the sum of the counts before it. -/
def starts (x : S1x256.Idx → EReal) : IVec S256 32 :=
  subi (Host.reduceWindow IntOp.addi ![256] ![1] ![255] ![0] (wholes x) (broadcastInDim S_ ![] bcast_S_S_ (constantI S_ 32 0#32))
    reduceWindows_S256_S256_w256s1p255_0 h_S_) (wholes x)

theorem point_lt (t : Fin cfg0.N) : t.val < 16 := lt_of_lt_of_eq t.isLt (show cfg0.N = 16 from N_0)

/-- The row of the output an index of point `t`'s tile stands for. -/
abbrev row (t : Fin cfg0.N) (r : Fin 512) : Fin 8192 := ⟨512 * t.val + r.val, by have := point_lt t; omega⟩

/-- The picks' window is at row tile `t`. -/
theorem picks_at : ∀ t : Fin cfg0.N, win0_0.index t = ![t.val, 0] :=
  (by decide +kernel : ∀ t : Fin grid0.N, _)

/-- So is the ranks'. -/
theorem ranks_at : ∀ t : Fin cfg0.N, win0_1.index t = ![t.val, 0] :=
  (by decide +kernel : ∀ t : Fin grid0.N, _)

theorem starts_at : ∀ t : Fin cfg0.N, win0_2.index t = ![0, 0] :=
  (by decide +kernel : ∀ t : Fin grid0.N, _)

/-- And the output's. -/
theorem out_at : ∀ t : Fin cfg0.N, win0_3.index t = ![t.val, 0] :=
  (by decide +kernel : ∀ t : Fin grid0.N, _)

/-- The picks' block, read at an index. -/
theorem picks_apply (c : Dev nD) (t : Fin cfg0.N) (r : Fin 512) (l : Fin 8) : iblk m c 0 t (ix2 r l) = picks m c (ix2 (row t r) l) := by
  blk_simp [iblk]
  entry_read
  blk_ext [picks_at t]

/-- The ranks' block, read at an index. -/
theorem ranks_apply (c : Dev nD) (t : Fin cfg0.N) (r : Fin 512) (l : Fin 8) : iblk m c 1 t (ix2 r l) = ranks m c (ix2 (row t r) l) := by
  blk_simp [iblk]
  entry_read
  blk_ext [ranks_at t]

/-- The row of starts, as the region finds it. -/
theorem starts_entry (c : Dev nD) :
    V m c main_v5 = (shapeCast S1x256 (sitofp (F := Ideal) .f32 (starts (counts m c))) shapeCasts_S256_S1x256 : S1x256.Idx → EReal) := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results_simp <;> rfl

/-- The starts' block, read at an index. -/
theorem starts_apply (c : Dev nD) (t : Fin cfg0.N) (r : Fin 1) (j : Fin 256) :
    iblk m c 2 t (ix2 r j) = (((starts (counts m c) (ix1 j)).toInt : ℝ) : EReal) := by
  blk_simp [iblk]
  rw [starts_entry m c]
  generalize starts (counts m c) = s
  pointwise
  show (((s _).toInt : ℝ) : EReal) = _
  refine congrArg (fun i => (((s (ix1 i)).toInt : ℝ) : EReal)) (Fin.ext ?_)
  refine (win0_2.rect_emb_val t (ix2 r j) 1).trans ?_
  rw [starts_at t]
  show 0 * 256 + j.val = j.val
  omega

/-- The column of starts the picks in column `o` of a tile name. -/
def column (o : ℕ) (h : S512x8.Slices ![0, o] S512x1) (p : IVec S512x8 32) (s : FVec Ideal S1x256 .f32) : FVec Ideal S512x1 .f32 :=
  shapeCast S512x1 (multiReduction .add [1] S512 (select
      (cmpi .eq (iota .tc S512x256 32 [1] iota_S512x256_d1_w32) (broadcastTo S512x256 (extractStridedSlice S512x1 ![0, o] p h) broadcasts_S512x1_S512x256))
      (broadcastTo S512x256 (shapeCast S1x256 (shapeCast S1x256 s shapeCasts_S1x256_S1x256) shapeCasts_S1x256_S1x256) broadcasts_S1x256_S512x256)
      (broadcast S512x256 (Scalar.ofBits (F := Ideal) .f32 0x00000000#32)))
    0x00000000#32 reduces_S512x256_S512 (.inl rfl) rfl) shapeCasts_S512_S512x1

theorem zero_bits : Ideal.ofBits .f32 0x00000000#32 = 0 := by simp [Ideal.ofBits, Ideal.ieee]

/-- Of the 256 lanes the comparison with a number leaves that lane. -/
theorem lane_sum (f : Fin 256 → EReal) (a : Fin 256) :
    ∑ j : Fin 256, Scalar.select (IntOp.cmpi CmpIPredicate.eq (BitVec.ofNat 32 j.val) (BitVec.ofNat 32 a.val)) (f j) (Ideal.ofBits .f32 0x00000000#32)
      = f a := by
  have h (j : Fin 256) : IntOp.cmpi CmpIPredicate.eq (BitVec.ofNat 32 j.val) (BitVec.ofNat 32 a.val) = if j = a then 1#1 else 0#1 := by
    revert j a; decide +kernel
  rw [Finset.sum_eq_single a]
  · rw [h, if_pos rfl]; rfl
  · intro j _ hj
    rw [h, if_neg hj]
    exact zero_bits
  · intro h; exact absurd (Finset.mem_univ _) h

/-- The column of starts, read in a row. -/
theorem column_apply (o : Fin 8) (h : S512x8.Slices ![0, o.val] S512x1) (p : IVec S512x8 32) (s : FVec Ideal S1x256 .f32) (r : Fin 512) (a : Fin 256)
    (hp : p (ix2 r o) = BitVec.ofNat 32 a.val) : column o.val h p s (ix2 r 0) = s (ix2 0 a) := by
  rw [← lane_sum (fun j => s (ix2 0 j)) a, ← hp]
  unfold column
  pointwise

/-- The payload is the eight columns side by side as integers, and the ranks added. -/
theorem payload_eq (p q : IVec S512x8 32) (s : FVec Ideal S1x256 .f32) :
    k0_pay1 p (iota .tc S512x256 32 [1] iota_S512x256_d1_w32) (k0_pay2 s) (k0_pay3 p s) (k0_pay4 p s) (k0_pay5 p s) (k0_pay6 p s) (k0_pay7 (F := Ideal) p)
        (k0_pay8 s) (k0_pay9 (F := Ideal)) q
      = addi (fptosi 32 (concatenate S512x8 1 [⟨S512x1, column 0 slices_S512x8_o0_0_S512x1 p s⟩, ⟨S512x1, column 1 slices_S512x8_o0_1_S512x1 p s⟩,
          ⟨S512x1, column 2 slices_S512x8_o0_2_S512x1 p s⟩, ⟨S512x1, column 3 slices_S512x8_o0_3_S512x1 p s⟩, ⟨S512x1, column 4 slices_S512x8_o0_4_S512x1 p s⟩,
          ⟨S512x1, column 5 slices_S512x8_o0_5_S512x1 p s⟩, ⟨S512x1, column 6 slices_S512x8_o0_6_S512x1 p s⟩, ⟨S512x1, column 7 slices_S512x8_o0_7_S512x1 p s⟩]
          concatenates_S512x1_S512x1_S512x1_S512x1_S512x1_S512x1_S512x1_S512x1_S512x8_d1)) q := rfl

/-- Eight columns, each read off at its own place. -/
theorem beside_apply (c : Fin 8 → FVec Ideal S512x1 .f32) (r : Fin 512) (l : Fin 8) :
    concatenate S512x8 1 [⟨S512x1, c 0⟩, ⟨S512x1, c 1⟩, ⟨S512x1, c 2⟩, ⟨S512x1, c 3⟩, ⟨S512x1, c 4⟩, ⟨S512x1, c 5⟩, ⟨S512x1, c 6⟩, ⟨S512x1, c 7⟩]
        concatenates_S512x1_S512x1_S512x1_S512x1_S512x1_S512x1_S512x1_S512x1_S512x8_d1 (ix2 r l) = c l (ix2 r 0) := by
  pointwise
  clean_types
  fin_cases l <;> rfl

/-- An integer, read as a number and back. -/
theorem back (w : BitVec 32) : Ideal.fptosi 32 (((w.toInt : ℤ) : ℝ) : EReal) = w := by
  have h1 := BitVec.toInt_lt (x := w)
  have h2 := BitVec.le_toInt (x := w)
  have e : Ideal.fptosi 32 (((w.toInt : ℤ) : ℝ) : EReal) = BitVec.ofInt 32 w.toInt := by
    rw [Ideal.fptosi, Ideal.toIntClamped_coe]
    congr 1
    split_ifs
    · rw [Int.floor_intCast]; norm_num at *; omega
    · rw [Int.ceil_intCast]; norm_num at *; omega
  rw [e, BitVec.ofInt_toInt]

/-- A tile's columns, one for each pick. -/
def columns (p : IVec S512x8 32) (s : FVec Ideal S1x256 .f32) (l : Fin 8) : FVec Ideal S512x1 .f32 :=
  match l with
  | 0 => column 0 slices_S512x8_o0_0_S512x1 p s
  | 1 => column 1 slices_S512x8_o0_1_S512x1 p s
  | 2 => column 2 slices_S512x8_o0_2_S512x1 p s
  | 3 => column 3 slices_S512x8_o0_3_S512x1 p s
  | 4 => column 4 slices_S512x8_o0_4_S512x1 p s
  | 5 => column 5 slices_S512x8_o0_5_S512x1 p s
  | 6 => column 6 slices_S512x8_o0_6_S512x1 p s
  | 7 => column 7 slices_S512x8_o0_7_S512x1 p s

theorem columns_apply (p : IVec S512x8 32) (s : FVec Ideal S1x256 .f32) (r : Fin 512) (l : Fin 8) (a : Fin 256)
    (hp : p (ix2 r l) = BitVec.ofNat 32 a.val) : columns p s l (ix2 r 0) = s (ix2 0 a) := by
  match l with
  | 0 => exact column_apply 0 _ p s r a hp
  | 1 => exact column_apply 1 _ p s r a hp
  | 2 => exact column_apply 2 _ p s r a hp
  | 3 => exact column_apply 3 _ p s r a hp
  | 4 => exact column_apply 4 _ p s r a hp
  | 5 => exact column_apply 5 _ p s r a hp
  | 6 => exact column_apply 6 _ p s r a hp
  | 7 => exact column_apply 7 _ p s r a hp

/-- The body's operations on one entry, over whatever blocks. -/
theorem payload_apply (p q : IVec S512x8 32) (s : FVec Ideal S1x256 .f32) (r : Fin 512) (l : Fin 8) (a : Fin 256) (w : BitVec 32)
    (hp : p (ix2 r l) = BitVec.ofNat 32 a.val) (hs : s (ix2 0 a) = (((w.toInt : ℤ) : ℝ) : EReal)) :
    k0_pay1 p (iota .tc S512x256 32 [1] iota_S512x256_d1_w32) (k0_pay2 s) (k0_pay3 p s) (k0_pay4 p s) (k0_pay5 p s) (k0_pay6 p s) (k0_pay7 (F := Ideal) p)
        (k0_pay8 s) (k0_pay9 (F := Ideal)) q (ix2 r l) = w + q (ix2 r l) := by
  rw [payload_eq]
  refine (congrArg (fun x => Ideal.fptosi 32 x + q (ix2 r l)) (beside_apply (columns p s) r l)).trans ?_
  rw [columns_apply p s r l a hp, hs, back]

/-- The place of a row's pick: where the expert's group starts, and the rank. -/
def place (c : Dev nD) (e : Fin 8192 → Fin 8 → Fin 256) (n : Fin 8192) (l : Fin 8) : BitVec 32 :=
  starts (counts m c) (ix1 (e n l)) + ranks m c (ix2 n l)

/-- The output tile after a point. -/
theorem tile_apply (c : Dev nD) (e : Fin 8192 → Fin 8 → Fin 256) (he : ∀ n l, picks m c (ix2 n l) = BitVec.ofNat 32 (e n l).val)
    (t : Fin cfg0.N) (r : Fin 512) (l : Fin 8) :
    out0_3 (iblk m c 0 t) (iblk m c 1 t) (iblk m c 2 t) (ix2 r l) = place m c e (row t r) l := by
  frame_out
  refine (payload_apply _ _ _ r l (e (row t r) l) (starts (counts m c) (ix1 (e (row t r) l))) ?_ ?_).trans ?_
  · exact (picks_apply m c t r l).trans (he _ _)
  · exact starts_apply m c t 0 _
  · exact congrArg (_ + ·) (ranks_apply m c t r l)

/-- The array the call leaves. -/
theorem result (c : Dev nD) (e : Fin 8192 → Fin 8 → Fin 256) (he : ∀ n l, picks m c (ix2 n l) = BitVec.ofNat 32 (e n l).val) :
    (dats m 0 c).arrAt 3 cfg0.N = fun i : S8192x8.Idx => place m c e (i 0) (i 1) := by
  refine (dats m 0 c).arrAt_eq_of_cover 3 _ (fun t _ => ?_) (fun i => ?_)
  · rw [Value.flushed3]
    funext y
    have hy : y = ix2 (⟨(y 0).val, (y 0).isLt⟩ : Fin 512) (⟨(y 1).val, (y 1).isLt⟩ : Fin 8) := eq_ix2 y
    have h0 : (((cfg0.win 3).blk t).view.emb y 0).val = win0_3.index t (0 : Fin 2) * 512 + 1 * (y 0).val := rfl
    have h1 : (((cfg0.win 3).blk t).view.emb y 1).val = win0_3.index t (1 : Fin 2) * 8 + 1 * (y 1).val := rfl
    rw [out_at t] at h0 h1
    have e0 : row t ⟨(y 0).val, (y 0).isLt⟩ = ((cfg0.win 3).blk t).view.emb y 0 := Fin.ext (by
      rw [h0]; show 512 * t.val + (y 0).val = t.val * 512 + 1 * (y 0).val; omega)
    have e1 : (⟨(y 1).val, (y 1).isLt⟩ : Fin 8) = ((cfg0.win 3).blk t).view.emb y 1 := Fin.ext (by
      rw [h1]; show (y 1).val = 0 * 8 + 1 * (y 1).val; omega)
    refine Eq.trans ?_ (congrArg₂ (place m c e) e0 e1)
    exact (congrArg (out0_3 (iblk m c 0 t) (iblk m c 1 t) (iblk m c 2 t)) hy).trans (tile_apply m c e he t _ _)
  · have hi0 : (i 0).val < 8192 := (i 0).isLt
    have hi1 : (i 1).val < 8 := (i 1).isLt
    have hN : (i 0).val / 512 < cfg0.N := by rw [show cfg0.N = 16 from N_0]; omega
    refine ⟨⟨(i 0).val / 512, hN⟩, (by decide +kernel : ∀ t : Fin grid0.N, (win0_3).flush t = true) _, ?_⟩
    show i ∈ ((View.whole main_v6).slice (win0_3.rect ⟨(i 0).val / 512, hN⟩)).set
    rw [View.set_slice_whole, Rect.mem_set_unit]
    intro a
    have h := out_at ⟨(i 0).val / 512, hN⟩
    match a with
    | ⟨0, _⟩ =>
      show win0_3.index ⟨(i 0).val / 512, hN⟩ (0 : Fin 2) * 512 ≤ (i 0).val ∧ (i 0).val < win0_3.index ⟨(i 0).val / 512, hN⟩ (0 : Fin 2) * 512 + 512
      rw [h]; show (i 0).val / 512 * 512 ≤ (i 0).val ∧ (i 0).val < (i 0).val / 512 * 512 + 512; omega
    | ⟨1, _⟩ =>
      show win0_3.index ⟨(i 0).val / 512, hN⟩ (1 : Fin 2) * 8 ≤ (i 1).val ∧ (i 1).val < win0_3.index ⟨(i 0).val / 512, hN⟩ (1 : Fin 2) * 8 + 8
      rw [h]; show 0 * 8 ≤ (i 1).val ∧ (i 1).val < 0 * 8 + 8; omega

end Cert.KernelDestIdeal.Tile

end
-- ==== Proof.LinkDest.lean ====
/- The two sides of the call that turns ranks into places set against each other: the condition on the picks is read, and the
   reference's lookup of the starts is read at the experts the picks name. -/
module

public import proofs.«01_k».proof.Defs
public import proofs.«01_k».proof.Proof.TileDest
public import proofs.«01_k».proof.Proof.Gen.ReferenceDestIdeal
public import Idealize.ShloMosaic.Lib.Pointwise
public import Idealize.ShloMosaic.Lib.ValueIdxCore
public import Idealize.ShloMosaic.Lib.Tactic.ValueTie

@[expose] public section

set_option maxRecDepth 16384

noncomputable section

namespace Cert.ReferenceDestIdeal.Sums

open Cert.ReferenceDestIdeal Cert.ReferenceDestIdeal.Gen Idealize.ShloMosaic Idealize.ShloMosaic.TcCoe

/-- An index below zero counts from the end. -/
def wrapped (p : IVec S8192x8 32) : IVec S8192x8x1 32 :=
  broadcastInDim S8192x8x1 ![0, 1] bcast_S8192x8_S8192x8x1_0_1 (select (cmpi .slt p (broadcastInDim S8192x8 ![] bcast_S_S8192x8 (constantI S_ 32 0#32)))
    (addi p (broadcastInDim S8192x8 ![] bcast_S_S8192x8 (constantI S_ 32 256#32))) p)

/-- The places: the starts looked up, and the ranks. -/
def places (s : IVec S256 32) (p q : IVec S8192x8 32) : IVec S8192x8 32 :=
  addi (Host.gather gather_S256_S8192x8x1_S8192x8_n_0_n_n_0_2_1 s (wrapped p)) q

theorem wrapped_row (p : IVec S8192x8 32) (n : Fin 8192) (l : Fin 8) (a : Fin 256) (hp : p (ix2 n l) = BitVec.ofNat 32 a.val) :
    wrapped p (ix3 n l 0) = BitVec.ofNat 32 a.val := by
  unfold wrapped
  pointwise
  clean_types
  rw [hp]
  clear hp
  revert a
  decide +kernel

theorem clamped (a : Fin 256) : min (BitVec.ofNat 32 a.val).toInt.toNat (256 - 1) = a.val := by
  revert a
  decide +kernel

theorem places_row (s : IVec S256 32) (p q : IVec S8192x8 32) (n : Fin 8192) (l : Fin 8) (a : Fin 256) (hp : p (ix2 n l) = BitVec.ofNat 32 a.val) :
    places s p q (ix2 n l) = s (ix1 a) + q (ix2 n l) := by
  refine congrArg (· + q (ix2 n l)) ((ValueIdx.gather_take_apply (by norm_num) _ s (wrapped p) (ix2 n l)).trans ?_)
  refine congrArg (fun i => s (ix1 i)) (Fin.ext ?_)
  have hi : ValueIdx.takeIdx (ix2 n l) = ix3 n l 0 := by
    funext b; refine Fin.ext ?_
    match b with
    | ⟨0, _⟩ => rfl
    | ⟨1, _⟩ => rfl
    | ⟨2, _⟩ => rfl
  show min (wrapped p (ValueIdx.takeIdx (ix2 n l))).toInt.toNat (256 - 1) = a.val
  rw [hi, wrapped_row p n l a hp, clamped]

end Cert.ReferenceDestIdeal.Sums

namespace Cert.LinkDest

open Cert.KernelDestIdeal.Tile
open Idealize.ShloMosaic Idealize.ShloMosaic.TcCoe

/-- The shape condition of the predicate on the picks: a scalar spreads over the array. -/
theorem spreads : Cert.Pre_picks_experts.Facts := ⟨by decide⟩

/-- A number that is neither below 0 nor from 256 on is the number of an expert. -/
theorem within (w : BitVec 32) (h : IntOp.andi (IntOp.cmpi CmpIPredicate.sge w 0#32) (IntOp.cmpi CmpIPredicate.slt w 256#32) = 1#1) : w.toNat < 256 := by
  simp only [IntOp.andi, IntOp.cmpi] at h
  have h0 : (0#32).sle w = true := by
    by_contra hc
    simp_all
  have h1 : w.slt 256#32 = true := by
    by_contra hc
    simp_all
  rw [BitVec.sle_iff_toInt_le] at h0
  rw [BitVec.slt_iff_toInt_lt] at h1
  have e0 : (0#32).toInt = 0 := by decide
  have e1 : (256#32).toInt = 256 := by decide
  rw [e0] at h0
  rw [e1] at h1
  have := BitVec.toInt_eq_toNat_cond w
  split_ifs at this <;> omega

variable (m : (ℓ : Loc Cert.KernelDestIdeal.nD Cert.KernelDestIdeal.τ Cert.KernelDestIdeal.sig) → Buf (Elt Ideal) ℓ)
variable (c : Dev Cert.KernelDestIdeal.nD)

/-- The predicate says that every pick is the number of an expert. -/
theorem picks_lt [Cert.Pre_picks_experts.Facts] (h : Pre_KernelDestIdeal_picks_experts m) (n : Fin 8192) (l : Fin 8) :
    (picks m c (ix2 n l)).toNat < 256 :=
  within _ (congrFun (h c) (ix2 n l))

/-- The expert of a pick. -/
def expert [Cert.Pre_picks_experts.Facts] (h : Pre_KernelDestIdeal_picks_experts m) (n : Fin 8192) (l : Fin 8) : Fin 256 :=
  ⟨(picks m c (ix2 n l)).toNat, picks_lt m c h n l⟩

theorem expert_pick [Cert.Pre_picks_experts.Facts] (h : Pre_KernelDestIdeal_picks_experts m) (n : Fin 8192) (l : Fin 8) :
    picks m c (ix2 n l) = BitVec.ofNat 32 (expert m c h n l).val :=
  BitVec.eq_of_toNat_eq (by
    have := (picks m c (ix2 n l)).isLt
    rw [BitVec.toNat_ofNat, Nat.mod_eq_of_lt (show (expert m c h n l).val < 2 ^ 32 from this)]
    rfl)

/-- The reference's places are the kernel's. -/
theorem places_link [Cert.Pre_picks_experts.Facts] (h : Pre_KernelDestIdeal_picks_experts m) :
    Cert.ReferenceDestIdeal.Sums.places (starts (counts m c)) (picks m c) (ranks m c)
      = fun i => place m c (expert m c h) (i 0) (i 1) := by
  funext i
  idx_vars i
  exact Cert.ReferenceDestIdeal.Sums.places_row _ _ _ _ _ _ (expert_pick m c h _ _)

end Cert.LinkDest

end
-- ==== Proof.lean ====
/- The claims of the certificate, assembled. For each call: the frame of the kernel and of its reading over the reals
   (the generated frames), the frame of the reference (its run weakened), and the value claim, where the array the
   kernel leaves — given in closed form by the call's Tile module — is set equal to the array of the reference's run, entry
   by entry. Of the call of the delta rule only the two frames and the idealization are claimed. -/
module

public import proofs.«01_k».proof.Defs
public import proofs.«01_k».proof.Proof.Gen.KernelZ.Frame
public import proofs.«01_k».proof.Proof.TileZ
public import proofs.«01_k».proof.Proof.Gen.ReferenceZIdeal.Run
public import proofs.«01_k».proof.Proof.Gen.KernelGates.Frame
public import proofs.«01_k».proof.Proof.TileGates
public import proofs.«01_k».proof.Proof.Gen.ReferenceGatesIdeal.Run
public import proofs.«01_k».proof.Proof.Gen.KernelGlu.Frame
public import proofs.«01_k».proof.Proof.TileGlu
public import proofs.«01_k».proof.Proof.Gen.ReferenceGluIdeal.Run
public import proofs.«01_k».proof.Proof.Gen.KernelV.Frame
public import proofs.«01_k».proof.Proof.TileV
public import proofs.«01_k».proof.Proof.Gen.ReferenceVIdeal.Run
public import proofs.«01_k».proof.Proof.Gen.KernelQK.Frame
public import proofs.«01_k».proof.Proof.TileQK
public import proofs.«01_k».proof.Proof.Gen.ReferenceQKIdeal.Run
public import proofs.«01_k».proof.Proof.TailQK
public import proofs.«01_k».proof.Proof.Gen.KernelOdelta.Frame
public import proofs.«01_k».proof.Proof.TileOdelta
public import proofs.«01_k».proof.Proof.Gen.ReferenceOdeltaIdeal.Run
public import proofs.«01_k».proof.Proof.Gen.KernelPw2.Frame
public import proofs.«01_k».proof.Proof.TilePw2
public import proofs.«01_k».proof.Proof.Gen.ReferencePw2Ideal.Run
public import proofs.«01_k».proof.Proof.Gen.KernelOutproj.Frame
public import proofs.«01_k».proof.Proof.TileOutproj
public import proofs.«01_k».proof.Proof.Gen.ReferenceOutprojIdeal.Run
public import proofs.«01_k».proof.Proof.Gen.KernelAb.Frame
public import proofs.«01_k».proof.Proof.TileAb
public import proofs.«01_k».proof.Proof.Gen.ReferenceAbIdeal.Run
public import proofs.«01_k».proof.Proof.SumsAb
public import proofs.«01_k».proof.Proof.Gen.KernelDwconv.Frame
public import proofs.«01_k».proof.Proof.TileDwconv
public import proofs.«01_k».proof.Proof.Gen.ReferenceDwconvIdeal.Run
public import proofs.«01_k».proof.Proof.SumsDwconv
public import proofs.«01_k».proof.Proof.Gen.KernelRoute.Frame
public import proofs.«01_k».proof.Proof.TileRoute
public import proofs.«01_k».proof.Proof.Gen.ReferenceRouteIdeal.Run
public import proofs.«01_k».proof.Proof.LinkRoute
public import proofs.«01_k».proof.Proof.Gen.KernelDest.Frame
public import proofs.«01_k».proof.Proof.Gen.KernelDestIdeal.Frame
public import proofs.«01_k».proof.Proof.TileDest
public import proofs.«01_k».proof.Proof.Gen.ReferenceDestIdeal.Run
public import proofs.«01_k».proof.Proof.LinkDest
public import proofs.«01_k».proof.Proof.Gen.KernelGdn.Frame
public import proofs.«01_k».proof.Proof.Gen.KernelGdnIdeal.Frame
public import Idealize.ShloMosaic.Adequacy
public import Idealize.ShloMosaic.Init
public import Idealize.ShloMosaic.Lib.Quiescent
public import Idealize.ShloMosaic.Lib.Pointwise
public import Idealize.ShloMosaic.Lib.Tactic.ValueTie

@[expose] public section

noncomputable section

namespace Cert.Proof

open Idealize.ShloMosaic Idealize.SL.Sem

/-- A sum of four with its last term taken first. -/
theorem lastFirst (a b c d : EReal) : a + b + c + d = d + a + b + c := by
  ac_rfl

/-- The integer zero, as a float, is zero. -/
theorem zeroWord : FloatOps.sitofp (F := Ideal) FTy.f32 0#32 = (0 : EReal) := by
  simp [FloatOps.sitofp]

/-- The reference of call Z runs from any memory and leaves its semaphores at zero. -/
theorem quiescent_ReferenceZIdeal : quiescent_ReferenceZIdeal := fun m ρ _ =>
  (θ_run Cert.ReferenceZIdeal.defs _ _).mono (fun r h => ⟨fun c => (h c).2, sem_eq_zero_of_no_sems (by decide) r.2⟩)
    (Cert.ReferenceZIdeal.Value.run (F := Ideal) m ρ)

/-- The reference of call Gates runs from any memory and leaves its semaphores at zero. -/
theorem quiescent_ReferenceGatesIdeal : quiescent_ReferenceGatesIdeal := fun m ρ _ =>
  (θ_run Cert.ReferenceGatesIdeal.defs _ _).mono (fun r h => ⟨fun c => (h c).2, sem_eq_zero_of_no_sems (by decide) r.2⟩)
    (Cert.ReferenceGatesIdeal.Value.run (F := Ideal) m ρ)

/-- The reference of call Glu runs from any memory and leaves its semaphores at zero. -/
theorem quiescent_ReferenceGluIdeal : quiescent_ReferenceGluIdeal := fun m ρ _ =>
  (θ_run Cert.ReferenceGluIdeal.defs _ _).mono (fun r h => ⟨fun c => (h c).2, sem_eq_zero_of_no_sems (by decide) r.2⟩)
    (Cert.ReferenceGluIdeal.Value.run (F := Ideal) m ρ)

/-- The reference of call V runs from any memory and leaves its semaphores at zero. -/
theorem quiescent_ReferenceVIdeal : quiescent_ReferenceVIdeal := fun m ρ _ =>
  (θ_run Cert.ReferenceVIdeal.defs _ _).mono (fun r h => ⟨fun c => (h c).2, sem_eq_zero_of_no_sems (by decide) r.2⟩)
    (Cert.ReferenceVIdeal.Value.run (F := Ideal) m ρ)

/-- The reference of call QK runs from any memory and leaves its semaphores at zero. -/
theorem quiescent_ReferenceQKIdeal : quiescent_ReferenceQKIdeal := fun m ρ _ =>
  (θ_run Cert.ReferenceQKIdeal.defs _ _).mono (fun r h => ⟨fun c => (h c).2, sem_eq_zero_of_no_sems (by decide) r.2⟩)
    (Cert.ReferenceQKIdeal.Value.run (F := Ideal) m ρ)

/-- The reference of call Odelta runs from any memory and leaves its semaphores at zero. -/
theorem quiescent_ReferenceOdeltaIdeal : quiescent_ReferenceOdeltaIdeal := fun m ρ _ =>
  (θ_run Cert.ReferenceOdeltaIdeal.defs _ _).mono (fun r h => ⟨fun c => (h c).2, sem_eq_zero_of_no_sems (by decide) r.2⟩)
    (Cert.ReferenceOdeltaIdeal.Value.run (F := Ideal) m ρ)

/-- The reference of call Pw2 runs from any memory and leaves its semaphores at zero. -/
theorem quiescent_ReferencePw2Ideal : quiescent_ReferencePw2Ideal := fun m ρ _ =>
  (θ_run Cert.ReferencePw2Ideal.defs _ _).mono (fun r h => ⟨fun c => (h c).2, sem_eq_zero_of_no_sems (by decide) r.2⟩)
    (Cert.ReferencePw2Ideal.Value.run (F := Ideal) m ρ)

/-- The reference of call Outproj runs from any memory and leaves its semaphores at zero. -/
theorem quiescent_ReferenceOutprojIdeal : quiescent_ReferenceOutprojIdeal := fun m ρ _ =>
  (θ_run Cert.ReferenceOutprojIdeal.defs _ _).mono (fun r h => ⟨fun c => (h c).2, sem_eq_zero_of_no_sems (by decide) r.2⟩)
    (Cert.ReferenceOutprojIdeal.Value.run (F := Ideal) m ρ)

/-- The reference of call Ab runs from any memory and leaves its semaphores at zero. -/
theorem quiescent_ReferenceAbIdeal : quiescent_ReferenceAbIdeal := fun m ρ _ =>
  (θ_run Cert.ReferenceAbIdeal.defs _ _).mono (fun r h => ⟨fun c => (h c).2.2.2, sem_eq_zero_of_no_sems (by decide) r.2⟩)
    (Cert.ReferenceAbIdeal.Value.run (F := Ideal) m ρ)

/-- The reference of call Dwconv runs from any memory and leaves its semaphores at zero. -/
theorem quiescent_ReferenceDwconvIdeal : quiescent_ReferenceDwconvIdeal := fun m ρ _ =>
  (θ_run Cert.ReferenceDwconvIdeal.defs _ _).mono (fun r h => ⟨fun c => (h c).2, sem_eq_zero_of_no_sems (by decide) r.2⟩)
    (Cert.ReferenceDwconvIdeal.Value.run (F := Ideal) m ρ)

/-- The reference of call Route runs from any memory and leaves its semaphores at zero. -/
theorem quiescent_ReferenceRouteIdeal : quiescent_ReferenceRouteIdeal := fun m ρ _ =>
  (θ_run Cert.ReferenceRouteIdeal.defs _ _).mono (fun r h => ⟨fun c => (h c).2.2.2.2, sem_eq_zero_of_no_sems (by decide) r.2⟩)
    (Cert.ReferenceRouteIdeal.Value.run (F := Ideal) m ρ)

/-- The same under the condition on the biases. -/
theorem quiescent_ReferenceRouteIdeal_pre_biased_above [Cert.Pre_biased_above.Facts] : quiescent_ReferenceRouteIdeal_pre_biased_above := fun m ρ _ =>
  quiescent_ReferenceRouteIdeal m ρ trivial

/-- The reference of call Dest runs from any memory and leaves its semaphores at zero. -/
theorem quiescent_ReferenceDestIdeal : quiescent_ReferenceDestIdeal := fun m ρ _ =>
  (θ_run Cert.ReferenceDestIdeal.defs _ _).mono (fun r h => ⟨fun c => (h c).2, sem_eq_zero_of_no_sems (by decide) r.2⟩)
    (Cert.ReferenceDestIdeal.Value.run (F := Ideal) m ρ)

/-- The same under the condition on the picks. -/
theorem quiescent_ReferenceDestIdeal_pre_picks_experts [Cert.Pre_picks_experts.Facts] : quiescent_ReferenceDestIdeal_pre_picks_experts := fun m ρ _ =>
  quiescent_ReferenceDestIdeal m ρ trivial

/-- Call Z leaves the array its reference leaves. -/
theorem algebraic_KernelZIdeal_ReferenceZIdeal : algebraic_KernelZIdeal_ReferenceZIdeal := by
  intro m ρ m' ρ' _ hagree
  refine ⟨_, Cert.KernelZIdeal.Value.run (F := Ideal) m ρ, ?_⟩
  refine (θ_run Cert.ReferenceZIdeal.defs _ _).mono (fun _ h c => ⟨?_, (h c).2⟩)
    (Cert.ReferenceZIdeal.Value.run (F := Ideal) m' ρ')
  rw [(h c).1]
  simp only [hagree c]
  rw [Cert.KernelZIdeal.Tile.result]
  clean_types
  funext i
  idx_vars i
  pointwise

/-- Call Gates leaves the array its reference leaves. -/
theorem algebraic_KernelGatesIdeal_ReferenceGatesIdeal : algebraic_KernelGatesIdeal_ReferenceGatesIdeal := by
  intro m ρ m' ρ' _ hagree
  refine ⟨_, Cert.KernelGatesIdeal.Value.run (F := Ideal) m ρ, ?_⟩
  refine (θ_run Cert.ReferenceGatesIdeal.defs _ _).mono (fun _ h c => ⟨?_, (h c).2⟩)
    (Cert.ReferenceGatesIdeal.Value.run (F := Ideal) m' ρ')
  rw [(h c).1]
  simp only [hagree c]
  rw [Cert.KernelGatesIdeal.Tile.result]
  clean_types
  funext i
  idx_vars i
  pointwise
  rfl

/-- Call Glu leaves the array its reference leaves. -/
theorem algebraic_KernelGluIdeal_ReferenceGluIdeal : algebraic_KernelGluIdeal_ReferenceGluIdeal := by
  intro m ρ m' ρ' _ hagree
  refine ⟨_, Cert.KernelGluIdeal.Value.run (F := Ideal) m ρ, ?_⟩
  refine (θ_run Cert.ReferenceGluIdeal.defs _ _).mono (fun _ h c => ⟨?_, (h c).2⟩)
    (Cert.ReferenceGluIdeal.Value.run (F := Ideal) m' ρ')
  rw [(h c).1]
  simp only [hagree c]
  rw [Cert.KernelGluIdeal.Tile.result]
  clean_types
  funext i
  idx_vars i
  pointwise
  rfl

/-- Call V leaves the array its reference leaves. -/
theorem algebraic_KernelVIdeal_ReferenceVIdeal : algebraic_KernelVIdeal_ReferenceVIdeal := by
  intro m ρ m' ρ' _ hagree
  refine ⟨_, Cert.KernelVIdeal.Value.run (F := Ideal) m ρ, ?_⟩
  refine (θ_run Cert.ReferenceVIdeal.defs _ _).mono (fun _ h c => ⟨?_, (h c).2⟩)
    (Cert.ReferenceVIdeal.Value.run (F := Ideal) m' ρ')
  rw [(h c).1]
  unfold Cert.ReferenceVIdeal.Value.res_main_v33
  simp only [hagree c]
  rw [Cert.KernelVIdeal.Tile.result]
  clean_types
  funext i
  idx_vars i
  pointwise
  refine congrArg (fun y => y * Ideal.logistic y) (Eq.trans (congrArg₂ (· + ·) (congrArg₂ (· + ·) (congrArg₂ (· + ·)
    (congrArg (· * _) (Cert.KernelVIdeal.Tile.padded_of m c (i0.val + 5) i1 _ (by omega) _ _ zeroWord fun _ =>
      congrArg (Cert.KernelVIdeal.Tile.product m c · i1) (Fin.ext (show i0.val - 3 = i0.val + 5 - 8 by omega))))
    (congrArg (· * _) (Cert.KernelVIdeal.Tile.padded_of m c (i0.val + 6) i1 _ (by omega) _ _ zeroWord fun _ =>
      congrArg (Cert.KernelVIdeal.Tile.product m c · i1) (Fin.ext (show 1 + i0.val - 3 = i0.val + 6 - 8 by omega)))))
    (congrArg (· * _) (Cert.KernelVIdeal.Tile.padded_of m c (i0.val + 7) i1 _ (by omega) _ _ zeroWord fun _ =>
      congrArg (Cert.KernelVIdeal.Tile.product m c · i1) (Fin.ext (show 2 + i0.val - 3 = i0.val + 7 - 8 by omega)))))
    (congrArg (· * _) (Cert.KernelVIdeal.Tile.padded_of m c (i0.val + 8) i1 _ (by omega) _ _ zeroWord fun _ =>
      congrArg (Cert.KernelVIdeal.Tile.product m c · i1) (Fin.ext (show i0.val = i0.val + 8 - 8 by omega))))) ?_)
  unfold Cert.KernelVIdeal.Tile.conv
  exact lastFirst _ _ _ _

/-- Call QK leaves the array its reference leaves. -/
theorem algebraic_KernelQKIdeal_ReferenceQKIdeal : algebraic_KernelQKIdeal_ReferenceQKIdeal := by
  intro m ρ m' ρ' _ hagree
  refine ⟨_, Cert.KernelQKIdeal.Value.run (F := Ideal) m ρ, ?_⟩
  refine (θ_run Cert.ReferenceQKIdeal.defs _ _).mono (fun _ h c => ⟨?_, (h c).2⟩)
    (Cert.ReferenceQKIdeal.Value.run (F := Ideal) m' ρ')
  rw [(h c).1]
  unfold Cert.ReferenceQKIdeal.Value.res_main_v58
  rw [Cert.KernelQKIdeal.Tile.result]
  clean_types
  funext i
  idx_vars i
  refine (Cert.ReferenceQKIdeal.Tail.heads_apply _ (Cert.KernelQKIdeal.Tile.act m c i0.val) i0 (fun j => ?_) i1).trans rfl
  simp only [hagree c]
  pointwise
  refine congrArg (fun y => y * Ideal.logistic y) (Eq.trans (congrArg₂ (· + ·) (congrArg₂ (· + ·) (congrArg₂ (· + ·)
    (congrArg (· * _) (Cert.KernelQKIdeal.Tile.padded_of m c (i0.val + 5) j _ (by omega) _ _ zeroWord fun _ =>
      congrArg (Cert.KernelQKIdeal.Tile.product m c · j) (Fin.ext (show i0.val - 3 = i0.val + 5 - 8 by omega))))
    (congrArg (· * _) (Cert.KernelQKIdeal.Tile.padded_of m c (i0.val + 6) j _ (by omega) _ _ zeroWord fun _ =>
      congrArg (Cert.KernelQKIdeal.Tile.product m c · j) (Fin.ext (show 1 + i0.val - 3 = i0.val + 6 - 8 by omega)))))
    (congrArg (· * _) (Cert.KernelQKIdeal.Tile.padded_of m c (i0.val + 7) j _ (by omega) _ _ zeroWord fun _ =>
      congrArg (Cert.KernelQKIdeal.Tile.product m c · j) (Fin.ext (show 2 + i0.val - 3 = i0.val + 7 - 8 by omega)))))
    (congrArg (· * _) (Cert.KernelQKIdeal.Tile.padded_of m c (i0.val + 8) j _ (by omega) _ _ zeroWord fun _ =>
      congrArg (Cert.KernelQKIdeal.Tile.product m c · j) (Fin.ext (show i0.val = i0.val + 8 - 8 by omega))))) ?_)
  unfold Cert.KernelQKIdeal.Tile.conv
  exact lastFirst _ _ _ _

/-- Call Odelta leaves the array its reference leaves. -/
theorem algebraic_KernelOdeltaIdeal_ReferenceOdeltaIdeal : algebraic_KernelOdeltaIdeal_ReferenceOdeltaIdeal := by
  intro m ρ m' ρ' _ hagree
  refine ⟨_, Cert.KernelOdeltaIdeal.Value.run (F := Ideal) m ρ, ?_⟩
  refine (θ_run Cert.ReferenceOdeltaIdeal.defs _ _).mono (fun _ h c => ⟨?_, (h c).2⟩)
    (Cert.ReferenceOdeltaIdeal.Value.run (F := Ideal) m' ρ')
  rw [(h c).1]
  simp only [hagree c]
  rw [Cert.KernelOdeltaIdeal.Tile.result]
  clean_types
  funext i
  idx_vars i
  pointwise
  exact mul_comm _ _

/-- Call Pw2 leaves the array its reference leaves. -/
theorem algebraic_KernelPw2Ideal_ReferencePw2Ideal : algebraic_KernelPw2Ideal_ReferencePw2Ideal := by
  intro m ρ m' ρ' _ hagree
  refine ⟨_, Cert.KernelPw2Ideal.Value.run (F := Ideal) m ρ, ?_⟩
  refine (θ_run Cert.ReferencePw2Ideal.defs _ _).mono (fun _ h c => ⟨?_, (h c).2⟩)
    (Cert.ReferencePw2Ideal.Value.run (F := Ideal) m' ρ')
  rw [(h c).1]
  simp only [hagree c]
  rw [Cert.KernelPw2Ideal.Tile.result]
  clean_types
  funext i
  idx_vars i
  pointwise
  rfl

/-- Call Outproj leaves the array its reference leaves. -/
theorem algebraic_KernelOutprojIdeal_ReferenceOutprojIdeal : algebraic_KernelOutprojIdeal_ReferenceOutprojIdeal := by
  intro m ρ m' ρ' _ hagree
  refine ⟨_, Cert.KernelOutprojIdeal.Value.run_blocks (F := Ideal) m ρ, ?_⟩
  refine (θ_run Cert.ReferenceOutprojIdeal.defs _ _).mono (fun _ h c => ⟨?_, (h c).2⟩)
    (Cert.ReferenceOutprojIdeal.Value.run (F := Ideal) m' ρ')
  rw [(h c).1]
  simp only [hagree c]
  rw [Cert.KernelOutprojIdeal.Tile.result]
  clean_types
  funext i
  idx_vars i
  pointwise
  rfl

/-- Call Ab leaves the array its reference leaves. -/
theorem algebraic_KernelAbIdeal_ReferenceAbIdeal : algebraic_KernelAbIdeal_ReferenceAbIdeal := by
  intro m ρ m' ρ' _ hagree
  refine ⟨_, _, _, Cert.KernelAbIdeal.Tile.run m ρ, ?_⟩
  refine (θ_run Cert.ReferenceAbIdeal.defs _ _).mono (fun _ h c => ⟨?_, ?_, ?_, (h c).2.2.2⟩)
    (Cert.ReferenceAbIdeal.Value.run (F := Ideal) m' ρ')
  · rw [(h c).1]
    simp only [hagree c]
    clean_types
    clear h
    funext i
    idx_vars i
    refine (Cert.ReferenceAbIdeal.Sums.sums_apply _ _ (fun i => ?_)
      (fun l => Cert.KernelAbIdeal.Tile.decay m c (Cert.KernelAbIdeal.Tile.low l)) (fun n l => ?_) i0 i1).trans rfl
    · pointwise
    · pointwise
      rw [if_neg fun h => h rfl]
      exact (Cert.KernelAbIdeal.Tile.decay_low m c n l).symm
  · rw [(h c).2.1]
    simp only [hagree c]
    clean_types
    clear h
    funext i
    idx_vars i
    pointwise
    rfl
  · rw [(h c).2.2.1]
    simp only [hagree c]
    clean_types
    clear h
    funext i
    idx_vars i
    refine (Cert.ReferenceAbIdeal.Sums.totals_apply _ _ (fun i => ?_)
      (fun l => Cert.KernelAbIdeal.Tile.decay m c (Cert.KernelAbIdeal.Tile.low l)) (fun n l => ?_) i0 i1).trans rfl
    · pointwise
    · pointwise
      rw [if_neg fun h => h rfl]
      exact (Cert.KernelAbIdeal.Tile.decay_low m c n l).symm

/-- Call Dwconv leaves the array its reference leaves. -/
theorem algebraic_KernelDwconvIdeal_ReferenceDwconvIdeal : algebraic_KernelDwconvIdeal_ReferenceDwconvIdeal := by
  intro m ρ m' ρ' _ hagree
  refine ⟨_, Cert.KernelDwconvIdeal.Value.run (F := Ideal) m ρ, ?_⟩
  refine (θ_run Cert.ReferenceDwconvIdeal.defs _ _).mono (fun _ h c => ⟨?_, (h c).2⟩)
    (Cert.ReferenceDwconvIdeal.Value.run (F := Ideal) m' ρ')
  rw [(h c).1]
  rw [Cert.KernelDwconvIdeal.Tile.result]
  clean_types
  have hf (n : Fin 8192) (j : Fin 2048) := Cert.ReferenceDwconvIdeal.Sums.sums_apply m c
    (StableHlo.launchContents m' c) (hagree c).1 (hagree c).2.1 (hagree c).2.2.1 n j
  have hn (n : Fin 8192) (j : Fin 2048) := Cert.ReferenceDwconvIdeal.Sums.normed_apply (StableHlo.launchContents m' c)
    (fun n => Cert.KernelDwconvIdeal.Tile.filtered m c n.val) (Cert.KernelDwconvIdeal.Tile.gain m c) (Cert.KernelDwconvIdeal.Tile.shift m c) hf
    (hagree c).2.2.2.1 (hagree c).2.2.2.2 n j
  funext i
  idx_vars i
  pointwise
  simp only [hn]
  rfl

/-- The routing call leaves the picks, the weights, the ranks and the counts its reference leaves, if no bias is minus infinity. -/
theorem algebraic_KernelRouteIdeal_ReferenceRouteIdeal_pre_biased_above [Cert.Pre_biased_above.Facts] :
    algebraic_KernelRouteIdeal_ReferenceRouteIdeal_pre_biased_above := by
  intro m ρ m' ρ' hpre hagree
  refine ⟨_, _, _, _, Cert.KernelRouteIdeal.Counts.run m ρ (fun c => Cert.LinkRoute.biases_ne m c hpre), ?_⟩
  refine (θ_run Cert.ReferenceRouteIdeal.defs _ _).mono (fun _ h c => ⟨?_, ?_, ?_, ?_, (h c).2.2.2.2⟩)
    (Cert.ReferenceRouteIdeal.Value.run (F := Ideal) m' ρ')
  · rw [(h c).1]
    simp only [hagree c]
    exact Cert.LinkRoute.picks_link m c hpre
  · rw [(h c).2.1]
    unfold Cert.ReferenceRouteIdeal.Value.res_main_v25
    simp only [hagree c]
    exact Cert.LinkRoute.weights_link m c hpre
  · rw [(h c).2.2.1]
    unfold Cert.ReferenceRouteIdeal.Value.res_main_v31
    simp only [hagree c]
    exact Cert.LinkRoute.ranks_link m c hpre
  · rw [(h c).2.2.2.1]
    simp only [hagree c]
    exact Cert.LinkRoute.counts_link m c hpre

/-- The call that turns ranks into places leaves the places its reference leaves, if every pick is the number of an expert. -/
theorem algebraic_KernelDestIdeal_ReferenceDestIdeal_pre_picks_experts [Cert.Pre_picks_experts.Facts] :
    algebraic_KernelDestIdeal_ReferenceDestIdeal_pre_picks_experts := by
  intro m ρ m' ρ' hpre hagree
  refine ⟨_, Cert.KernelDestIdeal.Value.run_blocks (F := Ideal) m ρ, ?_⟩
  refine (θ_run Cert.ReferenceDestIdeal.defs _ _).mono (fun _ h c => ⟨?_, (h c).2⟩)
    (Cert.ReferenceDestIdeal.Value.run (F := Ideal) m' ρ')
  rw [(h c).1]
  simp only [hagree c]
  rw [Cert.KernelDestIdeal.Tile.result m c _ (Cert.LinkDest.expert_pick m c hpre)]
  exact Cert.LinkDest.places_link m c hpre

/-- All the claims together. -/
theorem claim : Cert.Claim := ⟨Cert.KernelZ.Gen.facts, Cert.KernelZIdeal.Gen.facts, Cert.ReferenceZIdeal.Gen.facts, Cert.KernelGates.Gen.facts, Cert.KernelGatesIdeal.Gen.facts, Cert.ReferenceGatesIdeal.Gen.facts, Cert.KernelGlu.Gen.facts, Cert.KernelGluIdeal.Gen.facts, Cert.ReferenceGluIdeal.Gen.facts, Cert.KernelV.Gen.facts, Cert.KernelVIdeal.Gen.facts, Cert.ReferenceVIdeal.Gen.facts, Cert.KernelQK.Gen.facts, Cert.KernelQKIdeal.Gen.facts, Cert.ReferenceQKIdeal.Gen.facts, Cert.KernelOdelta.Gen.facts, Cert.KernelOdeltaIdeal.Gen.facts, Cert.ReferenceOdeltaIdeal.Gen.facts, Cert.KernelPw2.Gen.facts, Cert.KernelPw2Ideal.Gen.facts, Cert.ReferencePw2Ideal.Gen.facts, Cert.KernelOutproj.Gen.facts, Cert.KernelOutprojIdeal.Gen.facts, Cert.ReferenceOutprojIdeal.Gen.facts, Cert.KernelAb.Gen.facts, Cert.KernelAbIdeal.Gen.facts, Cert.ReferenceAbIdeal.Gen.facts, Cert.KernelDwconv.Gen.facts, Cert.KernelDwconvIdeal.Gen.facts, Cert.ReferenceDwconvIdeal.Gen.facts, Cert.KernelRoute.Gen.facts, Cert.KernelRouteIdeal.Gen.facts, Cert.ReferenceRouteIdeal.Gen.facts, Cert.KernelDest.Gen.facts, Cert.KernelDestIdeal.Gen.facts, Cert.ReferenceDestIdeal.Gen.facts,
  Cert.KernelGdn.Gen.facts, Cert.KernelGdnIdeal.Gen.facts, Cert.LinkRoute.spreads, Cert.LinkDest.spreads,
  fun m ρ _ => Cert.KernelZ.Gen.frame m ρ, fun m ρ _ => Cert.KernelZIdeal.Gen.frame m ρ, quiescent_ReferenceZIdeal,
  fun m ρ _ => Cert.KernelGates.Gen.frame m ρ, fun m ρ _ => Cert.KernelGatesIdeal.Gen.frame m ρ, quiescent_ReferenceGatesIdeal,
  fun m ρ _ => Cert.KernelGlu.Gen.frame m ρ, fun m ρ _ => Cert.KernelGluIdeal.Gen.frame m ρ, quiescent_ReferenceGluIdeal,
  fun m ρ _ => Cert.KernelV.Gen.frame m ρ, fun m ρ _ => Cert.KernelVIdeal.Gen.frame m ρ, quiescent_ReferenceVIdeal,
  fun m ρ _ => Cert.KernelQK.Gen.frame m ρ, fun m ρ _ => Cert.KernelQKIdeal.Gen.frame m ρ, quiescent_ReferenceQKIdeal,
  fun m ρ _ => Cert.KernelOdelta.Gen.frame m ρ, fun m ρ _ => Cert.KernelOdeltaIdeal.Gen.frame m ρ, quiescent_ReferenceOdeltaIdeal,
  fun m ρ _ => Cert.KernelPw2.Gen.frame m ρ, fun m ρ _ => Cert.KernelPw2Ideal.Gen.frame m ρ, quiescent_ReferencePw2Ideal,
  fun m ρ _ => Cert.KernelOutproj.Gen.frame m ρ, fun m ρ _ => Cert.KernelOutprojIdeal.Gen.frame m ρ, quiescent_ReferenceOutprojIdeal,
  fun m ρ _ => Cert.KernelAb.Gen.frame m ρ, fun m ρ _ => Cert.KernelAbIdeal.Gen.frame m ρ, quiescent_ReferenceAbIdeal,
  fun m ρ _ => Cert.KernelDwconv.Gen.frame m ρ, fun m ρ _ => Cert.KernelDwconvIdeal.Gen.frame m ρ, quiescent_ReferenceDwconvIdeal,
  fun m ρ _ => Cert.KernelRoute.Gen.frame m ρ, fun m ρ _ => Cert.KernelRouteIdeal.Gen.frame m ρ, fun m ρ _ => Cert.KernelRouteIdeal.Gen.frame m ρ,
  quiescent_ReferenceRouteIdeal, @quiescent_ReferenceRouteIdeal_pre_biased_above Cert.LinkRoute.spreads,
  fun m ρ _ => Cert.KernelDest.Gen.frame m ρ, fun m ρ _ => Cert.KernelDestIdeal.Gen.frame m ρ, fun m ρ _ => Cert.KernelDestIdeal.Gen.frame m ρ,
  quiescent_ReferenceDestIdeal, @quiescent_ReferenceDestIdeal_pre_picks_experts Cert.LinkDest.spreads,
  fun m ρ _ => Cert.KernelGdn.Gen.frame m ρ, fun m ρ _ => Cert.KernelGdnIdeal.Gen.frame m ρ,
  (trivial : preserves_KernelZ_KernelZIdeal), algebraic_KernelZIdeal_ReferenceZIdeal,
  (trivial : preserves_KernelGates_KernelGatesIdeal), algebraic_KernelGatesIdeal_ReferenceGatesIdeal,
  (trivial : preserves_KernelGlu_KernelGluIdeal), algebraic_KernelGluIdeal_ReferenceGluIdeal,
  (trivial : preserves_KernelV_KernelVIdeal), algebraic_KernelVIdeal_ReferenceVIdeal,
  (trivial : preserves_KernelQK_KernelQKIdeal), algebraic_KernelQKIdeal_ReferenceQKIdeal,
  (trivial : preserves_KernelOdelta_KernelOdeltaIdeal), algebraic_KernelOdeltaIdeal_ReferenceOdeltaIdeal,
  (trivial : preserves_KernelPw2_KernelPw2Ideal), algebraic_KernelPw2Ideal_ReferencePw2Ideal,
  (trivial : preserves_KernelOutproj_KernelOutprojIdeal), algebraic_KernelOutprojIdeal_ReferenceOutprojIdeal,
  (trivial : preserves_KernelAb_KernelAbIdeal), algebraic_KernelAbIdeal_ReferenceAbIdeal,
  (trivial : preserves_KernelDwconv_KernelDwconvIdeal), algebraic_KernelDwconvIdeal_ReferenceDwconvIdeal,
  (trivial : preserves_KernelRoute_KernelRouteIdeal), @algebraic_KernelRouteIdeal_ReferenceRouteIdeal_pre_biased_above Cert.LinkRoute.spreads,
  (trivial : preserves_KernelDest_KernelDestIdeal), @algebraic_KernelDestIdeal_ReferenceDestIdeal_pre_picks_experts Cert.LinkDest.spreads,
  (trivial : preserves_KernelGdn_KernelGdnIdeal)⟩

end Cert.Proof

end
